-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v45_0)) (v1 : (c : Dev Cert.Kernel2Ideal.nD) → Buf (Elt Ideal) ((c.tc : Thread Cert.Kernel2Ideal.nD Cert.Kernel2Ideal.τ).loc Cert.Kernel2Ideal.main_v45_1)) (v2 : (c : Dev Cert.Kernel2Ideal.nD) → Buf (Elt Ideal) ((c.tc : Thread Cert.Kernel2Ideal.nD Cert.Kernel2Ideal.τ).loc Cert.Kernel2Ideal.main_v45_2)) (v3 : (c : Dev Cert.Kernel2Ideal.nD) → Buf (Elt Ideal) ((c.tc : Thread Cert.Kernel2Ideal.nD Cert.Kernel2Ideal.τ).loc Cert.Kernel2Ideal.main_v45_3)) (v4 : (c : Dev Cert.Kernel2Ideal.nD) → Buf (Elt Ideal) ((c.tc : Thread Cert.Kernel2Ideal.nD Cert.Kernel2Ideal.τ).loc Cert.Kernel2Ideal.main_v45_4)) (v5 : (c : Dev Cert.Kernel2Ideal.nD) → Buf (Elt Ideal) ((c.tc : Thread Cert.Kernel2Ideal.nD Cert.Kernel2Ideal.τ).loc Cert.Kernel2Ideal.main_v45_5)) (v6 : (c : Dev Cert.Kernel2Ideal.nD) → Buf (Elt Ideal) ((c.tc : Thread Cert.Kernel2Ideal.nD Cert.Kernel2Ideal.τ).loc Cert.Kernel2Ideal.main_v45_6)) (v7 : (c : Dev Cert.Kernel2Ideal.nD) → Buf (Elt Ideal) ((c.tc : Thread Cert.Kernel2Ideal.nD Cert.Kernel2Ideal.τ).loc Cert.Kernel2Ideal.main_v45_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_0) = v0 c
          ∧ r.2.mem ((c.tc : Thread Cert.Kernel2Ideal.nD Cert.Kernel2Ideal.τ).loc Cert.Kernel2Ideal.main_v45_1) = v1 c
          ∧ r.2.mem ((c.tc : Thread Cert.Kernel2Ideal.nD Cert.Kernel2Ideal.τ).loc Cert.Kernel2Ideal.main_v45_2) = v2 c
          ∧ r.2.mem ((c.tc : Thread Cert.Kernel2Ideal.nD Cert.Kernel2Ideal.τ).loc Cert.Kernel2Ideal.main_v45_3) = v3 c
          ∧ r.2.mem ((c.tc : Thread Cert.Kernel2Ideal.nD Cert.Kernel2Ideal.τ).loc Cert.Kernel2Ideal.main_v45_4) = v4 c
          ∧ r.2.mem ((c.tc : Thread Cert.Kernel2Ideal.nD Cert.Kernel2Ideal.τ).loc Cert.Kernel2Ideal.main_v45_5) = v5 c
          ∧ r.2.mem ((c.tc : Thread Cert.Kernel2Ideal.nD Cert.Kernel2Ideal.τ).loc Cert.Kernel2Ideal.main_v45_6) = v6 c
          ∧ r.2.mem ((c.tc : Thread Cert.Kernel2Ideal.nD Cert.Kernel2Ideal.τ).loc Cert.Kernel2Ideal.main_v45_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v74) = v4 c
          ∧ r.2.mem ((c.tc : Thread Cert.Reference2Ideal.nD Cert.Reference2Ideal.τ).loc Cert.Reference2Ideal.main_v75) = v5 c
          ∧ r.2.mem ((c.tc : Thread Cert.Reference2Ideal.nD Cert.Reference2Ideal.τ).loc Cert.Reference2Ideal.main_v81) = v6 c
          ∧ r.2.mem ((c.tc : Thread Cert.Reference2Ideal.nD Cert.Reference2Ideal.τ).loc Cert.Reference2Ideal.main_v82) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v54_0)) (v1 : (c : Dev Cert.Kernel5Ideal.nD) → Buf (Elt Ideal) ((c.tc : Thread Cert.Kernel5Ideal.nD Cert.Kernel5Ideal.τ).loc Cert.Kernel5Ideal.main_v54_1)) (v2 : (c : Dev Cert.Kernel5Ideal.nD) → Buf (Elt Ideal) ((c.tc : Thread Cert.Kernel5Ideal.nD Cert.Kernel5Ideal.τ).loc Cert.Kernel5Ideal.main_v54_2)) (v3 : (c : Dev Cert.Kernel5Ideal.nD) → Buf (Elt Ideal) ((c.tc : Thread Cert.Kernel5Ideal.nD Cert.Kernel5Ideal.τ).loc Cert.Kernel5Ideal.main_v54_3)) (v4 : (c : Dev Cert.Kernel5Ideal.nD) → Buf (Elt Ideal) ((c.tc : Thread Cert.Kernel5Ideal.nD Cert.Kernel5Ideal.τ).loc Cert.Kernel5Ideal.main_v54_4)) (v5 : (c : Dev Cert.Kernel5Ideal.nD) → Buf (Elt Ideal) ((c.tc : Thread Cert.Kernel5Ideal.nD Cert.Kernel5Ideal.τ).loc Cert.Kernel5Ideal.main_v54_5)) (v6 : (c : Dev Cert.Kernel5Ideal.nD) → Buf (Elt Ideal) ((c.tc : Thread Cert.Kernel5Ideal.nD Cert.Kernel5Ideal.τ).loc Cert.Kernel5Ideal.main_v54_6)) (v7 : (c : Dev Cert.Kernel5Ideal.nD) → Buf (Elt Ideal) ((c.tc : Thread Cert.Kernel5Ideal.nD Cert.Kernel5Ideal.τ).loc Cert.Kernel5Ideal.main_v54_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v54_0) = v0 c
          ∧ r.2.mem ((c.tc : Thread Cert.Kernel5Ideal.nD Cert.Kernel5Ideal.τ).loc Cert.Kernel5Ideal.main_v54_1) = v1 c
          ∧ r.2.mem ((c.tc : Thread Cert.Kernel5Ideal.nD Cert.Kernel5Ideal.τ).loc Cert.Kernel5Ideal.main_v54_2) = v2 c
          ∧ r.2.mem ((c.tc : Thread Cert.Kernel5Ideal.nD Cert.Kernel5Ideal.τ).loc Cert.Kernel5Ideal.main_v54_3) = v3 c
          ∧ r.2.mem ((c.tc : Thread Cert.Kernel5Ideal.nD Cert.Kernel5Ideal.τ).loc Cert.Kernel5Ideal.main_v54_4) = v4 c
          ∧ r.2.mem ((c.tc : Thread Cert.Kernel5Ideal.nD Cert.Kernel5Ideal.τ).loc Cert.Kernel5Ideal.main_v54_5) = v5 c
          ∧ r.2.mem ((c.tc : Thread Cert.Kernel5Ideal.nD Cert.Kernel5Ideal.τ).loc Cert.Kernel5Ideal.main_v54_6) = v6 c
          ∧ r.2.mem ((c.tc : Thread Cert.Kernel5Ideal.nD Cert.Kernel5Ideal.τ).loc Cert.Kernel5Ideal.main_v54_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_v78) = v1 c
          ∧ r.2.mem ((c.tc : Thread Cert.Reference5Ideal.nD Cert.Reference5Ideal.τ).loc Cert.Reference5Ideal.main_v79) = v2 c
          ∧ r.2.mem ((c.tc : Thread Cert.Reference5Ideal.nD Cert.Reference5Ideal.τ).loc Cert.Reference5Ideal.main_v80) = v3 c
          ∧ r.2.mem ((c.tc : Thread Cert.Reference5Ideal.nD Cert.Reference5Ideal.τ).loc Cert.Reference5Ideal.main_v74) = v4 c
          ∧ r.2.mem ((c.tc : Thread Cert.Reference5Ideal.nD Cert.Reference5Ideal.τ).loc Cert.Reference5Ideal.main_v75) = v5 c
          ∧ r.2.mem ((c.tc : Thread Cert.Reference5Ideal.nD Cert.Reference5Ideal.τ).loc Cert.Reference5Ideal.main_v81) = v6 c
          ∧ r.2.mem ((c.tc : Thread Cert.Reference5Ideal.nD Cert.Reference5Ideal.τ).loc Cert.Reference5Ideal.main_v82) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v58) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v28_1)) (v1 : (c : Dev Cert.Kernel7Ideal.nD) → Buf (Elt Ideal) ((c.tc : Thread Cert.Kernel7Ideal.nD Cert.Kernel7Ideal.τ).loc Cert.Kernel7Ideal.main_v28_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28_1) = v0 c
          ∧ r.2.mem ((c.tc : Thread Cert.Kernel7Ideal.nD Cert.Kernel7Ideal.τ).loc Cert.Kernel7Ideal.main_v28_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v73) = v0 c
          ∧ r.2.mem ((c.tc : Thread Cert.Reference7Ideal.nD Cert.Reference7Ideal.τ).loc Cert.Reference7Ideal.main_v74) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite4 : Cert.Pre_finite4.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_finite.lean ====
abbrev S32768x512 : Shape := ⟨2, ![32768, 512]⟩
abbrev S1x64 : Shape := ⟨2, ![1, 64]⟩
abbrev S1x128 : Shape := ⟨2, ![1, 128]⟩
abbrev S_ : Shape := ⟨0, ![]⟩
abbrev S32768x8x64 : Shape := ⟨3, ![32768, 8, 64]⟩
abbrev S1x1x64 : Shape := ⟨3, ![1, 1, 64]⟩

class Facts : Prop where
  bcast_S_S1x64 : S_.BroadcastsInDim S1x64 (![] : Fin 0 → Fin S1x64.rank)
  bcast_S_S32768x512 : S_.BroadcastsInDim S32768x512 (![] : Fin 0 → Fin S32768x512.rank)
  shapeCasts_S32768x512_S32768x8x64 : S32768x512.ShapeCasts S32768x8x64
  bcast_S1x64_S1x1x64_0_2 : S1x64.BroadcastsInDim S1x1x64 (![0, 2] : Fin 2 → Fin S1x1x64.rank)
  bcast_S1x1x64_S32768x8x64_0_1_2 : S1x1x64.BroadcastsInDim S32768x8x64 (![0, 1, 2] : Fin 3 → Fin S32768x8x64.rank)

variable [Facts]

def fn_part1 {F : FTy → Type} [FloatOps F] (main_arg2 : FVec F S32768x512 .bf16) (main_v14 : IVec S1x64 1) (main_v17 : IVec S32768x512 1) (main_v18 : FVec F S32768x512 .bf16) : IVec S32768x8x64 1 :=
  let main_cst_4 : FVec F S_ .bf16 := constant S_ .bf16 0x7F80#16
  let main_v19 : FVec F S32768x512 .bf16 := broadcastInDim S32768x512 ![] bcast_S_S32768x512 main_cst_4
  let main_v20 : IVec S32768x512 1 := cmpf .olt main_v18 main_v19
  let main_v21 : IVec S32768x512 1 := andi main_v17 main_v20
  let main_v22 : FVec F S32768x512 .bf16 := Host.absf main_arg2
  let main_cst_5 : FVec F S_ .bf16 := constant S_ .bf16 0x7F80#16
  let main_v23 : FVec F S32768x512 .bf16 := broadcastInDim S32768x512 ![] bcast_S_S32768x512 main_cst_5
  let main_v24 : IVec S32768x512 1 := cmpf .olt main_v22 main_v23
  let main_v25 : IVec S32768x512 1 := andi main_v21 main_v24
  let main_v26 : IVec S32768x8x64 1 := shapeCast S32768x8x64 main_v25 shapeCasts_S32768x512_S32768x8x64
  let main_v27 : IVec S1x1x64 1 := broadcastInDim S1x1x64 ![0, 2] bcast_S1x64_S1x1x64_0_2 main_v14
  let main_v28 : IVec S32768x8x64 1 := broadcastInDim S32768x8x64 ![0, 1, 2] bcast_S1x1x64_S32768x8x64_0_1_2 main_v27
  let main_v29 : IVec S32768x8x64 1 := andi main_v26 main_v28
  main_v29

def fn {F : FTy → Type} [FloatOps F] (main_arg0 : FVec F S32768x512 .bf16) (main_arg1 : FVec F S32768x512 .bf16) (main_arg2 : FVec F S32768x512 .bf16) (main_arg3 : FVec F S1x64 .f32) (main_arg4 : FVec F S1x64 .f32) (main_arg5 : FVec F S1x64 .f32) (main_arg6 : FVec F S1x64 .f32) (main_arg7 : FVec F S1x128 .f32) : IVec S32768x8x64 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg4
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : IVec S1x64 1 := andi main_v2 main_v5
  let main_v7 : FVec F S1x64 .f32 := Host.absf main_arg5
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : IVec S1x64 1 := andi main_v6 main_v9
  let main_v11 : FVec F S1x64 .f32 := Host.absf main_arg6
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_v14 : IVec S1x64 1 := andi main_v10 main_v13
  let main_v15 : FVec F S32768x512 .bf16 := Host.absf main_arg0
  let main_cst_3 : FVec F S_ .bf16 := constant S_ .bf16 0x7F80#16
  let main_v16 : FVec F S32768x512 .bf16 := broadcastInDim S32768x512 ![] bcast_S_S32768x512 main_cst_3
  let main_v17 : IVec S32768x512 1 := cmpf .olt main_v15 main_v16
  let main_v18 : FVec F S32768x512 .bf16 := Host.absf main_arg1
  fn_part1 (F := F) main_arg2 main_v14 main_v17 main_v18
-- ==== Pre_finite4.lean ====
abbrev S2x16384x1024 : Shape := ⟨3, ![2, 16384, 1024]⟩
abbrev S32768x512 : Shape := ⟨2, ![32768, 512]⟩
abbrev S1x1024x1024 : Shape := ⟨3, ![1, 1024, 1024]⟩
abbrev S1x1024 : Shape := ⟨2, ![1, 1024]⟩
abbrev S2x256x4x256 : Shape := ⟨4, ![2, 256, 4, 256]⟩
abbrev S_ : Shape := ⟨0, ![]⟩
abbrev S32x2x512x2x512 : Shape := ⟨5, ![32, 2, 512, 2, 512]⟩
abbrev S32x2x512x1x512 : Shape := ⟨5, ![32, 2, 512, 1, 512]⟩
abbrev S1x2x512x2x512 : Shape := ⟨5, ![1, 2, 512, 2, 512]⟩
abbrev S1x1x512x2x512 : Shape := ⟨5, ![1, 1, 512, 2, 512]⟩
abbrev S1x1x1x2x512 : Shape := ⟨5, ![1, 1, 1, 2, 512]⟩

class Facts : Prop where
  bcast_S_S2x16384x1024 : S_.BroadcastsInDim S2x16384x1024 (![] : Fin 0 → Fin S2x16384x1024.rank)
  shapeCasts_S2x16384x1024_S32x2x512x2x512 : S2x16384x1024.ShapeCasts S32x2x512x2x512
  bcast_S_S32768x512 : S_.BroadcastsInDim S32768x512 (![] : Fin 0 → Fin S32768x512.rank)
  shapeCasts_S32768x512_S32x2x512x1x512 : S32768x512.ShapeCasts S32x2x512x1x512
  bcast_S32x2x512x1x512_S32x2x512x2x512_0_1_2_3_4 : S32x2x512x1x512.BroadcastsInDim S32x2x512x2x512 (![0, 1, 2, 3, 4] : Fin 5 → Fin S32x2x512x2x512.rank)
  bcast_S_S1x1024x1024 : S_.BroadcastsInDim S1x1024x1024 (![] : Fin 0 → Fin S1x1024x1024.rank)
  shapeCasts_S1x1024x1024_S1x2x512x2x512 : S1x1024x1024.ShapeCasts S1x2x512x2x512
  bcast_S1x2x512x2x512_S32x2x512x2x512_0_1_2_3_4 : S1x2x512x2x512.BroadcastsInDim S32x2x512x2x512 (![0, 1, 2, 3, 4] : Fin 5 → Fin S32x2x512x2x512.rank)
  bcast_S_S2x256x4x256 : S_.BroadcastsInDim S2x256x4x256 (![] : Fin 0 → Fin S2x256x4x256.rank)
  shapeCasts_S2x256x4x256_S1x1x512x2x512 : S2x256x4x256.ShapeCasts S1x1x512x2x512
  bcast_S1x1x512x2x512_S32x2x512x2x512_0_1_2_3_4 : S1x1x512x2x512.BroadcastsInDim S32x2x512x2x512 (![0, 1, 2, 3, 4] : Fin 5 → Fin S32x2x512x2x512.rank)
  bcast_S_S1x1024 : S_.BroadcastsInDim S1x1024 (![] : Fin 0 → Fin S1x1024.rank)
  shapeCasts_S1x1024_S1x1x1x2x512 : S1x1024.ShapeCasts S1x1x1x2x512
  bcast_S1x1x1x2x512_S32x2x512x2x512_0_1_2_3_4 : S1x1x1x2x512.BroadcastsInDim S32x2x512x2x512 (![0, 1, 2, 3, 4] : Fin 5 → Fin S32x2x512x2x512.rank)

variable [Facts]

def fn_part1 {F : FTy → Type} [FloatOps F] (main_arg4 : FVec F S1x1024 .f32) (main_arg5 : FVec F S1x1024x1024 .f32) (main_arg6 : FVec F S2x256x4x256 .f32) (main_v15 : IVec S32x2x512x2x512 1) (main_v19 : IVec S1x2x512x2x512 1) : IVec S32x2x512x2x512 1 :=
  let main_v20 : FVec F S1x1024x1024 .f32 := Host.absf main_arg5
  let main_cst_3 : FVec F S_ .f32 := constant S_ .f32 0x7F800000#32
  let main_v21 : FVec F S1x1024x1024 .f32 := broadcastInDim S1x1024x1024 ![] bcast_S_S1x1024x1024 main_cst_3
  let main_v22 : IVec S1x1024x1024 1 := cmpf .olt main_v20 main_v21
  let main_v23 : IVec S1x2x512x2x512 1 := shapeCast S1x2x512x2x512 main_v22 shapeCasts_S1x1024x1024_S1x2x512x2x512
  let main_v24 : IVec S1x2x512x2x512 1 := andi main_v19 main_v23
  let main_v25 : IVec S32x2x512x2x512 1 := broadcastInDim S32x2x512x2x512 ![0, 1, 2, 3, 4] bcast_S1x2x512x2x512_S32x2x512x2x512_0_1_2_3_4 main_v24
  let main_v26 : IVec S32x2x512x2x512 1 := andi main_v15 main_v25
  let main_v27 : FVec F S2x256x4x256 .f32 := Host.absf main_arg6
  let main_cst_4 : FVec F S_ .f32 := constant S_ .f32 0x7F800000#32
  let main_v28 : FVec F S2x256x4x256 .f32 := broadcastInDim S2x256x4x256 ![] bcast_S_S2x256x4x256 main_cst_4
  let main_v29 : IVec S2x256x4x256 1 := cmpf .olt main_v27 main_v28
  let main_v30 : IVec S1x1x512x2x512 1 := shapeCast S1x1x512x2x512 main_v29 shapeCasts_S2x256x4x256_S1x1x512x2x512
  let main_v31 : IVec S32x2x512x2x512 1 := broadcastInDim S32x2x512x2x512 ![0, 1, 2, 3, 4] bcast_S1x1x512x2x512_S32x2x512x2x512_0_1_2_3_4 main_v30
  let main_v32 : IVec S32x2x512x2x512 1 := andi main_v26 main_v31
  let main_v33 : FVec F S1x1024 .f32 := Host.absf main_arg4
  let main_cst_5 : FVec F S_ .f32 := constant S_ .f32 0x7F800000#32
  let main_v34 : FVec F S1x1024 .f32 := broadcastInDim S1x1024 ![] bcast_S_S1x1024 main_cst_5
  let main_v35 : IVec S1x1024 1 := cmpf .olt main_v33 main_v34
  let main_v36 : IVec S1x1x1x2x512 1 := shapeCast S1x1x1x2x512 main_v35 shapeCasts_S1x1024_S1x1x1x2x512
  let main_v37 : IVec S32x2x512x2x512 1 := broadcastInDim S32x2x512x2x512 ![0, 1, 2, 3, 4] bcast_S1x1x1x2x512_S32x2x512x2x512_0_1_2_3_4 main_v36
  let main_v38 : IVec S32x2x512x2x512 1 := andi main_v32 main_v37
  main_v38

def fn {F : FTy → Type} [FloatOps F] (main_arg0 : FVec F S2x16384x1024 .f32) (main_arg1 : FVec F S32768x512 .f32) (main_arg2 : FVec F S32768x512 .f32) (main_arg3 : FVec F S1x1024x1024 .f32) (main_arg4 : FVec F S1x1024 .f32) (main_arg5 : FVec F S1x1024x1024 .f32) (main_arg6 : FVec F S2x256x4x256 .f32) (main_arg7 : FVec F S2x256x4x256 .f32) (main_arg8 : FVec F S1x1024x1024 .f32) : IVec S32x2x512x2x512 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_v3 : IVec S32x2x512x2x512 1 := shapeCast S32x2x512x2x512 main_v2 shapeCasts_S2x16384x1024_S32x2x512x2x512
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_v7 : IVec S32x2x512x1x512 1 := shapeCast S32x2x512x1x512 main_v6 shapeCasts_S32768x512_S32x2x512x1x512
  let main_v8 : IVec S32x2x512x2x512 1 := broadcastInDim S32x2x512x2x512 ![0, 1, 2, 3, 4] bcast_S32x2x512x1x512_S32x2x512x2x512_0_1_2_3_4 main_v7
  let main_v9 : IVec S32x2x512x2x512 1 := andi main_v3 main_v8
  let main_v10 : FVec F S32768x512 .f32 := Host.absf main_arg2
  let main_cst_1 : FVec F S_ .f32 := constant S_ .f32 0x7F800000#32
  let main_v11 : FVec F S32768x512 .f32 := broadcastInDim S32768x512 ![] bcast_S_S32768x512 main_cst_1
  let main_v12 : IVec S32768x512 1 := cmpf .olt main_v10 main_v11
  let main_v13 : IVec S32x2x512x1x512 1 := shapeCast S32x2x512x1x512 main_v12 shapeCasts_S32768x512_S32x2x512x1x512
  let main_v14 : IVec S32x2x512x2x512 1 := broadcastInDim S32x2x512x2x512 ![0, 1, 2, 3, 4] bcast_S32x2x512x1x512_S32x2x512x2x512_0_1_2_3_4 main_v13
  let main_v15 : IVec S32x2x512x2x512 1 := andi main_v9 main_v14
  let main_v16 : FVec F S1x1024x1024 .f32 := Host.absf main_arg3
  let main_cst_2 : FVec F S_ .f32 := constant S_ .f32 0x7F800000#32
  let main_v17 : FVec F S1x1024x1024 .f32 := broadcastInDim S1x1024x1024 ![] bcast_S_S1x1024x1024 main_cst_2
  let main_v18 : IVec S1x1024x1024 1 := cmpf .olt main_v16 main_v17
  let main_v19 : IVec S1x2x512x2x512 1 := shapeCast S1x2x512x2x512 main_v18 shapeCasts_S1x1024x1024_S1x2x512x2x512
  fn_part1 (F := F) main_arg4 main_arg5 main_arg6 main_v15 main_v19
-- ==== Pre_finite6.lean ====
abbrev S1024x512 : Shape := ⟨2, ![1024, 512]⟩
abbrev S32x2048x4x128 : Shape := ⟨4, ![32, 2048, 4, 128]⟩
abbrev S1x64 : Shape := ⟨2, ![1, 64]⟩
abbrev S1x128 : Shape := ⟨2, ![1, 128]⟩
abbrev S_ : Shape := ⟨0, ![]⟩
abbrev S32x32x1x8x64 : Shape := ⟨5, ![32, 32, 1, 8, 64]⟩
abbrev S1x1x1x1x64 : Shape := ⟨5, ![1, 1, 1, 1, 64]⟩
abbrev S32x32x64x8x64 : Shape := ⟨5, ![32, 32, 64, 8, 64]⟩

class Facts : Prop where
  bcast_S_S1024x512 : S_.BroadcastsInDim S1024x512 (![] : Fin 0 → Fin S1024x512.rank)
  shapeCasts_S1024x512_S32x32x1x8x64 : S1024x512.ShapeCasts S32x32x1x8x64
  bcast_S_S1x64 : S_.BroadcastsInDim S1x64 (![] : Fin 0 → Fin S1x64.rank)
  shapeCasts_S1x64_S1x1x1x1x64 : S1x64.ShapeCasts S1x1x1x1x64
  bcast_S_S32x2048x4x128 : S_.BroadcastsInDim S32x2048x4x128 (![] : Fin 0 → Fin S32x2048x4x128.rank)
  shapeCasts_S32x2048x4x128_S32x32x64x8x64 : S32x2048x4x128.ShapeCasts S32x32x64x8x64
  bcast_S32x32x1x8x64_S32x32x64x8x64_0_1_2_3_4 : S32x32x1x8x64.BroadcastsInDim S32x32x64x8x64 (![0, 1, 2, 3, 4] : Fin 5 → Fin S32x32x64x8x64.rank)
  bcast_S1x1x1x1x64_S32x32x64x8x64_0_1_2_3_4 : S1x1x1x1x64.BroadcastsInDim S32x32x64x8x64 (![0, 1, 2, 3, 4] : Fin 5 → Fin S32x32x64x8x64.rank)

variable [Facts]

def fn_part2 {F : FTy → Type} [FloatOps F] (main_v32 : IVec S1x1x1x1x64 1) (main_v38 : IVec S32x32x64x8x64 1) (main_v39 : FVec F S32x2048x4x128 .f32) : IVec S32x32x64x8x64 1 :=
  let main_cst_7 : FVec F S_ .f32 := constant S_ .f32 0x7F800000#32
  let main_v40 : FVec F S32x2048x4x128 .f32 := broadcastInDim S32x2048x4x128 ![] bcast_S_S32x2048x4x128 main_cst_7
  let main_v41 : IVec S32x2048x4x128 1 := cmpf .olt main_v39 main_v40
  let main_v42 : IVec S32x32x64x8x64 1 := shapeCast S32x32x64x8x64 main_v41 shapeCasts_S32x2048x4x128_S32x32x64x8x64
  let main_v43 : IVec S32x32x64x8x64 1 := andi main_v38 main_v42
  let main_v44 : IVec S32x32x64x8x64 1 := broadcastInDim S32x32x64x8x64 ![0, 1, 2, 3, 4] bcast_S1x1x1x1x64_S32x32x64x8x64_0_1_2_3_4 main_v32
  let main_v45 : IVec S32x32x64x8x64 1 := andi main_v43 main_v44
  main_v45

def fn_part1 {F : FTy → Type} [FloatOps F] (main_arg3 : FVec F S32x2048x4x128 .f32) (main_arg4 : FVec F S32x2048x4x128 .f32) (main_arg7 : FVec F S1x64 .f32) (main_arg8 : FVec F S1x64 .f32) (main_v13 : IVec S32x32x1x8x64 1) (main_v17 : IVec S1x1x1x1x64 1) (main_v18 : FVec F S1x64 .f32) (main_cst_3 : FVec F S_ .f32) : IVec S32x32x64x8x64 1 :=
  let main_v19 : FVec F S1x64 .f32 := broadcastInDim S1x64 ![] bcast_S_S1x64 main_cst_3
  let main_v20 : IVec S1x64 1 := cmpf .olt main_v18 main_v19
  let main_v21 : IVec S1x1x1x1x64 1 := shapeCast S1x1x1x1x64 main_v20 shapeCasts_S1x64_S1x1x1x1x64
  let main_v22 : IVec S1x1x1x1x64 1 := andi main_v17 main_v21
  let main_v23 : FVec F S1x64 .f32 := Host.absf main_arg7
  let main_cst_4 : FVec F S_ .f32 := constant S_ .f32 0x7F800000#32
  let main_v24 : FVec F S1x64 .f32 := broadcastInDim S1x64 ![] bcast_S_S1x64 main_cst_4
  let main_v25 : IVec S1x64 1 := cmpf .olt main_v23 main_v24
  let main_v26 : IVec S1x1x1x1x64 1 := shapeCast S1x1x1x1x64 main_v25 shapeCasts_S1x64_S1x1x1x1x64
  let main_v27 : IVec S1x1x1x1x64 1 := andi main_v22 main_v26
  let main_v28 : FVec F S1x64 .f32 := Host.absf main_arg8
  let main_cst_5 : FVec F S_ .f32 := constant S_ .f32 0x7F800000#32
  let main_v29 : FVec F S1x64 .f32 := broadcastInDim S1x64 ![] bcast_S_S1x64 main_cst_5
  let main_v30 : IVec S1x64 1 := cmpf .olt main_v28 main_v29
  let main_v31 : IVec S1x1x1x1x64 1 := shapeCast S1x1x1x1x64 main_v30 shapeCasts_S1x64_S1x1x1x1x64
  let main_v32 : IVec S1x1x1x1x64 1 := andi main_v27 main_v31
  let main_v33 : FVec F S32x2048x4x128 .f32 := Host.absf main_arg3
  let main_cst_6 : FVec F S_ .f32 := constant S_ .f32 0x7F800000#32
  let main_v34 : FVec F S32x2048x4x128 .f32 := broadcastInDim S32x2048x4x128 ![] bcast_S_S32x2048x4x128 main_cst_6
  let main_v35 : IVec S32x2048x4x128 1 := cmpf .olt main_v33 main_v34
  let main_v36 : IVec S32x32x64x8x64 1 := shapeCast S32x32x64x8x64 main_v35 shapeCasts_S32x2048x4x128_S32x32x64x8x64
  let main_v37 : IVec S32x32x64x8x64 1 := broadcastInDim S32x32x64x8x64 ![0, 1, 2, 3, 4] bcast_S32x32x1x8x64_S32x32x64x8x64_0_1_2_3_4 main_v13
  let main_v38 : IVec S32x32x64x8x64 1 := andi main_v37 main_v36
  let main_v39 : FVec F S32x2048x4x128 .f32 := Host.absf main_arg4
  fn_part2 (F := F) main_v32 main_v38 main_v39

def fn {F : FTy → Type} [FloatOps F] (main_arg0 : FVec F S1024x512 .bf16) (main_arg1 : FVec F S1024x512 .bf16) (main_arg2 : FVec F S1024x512 .bf16) (main_arg3 : FVec F S32x2048x4x128 .f32) (main_arg4 : FVec F S32x2048x4x128 .f32) (main_arg5 : FVec F S1x64 .f32) (main_arg6 : FVec F S1x64 .f32) (main_arg7 : FVec F S1x64 .f32) (main_arg8 : FVec F S1x64 .f32) (main_arg9 : FVec F S1x128 .f32) : IVec S32x32x64x8x64 1 :=
  let main_v0 : FVec F S1024x512 .bf16 := Host.absf main_arg0
  let main_cst : FVec F S_ .bf16 := constant S_ .bf16 0x7F80#16
  let main_v1 : FVec F S1024x512 .bf16 := broadcastInDim S1024x512 ![] bcast_S_S1024x512 main_cst
  let main_v2 : IVec S1024x512 1 := cmpf .olt main_v0 main_v1
  let main_v3 : IVec S32x32x1x8x64 1 := shapeCast S32x32x1x8x64 main_v2 shapeCasts_S1024x512_S32x32x1x8x64
  let main_v4 : FVec F S1024x512 .bf16 := Host.absf main_arg1
  let main_cst_0 : FVec F S_ .bf16 := constant S_ .bf16 0x7F80#16
  let main_v5 : FVec F S1024x512 .bf16 := broadcastInDim S1024x512 ![] bcast_S_S1024x512 main_cst_0
  let main_v6 : IVec S1024x512 1 := cmpf .olt main_v4 main_v5
  let main_v7 : IVec S32x32x1x8x64 1 := shapeCast S32x32x1x8x64 main_v6 shapeCasts_S1024x512_S32x32x1x8x64
  let main_v8 : IVec S32x32x1x8x64 1 := andi main_v3 main_v7
  let main_v9 : FVec F S1024x512 .bf16 := Host.absf main_arg2
  let main_cst_1 : FVec F S_ .bf16 := constant S_ .bf16 0x7F80#16
  let main_v10 : FVec F S1024x512 .bf16 := broadcastInDim S1024x512 ![] bcast_S_S1024x512 main_cst_1
  let main_v11 : IVec S1024x512 1 := cmpf .olt main_v9 main_v10
  let main_v12 : IVec S32x32x1x8x64 1 := shapeCast S32x32x1x8x64 main_v11 shapeCasts_S1024x512_S32x32x1x8x64
  let main_v13 : IVec S32x32x1x8x64 1 := andi main_v8 main_v12
  let main_v14 : FVec F S1x64 .f32 := Host.absf main_arg5
  let main_cst_2 : FVec F S_ .f32 := constant S_ .f32 0x7F800000#32
  let main_v15 : FVec F S1x64 .f32 := broadcastInDim S1x64 ![] bcast_S_S1x64 main_cst_2
  let main_v16 : IVec S1x64 1 := cmpf .olt main_v14 main_v15
  let main_v17 : IVec S1x1x1x1x64 1 := shapeCast S1x1x1x1x64 main_v16 shapeCasts_S1x64_S1x1x1x1x64
  let main_v18 : FVec F S1x64 .f32 := Host.absf main_arg6
  let main_cst_3 : FVec F S_ .f32 := constant S_ .f32 0x7F800000#32
  fn_part1 (F := F) main_arg3 main_arg4 main_arg7 main_arg8 main_v13 main_v17 main_v18 main_cst_3
-- ==== Kernel.lean ====
abbrev S32768x512 : Shape := ⟨2, ![32768, 512]⟩
abbrev S1x64 : Shape := ⟨2, ![1, 64]⟩
abbrev S1x128 : Shape := ⟨2, ![1, 128]⟩
abbrev S64 : Shape := ⟨1, ![64]⟩
abbrev S2x16x1024x4x128 : Shape := ⟨5, ![2, 16, 1024, 4, 128]⟩
abbrev S2x4x16x128x1024 : Shape := ⟨5, ![2, 4, 16, 128, 1024]⟩
abbrev S2x16384x512 : Shape := ⟨3, ![2, 16384, 512]⟩
abbrev S128 : Shape := ⟨1, ![128]⟩
abbrev S128x1 : Shape := ⟨2, ![128, 1]⟩
abbrev S1x1024x128 : Shape := ⟨3, ![1, 1024, 128]⟩
abbrev S1x16384x128 : Shape := ⟨3, ![1, 16384, 128]⟩
abbrev S1x1x16x128x1024 : Shape := ⟨5, ![1, 1, 16, 128, 1024]⟩
abbrev S128x1024 : Shape := ⟨2, ![128, 1024]⟩
abbrev S1x1024 : Shape := ⟨2, ![1, 1024]⟩
abbrev S1024x1024 : Shape := ⟨2, ![1024, 1024]⟩
abbrev S1024x128 : Shape := ⟨2, ![1024, 128]⟩
abbrev S1x1x1x128x1024 : Shape := ⟨5, ![1, 1, 1, 128, 1024]⟩
abbrev S1024 : Shape := ⟨1, ![1024]⟩
abbrev S1 : Shape := ⟨1, ![1]⟩
abbrev S1x1 : Shape := ⟨2, ![1, 1]⟩

abbrev nBuf : Space → Nat
  | .hbm => 23
  | .vmem => 21
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S2x16x1024x4x128, .bf16⟩
  | .hbm, ⟨17, _⟩ => ⟨S2x4x16x128x1024, .bf16⟩
  | .hbm, ⟨18, _⟩ => ⟨S2x16384x512, .bf16⟩
  | .hbm, ⟨19, _⟩ => ⟨S2x16384x512, .bf16⟩
  | .hbm, ⟨20, _⟩ => ⟨S128, .f32⟩
  | .hbm, ⟨21, _⟩ => ⟨S128x1, .f32⟩
  | .hbm, ⟨22, _⟩ => ⟨S2x16384x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x1x16x128x1024, .bf16⟩
  | .local _ .vmem, ⟨5, _⟩ => ⟨S1x1x16x128x1024, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x1024x128, .f32⟩
  | .local _ .vmem, ⟨12, _⟩ => ⟨S1x1024x128, .f32⟩
  | .local _ .vmem, ⟨13, _⟩ => ⟨S128x1024, .f32⟩
  | .local _ .vmem, ⟨14, _⟩ => ⟨S128x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32 : BitVec 32 := 0#32
  c0_i32
@[reducible] def k0_t1_loop (i : grid0.Coords) : Scf.Loop 32 :=
  let c0_i32_30 : BitVec 32 := 0#32
  let arg2 : BitVec 32 := BitVec.ofNat 32 (i 2).val
  let v46 : BitVec 32 := Scalar.subi arg2 c0_i32_30
  let c1_i32 : BitVec 32 := 1#32
  let v48 : BitVec 32 := Scalar.divsi v46 c1_i32
  let v49 : BitVec 32 := Scalar.muli v48 c1_i32
  let v50 : BitVec 32 := Scalar.addi c0_i32_30 v49
  let c1_i32_31 : BitVec 32 := 1#32
  ⟨c0_i32_30, v50, c1_i32_31⟩
def k0_mult2 (i : grid0.Coords) (k0_t1 : Fin (k0_t1_loop i).trips) : BitVec 32 :=
  let c0_i32_30 : BitVec 32 := 0#32
  let c1_i32_31 : BitVec 32 := 1#32
  let arg20 : BitVec 32 := Scf.iv c0_i32_30 c1_i32_31 k0_t1
  let c1_i32_121 : BitVec 32 := 1#32
  let v225 : BitVec 32 := Scalar.addi arg20 c1_i32_121
  let c1024_i32 : BitVec 32 := 1024#32
  let v226 : BitVec 32 := Scalar.muli v225 c1024_i32
  v226
def k0_off1 (i : grid0.Coords) (k0_t1 : Fin (k0_t1_loop i).trips) : Fin 3 → Nat :=
  let c0_122 : Index := 0#32
  let c0_i32_30 : BitVec 32 := 0#32
  let c1_i32_31 : BitVec 32 := 1#32
  let arg20 : BitVec 32 := Scf.iv c0_i32_30 c1_i32_31 k0_t1
  let c1_i32_121 : BitVec 32 := 1#32
  let v225 : BitVec 32 := Scalar.addi arg20 c1_i32_121
  let c1024_i32 : BitVec 32 := 1024#32
  let v226 : BitVec 32 := Scalar.muli v225 c1024_i32
  let v227 : BitVec 32 := v226
  let v228 : Index := Scalar.indexCast v227
  let c0_123 : Index := 0#32
  ![0, v228.toNat, 0]
def k0_off2 (i : grid0.Coords) (k0_t1 : Fin (k0_t1_loop i).trips) : Fin 5 → Nat :=
  let c0_126 : Index := 0#32
  let c0_127 : Index := 0#32
  let c0_i32_30 : BitVec 32 := 0#32
  let c1_i32_31 : BitVec 32 := 1#32
  let arg20 : BitVec 32 := Scf.iv c0_i32_30 c1_i32_31 k0_t1
  let v233 : Index := Scalar.indexCast arg20
  let c0_128 : Index := 0#32
  let c0_129 : Index := 0#32
  ![0, 0, v233.toNat, 0, 0]
@[reducible] def k0_t2_loop (i : grid0.Coords) : Scf.Loop 32 :=
  let c0_i32_30 : BitVec 32 := 0#32
  let arg2 : BitVec 32 := BitVec.ofNat 32 (i 2).val
  let v46 : BitVec 32 := Scalar.subi arg2 c0_i32_30
  let c1_i32 : BitVec 32 := 1#32
  let v48 : BitVec 32 := Scalar.divsi v46 c1_i32
  let v49 : BitVec 32 := Scalar.muli v48 c1_i32
  let v50 : BitVec 32 := Scalar.addi c0_i32_30 v49
  let v47 : BitVec 32 := Scalar.addi c0_i32_30 v46
  let c1_i32_32 : BitVec 32 := 1#32
  ⟨v50, v47, c1_i32_32⟩
def k0_mult3 (i : grid0.Coords) (k0_t2 : Fin (k0_t2_loop i).trips) : BitVec 32 :=
  let c0_i32_30 : BitVec 32 := 0#32
  let arg2 : BitVec 32 := BitVec.ofNat 32 (i 2).val
  let v46 : BitVec 32 := Scalar.subi arg2 c0_i32_30
  let c1_i32 : BitVec 32 := 1#32
  let v48 : BitVec 32 := Scalar.divsi v46 c1_i32
  let v49 : BitVec 32 := Scalar.muli v48 c1_i32
  let v50 : BitVec 32 := Scalar.addi c0_i32_30 v49
  let c1_i32_32 : BitVec 32 := 1#32
  let arg20 : BitVec 32 := Scf.iv v50 c1_i32_32 k0_t2
  let c1_i32_121 : BitVec 32 := 1#32
  let v225 : BitVec 32 := Scalar.addi arg20 c1_i32_121
  let c1024_i32 : BitVec 32 := 1024#32
  let v226 : BitVec 32 := Scalar.muli v225 c1024_i32
  v226
def k0_off3 (i : grid0.Coords) (k0_t2 : Fin (k0_t2_loop i).trips) : Fin 3 → Nat :=
  let c0_122 : Index := 0#32
  let c0_i32_30 : BitVec 32 := 0#32
  let arg2 : BitVec 32 := BitVec.ofNat 32 (i 2).val
  let v46 : BitVec 32 := Scalar.subi arg2 c0_i32_30
  let c1_i32 : BitVec 32 := 1#32
  let v48 : BitVec 32 := Scalar.divsi v46 c1_i32
  let v49 : BitVec 32 := Scalar.muli v48 c1_i32
  let v50 : BitVec 32 := Scalar.addi c0_i32_30 v49
  let c1_i32_32 : BitVec 32 := 1#32
  let arg20 : BitVec 32 := Scf.iv v50 c1_i32_32 k0_t2
  let c1_i32_121 : BitVec 32 := 1#32
  let v225 : BitVec 32 := Scalar.addi arg20 c1_i32_121
  let c1024_i32 : BitVec 32 := 1024#32
  let v226 : BitVec 32 := Scalar.muli v225 c1024_i32
  let v227 : BitVec 32 := v226
  let v228 : Index := Scalar.indexCast v227
  let c0_123 : Index := 0#32
  ![0, v228.toNat, 0]
def k0_off4 (i : grid0.Coords) (k0_t2 : Fin (k0_t2_loop i).trips) : Fin 5 → Nat :=
  let c0_126 : Index := 0#32
  let c0_127 : Index := 0#32
  let c0_i32_30 : BitVec 32 := 0#32
  let arg2 : BitVec 32 := BitVec.ofNat 32 (i 2).val
  let v46 : BitVec 32 := Scalar.subi arg2 c0_i32_30
  let c1_i32 : BitVec 32 := 1#32
  let v48 : BitVec 32 := Scalar.divsi v46 c1_i32
  let v49 : BitVec 32 := Scalar.muli v48 c1_i32
  let v50 : BitVec 32 := Scalar.addi c0_i32_30 v49
  let c1_i32_32 : BitVec 32 := 1#32
  let arg20 : BitVec 32 := Scf.iv v50 c1_i32_32 k0_t2
  let v233 : Index := Scalar.indexCast arg20
  let c0_128 : Index := 0#32
  let c0_129 : Index := 0#32
  ![0, 0, v233.toNat, 0, 0]
def k0_off5 (i : grid0.Coords) : Fin 5 → Nat :=
  let c0_53 : Index := 0#32
  let c0_54 : Index := 0#32
  let arg2 : BitVec 32 := BitVec.ofNat 32 (i 2).val
  let v108 : Index := Scalar.indexCast arg2
  let c0_55 : Index := 0#32
  let c0_56 : Index := 0#32
  ![0, 0, v108.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S32768x512 : Shape := ⟨2, ![32768, 512]⟩
abbrev S1x64 : Shape := ⟨2, ![1, 64]⟩
abbrev S1x128 : Shape := ⟨2, ![1, 128]⟩
abbrev S2x16384x4x2x64 : Shape := ⟨5, ![2, 16384, 4, 2, 64]⟩
abbrev S2x16384x4x128 : Shape := ⟨4, ![2, 16384, 4, 128]⟩
abbrev S64 : Shape := ⟨1, ![64]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x4x2x16384x16384 : Shape := ⟨5, ![2, 4, 2, 16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S128 : Shape := ⟨1, ![128]⟩
abbrev S1x1x1x128 : Shape := ⟨4, ![1, 1, 1, 128]⟩
abbrev S2x16384x512 : Shape := ⟨3, ![2, 16384, 512]⟩

abbrev nBuf : Space → Nat
  | .hbm => 103
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S32768x512, .f32⟩
  | .hbm, ⟨9, _⟩ => ⟨S2x16384x4x2x64, .f32⟩
  | .hbm, ⟨10, _⟩ => ⟨S32768x512, .f32⟩
  | .hbm, ⟨11, _⟩ => ⟨S2x16384x4x2x64, .f32⟩
  | .hbm, ⟨12, _⟩ => ⟨S32768x512, .f32⟩
  | .hbm, ⟨13, _⟩ => ⟨S2x16384x4x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384, .i32⟩
  | .hbm, ⟨30, _⟩ => ⟨S_, .i32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S16384, .i32⟩
  | .hbm, ⟨39, _⟩ => ⟨S16384, .i32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S1x16384, .i32⟩
  | .hbm, ⟨49, _⟩ => ⟨S16384x1, .i32⟩
  | .hbm, ⟨50, _⟩ => ⟨S16384x16384, .i32⟩
  | .hbm, ⟨51, _⟩ => ⟨S16384x16384, .i32⟩
  | .hbm, ⟨52, _⟩ => ⟨S16384x16384, .i1⟩
  | .hbm, ⟨53, _⟩ => ⟨S2x4x2x16384x16384, .f32⟩
  | .hbm, ⟨54, _⟩ => ⟨S_, .f32⟩
  | .hbm, ⟨55, _⟩ => ⟨S_, .f32⟩
  | .hbm, ⟨56, _⟩ => ⟨S2x4x2x16384x16384, .i1⟩
  | .hbm, ⟨57, _⟩ => ⟨S2x4x2x16384x16384, .f32⟩
  | .hbm, ⟨58, _⟩ => ⟨S2x4x2x16384x16384, .f32⟩
  | .hbm, ⟨59, _⟩ => ⟨S_, .f32⟩
  | .hbm, ⟨60, _⟩ => ⟨S2x4x2x16384, .f32⟩
  | .hbm, ⟨61, _⟩ => ⟨S_, .f32⟩
  | .hbm, ⟨62, _⟩ => ⟨S2x4x2x16384, .f32⟩
  | .hbm, ⟨63, _⟩ => ⟨S2x4x2x16384, .f32⟩
  | .hbm, ⟨64, _⟩ => ⟨S2x4x2x16384x1, .f32⟩
  | .hbm, ⟨65, _⟩ => ⟨S2x4x2x16384x16384, .f32⟩
  | .hbm, ⟨66, _⟩ => ⟨S2x4x2x16384x16384, .f32⟩
  | .hbm, ⟨67, _⟩ => ⟨S2x4x2x16384x16384, .f32⟩
  | .hbm, ⟨68, _⟩ => ⟨S_, .f32⟩
  | .hbm, ⟨69, _⟩ => ⟨S2x4x2x16384, .f32⟩
  | .hbm, ⟨70, _⟩ => ⟨S2x4x2x16384x1, .f32⟩
  | .hbm, ⟨71, _⟩ => ⟨S2x4x2x16384x16384, .f32⟩
  | .hbm, ⟨72, _⟩ => ⟨S2x4x2x16384x16384, .f32⟩
  | .hbm, ⟨73, _⟩ => ⟨S2x4x1x16384x16384, .f32⟩
  | .hbm, ⟨74, _⟩ => ⟨S2x4x16384x16384, .f32⟩
  | .hbm, ⟨75, _⟩ => ⟨S2x4x1x16384x16384, .f32⟩
  | .hbm, ⟨76, _⟩ => ⟨S2x4x16384x16384, .f32⟩
  | .hbm, ⟨77, _⟩ => ⟨S2x4x16384x16384, .f32⟩
  | .hbm, ⟨78, _⟩ => ⟨S2x4x16384x16384, .f32⟩
  | .hbm, ⟨79, _⟩ => ⟨S2x4x16384x16384, .f32⟩
  | .hbm, ⟨80, _⟩ => ⟨S2x4x128x16384, .f32⟩
  | .hbm, ⟨81, _⟩ => ⟨S2x16384x4x128, .f32⟩
  | .hbm, ⟨82, _⟩ => ⟨S2x16384x4x128, .f32⟩
  | .hbm, ⟨83, _⟩ => ⟨S_, .f32⟩
  | .hbm, ⟨84, _⟩ => ⟨S2x16384x4, .f32⟩
  | .hbm, ⟨85, _⟩ => ⟨S2x16384x4x1, .f32⟩
  | .hbm, ⟨86, _⟩ => ⟨S_, .f32⟩
  | .hbm, ⟨87, _⟩ => ⟨S2x16384x4x1, .f32⟩
  | .hbm, ⟨88, _⟩ => ⟨S2x16384x4x1, .f32⟩
  | .hbm, ⟨89, _⟩ => ⟨S_, .f32⟩
  | .hbm, ⟨90, _⟩ => ⟨S2x16384x4x1, .f32⟩
  | .hbm, ⟨91, _⟩ => ⟨S2x16384x4x1, .f32⟩
  | .hbm, ⟨92, _⟩ => ⟨S2x16384x4x1, .f32⟩
  | .hbm, ⟨93, _⟩ => ⟨S2x16384x4x128, .f32⟩
  | .hbm, ⟨94, _⟩ => ⟨S2x16384x4x128, .f32⟩
  | .hbm, ⟨95, _⟩ => ⟨S128, .f32⟩
  | .hbm, ⟨96, _⟩ => ⟨S1x1x1x128, .f32⟩
  | .hbm, ⟨97, _⟩ => ⟨S2x16384x4x128, .f32⟩
  | .hbm, ⟨98, _⟩ => ⟨S2x16384x4x128, .f32⟩
  | .hbm, ⟨99, _⟩ => ⟨S_, .f32⟩
  | .hbm, ⟨100, _⟩ => ⟨S2x16384x4x128, .f32⟩
  | .hbm, ⟨101, _⟩ => ⟨S2x16384x4x128, .f32⟩
  | .hbm, ⟨102, _⟩ => ⟨S2x16384x512, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_2 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v26 : Ref sig .tc := ⟨.hbm, 58, rfl⟩
abbrev main_cst_3 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_cst_7 : Ref sig .tc := ⟨.hbm, 86, rfl⟩
abbrev main_v50 : Ref sig .tc := ⟨.hbm, 87, rfl⟩
abbrev main_v51 : Ref sig .tc := ⟨.hbm, 88, rfl⟩
abbrev main_cst_8 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_9 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩

abbrev nD : Nat := 1
abbrev τ : Topo := Topo.v7x

variable {F : FTy → Type} [FloatOps F]
-- ==== Kernel2.lean ====
abbrev S2x16384x1024 : Shape := ⟨3, ![2, 16384, 1024]⟩
abbrev S1x1024 : Shape := ⟨2, ![1, 1024]⟩
abbrev S1x1024x3080 : Shape := ⟨3, ![1, 1024, 3080]⟩
abbrev S1024x3080 : Shape := ⟨2, ![1024, 3080]⟩
abbrev S1024x512 : Shape := ⟨2, ![1024, 512]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S32768x1024 : Shape := ⟨2, ![32768, 1024]⟩
abbrev S1024 : Shape := ⟨1, ![1024]⟩
abbrev S32768x512 : Shape := ⟨2, ![32768, 512]⟩
abbrev S32768x128 : Shape := ⟨2, ![32768, 128]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 65
  | .vmem => 31
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x3080, .f32⟩
  | .hbm, ⟨3, _⟩ => ⟨S1024x3080, .f32⟩
  | .hbm, ⟨4, _⟩ => ⟨S1024x3080, .bf16⟩
  | .hbm, ⟨5, _⟩ => ⟨S1024x512, .bf16⟩
  | .hbm, ⟨6, _⟩ => ⟨S1024x1024, .bf16⟩
  | .hbm, ⟨7, _⟩ => ⟨S1024x8, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384x1, .f32⟩
  | .hbm, ⟨29, _⟩ => ⟨S1x8, .f32⟩
  | .hbm, ⟨30, _⟩ => ⟨S16384x8, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S_, .f32⟩
  | .hbm, ⟨36, _⟩ => ⟨S16384x48, .f32⟩
  | .hbm, ⟨37, _⟩ => ⟨S_, .f32⟩
  | .hbm, ⟨38, _⟩ => ⟨S16384x48, .f32⟩
  | .hbm, ⟨39, _⟩ => ⟨S_, .f32⟩
  | .hbm, ⟨40, _⟩ => ⟨S16384x8, .f32⟩
  | .hbm, ⟨41, _⟩ => ⟨S16384x64, .f32⟩
  | .hbm, ⟨42, _⟩ => ⟨S1x16384x1x64, .f32⟩
  | .hbm, ⟨43, _⟩ => ⟨S1x16384x2x64, .f32⟩
  | .hbm, ⟨44, _⟩ => ⟨S16384x128, .f32⟩
  | .hbm, ⟨45, _⟩ => ⟨S16384x64, .f32⟩
  | .hbm, ⟨46, _⟩ => ⟨S1x16384x1x64, .f32⟩
  | .hbm, ⟨47, _⟩ => ⟨S1x16384x2x64, .f32⟩
  | .hbm, ⟨48, _⟩ => ⟨S16384x128, .f32⟩
  | .hbm, ⟨49, _⟩ => ⟨S16384x8, .f32⟩
  | .hbm, ⟨50, _⟩ => ⟨S16384x64, .f32⟩
  | .hbm, ⟨51, _⟩ => ⟨S1x16384x1x64, .f32⟩
  | .hbm, ⟨52, _⟩ => ⟨S1x16384x2x64, .f32⟩
  | .hbm, ⟨53, _⟩ => ⟨S16384x128, .f32⟩
  | .hbm, ⟨54, _⟩ => ⟨S32768x1024, .f32⟩
  | .hbm, ⟨55, _⟩ => ⟨S1024, .f32⟩
  | .hbm, ⟨56, _⟩ => ⟨S1x1024, .f32⟩
  | .hbm, ⟨57, _⟩ => ⟨S32768x512, .f32⟩
  | .hbm, ⟨58, _⟩ => ⟨S32768x1024, .f32⟩
  | .hbm, ⟨59, _⟩ => ⟨S32768x128, .f32⟩
  | .hbm, ⟨60, _⟩ => ⟨S32768x512, .bf16⟩
  | .hbm, ⟨61, _⟩ => ⟨S32768x512, .f32⟩
  | .hbm, ⟨62, _⟩ => ⟨S32768x512, .f32⟩
  | .hbm, ⟨63, _⟩ => ⟨S32768x512, .bf16⟩
  | .hbm, ⟨64, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .f32⟩
  | .local _ .vmem, ⟨16, _⟩ => ⟨S512x512, .f32⟩
  | .local _ .vmem, ⟨17, _⟩ => ⟨S512x1024, .f32⟩
  | .local _ .vmem, ⟨18, _⟩ => ⟨S512x1024, .f32⟩
  | .local _ .vmem, ⟨19, _⟩ => ⟨S512x128, .f32⟩
  | .local _ .vmem, ⟨20, _⟩ => ⟨S512x128, .f32⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev main_v45_2 : Ref sig .tc := ⟨.hbm, 59, rfl⟩
abbrev main_v45_3 : Ref sig .tc := ⟨.hbm, 60, rfl⟩
abbrev main_v45_4 : Ref sig .tc := ⟨.hbm, 61, rfl⟩
abbrev main_v45_5 : Ref sig .tc := ⟨.hbm, 62, rfl⟩
abbrev main_v45_6 : Ref sig .tc := ⟨.hbm, 63, rfl⟩
abbrev main_v45_7 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S2x16384x1024 : Shape := ⟨3, ![2, 16384, 1024]⟩
abbrev S1x1024 : Shape := ⟨2, ![1, 1024]⟩
abbrev S1x1024x3080 : Shape := ⟨3, ![1, 1024, 3080]⟩
abbrev S_ : Shape := ⟨0, ![]⟩
abbrev S2x16384 : Shape := ⟨2, ![2, 16384]⟩
abbrev S2x16384x1 : Shape := ⟨3, ![2, 16384, 1]⟩
abbrev S1024 : Shape := ⟨1, ![1024]⟩
abbrev S1x1x1024 : Shape := ⟨3, ![1, 1, 1024]⟩
abbrev S1024x3080 : Shape := ⟨2, ![1024, 3080]⟩
abbrev S2x16384x3080 : Shape := ⟨3, ![2, 16384, 3080]⟩
abbrev S2x16384x512 : Shape := ⟨3, ![2, 16384, 512]⟩
abbrev S2x16384x8 : Shape := ⟨3, ![2, 16384, 8]⟩
abbrev S8 : Shape := ⟨1, ![8]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S1x16384x1x1x8 : Shape := ⟨5, ![1, 16384, 1, 1, 8]⟩
abbrev S2x16384x4x2x64 : Shape := ⟨5, ![2, 16384, 4, 2, 64]⟩
abbrev S2x16384x4x2x8 : Shape := ⟨5, ![2, 16384, 4, 2, 8]⟩
abbrev S2x16384x4x2x48 : Shape := ⟨5, ![2, 16384, 4, 2, 48]⟩
abbrev S32768x512 : Shape := ⟨2, ![32768, 512]⟩
abbrev S2x16384x128 : Shape := ⟨3, ![2, 16384, 128]⟩
abbrev S32768x1024 : Shape := ⟨2, ![32768, 1024]⟩
abbrev S32768x128 : Shape := ⟨2, ![32768, 128]⟩

abbrev nBuf : Space → Nat
  | .hbm => 96
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x3080, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S1024x3080, .f32⟩
  | .hbm, ⟨21, _⟩ => ⟨S2x16384x3080, .f32⟩
  | .hbm, ⟨22, _⟩ => ⟨S2x16384x512, .f32⟩
  | .hbm, ⟨23, _⟩ => ⟨S2x16384x1024, .f32⟩
  | .hbm, ⟨24, _⟩ => ⟨S2x16384x8, .f32⟩
  | .hbm, ⟨25, _⟩ => ⟨S2x16384x512, .f32⟩
  | .hbm, ⟨26, _⟩ => ⟨S2x16384x512, .f32⟩
  | .hbm, ⟨27, _⟩ => ⟨S2x16384x512, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S1x8, .f32⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S16384x8, .f32⟩
  | .hbm, ⟨48, _⟩ => ⟨S1x16384x1x1x8, .f32⟩
  | .hbm, ⟨49, _⟩ => ⟨S16384x8, .f32⟩
  | .hbm, ⟨50, _⟩ => ⟨S1x16384x1x1x8, .f32⟩
  | .hbm, ⟨51, _⟩ => ⟨S2x16384x4x2x64, .f32⟩
  | .hbm, ⟨52, _⟩ => ⟨S2x16384x4x2x8, .f32⟩
  | .hbm, ⟨53, _⟩ => ⟨S2x16384x4x2x8, .f32⟩
  | .hbm, ⟨54, _⟩ => ⟨S2x16384x4x2x8, .f32⟩
  | .hbm, ⟨55, _⟩ => ⟨S2x16384x4x2x8, .f32⟩
  | .hbm, ⟨56, _⟩ => ⟨S2x16384x4x2x8, .f32⟩
  | .hbm, ⟨57, _⟩ => ⟨S2x16384x4x2x8, .f32⟩
  | .hbm, ⟨58, _⟩ => ⟨S2x16384x4x2x8, .f32⟩
  | .hbm, ⟨59, _⟩ => ⟨S2x16384x4x2x8, .f32⟩
  | .hbm, ⟨60, _⟩ => ⟨S2x16384x4x2x8, .f32⟩
  | .hbm, ⟨61, _⟩ => ⟨S2x16384x4x2x8, .f32⟩
  | .hbm, ⟨62, _⟩ => ⟨S2x16384x4x2x8, .f32⟩
  | .hbm, ⟨63, _⟩ => ⟨S2x16384x4x2x8, .f32⟩
  | .hbm, ⟨64, _⟩ => ⟨S2x16384x4x2x48, .f32⟩
  | .hbm, ⟨65, _⟩ => ⟨S2x16384x4x2x64, .f32⟩
  | .hbm, ⟨66, _⟩ => ⟨S32768x512, .f32⟩
  | .hbm, ⟨67, _⟩ => ⟨S_, .f32⟩
  | .hbm, ⟨68, _⟩ => ⟨S32768x512, .f32⟩
  | .hbm, ⟨69, _⟩ => ⟨S32768x512, .f32⟩
  | .hbm, ⟨70, _⟩ => ⟨S2x16384x4x2x64, .f32⟩
  | .hbm, ⟨71, _⟩ => ⟨S2x16384x4x2x8, .f32⟩
  | .hbm, ⟨72, _⟩ => ⟨S2x16384x4x2x8, .f32⟩
  | .hbm, ⟨73, _⟩ => ⟨S2x16384x4x2x8, .f32⟩
  | .hbm, ⟨74, _⟩ => ⟨S2x16384x4x2x8, .f32⟩
  | .hbm, ⟨75, _⟩ => ⟨S2x16384x4x2x8, .f32⟩
  | .hbm, ⟨76, _⟩ => ⟨S2x16384x4x2x8, .f32⟩
  | .hbm, ⟨77, _⟩ => ⟨S2x16384x4x2x8, .f32⟩
  | .hbm, ⟨78, _⟩ => ⟨S2x16384x4x2x8, .f32⟩
  | .hbm, ⟨79, _⟩ => ⟨S2x16384x4x2x8, .f32⟩
  | .hbm, ⟨80, _⟩ => ⟨S2x16384x4x2x8, .f32⟩
  | .hbm, ⟨81, _⟩ => ⟨S2x16384x4x2x8, .f32⟩
  | .hbm, ⟨82, _⟩ => ⟨S2x16384x4x2x8, .f32⟩
  | .hbm, ⟨83, _⟩ => ⟨S2x16384x4x2x48, .f32⟩
  | .hbm, ⟨84, _⟩ => ⟨S2x16384x4x2x64, .f32⟩
  | .hbm, ⟨85, _⟩ => ⟨S32768x512, .f32⟩
  | .hbm, ⟨86, _⟩ => ⟨S32768x512, .f32⟩
  | .hbm, ⟨87, _⟩ => ⟨S_, .i32⟩
  | .hbm, ⟨88, _⟩ => ⟨S_, .f32⟩
  | .hbm, ⟨89, _⟩ => ⟨S2x16384x128, .f32⟩
  | .hbm, ⟨90, _⟩ => ⟨S32768x512, .f32⟩
  | .hbm, ⟨91, _⟩ => ⟨S32768x1024, .f32⟩
  | .hbm, ⟨92, _⟩ => ⟨S32768x128, .f32⟩
  | .hbm, ⟨93, _⟩ => ⟨S32768x512, .bf16⟩
  | .hbm, ⟨94, _⟩ => ⟨S32768x512, .bf16⟩
  | .hbm, ⟨95, _⟩ => ⟨S32768x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_c : Ref sig .tc := ⟨.hbm, 87, rfl⟩
abbrev main_call0_v0 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩

abbrev nD : Nat := 1
abbrev τ : Topo := Topo.v7x

variable {F : FTy → Type} [FloatOps F]
-- ==== Kernel3.lean ====
abbrev S2x256x1024 : Shape := ⟨3, ![2, 256, 1024]⟩
abbrev S1x1024 : Shape := ⟨2, ![1, 1024]⟩
abbrev S1x1024x1024 : Shape := ⟨3, ![1, 1024, 1024]⟩
abbrev S512x1024 : Shape := ⟨2, ![512, 1024]⟩
abbrev S1024 : Shape := ⟨1, ![1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S512x1024, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S512x1024, .f32⟩
  | .hbm, ⟨12, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x256x1024 : Shape := ⟨3, ![2, 256, 1024]⟩
abbrev S1x1024 : Shape := ⟨2, ![1, 1024]⟩
abbrev S1x1024x1024 : Shape := ⟨3, ![1, 1024, 1024]⟩
abbrev S_ : Shape := ⟨0, ![]⟩
abbrev S2x256 : Shape := ⟨2, ![2, 256]⟩
abbrev S2x256x1 : Shape := ⟨3, ![2, 256, 1]⟩
abbrev S1024 : Shape := ⟨1, ![1024]⟩
abbrev S1x1x1024 : Shape := ⟨3, ![1, 1, 1024]⟩
abbrev S1024x1024 : Shape := ⟨2, ![1024, 1024]⟩
abbrev S512x1024 : Shape := ⟨2, ![512, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1024x1024, .f32⟩
  | .hbm, ⟨22, _⟩ => ⟨S2x256x1024, .f32⟩
  | .hbm, ⟨23, _⟩ => ⟨S512x1024, .f32⟩
  | .hbm, ⟨24, _⟩ => ⟨S1024x1024, .f32⟩
  | .hbm, ⟨25, _⟩ => ⟨S2x256x1024, .f32⟩
  | .hbm, ⟨26, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S2x16384x1024 : Shape := ⟨3, ![2, 16384, 1024]⟩
abbrev S32768x512 : Shape := ⟨2, ![32768, 512]⟩
abbrev S1x1024x1024 : Shape := ⟨3, ![1, 1024, 1024]⟩
abbrev S1x1024 : Shape := ⟨2, ![1, 1024]⟩
abbrev S2x256x4x256 : Shape := ⟨4, ![2, 256, 4, 256]⟩
abbrev S1x512x1024 : Shape := ⟨3, ![1, 512, 1024]⟩
abbrev S512x1024 : Shape := ⟨2, ![512, 1024]⟩
abbrev S32768x1024 : Shape := ⟨2, ![32768, 1024]⟩
abbrev S1024 : Shape := ⟨1, ![1024]⟩
abbrev S1024x1024 : Shape := ⟨2, ![1024, 1024]⟩
abbrev S2x256x1024 : Shape := ⟨3, ![2, 256, 1024]⟩
abbrev S512x512 : Shape := ⟨2, ![512, 512]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 25
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S32768x512, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S2x256x4x256, .f32⟩
  | .hbm, ⟨7, _⟩ => ⟨S2x256x4x256, .f32⟩
  | .hbm, ⟨8, _⟩ => ⟨S1x1024x1024, .f32⟩
  | .hbm, ⟨9, _⟩ => ⟨S1x512x1024, .f32⟩
  | .hbm, ⟨10, _⟩ => ⟨S512x1024, .f32⟩
  | .hbm, ⟨11, _⟩ => ⟨S512x1024, .bf16⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S32768x1024, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .bf16⟩
  | .hbm, ⟨20, _⟩ => ⟨S2x256x1024, .f32⟩
  | .hbm, ⟨21, _⟩ => ⟨S2x256x1024, .f32⟩
  | .hbm, ⟨22, _⟩ => ⟨S1024x1024, .f32⟩
  | .hbm, ⟨23, _⟩ => ⟨S1024x1024, .bf16⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S2x16384x1024 : Shape := ⟨3, ![2, 16384, 1024]⟩
abbrev S32768x512 : Shape := ⟨2, ![32768, 512]⟩
abbrev S1x1024x1024 : Shape := ⟨3, ![1, 1024, 1024]⟩
abbrev S1x1024 : Shape := ⟨2, ![1, 1024]⟩
abbrev S2x256x4x256 : Shape := ⟨4, ![2, 256, 4, 256]⟩
abbrev S32768x1024 : Shape := ⟨2, ![32768, 1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1024 : Shape := ⟨1, ![1024]⟩
abbrev S1x1x1024 : Shape := ⟨3, ![1, 1, 1024]⟩
abbrev S2x16384x4x256 : Shape := ⟨4, ![2, 16384, 4, 256]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩

abbrev nBuf : Space → Nat
  | .hbm => 59
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S32768x512, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S2x256x4x256, .f32⟩
  | .hbm, ⟨7, _⟩ => ⟨S2x256x4x256, .f32⟩
  | .hbm, ⟨8, _⟩ => ⟨S1x1024x1024, .f32⟩
  | .hbm, ⟨9, _⟩ => ⟨S32768x1024, .f32⟩
  | .hbm, ⟨10, _⟩ => ⟨S2x16384x1024, .f32⟩
  | .hbm, ⟨11, _⟩ => ⟨S1024x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x1024, .f32⟩
  | .hbm, ⟨26, _⟩ => ⟨S2x16384x1024, .f32⟩
  | .hbm, ⟨27, _⟩ => ⟨S1024, .f32⟩
  | .hbm, ⟨28, _⟩ => ⟨S1x1x1024, .f32⟩
  | .hbm, ⟨29, _⟩ => ⟨S2x16384x1024, .f32⟩
  | .hbm, ⟨30, _⟩ => ⟨S2x16384x1024, .f32⟩
  | .hbm, ⟨31, _⟩ => ⟨S1024x1024, .f32⟩
  | .hbm, ⟨32, _⟩ => ⟨S2x16384x1024, .f32⟩
  | .hbm, ⟨33, _⟩ => ⟨S2x16384x4x256, .f32⟩
  | .hbm, ⟨34, _⟩ => ⟨S2x4x16384x256, .f32⟩
  | .hbm, ⟨35, _⟩ => ⟨S_, .f32⟩
  | .hbm, ⟨36, _⟩ => ⟨S2x4x16384x256, .f32⟩
  | .hbm, ⟨37, _⟩ => ⟨S2x4x16384x256, .f32⟩
  | .hbm, ⟨38, _⟩ => ⟨S_, .f32⟩
  | .hbm, ⟨39, _⟩ => ⟨S2x4x16384, .f32⟩
  | .hbm, ⟨40, _⟩ => ⟨S_, .f32⟩
  | .hbm, ⟨41, _⟩ => ⟨S2x4x16384, .f32⟩
  | .hbm, ⟨42, _⟩ => ⟨S2x4x16384, .f32⟩
  | .hbm, ⟨43, _⟩ => ⟨S2x4x16384x1, .f32⟩
  | .hbm, ⟨44, _⟩ => ⟨S2x4x16384x256, .f32⟩
  | .hbm, ⟨45, _⟩ => ⟨S2x4x16384x256, .f32⟩
  | .hbm, ⟨46, _⟩ => ⟨S2x4x16384x256, .f32⟩
  | .hbm, ⟨47, _⟩ => ⟨S_, .f32⟩
  | .hbm, ⟨48, _⟩ => ⟨S2x4x16384, .f32⟩
  | .hbm, ⟨49, _⟩ => ⟨S2x4x16384x1, .f32⟩
  | .hbm, ⟨50, _⟩ => ⟨S2x4x16384x256, .f32⟩
  | .hbm, ⟨51, _⟩ => ⟨S2x4x16384x256, .f32⟩
  | .hbm, ⟨52, _⟩ => ⟨S2x4x256x16384, .f32⟩
  | .hbm, ⟨53, _⟩ => ⟨S2x16384x4x256, .f32⟩
  | .hbm, ⟨54, _⟩ => ⟨S2x16384x1024, .f32⟩
  | .hbm, ⟨55, _⟩ => ⟨S1024x1024, .f32⟩
  | .hbm, ⟨56, _⟩ => ⟨S2x16384x1024, .f32⟩
  | .hbm, ⟨57, _⟩ => ⟨S2x16384x1024, .f32⟩
  | .hbm, ⟨58, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel5.lean ====
abbrev S32x32x1024 : Shape := ⟨3, ![32, 32, 1024]⟩
abbrev S1x1024 : Shape := ⟨2, ![1, 1024]⟩
abbrev S1x1024x3080 : Shape := ⟨3, ![1, 1024, 3080]⟩
abbrev S1024x3080 : Shape := ⟨2, ![1024, 3080]⟩
abbrev S1024x512 : Shape := ⟨2, ![1024, 512]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S32 : Shape := ⟨1, ![32]⟩
abbrev S32x1 : Shape := ⟨2, ![32, 1]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x32x1x128 : Shape := ⟨4, ![1, 32, 1, 128]⟩
abbrev S16x32x1x128 : Shape := ⟨4, ![16, 32, 1, 128]⟩
abbrev S512x128 : Shape := ⟨2, ![512, 128]⟩
abbrev S1024 : Shape := ⟨1, ![1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 74
  | .vmem => 28
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x3080, .f32⟩
  | .hbm, ⟨3, _⟩ => ⟨S1024x3080, .f32⟩
  | .hbm, ⟨4, _⟩ => ⟨S1024x3080, .bf16⟩
  | .hbm, ⟨5, _⟩ => ⟨S1024x512, .bf16⟩
  | .hbm, ⟨6, _⟩ => ⟨S1024x1024, .bf16⟩
  | .hbm, ⟨7, _⟩ => ⟨S1024x8, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32x1, .f32⟩
  | .hbm, ⟨29, _⟩ => ⟨S1x8, .f32⟩
  | .hbm, ⟨30, _⟩ => ⟨S32x8, .f32⟩
  | .hbm, ⟨31, _⟩ => ⟨S32x8, .f32⟩
  | .hbm, ⟨32, _⟩ => ⟨S32x8, .f32⟩
  | .hbm, ⟨33, _⟩ => ⟨S32x8, .f32⟩
  | .hbm, ⟨34, _⟩ => ⟨S32x8, .f32⟩
  | .hbm, ⟨35, _⟩ => ⟨S_, .f32⟩
  | .hbm, ⟨36, _⟩ => ⟨S32x48, .f32⟩
  | .hbm, ⟨37, _⟩ => ⟨S_, .f32⟩
  | .hbm, ⟨38, _⟩ => ⟨S32x48, .f32⟩
  | .hbm, ⟨39, _⟩ => ⟨S_, .f32⟩
  | .hbm, ⟨40, _⟩ => ⟨S32x8, .f32⟩
  | .hbm, ⟨41, _⟩ => ⟨S32x64, .f32⟩
  | .hbm, ⟨42, _⟩ => ⟨S1x32x1x64, .f32⟩
  | .hbm, ⟨43, _⟩ => ⟨S1x32x2x64, .f32⟩
  | .hbm, ⟨44, _⟩ => ⟨S32x128, .f32⟩
  | .hbm, ⟨45, _⟩ => ⟨S32x64, .f32⟩
  | .hbm, ⟨46, _⟩ => ⟨S1x32x1x64, .f32⟩
  | .hbm, ⟨47, _⟩ => ⟨S1x32x2x64, .f32⟩
  | .hbm, ⟨48, _⟩ => ⟨S32x128, .f32⟩
  | .hbm, ⟨49, _⟩ => ⟨S32x8, .f32⟩
  | .hbm, ⟨50, _⟩ => ⟨S32x64, .f32⟩
  | .hbm, ⟨51, _⟩ => ⟨S1x32x1x64, .f32⟩
  | .hbm, ⟨52, _⟩ => ⟨S1x32x2x64, .f32⟩
  | .hbm, ⟨53, _⟩ => ⟨S32x128, .f32⟩
  | .hbm, ⟨54, _⟩ => ⟨S1x32x1x128, .f32⟩
  | .hbm, ⟨55, _⟩ => ⟨S16x32x1x128, .f32⟩
  | .hbm, ⟨56, _⟩ => ⟨S512x128, .f32⟩
  | .hbm, ⟨57, _⟩ => ⟨S1x32x1x128, .f32⟩
  | .hbm, ⟨58, _⟩ => ⟨S16x32x1x128, .f32⟩
  | .hbm, ⟨59, _⟩ => ⟨S512x128, .f32⟩
  | .hbm, ⟨60, _⟩ => ⟨S1x32x1x128, .f32⟩
  | .hbm, ⟨61, _⟩ => ⟨S16x32x1x128, .f32⟩
  | .hbm, ⟨62, _⟩ => ⟨S512x128, .f32⟩
  | .hbm, ⟨63, _⟩ => ⟨S1024x1024, .f32⟩
  | .hbm, ⟨64, _⟩ => ⟨S1024, .f32⟩
  | .hbm, ⟨65, _⟩ => ⟨S1x1024, .f32⟩
  | .hbm, ⟨66, _⟩ => ⟨S1024x512, .f32⟩
  | .hbm, ⟨67, _⟩ => ⟨S1024x1024, .f32⟩
  | .hbm, ⟨68, _⟩ => ⟨S1024x128, .f32⟩
  | .hbm, ⟨69, _⟩ => ⟨S1024x512, .bf16⟩
  | .hbm, ⟨70, _⟩ => ⟨S1024x512, .f32⟩
  | .hbm, ⟨71, _⟩ => ⟨S1024x512, .f32⟩
  | .hbm, ⟨72, _⟩ => ⟨S1024x512, .bf16⟩
  | .hbm, ⟨73, _⟩ => ⟨S1024x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54_0 : Ref sig .tc := ⟨.hbm, 66, rfl⟩
abbrev main_v54_1 : Ref sig .tc := ⟨.hbm, 67, rfl⟩
abbrev main_v54_2 : Ref sig .tc := ⟨.hbm, 68, rfl⟩
abbrev main_v54_3 : Ref sig .tc := ⟨.hbm, 69, rfl⟩
abbrev main_v54_4 : Ref sig .tc := ⟨.hbm, 70, rfl⟩
abbrev main_v54_5 : Ref sig .tc := ⟨.hbm, 71, rfl⟩
abbrev main_v54_6 : Ref sig .tc := ⟨.hbm, 72, rfl⟩
abbrev main_v54_7 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S32x32x1024 : Shape := ⟨3, ![32, 32, 1024]⟩
abbrev S1x1024 : Shape := ⟨2, ![1, 1024]⟩
abbrev S1x1024x3080 : Shape := ⟨3, ![1, 1024, 3080]⟩
abbrev S_ : Shape := ⟨0, ![]⟩
abbrev S32x32 : Shape := ⟨2, ![32, 32]⟩
abbrev S32x32x1 : Shape := ⟨3, ![32, 32, 1]⟩
abbrev S1024 : Shape := ⟨1, ![1024]⟩
abbrev S1x1x1024 : Shape := ⟨3, ![1, 1, 1024]⟩
abbrev S1024x3080 : Shape := ⟨2, ![1024, 3080]⟩
abbrev S32x32x3080 : Shape := ⟨3, ![32, 32, 3080]⟩
abbrev S32x32x512 : Shape := ⟨3, ![32, 32, 512]⟩
abbrev S32x32x8 : Shape := ⟨3, ![32, 32, 8]⟩
abbrev S8 : Shape := ⟨1, ![8]⟩
abbrev S32 : Shape := ⟨1, ![32]⟩
abbrev S32x1 : Shape := ⟨2, ![32, 1]⟩
abbrev S1x8 : Shape := ⟨2, ![1, 8]⟩
abbrev S32x8 : Shape := ⟨2, ![32, 8]⟩
abbrev S1x32x1x1x8 : Shape := ⟨5, ![1, 32, 1, 1, 8]⟩
abbrev S32x32x4x2x64 : Shape := ⟨5, ![32, 32, 4, 2, 64]⟩
abbrev S32x32x4x2x8 : Shape := ⟨5, ![32, 32, 4, 2, 8]⟩
abbrev S32x32x4x2x48 : Shape := ⟨5, ![32, 32, 4, 2, 48]⟩
abbrev S1024x512 : Shape := ⟨2, ![1024, 512]⟩
abbrev S32x32x128 : Shape := ⟨3, ![32, 32, 128]⟩
abbrev S1024x1024 : Shape := ⟨2, ![1024, 1024]⟩
abbrev S1024x128 : Shape := ⟨2, ![1024, 128]⟩

abbrev nBuf : Space → Nat
  | .hbm => 96
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x3080, .f32⟩
  | .hbm, ⟨3, _⟩ => ⟨S32x32x1024, .f32⟩
  | .hbm, ⟨4, _⟩ => ⟨S_, .f32⟩
  | .hbm, ⟨5, _⟩ => ⟨S32x32, .f32⟩
  | .hbm, ⟨6, _⟩ => ⟨S32x32x1, .f32⟩
  | .hbm, ⟨7, _⟩ => ⟨S_, .f32⟩
  | .hbm, ⟨8, _⟩ => ⟨S32x32x1, .f32⟩
  | .hbm, ⟨9, _⟩ => ⟨S32x32x1, .f32⟩
  | .hbm, ⟨10, _⟩ => ⟨S_, .f32⟩
  | .hbm, ⟨11, _⟩ => ⟨S32x32x1, .f32⟩
  | .hbm, ⟨12, _⟩ => ⟨S32x32x1, .f32⟩
  | .hbm, ⟨13, _⟩ => ⟨S32x32x1, .f32⟩
  | .hbm, ⟨14, _⟩ => ⟨S32x32x1024, .f32⟩
  | .hbm, ⟨15, _⟩ => ⟨S32x32x1024, .f32⟩
  | .hbm, ⟨16, _⟩ => ⟨S1024, .f32⟩
  | .hbm, ⟨17, _⟩ => ⟨S1x1x1024, .f32⟩
  | .hbm, ⟨18, _⟩ => ⟨S32x32x1024, .f32⟩
  | .hbm, ⟨19, _⟩ => ⟨S32x32x1024, .f32⟩
  | .hbm, ⟨20, _⟩ => ⟨S1024x3080, .f32⟩
  | .hbm, ⟨21, _⟩ => ⟨S32x32x3080, .f32⟩
  | .hbm, ⟨22, _⟩ => ⟨S32x32x512, .f32⟩
  | .hbm, ⟨23, _⟩ => ⟨S32x32x1024, .f32⟩
  | .hbm, ⟨24, _⟩ => ⟨S32x32x8, .f32⟩
  | .hbm, ⟨25, _⟩ => ⟨S32x32x512, .f32⟩
  | .hbm, ⟨26, _⟩ => ⟨S32x32x512, .f32⟩
  | .hbm, ⟨27, _⟩ => ⟨S32x32x512, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32x1, .f32⟩
  | .hbm, ⟨43, _⟩ => ⟨S1x8, .f32⟩
  | .hbm, ⟨44, _⟩ => ⟨S32x8, .f32⟩
  | .hbm, ⟨45, _⟩ => ⟨S32x8, .f32⟩
  | .hbm, ⟨46, _⟩ => ⟨S32x8, .f32⟩
  | .hbm, ⟨47, _⟩ => ⟨S32x8, .f32⟩
  | .hbm, ⟨48, _⟩ => ⟨S1x32x1x1x8, .f32⟩
  | .hbm, ⟨49, _⟩ => ⟨S32x8, .f32⟩
  | .hbm, ⟨50, _⟩ => ⟨S1x32x1x1x8, .f32⟩
  | .hbm, ⟨51, _⟩ => ⟨S32x32x4x2x64, .f32⟩
  | .hbm, ⟨52, _⟩ => ⟨S32x32x4x2x8, .f32⟩
  | .hbm, ⟨53, _⟩ => ⟨S32x32x4x2x8, .f32⟩
  | .hbm, ⟨54, _⟩ => ⟨S32x32x4x2x8, .f32⟩
  | .hbm, ⟨55, _⟩ => ⟨S32x32x4x2x8, .f32⟩
  | .hbm, ⟨56, _⟩ => ⟨S32x32x4x2x8, .f32⟩
  | .hbm, ⟨57, _⟩ => ⟨S32x32x4x2x8, .f32⟩
  | .hbm, ⟨58, _⟩ => ⟨S32x32x4x2x8, .f32⟩
  | .hbm, ⟨59, _⟩ => ⟨S32x32x4x2x8, .f32⟩
  | .hbm, ⟨60, _⟩ => ⟨S32x32x4x2x8, .f32⟩
  | .hbm, ⟨61, _⟩ => ⟨S32x32x4x2x8, .f32⟩
  | .hbm, ⟨62, _⟩ => ⟨S32x32x4x2x8, .f32⟩
  | .hbm, ⟨63, _⟩ => ⟨S32x32x4x2x8, .f32⟩
  | .hbm, ⟨64, _⟩ => ⟨S32x32x4x2x48, .f32⟩
  | .hbm, ⟨65, _⟩ => ⟨S32x32x4x2x64, .f32⟩
  | .hbm, ⟨66, _⟩ => ⟨S1024x512, .f32⟩
  | .hbm, ⟨67, _⟩ => ⟨S_, .f32⟩
  | .hbm, ⟨68, _⟩ => ⟨S1024x512, .f32⟩
  | .hbm, ⟨69, _⟩ => ⟨S1024x512, .f32⟩
  | .hbm, ⟨70, _⟩ => ⟨S32x32x4x2x64, .f32⟩
  | .hbm, ⟨71, _⟩ => ⟨S32x32x4x2x8, .f32⟩
  | .hbm, ⟨72, _⟩ => ⟨S32x32x4x2x8, .f32⟩
  | .hbm, ⟨73, _⟩ => ⟨S32x32x4x2x8, .f32⟩
  | .hbm, ⟨74, _⟩ => ⟨S32x32x4x2x8, .f32⟩
  | .hbm, ⟨75, _⟩ => ⟨S32x32x4x2x8, .f32⟩
  | .hbm, ⟨76, _⟩ => ⟨S32x32x4x2x8, .f32⟩
  | .hbm, ⟨77, _⟩ => ⟨S32x32x4x2x8, .f32⟩
  | .hbm, ⟨78, _⟩ => ⟨S32x32x4x2x8, .f32⟩
  | .hbm, ⟨79, _⟩ => ⟨S32x32x4x2x8, .f32⟩
  | .hbm, ⟨80, _⟩ => ⟨S32x32x4x2x8, .f32⟩
  | .hbm, ⟨81, _⟩ => ⟨S32x32x4x2x8, .f32⟩
  | .hbm, ⟨82, _⟩ => ⟨S32x32x4x2x8, .f32⟩
  | .hbm, ⟨83, _⟩ => ⟨S32x32x4x2x48, .f32⟩
  | .hbm, ⟨84, _⟩ => ⟨S32x32x4x2x64, .f32⟩
  | .hbm, ⟨85, _⟩ => ⟨S1024x512, .f32⟩
  | .hbm, ⟨86, _⟩ => ⟨S1024x512, .f32⟩
  | .hbm, ⟨87, _⟩ => ⟨S_, .i32⟩
  | .hbm, ⟨88, _⟩ => ⟨S_, .f32⟩
  | .hbm, ⟨89, _⟩ => ⟨S32x32x128, .f32⟩
  | .hbm, ⟨90, _⟩ => ⟨S1024x512, .f32⟩
  | .hbm, ⟨91, _⟩ => ⟨S1024x1024, .f32⟩
  | .hbm, ⟨92, _⟩ => ⟨S1024x128, .f32⟩
  | .hbm, ⟨93, _⟩ => ⟨S1024x512, .bf16⟩
  | .hbm, ⟨94, _⟩ => ⟨S1024x512, .bf16⟩
  | .hbm, ⟨95, _⟩ => ⟨S1024x512, .bf16⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_c : Ref sig .tc := ⟨.hbm, 87, rfl⟩
abbrev main_call0_v0 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩

abbrev nD : Nat := 1
abbrev τ : Topo := Topo.v7x

variable {F : FTy → Type} [FloatOps F]
-- ==== Kernel6.lean ====
abbrev S1024x512 : Shape := ⟨2, ![1024, 512]⟩
abbrev S32x2048x4x128 : Shape := ⟨4, ![32, 2048, 4, 128]⟩
abbrev S1x64 : Shape := ⟨2, ![1, 64]⟩
abbrev S1x128 : Shape := ⟨2, ![1, 128]⟩
abbrev S64 : Shape := ⟨1, ![64]⟩
abbrev S32x32x512 : Shape := ⟨3, ![32, 32, 512]⟩
abbrev S32x2048x512 : Shape := ⟨3, ![32, 2048, 512]⟩
abbrev S128 : Shape := ⟨1, ![128]⟩
abbrev S1x32x512 : Shape := ⟨3, ![1, 32, 512]⟩
abbrev S1x2048x512 : Shape := ⟨3, ![1, 2048, 512]⟩
abbrev S1 : Shape := ⟨1, ![1]⟩
abbrev S1x1 : Shape := ⟨2, ![1, 1]⟩
abbrev S1x32x128 : Shape := ⟨3, ![1, 32, 128]⟩
abbrev S32x128 : Shape := ⟨2, ![32, 128]⟩
abbrev S1x2048x128 : Shape := ⟨3, ![1, 2048, 128]⟩
abbrev S2048x128 : Shape := ⟨2, ![2048, 128]⟩
abbrev S32x2048 : Shape := ⟨2, ![32, 2048]⟩
abbrev S32x32 : Shape := ⟨2, ![32, 32]⟩
abbrev S32 : Shape := ⟨1, ![32]⟩
abbrev S32x1 : Shape := ⟨2, ![32, 1]⟩

abbrev nBuf : Space → Nat
  | .hbm => 26
  | .vmem => 17
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x512, .bf16⟩
  | .hbm, ⟨3, _⟩ => ⟨S32x2048x4x128, .f32⟩
  | .hbm, ⟨4, _⟩ => ⟨S32x2048x4x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S32x32x512, .bf16⟩
  | .hbm, ⟨19, _⟩ => ⟨S32x32x512, .bf16⟩
  | .hbm, ⟨20, _⟩ => ⟨S32x32x512, .bf16⟩
  | .hbm, ⟨21, _⟩ => ⟨S32x2048x512, .f32⟩
  | .hbm, ⟨22, _⟩ => ⟨S32x2048x512, .f32⟩
  | .hbm, ⟨23, _⟩ => ⟨S128, .f32⟩
  | .hbm, ⟨24, _⟩ => ⟨S1x128, .f32⟩
  | .hbm, ⟨25, _⟩ => ⟨S32x32x512, .f32⟩
  | .local _ .vmem, ⟨0, _⟩ => ⟨S1x32x512, .bf16⟩
  | .local _ .vmem, ⟨1, _⟩ => ⟨S1x32x512, .bf16⟩
  | .local _ .vmem, ⟨2, _⟩ => ⟨S1x32x512, .bf16⟩
  | .local _ .vmem, ⟨3, _⟩ => ⟨S1x32x512, .bf16⟩
  | .local _ .vmem, ⟨4, _⟩ => ⟨S1x32x512, .bf16⟩
  | .local _ .vmem, ⟨5, _⟩ => ⟨S1x32x512, .bf16⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S1x2048x512, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1x32x512, .f32⟩
  | .local _ .vmem, ⟨16, _⟩ => ⟨S1x32x512, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S1024x512 : Shape := ⟨2, ![1024, 512]⟩
abbrev S32x2048x4x128 : Shape := ⟨4, ![32, 2048, 4, 128]⟩
abbrev S1x64 : Shape := ⟨2, ![1, 64]⟩
abbrev S1x128 : Shape := ⟨2, ![1, 128]⟩
abbrev S32x32x4x2x64 : Shape := ⟨5, ![32, 32, 4, 2, 64]⟩
abbrev S32x2048x4x2x64 : Shape := ⟨5, ![32, 2048, 4, 2, 64]⟩
abbrev S32x2080x4x2x64 : Shape := ⟨5, ![32, 2080, 4, 2, 64]⟩
abbrev S32x32x4x128 : Shape := ⟨4, ![32, 32, 4, 128]⟩
abbrev S32x2080x4x128 : Shape := ⟨4, ![32, 2080, 4, 128]⟩
abbrev S64 : Shape := ⟨1, ![64]⟩
abbrev S_ : Shape := ⟨0, ![]⟩
abbrev S32x4x2x32x2080 : Shape := ⟨5, ![32, 4, 2, 32, 2080]⟩
abbrev S32x4x2x32 : Shape := ⟨4, ![32, 4, 2, 32]⟩
abbrev S32x4x2x32x1 : Shape := ⟨5, ![32, 4, 2, 32, 1]⟩
abbrev S32x4x1x32x2080 : Shape := ⟨5, ![32, 4, 1, 32, 2080]⟩
abbrev S32x4x32x2080 : Shape := ⟨4, ![32, 4, 32, 2080]⟩
abbrev S32x4x128x32 : Shape := ⟨4, ![32, 4, 128, 32]⟩
abbrev S32x32x4 : Shape := ⟨3, ![32, 32, 4]⟩
abbrev S32x32x4x1 : Shape := ⟨4, ![32, 32, 4, 1]⟩
abbrev S128 : Shape := ⟨1, ![128]⟩
abbrev S1x1x1x128 : Shape := ⟨4, ![1, 1, 1, 128]⟩
abbrev S32x32x512 : Shape := ⟨3, ![32, 32, 512]⟩

abbrev nBuf : Space → Nat
  | .hbm => 79
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x512, .bf16⟩
  | .hbm, ⟨3, _⟩ => ⟨S32x2048x4x128, .f32⟩
  | .hbm, ⟨4, _⟩ => ⟨S32x2048x4x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S1024x512, .f32⟩
  | .hbm, ⟨11, _⟩ => ⟨S32x32x4x2x64, .f32⟩
  | .hbm, ⟨12, _⟩ => ⟨S32x2048x4x2x64, .f32⟩
  | .hbm, ⟨13, _⟩ => ⟨S1024x512, .f32⟩
  | .hbm, ⟨14, _⟩ => ⟨S32x32x4x2x64, .f32⟩
  | .hbm, ⟨15, _⟩ => ⟨S32x2080x4x2x64, .f32⟩
  | .hbm, ⟨16, _⟩ => ⟨S1024x512, .f32⟩
  | .hbm, ⟨17, _⟩ => ⟨S32x32x4x128, .f32⟩
  | .hbm, ⟨18, _⟩ => ⟨S32x2080x4x128, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32x4x2x32x2080, .f32⟩
  | .hbm, ⟨35, _⟩ => ⟨S_, .f32⟩
  | .hbm, ⟨36, _⟩ => ⟨S32x4x2x32, .f32⟩
  | .hbm, ⟨37, _⟩ => ⟨S_, .f32⟩
  | .hbm, ⟨38, _⟩ => ⟨S32x4x2x32, .f32⟩
  | .hbm, ⟨39, _⟩ => ⟨S32x4x2x32, .f32⟩
  | .hbm, ⟨40, _⟩ => ⟨S32x4x2x32x1, .f32⟩
  | .hbm, ⟨41, _⟩ => ⟨S32x4x2x32x2080, .f32⟩
  | .hbm, ⟨42, _⟩ => ⟨S32x4x2x32x2080, .f32⟩
  | .hbm, ⟨43, _⟩ => ⟨S32x4x2x32x2080, .f32⟩
  | .hbm, ⟨44, _⟩ => ⟨S_, .f32⟩
  | .hbm, ⟨45, _⟩ => ⟨S32x4x2x32, .f32⟩
  | .hbm, ⟨46, _⟩ => ⟨S32x4x2x32x1, .f32⟩
  | .hbm, ⟨47, _⟩ => ⟨S32x4x2x32x2080, .f32⟩
  | .hbm, ⟨48, _⟩ => ⟨S32x4x2x32x2080, .f32⟩
  | .hbm, ⟨49, _⟩ => ⟨S32x4x1x32x2080, .f32⟩
  | .hbm, ⟨50, _⟩ => ⟨S32x4x32x2080, .f32⟩
  | .hbm, ⟨51, _⟩ => ⟨S32x4x1x32x2080, .f32⟩
  | .hbm, ⟨52, _⟩ => ⟨S32x4x32x2080, .f32⟩
  | .hbm, ⟨53, _⟩ => ⟨S32x4x32x2080, .f32⟩
  | .hbm, ⟨54, _⟩ => ⟨S32x4x32x2080, .f32⟩
  | .hbm, ⟨55, _⟩ => ⟨S32x4x32x2080, .f32⟩
  | .hbm, ⟨56, _⟩ => ⟨S32x4x128x32, .f32⟩
  | .hbm, ⟨57, _⟩ => ⟨S32x32x4x128, .f32⟩
  | .hbm, ⟨58, _⟩ => ⟨S32x32x4x128, .f32⟩
  | .hbm, ⟨59, _⟩ => ⟨S_, .f32⟩
  | .hbm, ⟨60, _⟩ => ⟨S32x32x4, .f32⟩
  | .hbm, ⟨61, _⟩ => ⟨S32x32x4x1, .f32⟩
  | .hbm, ⟨62, _⟩ => ⟨S_, .f32⟩
  | .hbm, ⟨63, _⟩ => ⟨S32x32x4x1, .f32⟩
  | .hbm, ⟨64, _⟩ => ⟨S32x32x4x1, .f32⟩
  | .hbm, ⟨65, _⟩ => ⟨S_, .f32⟩
  | .hbm, ⟨66, _⟩ => ⟨S32x32x4x1, .f32⟩
  | .hbm, ⟨67, _⟩ => ⟨S32x32x4x1, .f32⟩
  | .hbm, ⟨68, _⟩ => ⟨S32x32x4x1, .f32⟩
  | .hbm, ⟨69, _⟩ => ⟨S32x32x4x128, .f32⟩
  | .hbm, ⟨70, _⟩ => ⟨S32x32x4x128, .f32⟩
  | .hbm, ⟨71, _⟩ => ⟨S128, .f32⟩
  | .hbm, ⟨72, _⟩ => ⟨S1x1x1x128, .f32⟩
  | .hbm, ⟨73, _⟩ => ⟨S32x32x4x128, .f32⟩
  | .hbm, ⟨74, _⟩ => ⟨S32x32x4x128, .f32⟩
  | .hbm, ⟨75, _⟩ => ⟨S_, .f32⟩
  | .hbm, ⟨76, _⟩ => ⟨S32x32x4x128, .f32⟩
  | .hbm, ⟨77, _⟩ => ⟨S32x32x4x128, .f32⟩
  | .hbm, ⟨78, _⟩ => ⟨S32x32x512, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel7.lean ====
abbrev S1024x1024 : Shape := ⟨2, ![1024, 1024]⟩
abbrev S1024x128 : Shape := ⟨2, ![1024, 128]⟩
abbrev S1024x512 : Shape := ⟨2, ![1024, 512]⟩
abbrev S32x8x64x128 : Shape := ⟨4, ![32, 8, 64, 128]⟩
abbrev S32x3x1024 : Shape := ⟨3, ![32, 3, 1024]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S128 : Shape := ⟨1, ![128]⟩
abbrev S128x1 : Shape := ⟨2, ![128, 1]⟩
abbrev S512 : Shape := ⟨1, ![512]⟩
abbrev S_ : Shape := ⟨0, ![]⟩
abbrev S128x512 : Shape := ⟨2, ![128, 512]⟩
abbrev S32x2x4x64x128 : Shape := ⟨5, ![32, 2, 4, 64, 128]⟩
abbrev S32x2x128x4x64 : Shape := ⟨5, ![32, 2, 128, 4, 64]⟩
abbrev S32x2x128x256 : Shape := ⟨4, ![32, 2, 128, 256]⟩
abbrev S32x8x1024 : Shape := ⟨3, ![32, 8, 1024]⟩
abbrev S4x1024 : Shape := ⟨2, ![4, 1024]⟩
abbrev S1024 : Shape := ⟨1, ![1024]⟩
abbrev S8 : Shape := ⟨1, ![8]⟩
abbrev S1x128 : Shape := ⟨2, ![1, 128]⟩
abbrev S8x64 : Shape := ⟨2, ![8, 64]⟩
abbrev S32x1024 : Shape := ⟨2, ![32, 1024]⟩
abbrev S32x128 : Shape := ⟨2, ![32, 128]⟩
abbrev S32x512 : Shape := ⟨2, ![32, 512]⟩
abbrev S1x2x128x256 : Shape := ⟨4, ![1, 2, 128, 256]⟩
abbrev S1x8x1024 : Shape := ⟨3, ![1, 8, 1024]⟩
abbrev S1x3x1024 : Shape := ⟨3, ![1, 3, 1024]⟩
abbrev S40x1024 : Shape := ⟨2, ![40, 1024]⟩
abbrev S2x128x256 : Shape := ⟨3, ![2, 128, 256]⟩
abbrev S8x1024 : Shape := ⟨2, ![8, 1024]⟩
abbrev S3x1024 : Shape := ⟨2, ![3, 1024]⟩
abbrev S32x32 : Shape := ⟨2, ![32, 32]⟩
abbrev S1x256 : Shape := ⟨2, ![1, 256]⟩
abbrev S32x256 : Shape := ⟨2, ![32, 256]⟩
abbrev S96x128 : Shape := ⟨2, ![96, 128]⟩
abbrev S96x512 : Shape := ⟨2, ![96, 512]⟩
abbrev S128x128 : Shape := ⟨2, ![128, 128]⟩
abbrev S128x32 : Shape := ⟨2, ![128, 32]⟩
abbrev S1x128x256 : Shape := ⟨3, ![1, 128, 256]⟩
abbrev S128x256 : Shape := ⟨2, ![128, 256]⟩
abbrev S32x1 : Shape := ⟨2, ![32, 1]⟩
abbrev S1x32 : Shape := ⟨2, ![1, 32]⟩
abbrev S32 : Shape := ⟨1, ![32]⟩

abbrev nBuf : Space → Nat
  | .hbm => 65
  | .vmem => 26
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S1024x512, .f32⟩
  | .hbm, ⟨3, _⟩ => ⟨S32x8x64x128, .f32⟩
  | .hbm, ⟨4, _⟩ => ⟨S32x3x1024, .f32⟩
  | .hbm, ⟨5, _⟩ => ⟨S1x4x1024, .f32⟩
  | .hbm, ⟨6, _⟩ => ⟨S1x1024, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x512, .f32⟩
  | .hbm, ⟨11, _⟩ => ⟨S128, .i32⟩
  | .hbm, ⟨12, _⟩ => ⟨S128x1, .i32⟩
  | .hbm, ⟨13, _⟩ => ⟨S512, .i32⟩
  | .hbm, ⟨14, _⟩ => ⟨S_, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S1x512, .i32⟩
  | .hbm, ⟨33, _⟩ => ⟨S128x512, .i32⟩
  | .hbm, ⟨34, _⟩ => ⟨S128x512, .i32⟩
  | .hbm, ⟨35, _⟩ => ⟨S128x512, .i1⟩
  | .hbm, ⟨36, _⟩ => ⟨S128x512, .f32⟩
  | .hbm, ⟨37, _⟩ => ⟨S32x2x4x64x128, .f32⟩
  | .hbm, ⟨38, _⟩ => ⟨S32x2x128x4x64, .f32⟩
  | .hbm, ⟨39, _⟩ => ⟨S32x2x128x256, .f32⟩
  | .hbm, ⟨40, _⟩ => ⟨S_, .i32⟩
  | .hbm, ⟨41, _⟩ => ⟨S_, .f32⟩
  | .hbm, ⟨42, _⟩ => ⟨S32x8x1024, .f32⟩
  | .hbm, ⟨43, _⟩ => ⟨S4x1024, .f32⟩
  | .hbm, ⟨44, _⟩ => ⟨S1024, .f32⟩
  | .hbm, ⟨45, _⟩ => ⟨S1x1024, .f32⟩
  | .hbm, ⟨46, _⟩ => ⟨S8, .f32⟩
  | .hbm, ⟨47, _⟩ => ⟨S1x8, .f32⟩
  | .hbm, ⟨48, _⟩ => ⟨S_, .i32⟩
  | .hbm, ⟨49, _⟩ => ⟨S_, .f32⟩
  | .hbm, ⟨50, _⟩ => ⟨S1x128, .f32⟩
  | .hbm, ⟨51, _⟩ => ⟨S8, .f32⟩
  | .hbm, ⟨52, _⟩ => ⟨S1x8, .f32⟩
  | .hbm, ⟨53, _⟩ => ⟨S_, .i32⟩
  | .hbm, ⟨54, _⟩ => ⟨S_, .f32⟩
  | .hbm, ⟨55, _⟩ => ⟨S1x128, .f32⟩
  | .hbm, ⟨56, _⟩ => ⟨S8, .f32⟩
  | .hbm, ⟨57, _⟩ => ⟨S8x64, .f32⟩
  | .hbm, ⟨58, _⟩ => ⟨S512, .f32⟩
  | .hbm, ⟨59, _⟩ => ⟨S1x512, .f32⟩
  | .hbm, ⟨60, _⟩ => ⟨S512, .f32⟩
  | .hbm, ⟨61, _⟩ => ⟨S1x512, .f32⟩
  | .hbm, ⟨62, _⟩ => ⟨S1024x512, .f32⟩
  | .hbm, ⟨63, _⟩ => ⟨S32x2x128x256, .f32⟩
  | .hbm, ⟨64, _⟩ => ⟨S32x3x1024, .f32⟩
  | .local _ .vmem, ⟨0, _⟩ => ⟨S32x1024, .f32⟩
  | .local _ .vmem, ⟨1, _⟩ => ⟨S32x1024, .f32⟩
  | .local _ .vmem, ⟨2, _⟩ => ⟨S32x128, .f32⟩
  | .local _ .vmem, ⟨3, _⟩ => ⟨S32x128, .f32⟩
  | .local _ .vmem, ⟨4, _⟩ => ⟨S32x512, .f32⟩
  | .local _ .vmem, ⟨5, _⟩ => ⟨S32x512, .f32⟩
  | .local _ .vmem, ⟨6, _⟩ => ⟨S1x2x128x256, .f32⟩
  | .local _ .vmem, ⟨7, _⟩ => ⟨S1x2x128x256, .f32⟩
  | .local _ .vmem, ⟨8, _⟩ => ⟨S1x8x1024, .f32⟩
  | .local _ .vmem, ⟨9, _⟩ => ⟨S1x8x1024, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S128x512, .f32⟩
  | .local _ .vmem, ⟨17, _⟩ => ⟨S32x512, .f32⟩
  | .local _ .vmem, ⟨18, _⟩ => ⟨S32x512, .f32⟩
  | .local _ .vmem, ⟨19, _⟩ => ⟨S1x2x128x256, .f32⟩
  | .local _ .vmem, ⟨20, _⟩ => ⟨S1x2x128x256, .f32⟩
  | .local _ .vmem, ⟨21, _⟩ => ⟨S1x3x1024, .f32⟩
  | .local _ .vmem, ⟨22, _⟩ => ⟨S1x3x1024, .f32⟩
  | .local _ .vmem, ⟨23, _⟩ => ⟨S40x1024, .f32⟩
  | .local _ .vmem, ⟨24, _⟩ => ⟨S32x1024, .f32⟩
  | .local _ .vmem, ⟨25, _⟩ => ⟨S2x128x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_0 : Ref sig .tc := ⟨.hbm, 40, rfl⟩
abbrev main_call1_v0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_1 : Ref sig .tc := ⟨.hbm, 48, rfl⟩
abbrev main_call2_v0 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_2 : Ref sig .tc := ⟨.hbm, 53, rfl⟩
abbrev main_call3_v0 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev main_v28_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![32, 1], ![false, false]⟩

def k0_mult1 : BitVec 32 :=
  let c0_i32_23 : BitVec 32 := 0#32
  let c32_i32 : BitVec 32 := 32#32
  let v56 : BitVec 32 := Scalar.muli c0_i32_23 c32_i32
  v56
def k0_off1 : Fin 2 → Nat :=
  let c0_i32_23 : BitVec 32 := 0#32
  let c32_i32 : BitVec 32 := 32#32
  let v56 : BitVec 32 := Scalar.muli c0_i32_23 c32_i32
  let v57 : BitVec 32 := v56
  let v58 : Index := Scalar.indexCast v57
  let c0_24 : Index := 0#32
  ![v58.toNat, 0]
def k0_off2 : Fin 2 → Nat :=
  let c0_i32_23 : BitVec 32 := 0#32
  let c32_i32 : BitVec 32 := 32#32
  let v56 : BitVec 32 := Scalar.muli c0_i32_23 c32_i32
  let v57 : BitVec 32 := v56
  let v63 : Index := Scalar.indexCast v57
  let c0_25 : Index := 0#32
  ![v63.toNat, 0]
def k0_off3 : Fin 2 → Nat :=
  let c0_i32_23 : BitVec 32 := 0#32
  let c32_i32 : BitVec 32 := 32#32
  let v56 : BitVec 32 := Scalar.muli c0_i32_23 c32_i32
  let v57 : BitVec 32 := v56
  let v341 : Index := Scalar.indexCast v57
  let c0_93 : Index := 0#32
  ![v341.toNat, 0]
def k0_cond2 (i : grid0.Coords) : BitVec 1 :=
  let arg1 : BitVec 32 := BitVec.ofNat 32 (i 1).val
  let c0_i32_100 : BitVec 32 := 0#32
  let v362 : BitVec 1 := Scalar.cmpi .eq arg1 c0_i32_100
  let v363 : BitVec 32 := Scalar.extui v362
  let c0_i32_101 : BitVec 32 := 0#32
  let v364 : BitVec 1 := Scalar.cmpi .ne v363 c0_i32_101
  v364

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x3x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference7Ideal.lean ====
abbrev S1024x1024 : Shape := ⟨2, ![1024, 1024]⟩
abbrev S1024x128 : Shape := ⟨2, ![1024, 128]⟩
abbrev S1024x512 : Shape := ⟨2, ![1024, 512]⟩
abbrev S32x8x64x128 : Shape := ⟨4, ![32, 8, 64, 128]⟩
abbrev S32x3x1024 : Shape := ⟨3, ![32, 3, 1024]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S32x32x1024 : Shape := ⟨3, ![32, 32, 1024]⟩
abbrev S32x35x1024 : Shape := ⟨3, ![32, 35, 1024]⟩
abbrev S1024 : Shape := ⟨1, ![1024]⟩
abbrev S1x1x1024 : Shape := ⟨3, ![1, 1, 1024]⟩
abbrev S_ : Shape := ⟨0, ![]⟩
abbrev S32x32x512 : Shape := ⟨3, ![32, 32, 512]⟩
abbrev S32x32x256 : Shape := ⟨3, ![32, 32, 256]⟩
abbrev S32x32x2x4x64 : Shape := ⟨5, ![32, 32, 2, 4, 64]⟩
abbrev S32x32x2x128 : Shape := ⟨4, ![32, 32, 2, 128]⟩
abbrev S32x32x128 : Shape := ⟨3, ![32, 32, 128]⟩
abbrev S32x32x8 : Shape := ⟨3, ![32, 32, 8]⟩
abbrev S8 : Shape := ⟨1, ![8]⟩
abbrev S1x1x8 : Shape := ⟨3, ![1, 1, 8]⟩
abbrev S32x1x8 : Shape := ⟨3, ![32, 1, 8]⟩
abbrev S32x32x2x4x1 : Shape := ⟨5, ![32, 32, 2, 4, 1]⟩
abbrev S32x2x4x64x128 : Shape := ⟨5, ![32, 2, 4, 64, 128]⟩
abbrev S32x8 : Shape := ⟨2, ![32, 8]⟩
abbrev S32x2x4x1x1 : Shape := ⟨5, ![32, 2, 4, 1, 1]⟩
abbrev S32x2x128x4x64 : Shape := ⟨5, ![32, 2, 128, 4, 64]⟩
abbrev S32x2x128x256 : Shape := ⟨4, ![32, 2, 128, 256]⟩

abbrev nBuf : Space → Nat
  | .hbm => 110
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S1024x512, .f32⟩
  | .hbm, ⟨3, _⟩ => ⟨S32x8x64x128, .f32⟩
  | .hbm, ⟨4, _⟩ => ⟨S32x3x1024, .f32⟩
  | .hbm, ⟨5, _⟩ => ⟨S1x4x1024, .f32⟩
  | .hbm, ⟨6, _⟩ => ⟨S1x1024, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x512, .f32⟩
  | .hbm, ⟨11, _⟩ => ⟨S32x32x1024, .f32⟩
  | .hbm, ⟨12, _⟩ => ⟨S32x35x1024, .f32⟩
  | .hbm, ⟨13, _⟩ => ⟨S1024, .f32⟩
  | .hbm, ⟨14, _⟩ => ⟨S32x32x1024, .f32⟩
  | .hbm, ⟨15, _⟩ => ⟨S1x1x1024, .f32⟩
  | .hbm, ⟨16, _⟩ => ⟨S1024, .f32⟩
  | .hbm, ⟨17, _⟩ => ⟨S1x1x1024, .f32⟩
  | .hbm, ⟨18, _⟩ => ⟨S32x32x1024, .f32⟩
  | .hbm, ⟨19, _⟩ => ⟨S32x32x1024, .f32⟩
  | .hbm, ⟨20, _⟩ => ⟨S_, .f32⟩
  | .hbm, ⟨21, _⟩ => ⟨S32x32x1024, .f32⟩
  | .hbm, ⟨22, _⟩ => ⟨S32x32x1024, .f32⟩
  | .hbm, ⟨23, _⟩ => ⟨S32x32x1024, .f32⟩
  | .hbm, ⟨24, _⟩ => ⟨S1x1x1024, .f32⟩
  | .hbm, ⟨25, _⟩ => ⟨S1024, .f32⟩
  | .hbm, ⟨26, _⟩ => ⟨S1x1x1024, .f32⟩
  | .hbm, ⟨27, _⟩ => ⟨S32x32x1024, .f32⟩
  | .hbm, ⟨28, _⟩ => ⟨S32x32x1024, .f32⟩
  | .hbm, ⟨29, _⟩ => ⟨S32x32x1024, .f32⟩
  | .hbm, ⟨30, _⟩ => ⟨S32x32x1024, .f32⟩
  | .hbm, ⟨31, _⟩ => ⟨S1x1x1024, .f32⟩
  | .hbm, ⟨32, _⟩ => ⟨S1024, .f32⟩
  | .hbm, ⟨33, _⟩ => ⟨S1x1x1024, .f32⟩
  | .hbm, ⟨34, _⟩ => ⟨S32x32x1024, .f32⟩
  | .hbm, ⟨35, _⟩ => ⟨S32x32x1024, .f32⟩
  | .hbm, ⟨36, _⟩ => ⟨S32x32x1024, .f32⟩
  | .hbm, ⟨37, _⟩ => ⟨S32x32x1024, .f32⟩
  | .hbm, ⟨38, _⟩ => ⟨S1x1x1024, .f32⟩
  | .hbm, ⟨39, _⟩ => ⟨S1024, .f32⟩
  | .hbm, ⟨40, _⟩ => ⟨S1x1x1024, .f32⟩
  | .hbm, ⟨41, _⟩ => ⟨S32x32x1024, .f32⟩
  | .hbm, ⟨42, _⟩ => ⟨S32x32x1024, .f32⟩
  | .hbm, ⟨43, _⟩ => ⟨S32x32x1024, .f32⟩
  | .hbm, ⟨44, _⟩ => ⟨S1x1x1024, .f32⟩
  | .hbm, ⟨45, _⟩ => ⟨S32x32x1024, .f32⟩
  | .hbm, ⟨46, _⟩ => ⟨S32x32x1024, .f32⟩
  | .hbm, ⟨47, _⟩ => ⟨S32x32x1024, .f32⟩
  | .hbm, ⟨48, _⟩ => ⟨S32x32x1024, .f32⟩
  | .hbm, ⟨49, _⟩ => ⟨S_, .f32⟩
  | .hbm, ⟨50, _⟩ => ⟨S32x32x1024, .f32⟩
  | .hbm, ⟨51, _⟩ => ⟨S32x32x1024, .f32⟩
  | .hbm, ⟨52, _⟩ => ⟨S_, .f32⟩
  | .hbm, ⟨53, _⟩ => ⟨S32x32x1024, .f32⟩
  | .hbm, ⟨54, _⟩ => ⟨S32x32x1024, .f32⟩
  | .hbm, ⟨55, _⟩ => ⟨S32x32x1024, .f32⟩
  | .hbm, ⟨56, _⟩ => ⟨S32x32x512, .f32⟩
  | .hbm, ⟨57, _⟩ => ⟨S32x32x256, .f32⟩
  | .hbm, ⟨58, _⟩ => ⟨S32x32x256, .f32⟩
  | .hbm, ⟨59, _⟩ => ⟨S32x32x2x4x64, .f32⟩
  | .hbm, ⟨60, _⟩ => ⟨S32x32x2x128, .f32⟩
  | .hbm, ⟨61, _⟩ => ⟨S32x32x128, .f32⟩
  | .hbm, ⟨62, _⟩ => ⟨S32x32x8, .f32⟩
  | .hbm, ⟨63, _⟩ => ⟨S8, .f32⟩
  | .hbm, ⟨64, _⟩ => ⟨S1x1x8, .f32⟩
  | .hbm, ⟨65, _⟩ => ⟨S32x32x8, .f32⟩
  | .hbm, ⟨66, _⟩ => ⟨S32x32x8, .f32⟩
  | .hbm, ⟨67, _⟩ => ⟨S_, .f32⟩
  | .hbm, ⟨68, _⟩ => ⟨S32x32x8, .f32⟩
  | .hbm, ⟨69, _⟩ => ⟨S32x32x8, .f32⟩
  | .hbm, ⟨70, _⟩ => ⟨S32x32x8, .f32⟩
  | .hbm, ⟨71, _⟩ => ⟨S32x32x8, .f32⟩
  | .hbm, ⟨72, _⟩ => ⟨S32x32x8, .i1⟩
  | .hbm, ⟨73, _⟩ => ⟨S32x32x8, .f32⟩
  | .hbm, ⟨74, _⟩ => ⟨S32x32x8, .f32⟩
  | .hbm, ⟨75, _⟩ => ⟨S32x32x8, .f32⟩
  | .hbm, ⟨76, _⟩ => ⟨S32x32x8, .f32⟩
  | .hbm, ⟨77, _⟩ => ⟨S32x32x8, .f32⟩
  | .hbm, ⟨78, _⟩ => ⟨S32x32x8, .f32⟩
  | .hbm, ⟨79, _⟩ => ⟨S32x32x8, .f32⟩
  | .hbm, ⟨80, _⟩ => ⟨S32x32x8, .f32⟩
  | .hbm, ⟨81, _⟩ => ⟨S8, .f32⟩
  | .hbm, ⟨82, _⟩ => ⟨S8, .f32⟩
  | .hbm, ⟨83, _⟩ => ⟨S8, .f32⟩
  | .hbm, ⟨84, _⟩ => ⟨S1x1x8, .f32⟩
  | .hbm, ⟨85, _⟩ => ⟨S32x32x8, .f32⟩
  | .hbm, ⟨86, _⟩ => ⟨S32x32x8, .f32⟩
  | .hbm, ⟨87, _⟩ => ⟨S_, .f32⟩
  | .hbm, ⟨88, _⟩ => ⟨S_, .f32⟩
  | .hbm, ⟨89, _⟩ => ⟨S32x32x8, .f32⟩
  | .hbm, ⟨90, _⟩ => ⟨S32x1x8, .f32⟩
  | .hbm, ⟨91, _⟩ => ⟨S32x32x8, .f32⟩
  | .hbm, ⟨92, _⟩ => ⟨S32x32x8, .f32⟩
  | .hbm, ⟨93, _⟩ => ⟨S32x32x8, .f32⟩
  | .hbm, ⟨94, _⟩ => ⟨S32x32x8, .f32⟩
  | .hbm, ⟨95, _⟩ => ⟨S32x32x2x4x1, .f32⟩
  | .hbm, ⟨96, _⟩ => ⟨S32x32x2x4x64, .f32⟩
  | .hbm, ⟨97, _⟩ => ⟨S32x32x2x4x64, .f32⟩
  | .hbm, ⟨98, _⟩ => ⟨S32x2x4x64x128, .f32⟩
  | .hbm, ⟨99, _⟩ => ⟨S32x1x8, .f32⟩
  | .hbm, ⟨100, _⟩ => ⟨S32x8, .f32⟩
  | .hbm, ⟨101, _⟩ => ⟨S32x8, .f32⟩
  | .hbm, ⟨102, _⟩ => ⟨S32x2x4x1x1, .f32⟩
  | .hbm, ⟨103, _⟩ => ⟨S32x2x4x64x128, .f32⟩
  | .hbm, ⟨104, _⟩ => ⟨S32x2x4x64x128, .f32⟩
  | .hbm, ⟨105, _⟩ => ⟨S32x2x4x64x128, .f32⟩
  | .hbm, ⟨106, _⟩ => ⟨S32x2x4x64x128, .f32⟩
  | .hbm, ⟨107, _⟩ => ⟨S32x2x128x4x64, .f32⟩
  | .hbm, ⟨108, _⟩ => ⟨S32x2x128x256, .f32⟩
  | .hbm, ⟨109, _⟩ => ⟨S32x3x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call2_call0_cst : Ref sig .tc := ⟨.hbm, 87, rfl⟩
abbrev main_call2_call0_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩

abbrev nD : Nat := 1
abbrev τ : Topo := Topo.v7x

variable {F : FTy → Type} [FloatOps F]
-- ==== Proof.KernelLoops.lean ====
/-
  The word-level program's loops by their invariants: what a trip touches, before and after it.
-/
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`, held whole at contents nothing names. -/
abbrev Held (c : Dev nD) {sp : Space} {S : Shape} {e : EltTy} (M : Memref sig .tc sp S e) : sProp 𝕄 :=
  iprop(∃ f, M.view.loc (c : Thread nD τ) ↦[M.view.set]{fullShare} f)

/-- The eight scratch buffers, each at contents nothing names. -/
abbrev Scratch (c : Dev nD) (arg12 arg13 : Memref sig .tc .vmem S128x1024 .f32) (arg14 arg15 arg16 arg17 : Memref sig .tc .vmem S1x1024 .f32)
    (arg18 arg19 : Memref sig .tc .vmem S1024x1024 .f32) : sProp 𝕄 :=
  iprop(Held (F := F) c arg12 ∗ Held (F := F) c arg13 ∗ Held (F := F) c arg14 ∗ Held (F := F) c arg15 ∗ Held (F := F) c arg16 ∗ Held (F := F) c arg17 ∗ Held (F := F) c arg18 ∗ Held (F := F) c arg19)

/-- What a trip of either loop touches: the keys and the values at their contents, the scratch at any. -/
abbrev TripRes (c : Dev nD) (arg4 : Memref sig .tc .vmem S1x16384x128 .bf16) (arg5 : Memref sig .tc .vmem S1x1x16x128x1024 .bf16)
    (arg12 arg13 : Memref sig .tc .vmem S128x1024 .f32) (arg14 arg15 arg16 arg17 : Memref sig .tc .vmem S1x1024 .f32)
    (arg18 arg19 : Memref sig .tc .vmem S1024x1024 .f32)
    (X4 : BufTy.Contents (Elt F) arg4.view.ty) (X5 : BufTy.Contents (Elt F) arg5.view.ty) : sProp 𝕄 :=
  iprop((arg4.view.loc (c : Thread nD τ) ↦[arg4.view.set]{fullShare} X4) ∗ (arg5.view.loc (c : Thread nD τ) ↦[arg5.view.set]{fullShare} X5)
    ∗ Scratch (F := F) c arg12 arg13 arg14 arg15 arg16 arg17 arg18 arg19)

section Loops

variable (c : Dev nD) (i : grid0.Coords)
  (arg3 : Memref sig .tc .vmem S1x1024x128 .bf16) (harg3 : arg3.IsWhole) (arg4 : Memref sig .tc .vmem S1x16384x128 .bf16) (harg4 : arg4.IsWhole) (arg5 : Memref sig .tc .vmem S1x1x16x128x1024 .bf16) (harg5 : arg5.IsWhole)
  (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
  (arg9 : Memref sig .tc .vmem S1x64 .f32) (harg9 : arg9.IsWhole) (arg10 : Memref sig .tc .vmem S128x1 .f32) (harg10 : arg10.IsWhole) (arg11 : Memref sig .tc .vmem S1x1024x128 .f32) (harg11 : arg11.IsWhole)
  (arg12 : Memref sig .tc .vmem S128x1024 .f32) (harg12 : arg12.IsWhole) (arg13 : Memref sig .tc .vmem S128x1024 .f32) (harg13 : arg13.IsWhole) (arg14 : Memref sig .tc .vmem S1x1024 .f32) (harg14 : arg14.IsWhole)
  (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole)
  (arg18 : Memref sig .tc .vmem S1024x1024 .f32) (harg18 : arg18.IsWhole) (arg19 : Memref sig .tc .vmem S1024x1024 .f32) (harg19 : arg19.IsWhole)
  (arg2 : BitVec 32) (v6 v9 : FVec F S1024x128 .bf16) (cst_18 : F .f32)
  (X4 : BufTy.Contents (Elt F) arg4.view.ty) (X5 : BufTy.Contents (Elt F) arg5.view.ty)

set_option warn.classDefReducibility false in
/-- The loop over the key blocks before the diagonal one: a trip reads the keys and the values and leaves the scratch
    at some contents. -/
@[sl_loop] def loopInv1 (E : Set ℕ) :
    LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v9 cst_18 where
  inv := fun _ _ => TripRes (F := F) c arg4 arg5 arg12 arg13 arg14 arg15 arg16 arg17 arg18 arg19 X4 X5
  step k _ := by
    unfold k0_t1_body
    iintro ⟨H4, H5, ⟨%f12, H12⟩, ⟨%f13, H13⟩, ⟨%f14, H14⟩, ⟨%f15, H15⟩, ⟨%f16, H16⟩, ⟨%f17, H17⟩, ⟨%f18, H18⟩, ⟨%f19, H19⟩⟩
    sl_exec
    sl_step
    isplitl [H4]; · iexact H4
    isplitl [H5]; · iexact H5
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

set_option warn.classDefReducibility false in
/-- The remainder loop makes no trip. -/
@[sl_loop] def loopInv2 (E : Set ℕ) (v50 : BitVec 32) :
    LoopInvTy_k0_t2 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v9 cst_18 v50 where
  inv := fun _ _ => TripRes (F := F) c arg4 arg5 arg12 arg13 arg14 arg15 arg16 arg17 arg18 arg19 X4 X5
  step k _ := absurd k.isLt (Nat.not_lt.2 (Nat.le_trans (k0_t2_abs i).2.1 (Nat.zero_le _)))

end Loops

end Cert.Proof.Kernel

end
-- ==== Proof.KernelRun.lean ====
/-
  The word-level program's kernel body: it runs from its buffers back to them, its inputs unchanged.
-/
module

public import proofs.«01_k».proof.Proof.KernelLoops
public import Idealize.ShloMosaic.Lib.Pipeline.Frame

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (c : Dev nD) (i : grid0.Coords)
  (arg3 : Memref sig .tc .vmem S1x1024x128 .bf16) (harg3 : arg3.IsWhole) (arg4 : Memref sig .tc .vmem S1x16384x128 .bf16) (harg4 : arg4.IsWhole) (arg5 : Memref sig .tc .vmem S1x1x16x128x1024 .bf16) (harg5 : arg5.IsWhole)
  (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
  (arg9 : Memref sig .tc .vmem S1x64 .f32) (harg9 : arg9.IsWhole) (arg10 : Memref sig .tc .vmem S128x1 .f32) (harg10 : arg10.IsWhole) (arg11 : Memref sig .tc .vmem S1x1024x128 .f32) (harg11 : arg11.IsWhole)
  (arg12 : Memref sig .tc .vmem S128x1024 .f32) (harg12 : arg12.IsWhole) (arg13 : Memref sig .tc .vmem S128x1024 .f32) (harg13 : arg13.IsWhole) (arg14 : Memref sig .tc .vmem S1x1024 .f32) (harg14 : arg14.IsWhole)
  (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole)
  (arg18 : Memref sig .tc .vmem S1024x1024 .f32) (harg18 : arg18.IsWhole) (arg19 : Memref sig .tc .vmem S1024x1024 .f32) (harg19 : arg19.IsWhole)
  (x3 : Vec F S1x1024x128 .bf16) (x4 : Vec F S1x16384x128 .bf16) (x5 : Vec F S1x1x16x128x1024 .bf16) (x6 : Vec F S1x64 .f32) (x7 : Vec F S1x64 .f32) (x8 : Vec F S1x64 .f32) (x9 : Vec F S1x64 .f32) (x10 : Vec F S128x1 .f32)

/-- What the body is given and gives back: the eight inputs at their contents, the output and the scratch at any. -/
abbrev BodyRes : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
    ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) )

set_option maxHeartbeats 1000000 in
/-- The body runs from its resources back to them. -/
theorem body_run (E : Set ℕ) (K : PUnit → sProp 𝕄) :
    iprop(BodyRes (F := F) c arg3 arg4 arg5 arg6 arg7 arg8 arg9 arg10 arg11 arg12 arg13 arg14 arg15 arg16 arg17 arg18 arg19 x3 x4 x5 x6 x7 x8 x9 x10
      ∗ (BodyRes (F := F) c arg3 arg4 arg5 arg6 arg7 arg8 arg9 arg10 arg11 arg12 arg13 arg14 arg15 arg16 arg17 arg18 arg19 x3 x4 x5 x6 x7 x8 x9 x10 -∗ K ⟨⟩))
    ⊢ wp frame (wpE (defs₀ (F := F)) Variants.none c none) E (cc0__attn_prompt_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__attn_prompt_kernel_eq_skeleton]; unfold cc0__attn_prompt_kernel_skel
  simp only [k0_part5_eq_skeleton, k0_part6_eq_skeleton, k0_part7_eq_skeleton, k0_part8_eq_skeleton, k0_part9_eq_skeleton, k0_part10_eq_skeleton]
  unfold BodyRes owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Run

end Cert.Proof.Kernel

end
-- ==== Proof.IdealLoops.lean ====
/-
  The ideal program's loops by their invariants: the running softmax of both streams, block by block.
-/
module

public import proofs.«01_k».proof.Proof.Gen.KernelIdeal.Loops
public import Idealize.ShloMosaic.Lib.Exec
public import Idealize.ShloMosaic.Lib.Tactic
public import Idealize.ShloMosaic.Lib.VecWindow
public import Idealize.ShloMosaic.Lib.Pointwise
public import Idealize.ShloMosaic.Lib.Pipeline.Kit
public import Idealize.ShloMosaic.Lib.Pipeline.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One stream's running softmax: the maxima of the scores seen so far, the sums of their exponentials and the values
    weighted by them, each column a query. -/
structure Stream (F : FTy → Type) where
  m : FVec F S1x1024 .f32
  l : FVec F S1x1024 .f32
  a : FVec F S128x1024 .f32

/-- The running softmax brought up to date with one block of scores `s` and its values `v`. -/
def Stream.next (x : Stream F) (s : FVec F S1024x1024 .f32) (v : FVec F S128x1024 .bf16) : Stream F where
  m := k0_pay13 (k0_pay6 s x.m)
  l := k0_pay9 s x.m x.l
  a := k0_pay12 v (k0_pay10 s x.m x.a) (k0_pay11 s x.m)

/-- The running softmax of no scores at all. -/
def Stream.start : Stream F := ⟨k0_pay41, k0_pay42, k0_pay40⟩

/-- What the scratch holds between two blocks: both streams, and the next block's scores for each. -/
structure St (F : FTy → Type) where
  x1 : Stream F
  x2 : Stream F
  s1 : FVec F S1024x1024 .f32
  s2 : FVec F S1024x1024 .f32

/-- One trip: both streams take the scores at hand, and the scores of the key block `kb` take their place. -/
def St.next (st : St F) (v6 v9 : FVec F S1024x128 .bf16) (kb : Vec F S1x1024x128 .bf16) (vb : Vec F S1x1x1x128x1024 .bf16) : St F where
  x1 := st.x1.next st.s1 (k0_pay5 vb)
  x2 := st.x2.next st.s2 (k0_pay5 vb)
  s1 := k0_pay50 (k0_pay3 v6 kb)
  s2 := k0_pay51 (k0_pay4 v9 kb)

/-- Key block `j`: rows `1024 * j` to `1024 * j + 1023`. -/
def keyBlock (X : Vec F S1x16384x128 .bf16) (j : ℕ) : Vec F S1x1024x128 .bf16 :=
  fun y => X (ix3 ⟨0, by decide⟩ ⟨(1024 * j + (y 1).val) % 16384, Nat.mod_lt _ (by decide)⟩ ⟨(y 2).val, (y 2).isLt⟩)

/-- Value block `j`. -/
def valBlock (X : Vec F S1x1x16x128x1024 .bf16) (j : ℕ) : Vec F S1x1x1x128x1024 .bf16 :=
  fun y => X (ix5 ⟨0, by decide⟩ ⟨0, by decide⟩ ⟨j % 16, Nat.mod_lt _ (by decide)⟩ ⟨(y 3).val, (y 3).isLt⟩ ⟨(y 4).val, (y 4).isLt⟩)

/-- The scratch before trip `k`, from what it holds before the first. -/
def St.iter (v6 v9 : FVec F S1024x128 .bf16) (X : Vec F S1x16384x128 .bf16) (Y : Vec F S1x1x16x128x1024 .bf16) (st : St F) : ℕ → St F
  | 0 => st
  | k + 1 => (St.iter v6 v9 X Y st k).next v6 v9 (keyBlock X (k + 1)) (valBlock Y k)

/-- Contents of a whole buffer over the trips: `G` before the first, then whatever reads `x k`. -/
def contentsAt {S : Shape} {e : EltTy} {M : Memref sig .tc .vmem S e} (h : M.IsWhole) (G : M.view.ty.Contents (Elt F)) (x : ℕ → S.Idx → Elt F e) : ℕ → M.view.ty.Contents (Elt F)
  | 0 => G
  | k + 1 => h.unread (x (k + 1))

theorem read_contentsAt {S : Shape} {e : EltTy} {M : Memref sig .tc .vmem S e} (h : M.IsWhole) (G : M.view.ty.Contents (Elt F)) (x : ℕ → S.Idx → Elt F e)
    (h0 : M.view.read (Elt F) G = x 0) (k : ℕ) : M.view.read (Elt F) (contentsAt h G x k) = x k := by
  cases k with
  | zero => exact h0
  | succ k => exact h.read_unread _

theorem readAt_keyBlock (M : Memref sig .tc .vmem S1x16384x128 .bf16) (f : M.view.ty.Contents (Elt F)) (off : Fin 3 → ℕ) (j : ℕ) (hj : j < 16)
    (inb : ∀ a, off a + S1x1024x128.size a ≤ S1x16384x128.size a) (h : off = ![0, 1024 * j, 0]) :
    M.view.readAt (Elt F) (Rect.unit (s := S1x16384x128) off S1x1024x128.size inb).toLoadRect f = keyBlock (M.view.read (Elt F) f) j := by
  subst h
  funext y
  refine congrArg (M.view.read (Elt F) f) (funext fun a => Fin.ext ?_)
  have h1 := (y 1).isLt
  have h0 := (y 0).isLt
  have h2 : (y 1).val < 1024 := h1
  have h3 : (y 0).val < 1 := h0
  fin_cases a
  · show 0 + 1 * (y 0).val = 0; omega
  · show 1024 * j + 1 * (y 1).val = (1024 * j + (y 1).val) % 16384; omega
  · show 0 + 1 * (y 2).val = (y 2).val; omega

theorem readAt_valBlock (M : Memref sig .tc .vmem S1x1x16x128x1024 .bf16) (f : M.view.ty.Contents (Elt F)) (off : Fin 5 → ℕ) (j : ℕ) (hj : j < 16)
    (inb : ∀ a, off a + S1x1x1x128x1024.size a ≤ S1x1x16x128x1024.size a) (h : off = ![0, 0, j, 0, 0]) :
    M.view.readAt (Elt F) (Rect.unit (s := S1x1x16x128x1024) off S1x1x1x128x1024.size inb).toLoadRect f = valBlock (M.view.read (Elt F) f) j := by
  subst h
  funext y
  refine congrArg (M.view.read (Elt F) f) (funext fun a => Fin.ext ?_)
  have h0 : (y 0).val < 1 := (y 0).isLt
  have h1 : (y 1).val < 1 := (y 1).isLt
  have h2 : (y 2).val < 1 := (y 2).isLt
  fin_cases a
  · show 0 + 1 * (y 0).val = 0; omega
  · show 0 + 1 * (y 1).val = 0; omega
  · show j + 1 * (y 2).val = j % 16; omega
  · show 0 + 1 * (y 3).val = (y 3).val; omega
  · show 0 + 1 * (y 4).val = (y 4).val; omega

/-- After a trip: the keys and the values at their contents, the scratch at the state `st`. -/
def After (c : Dev nD) (arg4 : Memref sig .tc .vmem S1x16384x128 .bf16) (arg5 : Memref sig .tc .vmem S1x1x16x128x1024 .bf16)
    (arg12 arg13 : Memref sig .tc .vmem S128x1024 .f32) (arg14 arg15 arg16 arg17 : Memref sig .tc .vmem S1x1024 .f32)
    (arg18 arg19 : Memref sig .tc .vmem S1024x1024 .f32)
    (X4 : BufTy.Contents (Elt F) arg4.view.ty) (X5 : BufTy.Contents (Elt F) arg5.view.ty) (st : St F) : sProp 𝕄 :=
  iprop((arg4.view.loc (c : Thread nD τ) ↦[arg4.view.set]{fullShare} X4) ∗ (arg5.view.loc (c : Thread nD τ) ↦[arg5.view.set]{fullShare} X5) ∗ owns (c : Thread nD τ) arg12 fullShare (st).x1.a ∗ owns (c : Thread nD τ) arg13 fullShare (st).x2.a ∗ owns (c : Thread nD τ) arg14 fullShare (st).x1.m ∗ owns (c : Thread nD τ) arg15 fullShare (st).x1.l ∗ owns (c : Thread nD τ) arg16 fullShare (st).x2.m ∗ owns (c : Thread nD τ) arg17 fullShare (st).x2.l ∗ owns (c : Thread nD τ) arg18 fullShare (st).s1 ∗ owns (c : Thread nD τ) arg19 fullShare (st).s2)

section Loops

variable (c : Dev nD) (i : grid0.Coords)
  (arg3 : Memref sig .tc .vmem S1x1024x128 .bf16) (harg3 : arg3.IsWhole) (arg4 : Memref sig .tc .vmem S1x16384x128 .bf16) (harg4 : arg4.IsWhole) (arg5 : Memref sig .tc .vmem S1x1x16x128x1024 .bf16) (harg5 : arg5.IsWhole)
  (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
  (arg9 : Memref sig .tc .vmem S1x64 .f32) (harg9 : arg9.IsWhole) (arg10 : Memref sig .tc .vmem S128x1 .f32) (harg10 : arg10.IsWhole) (arg11 : Memref sig .tc .vmem S1x1024x128 .f32) (harg11 : arg11.IsWhole)
  (arg12 : Memref sig .tc .vmem S128x1024 .f32) (harg12 : arg12.IsWhole) (arg13 : Memref sig .tc .vmem S128x1024 .f32) (harg13 : arg13.IsWhole) (arg14 : Memref sig .tc .vmem S1x1024 .f32) (harg14 : arg14.IsWhole)
  (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole)
  (arg18 : Memref sig .tc .vmem S1024x1024 .f32) (harg18 : arg18.IsWhole) (arg19 : Memref sig .tc .vmem S1024x1024 .f32) (harg19 : arg19.IsWhole)
  (arg2 : BitVec 32) (v6 v9 : FVec F S1024x128 .bf16) (cst_18 : F .f32)
  (X4 : BufTy.Contents (Elt F) arg4.view.ty) (X5 : BufTy.Contents (Elt F) arg5.view.ty)

/-- One trip, from any contents of the scratch: it leaves the next state of what it finds, in the words of its own loads. -/
theorem trip_loads (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (E : Set ℕ) (k : Fin (k0_t1_loop i).trips) :
    iprop((arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) ⊢
    wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v9 cst_18 k PUnit.unit)
      (fun _ => After (F := F) c arg4 arg5 arg12 arg13 arg14 arg15 arg16 arg17 arg18 arg19 X4 X5 ((⟨⟨(View.readAt (Elt F) arg14.view (Rect.unit (s := S1x1024) ![0, 0] S1x1024.size inb_S1x1024_S1x1024_0_0).toLoadRect f14), (View.readAt (Elt F) arg15.view (Rect.unit (s := S1x1024) ![0, 0] S1x1024.size inb_S1x1024_S1x1024_0_0).toLoadRect f15), (View.readAt (Elt F) arg12.view (Rect.unit (s := S128x1024) ![0, 0] S128x1024.size inb_S128x1024_S128x1024_0_0).toLoadRect f12)⟩, ⟨(View.readAt (Elt F) arg16.view (Rect.unit (s := S1x1024) ![0, 0] S1x1024.size inb_S1x1024_S1x1024_0_0).toLoadRect f16), (View.readAt (Elt F) arg17.view (Rect.unit (s := S1x1024) ![0, 0] S1x1024.size inb_S1x1024_S1x1024_0_0).toLoadRect f17), (View.readAt (Elt F) arg13.view (Rect.unit (s := S128x1024) ![0, 0] S128x1024.size inb_S128x1024_S128x1024_0_0).toLoadRect f13)⟩, (View.readAt (Elt F) arg18.view (Rect.unit (s := S1024x1024) ![0, 0] S1024x1024.size inb_S1024x1024_S1024x1024_0_0).toLoadRect f18), (View.readAt (Elt F) arg19.view (Rect.unit (s := S1024x1024) ![0, 0] S1024x1024.size inb_S1024x1024_S1024x1024_0_0).toLoadRect f19)⟩ : St F).next v6 v9 (View.readAt (Elt F) arg4.view (Rect.unit (s := S1x16384x128) (k0_off1 i k) S1x1024x128.size (k0_off1_inb i k)).toLoadRect X4) (View.readAt (Elt F) arg5.view (Rect.unit (s := S1x1x16x128x1024) (k0_off2 i k) S1x1x1x128x1024.size (k0_off2_inb i k)).toLoadRect X5))) := by
  unfold k0_t1_body After owns
  iintro ⟨H4, H5, H12, H13, H14, H15, H16, H17, H18, H19⟩
  sl_exec
  sl_step
  isplitl [H4]; · iexact H4
  isplitl [H5]; · iexact H5
  isplitl [H12]
  · iexists _; isplitr; swap; · iexact H12
    ipureintro; exact View.read_writes_full _ _ _ _ _
  isplitl [H13]
  · iexists _; isplitr; swap; · iexact H13
    ipureintro; exact View.read_writes_full _ _ _ _ _
  isplitl [H14]
  · iexists _; isplitr; swap; · iexact H14
    ipureintro; exact View.read_writes_full _ _ _ _ _
  isplitl [H15]
  · iexists _; isplitr; swap; · iexact H15
    ipureintro; exact View.read_writes_full _ _ _ _ _
  isplitl [H16]
  · iexists _; isplitr; swap; · iexact H16
    ipureintro; exact View.read_writes_full _ _ _ _ _
  isplitl [H17]
  · iexists _; isplitr; swap; · iexact H17
    ipureintro; exact View.read_writes_full _ _ _ _ _
  isplitl [H18]
  · iexists _; isplitr; swap; · iexact H18
    ipureintro; exact View.read_writes_full _ _ _ _ _
  iexists _; isplitr; swap; · iexact H19
  ipureintro; exact View.read_writes_full _ _ _ _ _

/-- The same trip, in the words of what the buffers read: it takes value block `k` and brings in key block `k + 1`. -/
theorem trip (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (E : Set ℕ) (k : Fin (k0_t1_loop i).trips) :
    iprop((arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) ⊢
    wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v9 cst_18 k PUnit.unit)
      (fun _ => After (F := F) c arg4 arg5 arg12 arg13 arg14 arg15 arg16 arg17 arg18 arg19 X4 X5 ((⟨⟨arg14.view.read (Elt F) f14, arg15.view.read (Elt F) f15, arg12.view.read (Elt F) f12⟩, ⟨arg16.view.read (Elt F) f16, arg17.view.read (Elt F) f17, arg13.view.read (Elt F) f13⟩, arg18.view.read (Elt F) f18, arg19.view.read (Elt F) f19⟩ : St F).next v6 v9 (keyBlock (arg4.view.read (Elt F) X4) (k.val + 1)) (valBlock (arg5.view.read (Elt F) X5) k.val))) := by
  have hk : k.val < 15 := Nat.lt_of_lt_of_le k.isLt (k0_t1_abs i).2.1
  have e : ((⟨⟨(View.readAt (Elt F) arg14.view (Rect.unit (s := S1x1024) ![0, 0] S1x1024.size inb_S1x1024_S1x1024_0_0).toLoadRect f14), (View.readAt (Elt F) arg15.view (Rect.unit (s := S1x1024) ![0, 0] S1x1024.size inb_S1x1024_S1x1024_0_0).toLoadRect f15), (View.readAt (Elt F) arg12.view (Rect.unit (s := S128x1024) ![0, 0] S128x1024.size inb_S128x1024_S128x1024_0_0).toLoadRect f12)⟩, ⟨(View.readAt (Elt F) arg16.view (Rect.unit (s := S1x1024) ![0, 0] S1x1024.size inb_S1x1024_S1x1024_0_0).toLoadRect f16), (View.readAt (Elt F) arg17.view (Rect.unit (s := S1x1024) ![0, 0] S1x1024.size inb_S1x1024_S1x1024_0_0).toLoadRect f17), (View.readAt (Elt F) arg13.view (Rect.unit (s := S128x1024) ![0, 0] S128x1024.size inb_S128x1024_S128x1024_0_0).toLoadRect f13)⟩, (View.readAt (Elt F) arg18.view (Rect.unit (s := S1024x1024) ![0, 0] S1024x1024.size inb_S1024x1024_S1024x1024_0_0).toLoadRect f18), (View.readAt (Elt F) arg19.view (Rect.unit (s := S1024x1024) ![0, 0] S1024x1024.size inb_S1024x1024_S1024x1024_0_0).toLoadRect f19)⟩ : St F).next v6 v9 (View.readAt (Elt F) arg4.view (Rect.unit (s := S1x16384x128) (k0_off1 i k) S1x1024x128.size (k0_off1_inb i k)).toLoadRect X4) (View.readAt (Elt F) arg5.view (Rect.unit (s := S1x1x16x128x1024) (k0_off2 i k) S1x1x1x128x1024.size (k0_off2_inb i k)).toLoadRect X5)) = (⟨⟨arg14.view.read (Elt F) f14, arg15.view.read (Elt F) f15, arg12.view.read (Elt F) f12⟩, ⟨arg16.view.read (Elt F) f16, arg17.view.read (Elt F) f17, arg13.view.read (Elt F) f13⟩, arg18.view.read (Elt F) f18, arg19.view.read (Elt F) f19⟩ : St F).next v6 v9 (keyBlock (arg4.view.read (Elt F) X4) (k.val + 1)) (valBlock (arg5.view.read (Elt F) X5) k.val) := by
    rw [readAt_keyBlock arg4 X4 _ (k.val + 1) (by omega) _ (by rw [k0_off1_eq]; congr 2),
      readAt_valBlock arg5 X5 _ k.val (by omega) _ (k0_off2_eq i k), View.readAt_full arg12.view f12, View.readAt_full arg13.view f13, View.readAt_full arg14.view f14, View.readAt_full arg15.view f15, View.readAt_full arg16.view f16, View.readAt_full arg17.view f17, View.readAt_full arg18.view f18, View.readAt_full arg19.view f19]
  exact e ▸ trip_loads c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v9 cst_18 X4 X5 f12 f13 f14 f15 f16 f17 f18 f19 E k

set_option warn.classDefReducibility false in
/-- The loop over the key blocks before the diagonal one: before trip `k` the scratch holds the `k`-th state from what
    it holds at the loop. -/
@[sl_loop] def loopInv1 (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (E : Set ℕ) :
    LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v9 cst_18 where
  inv := fun k _ => iprop((arg4.view.loc (c : Thread nD τ) ↦[arg4.view.set]{fullShare} X4) ∗ (arg5.view.loc (c : Thread nD τ) ↦[arg5.view.set]{fullShare} X5)
    ∗ (∃ f, (arg12.view.loc (c : Thread nD τ) ↦[arg12.view.set]{fullShare} f) ∗ ⌜f = contentsAt harg12 G12 (fun n => ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) n).x1.a) k⌝) ∗ (∃ f, (arg13.view.loc (c : Thread nD τ) ↦[arg13.view.set]{fullShare} f) ∗ ⌜f = contentsAt harg13 G13 (fun n => ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) n).x2.a) k⌝) ∗ (∃ f, (arg14.view.loc (c : Thread nD τ) ↦[arg14.view.set]{fullShare} f) ∗ ⌜f = contentsAt harg14 G14 (fun n => ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) n).x1.m) k⌝) ∗ (∃ f, (arg15.view.loc (c : Thread nD τ) ↦[arg15.view.set]{fullShare} f) ∗ ⌜f = contentsAt harg15 G15 (fun n => ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) n).x1.l) k⌝) ∗ (∃ f, (arg16.view.loc (c : Thread nD τ) ↦[arg16.view.set]{fullShare} f) ∗ ⌜f = contentsAt harg16 G16 (fun n => ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) n).x2.m) k⌝) ∗ (∃ f, (arg17.view.loc (c : Thread nD τ) ↦[arg17.view.set]{fullShare} f) ∗ ⌜f = contentsAt harg17 G17 (fun n => ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) n).x2.l) k⌝) ∗ (∃ f, (arg18.view.loc (c : Thread nD τ) ↦[arg18.view.set]{fullShare} f) ∗ ⌜f = contentsAt harg18 G18 (fun n => ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) n).s1) k⌝) ∗ (∃ f, (arg19.view.loc (c : Thread nD τ) ↦[arg19.view.set]{fullShare} f) ∗ ⌜f = contentsAt harg19 G19 (fun n => ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) n).s2) k⌝))
  step k _ := by
    iintro ⟨H4, H5, ⟨%f12, H12, %h12⟩, ⟨%f13, H13, %h13⟩, ⟨%f14, H14, %h14⟩, ⟨%f15, H15, %h15⟩, ⟨%f16, H16, %h16⟩, ⟨%f17, H17, %h17⟩, ⟨%f18, H18, %h18⟩, ⟨%f19, H19, %h19⟩⟩
    have hst : (⟨⟨arg14.view.read (Elt F) f14, arg15.view.read (Elt F) f15, arg12.view.read (Elt F) f12⟩, ⟨arg16.view.read (Elt F) f16, arg17.view.read (Elt F) f17, arg13.view.read (Elt F) f13⟩, arg18.view.read (Elt F) f18, arg19.view.read (Elt F) f19⟩ : St F) = (St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) k.val := by
      have e12 : arg12.view.read (Elt F) f12 = ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) k.val).x1.a := by rw [h12]; exact read_contentsAt harg12 G12 _ rfl k.val
      have e13 : arg13.view.read (Elt F) f13 = ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) k.val).x2.a := by rw [h13]; exact read_contentsAt harg13 G13 _ rfl k.val
      have e14 : arg14.view.read (Elt F) f14 = ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) k.val).x1.m := by rw [h14]; exact read_contentsAt harg14 G14 _ rfl k.val
      have e15 : arg15.view.read (Elt F) f15 = ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) k.val).x1.l := by rw [h15]; exact read_contentsAt harg15 G15 _ rfl k.val
      have e16 : arg16.view.read (Elt F) f16 = ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) k.val).x2.m := by rw [h16]; exact read_contentsAt harg16 G16 _ rfl k.val
      have e17 : arg17.view.read (Elt F) f17 = ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) k.val).x2.l := by rw [h17]; exact read_contentsAt harg17 G17 _ rfl k.val
      have e18 : arg18.view.read (Elt F) f18 = ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) k.val).s1 := by rw [h18]; exact read_contentsAt harg18 G18 _ rfl k.val
      have e19 : arg19.view.read (Elt F) f19 = ((St.iter v6 v9 (arg4.view.read (Elt F) X4) (arg5.view.read (Elt F) X5) (⟨⟨arg14.view.read (Elt F) G14, arg15.view.read (Elt F) G15, arg12.view.read (Elt F) G12⟩, ⟨arg16.view.read (Elt F) G16, arg17.view.read (Elt F) G17, arg13.view.read (Elt F) G13⟩, arg18.view.read (Elt F) G18, arg19.view.read (Elt F) G19⟩ : St F)) k.val).s2 := by rw [h19]; exact read_contentsAt harg19 G19 _ rfl k.val
      rw [e12, e13, e14, e15, e16, e17, e18, e19]
    have ht := trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v9 cst_18 X4 X5 f12 f13 f14 f15 f16 f17 f18 f19 E k
    rw [hst] at ht
    iapply (wp_wand_r Idealize.ShloMosaic.frame (wpE (defs₀ (F := F)) Variants.none (c : Thread nD τ) none) E)
    isplitl [H4 H5 H12 H13 H14 H15 H16 H17 H18 H19]
    · iapply ht
      isplitl [H4]; · iexact H4
      isplitl [H5]; · iexact H5
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · unfold After owns
      iintro %_ ⟨H4, H5, ⟨%g12, %e12, H12⟩, ⟨%g13, %e13, H13⟩, ⟨%g14, %e14, H14⟩, ⟨%g15, %e15, H15⟩, ⟨%g16, %e16, H16⟩, ⟨%g17, %e17, H17⟩, ⟨%g18, %e18, H18⟩, ⟨%g19, %e19, H19⟩⟩
      isplitl [H4]; · iexact H4
      isplitl [H5]; · iexact H5
      isplitl [H12]
      · iexists _; isplitl [H12]; · iexact H12
        ipureintro; exact harg12.eq_unread e12
      isplitl [H13]
      · iexists _; isplitl [H13]; · iexact H13
        ipureintro; exact harg13.eq_unread e13
      isplitl [H14]
      · iexists _; isplitl [H14]; · iexact H14
        ipureintro; exact harg14.eq_unread e14
      isplitl [H15]
      · iexists _; isplitl [H15]; · iexact H15
        ipureintro; exact harg15.eq_unread e15
      isplitl [H16]
      · iexists _; isplitl [H16]; · iexact H16
        ipureintro; exact harg16.eq_unread e16
      isplitl [H17]
      · iexists _; isplitl [H17]; · iexact H17
        ipureintro; exact harg17.eq_unread e17
      isplitl [H18]
      · iexists _; isplitl [H18]; · iexact H18
        ipureintro; exact harg18.eq_unread e18
      iexists _; isplitl [H19]; · iexact H19
      ipureintro; exact harg19.eq_unread e19

set_option warn.classDefReducibility false in
/-- The remainder loop makes no trip. -/
@[sl_loop] def loopInv2 (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (E : Set ℕ) (v50 : BitVec 32) :
    LoopInvTy_k0_t2 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v9 cst_18 v50 where
  inv := fun _ _ => iprop((arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19))
  step k _ := absurd k.isLt (Nat.not_lt.2 (Nat.le_trans (k0_t2_abs i).2.1 (Nat.zero_le _)))

end Loops

end Cert.Proof.KernelIdeal

end
-- ==== Proof.IdealRun.lean ====
/-
  The ideal program's kernel body: it runs from its buffers to the block of the output it computes.
-/
module

public import proofs.«01_k».proof.Proof.IdealLoops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scores of the last block: a key is seen by the queries of its own chunk of 64 and of later ones. -/
def causal (s : FVec F S1024x1024 .f32) : FVec F S1024x1024 .f32 :=
  k0_pay58 (iota .tc S1024x1024 32 [0] iota_S1024x1024_d0_w32) 64#32 k0_pay55 k0_pay56 1#32 0#1 s

/-- The scratch before the first trip: no block taken, the first block's scores ready. -/
def startAt (v6 v9 : FVec F S1024x128 .bf16) (K : Vec F S1x16384x128 .bf16) : St F :=
  ⟨Stream.start, Stream.start, k0_pay47 v6 (keyBlock K 0), k0_pay48 v9 (keyBlock K 0)⟩

/-- The scratch after the loop over the blocks that every query of the block sees. -/
def stAt (i : grid0.Coords) (Q : Vec F S1x1024x128 .bf16) (K : Vec F S1x16384x128 .bf16) (V : Vec F S1x1x16x128x1024 .bf16) : St F :=
  St.iter (k0_pay38 Q) (k0_pay39 Q) K V (startAt (k0_pay38 Q) (k0_pay39 Q) K) (Scf.trips (k0_t1_loop i).lb (k0_t1_loop i).ub (k0_t1_loop i).st)

/-- Both streams after the last block. -/
def last1 (i : grid0.Coords) (Q : Vec F S1x1024x128 .bf16) (K : Vec F S1x16384x128 .bf16) (V : Vec F S1x1x16x128x1024 .bf16) : Stream F :=
  (stAt i Q K V).x1.next (causal (stAt i Q K V).s1) (k0_pay5 (valBlock V (i 2).val))

def last2 (i : grid0.Coords) (Q : Vec F S1x1024x128 .bf16) (K : Vec F S1x16384x128 .bf16) (V : Vec F S1x1x16x128x1024 .bf16) : Stream F :=
  (stAt i Q K V).x2.next (causal (stAt i Q K V).s2) (k0_pay5 (valBlock V (i 2).val))

/-- The block of the output the body leaves at a point, from its inputs' blocks. -/
def outBlock (i : grid0.Coords) (Q : Vec F S1x1024x128 .bf16) (K : Vec F S1x16384x128 .bf16) (V : Vec F S1x1x16x128x1024 .bf16)
    (L6 L7 L8 L9 : Vec F S1x64 .f32) (g : Vec F S128x1 .f32) : Vec F S1x1024x128 .f32 :=
  k0_pay1 (k0_pay75 (k0_pay73 L6 L7) (k0_pay74 L8) L9 (last1 i Q K V).a (last1 i Q K V).l (last2 i Q K V).a (last2 i Q K V).l g)

theorem off5_eq (i : grid0.Coords) : k0_off5 i = ![0, 0, (i 2).val, 0, 0] := by
  funext a
  fin_cases a
  · rfl
  · rfl
  · have h : (i 2).val < 16 := (i 2).isLt
    exact (BitVec.toNat_ofNat _ _).trans (Nat.mod_eq_of_lt (by omega))
  · rfl
  · rfl

theorem scratch_of {S : Shape} {e : EltTy} {M : Memref sig .tc .vmem S e} (h : M.IsWhole) {G : M.view.ty.Contents (Elt F)} {st st' : ℕ → St F}
    (p : St F → S.Idx → Elt F e) (hst : ∀ n, st n = st' n) (h0 : M.view.read (Elt F) G = p (st 0)) (k : ℕ)
    {off : Fin S.rank → ℕ} (inb : ∀ a, off a + S.size a ≤ S.size a) :
    M.view.readAt (Elt F) (Rect.unit (s := S) off S.size inb).toLoadRect (contentsAt h G (fun n => p (st n)) k) = p (st' k) :=
  (View.readAt_full _ _ _).trans ((read_contentsAt h G (fun n => p (st n)) h0 k).trans (congrArg p (hst k)))

theorem startAt_of {v6 v9 : FVec F S1024x128 .bf16} {K : Vec F S1x16384x128 .bf16} {m1 l1 a1 m2 l2 a2 s1 s2}
    (hm1 : m1 = k0_pay41) (hl1 : l1 = k0_pay42) (ha1 : a1 = k0_pay40)
    (hm2 : m2 = k0_pay44) (hl2 : l2 = k0_pay45 (Scalar.ofBits .f32 0#32)) (ha2 : a2 = k0_pay43)
    (hs1 : s1 = k0_pay47 v6 (keyBlock K 0)) (hs2 : s2 = k0_pay48 v9 (keyBlock K 0)) :
    (⟨⟨m1, l1, a1⟩, ⟨m2, l2, a2⟩, s1, s2⟩ : St F) = startAt v6 v9 K := by
  subst hm1 hl1 ha1 hm2 hl2 ha2 hs1 hs2; rfl

theorem iter_of {v6 v6' v9 v9' : FVec F S1024x128 .bf16} {X X' : Vec F S1x16384x128 .bf16} {Y Y' : Vec F S1x1x16x128x1024 .bf16} {st st' : St F}
    (h6 : v6 = v6') (h9 : v9 = v9') (hX : X = X') (hY : Y = Y') (hst : st = st') (n : ℕ) :
    St.iter v6 v9 X Y st n = St.iter v6' v9' X' Y' st' n := by
  subst h6 h9 hX hY hst; rfl

/-- The body's last values are the block's, once each load is what it reads. -/
theorem outBlock_of {i : grid0.Coords} {Q : Vec F S1x1024x128 .bf16} {K : Vec F S1x16384x128 .bf16} {V : Vec F S1x1x16x128x1024 .bf16}
    {L6 L7 L8 L9 : Vec F S1x64 .f32} {g : Vec F S128x1 .f32} {y6 y7 y8 y9 yg vb a1 m1 l1 s1 a2 m2 l2 s2 w1 w2 w3 w4}
    (h6 : y6 = L6) (h7 : y7 = L7) (h8 : y8 = L8) (h9 : y9 = L9) (hg : yg = g) (hvb : vb = valBlock V (i 2).val)
    (ha1 : a1 = (stAt i Q K V).x1.a) (hm1 : m1 = (stAt i Q K V).x1.m) (hl1 : l1 = (stAt i Q K V).x1.l) (hs1 : s1 = (stAt i Q K V).s1)
    (ha2 : a2 = (stAt i Q K V).x2.a) (hm2 : m2 = (stAt i Q K V).x2.m) (hl2 : l2 = (stAt i Q K V).x2.l) (hs2 : s2 = (stAt i Q K V).s2)
    (hw1 : w1 = k0_pay65 (causal s1) vb m1 a1) (hw2 : w2 = k0_pay64 (causal s1) m1 l1)
    (hw3 : w3 = k0_pay71 (causal s2) (k0_pay60 vb) m2 (k0_pay67 (causal s2) m2) a2) (hw4 : w4 = k0_pay70 (causal s2) m2 (k0_pay67 (causal s2) m2) l2) :
    k0_pay1 (k0_pay75 (k0_pay73 y6 y7) (k0_pay74 y8) y9 w1 w2 w3 w4 yg) = outBlock i Q K V L6 L7 L8 L9 g := by
  subst h6 h7 h8 h9 hg hvb ha1 hm1 hl1 hs1 ha2 hm2 hl2 hs2 hw1 hw2 hw3 hw4; rfl

section Run

variable (c : Dev nD) (i : grid0.Coords)
  (arg3 : Memref sig .tc .vmem S1x1024x128 .bf16) (harg3 : arg3.IsWhole) (arg4 : Memref sig .tc .vmem S1x16384x128 .bf16) (harg4 : arg4.IsWhole) (arg5 : Memref sig .tc .vmem S1x1x16x128x1024 .bf16) (harg5 : arg5.IsWhole)
  (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
  (arg9 : Memref sig .tc .vmem S1x64 .f32) (harg9 : arg9.IsWhole) (arg10 : Memref sig .tc .vmem S128x1 .f32) (harg10 : arg10.IsWhole) (arg11 : Memref sig .tc .vmem S1x1024x128 .f32) (harg11 : arg11.IsWhole)
  (arg12 : Memref sig .tc .vmem S128x1024 .f32) (harg12 : arg12.IsWhole) (arg13 : Memref sig .tc .vmem S128x1024 .f32) (harg13 : arg13.IsWhole) (arg14 : Memref sig .tc .vmem S1x1024 .f32) (harg14 : arg14.IsWhole)
  (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole)
  (arg18 : Memref sig .tc .vmem S1024x1024 .f32) (harg18 : arg18.IsWhole) (arg19 : Memref sig .tc .vmem S1024x1024 .f32) (harg19 : arg19.IsWhole)
  (x3 : Vec F S1x1024x128 .bf16) (x4 : Vec F S1x16384x128 .bf16) (x5 : Vec F S1x1x16x128x1024 .bf16) (x6 : Vec F S1x64 .f32) (x7 : Vec F S1x64 .f32) (x8 : Vec F S1x64 .f32) (x9 : Vec F S1x64 .f32) (x10 : Vec F S128x1 .f32)

/-- What the body is given and gives back: the eight inputs at their contents, the output and the scratch at any. -/
abbrev BodyRes : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
    ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) )

/-- What it gives back: its inputs unchanged, and the output at the block they make. -/
abbrev BodyOut : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
    ∗ owns (c : Thread nD τ) arg11 fullShare (outBlock i x3 x4 x5 x6 x7 x8 x9 x10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) )

set_option maxHeartbeats 1000000 in
/-- The body runs from its resources to its output. -/
theorem body_run (E : Set ℕ) (K : PUnit → sProp 𝕄) :
    iprop(BodyRes (F := F) c arg3 arg4 arg5 arg6 arg7 arg8 arg9 arg10 arg11 arg12 arg13 arg14 arg15 arg16 arg17 arg18 arg19 x3 x4 x5 x6 x7 x8 x9 x10
      ∗ (BodyOut (F := F) c i arg3 arg4 arg5 arg6 arg7 arg8 arg9 arg10 arg11 arg12 arg13 arg14 arg15 arg16 arg17 arg18 arg19 x3 x4 x5 x6 x7 x8 x9 x10 -∗ K ⟨⟩))
    ⊢ wp frame (wpE (defs₀ (F := F)) Variants.none c none) E (cc0__attn_prompt_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__attn_prompt_kernel_eq_skeleton]; unfold cc0__attn_prompt_kernel_skel
  simp only [k0_part5_eq_skeleton, k0_part6_eq_skeleton, k0_part7_eq_skeleton, k0_part8_eq_skeleton, k0_part9_eq_skeleton, k0_part10_eq_skeleton]
  unfold BodyRes BodyOut owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    refine (View.read_writes_full _ _ _ _ _).trans ?_
    have h3 : body_run.sl.r c arg3 harg3 x3 = k0_pay38 x3 :=
      congrArg k0_pay38 ((View.readAt_full _ _ _).trans (harg3.read_unread _))
    have h3' : body_run.sl.r_1 c arg3 harg3 x3 = k0_pay39 x3 :=
      congrArg k0_pay39 ((View.readAt_full _ _ _).trans (harg3.read_unread _))
    have hk0 : View.readAt (Elt F) arg4.view (Rect.unit (s := S1x16384x128) ![0, 0, 0] S1x1024x128.size inb_S1x16384x128_S1x1024x128_0_0_0).toLoadRect (harg4.unread x4) = keyBlock x4 0 :=
      (readAt_keyBlock arg4 _ ![0, 0, 0] 0 (by decide) _ rfl).trans (by rw [harg4.read_unread])
    have hvb : View.readAt (Elt F) arg5.view (Rect.unit (s := S1x1x16x128x1024) (k0_off5 i) S1x1x1x128x1024.size (k0_off5_inb i)).toLoadRect (harg5.unread x5) = valBlock x5 (i 2).val :=
      (readAt_valBlock arg5 _ (k0_off5 i) (i 2).val (i 2).isLt _ (off5_eq i)).trans (by rw [harg5.read_unread])
    have e14 : arg14.view.read (Elt F) (arg14.view.writes (Elt F) arg14.view.junk [⟨Rect.unit (s := S1x1024) ![0, 0] S1x1024.size inb_S1x1024_S1x1024_0_0, (k0_pay41 (F := F))⟩]) = (k0_pay41 (F := F)) := View.read_writes_full _ _ _ _ _
    have e15 : arg15.view.read (Elt F) (arg15.view.writes (Elt F) arg15.view.junk [⟨Rect.unit (s := S1x1024) ![0, 0] S1x1024.size inb_S1x1024_S1x1024_0_0, (k0_pay42 (F := F))⟩]) = (k0_pay42 (F := F)) := View.read_writes_full _ _ _ _ _
    have e12 : arg12.view.read (Elt F) (arg12.view.writes (Elt F) arg12.view.junk [⟨Rect.unit (s := S128x1024) ![0, 0] S128x1024.size inb_S128x1024_S128x1024_0_0, (k0_pay40 (F := F))⟩]) = (k0_pay40 (F := F)) := View.read_writes_full _ _ _ _ _
    have e16 : arg16.view.read (Elt F) (arg16.view.writes (Elt F) arg16.view.junk [⟨Rect.unit (s := S1x1024) ![0, 0] S1x1024.size inb_S1x1024_S1x1024_0_0, (k0_pay44 (F := F))⟩]) = (k0_pay44 (F := F)) := View.read_writes_full _ _ _ _ _
    have e17 : arg17.view.read (Elt F) (arg17.view.writes (Elt F) arg17.view.junk [⟨Rect.unit (s := S1x1024) ![0, 0] S1x1024.size inb_S1x1024_S1x1024_0_0, (k0_pay45 (F := F) body_run.sl.cst_18)⟩]) = (k0_pay45 (F := F) body_run.sl.cst_18) := View.read_writes_full _ _ _ _ _
    have e13 : arg13.view.read (Elt F) (arg13.view.writes (Elt F) arg13.view.junk [⟨Rect.unit (s := S128x1024) ![0, 0] S128x1024.size inb_S128x1024_S128x1024_0_0, (k0_pay43 (F := F))⟩]) = (k0_pay43 (F := F)) := View.read_writes_full _ _ _ _ _
    have e18 : arg18.view.read (Elt F) (arg18.view.writes (Elt F) arg18.view.junk [⟨Rect.unit (s := S1024x1024) ![0, 0] S1024x1024.size inb_S1024x1024_S1024x1024_0_0,
        k0_pay47 (F := F) (body_run.sl.r c arg3 harg3 x3) (View.readAt (Elt F) arg4.view (Rect.unit (s := S1x16384x128) ![0, 0, 0] S1x1024x128.size inb_S1x16384x128_S1x1024x128_0_0_0).toLoadRect (harg4.unread x4))⟩]) = k0_pay47 (k0_pay38 x3) (keyBlock x4 0) :=
      (View.read_writes_full _ _ _ _ _).trans (congrArg₂ k0_pay47 h3 hk0)
    have e19 : arg19.view.read (Elt F) (arg19.view.writes (Elt F) arg19.view.junk [⟨Rect.unit (s := S1024x1024) ![0, 0] S1024x1024.size inb_S1024x1024_S1024x1024_0_0,
        k0_pay48 (F := F) (body_run.sl.r_1 c arg3 harg3 x3) (View.readAt (Elt F) arg4.view (Rect.unit (s := S1x16384x128) ![0, 0, 0] S1x1024x128.size inb_S1x16384x128_S1x1024x128_0_0_0).toLoadRect (harg4.unread x4))⟩]) = k0_pay48 (k0_pay39 x3) (keyBlock x4 0) :=
      (View.read_writes_full _ _ _ _ _).trans (congrArg₂ k0_pay48 h3' hk0)
    have hst : (⟨⟨_, _, _⟩, ⟨_, _, _⟩, _, _⟩ : St F) = startAt (k0_pay38 x3) (k0_pay39 x3) x4 :=
      startAt_of e14
        e15
        e12
        e16
        e17
        e13
        e18
        e19
    have hit := fun n => iter_of h3 h3' (harg4.read_unread x4) (harg5.read_unread x5) hst n
    have ha1 := scratch_of harg12 (fun s : St F => s.x1.a) hit rfl (Scf.trips (k0_t1_loop i).lb (k0_t1_loop i).ub (k0_t1_loop i).st) inb_S128x1024_S128x1024_0_0
    have ha2 := scratch_of harg13 (fun s : St F => s.x2.a) hit rfl (Scf.trips (k0_t1_loop i).lb (k0_t1_loop i).ub (k0_t1_loop i).st) inb_S128x1024_S128x1024_0_0
    have hm1 := scratch_of harg14 (fun s : St F => s.x1.m) hit rfl (Scf.trips (k0_t1_loop i).lb (k0_t1_loop i).ub (k0_t1_loop i).st) inb_S1x1024_S1x1024_0_0
    have hl1 := scratch_of harg15 (fun s : St F => s.x1.l) hit rfl (Scf.trips (k0_t1_loop i).lb (k0_t1_loop i).ub (k0_t1_loop i).st) inb_S1x1024_S1x1024_0_0
    have hm2 := scratch_of harg16 (fun s : St F => s.x2.m) hit rfl (Scf.trips (k0_t1_loop i).lb (k0_t1_loop i).ub (k0_t1_loop i).st) inb_S1x1024_S1x1024_0_0
    have hl2 := scratch_of harg17 (fun s : St F => s.x2.l) hit rfl (Scf.trips (k0_t1_loop i).lb (k0_t1_loop i).ub (k0_t1_loop i).st) inb_S1x1024_S1x1024_0_0
    have hs1 := scratch_of harg18 (fun s : St F => s.s1) hit rfl (Scf.trips (k0_t1_loop i).lb (k0_t1_loop i).ub (k0_t1_loop i).st) inb_S1024x1024_S1024x1024_0_0
    have hs2 := scratch_of harg19 (fun s : St F => s.s2) hit rfl (Scf.trips (k0_t1_loop i).lb (k0_t1_loop i).ub (k0_t1_loop i).st) inb_S1024x1024_S1024x1024_0_0
    exact outBlock_of ((View.readAt_full _ _ _).trans (harg6.read_unread x6)) ((View.readAt_full _ _ _).trans (harg7.read_unread x7))
      ((View.readAt_full _ _ _).trans (harg8.read_unread x8)) ((View.readAt_full _ _ _).trans (harg9.read_unread x9))
      ((View.readAt_full _ _ _).trans (harg10.read_unread x10)) hvb ha1 hm1 hl1 hs1 ha2 hm2 hl2 hs2
      (View.readCov_full _ _ _ _ _) (View.readCov_full _ _ _ _ _) (View.readCov_full _ _ _ _ _) (View.readCov_full _ _ _ _ _)
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Run

end Cert.Proof.KernelIdeal

end
-- ==== Proof.Softmax.lean ====
/-
  Softmax over the extended reals: the weights of a row of scores, a running softmax taken block by block, and the
  difference of two attentions.
-/
module

public import Idealize.ShloMosaic.Lib.Pointwise
public import Mathlib.Tactic.FieldSimp

@[expose] public section

noncomputable section

namespace Cert.Proof.Softmax

open Idealize.ShloMosaic

/-- A score's weight: its exponential, zero at `-∞`. -/
def wt (s : EReal) : ℝ := (Ideal.exp s).toReal

theorem wt_bot : wt ⊥ = 0 := rfl

theorem wt_coe (r : ℝ) : wt (r : EReal) = Real.exp r := rfl

theorem wt_nonneg (s : EReal) : 0 ≤ wt s := by
  induction s with
  | bot => exact le_refl _
  | top => exact le_refl _
  | coe r => exact (Real.exp_pos r).le

/-- An exponential of a difference is the weight, scaled. -/
theorem exp_sub (s : EReal) (hs : s ≠ ⊤) (r : ℝ) : Ideal.exp (s - (r : EReal)) = ((Real.exp (-r) * wt s : ℝ) : EReal) := by
  induction s with
  | bot => rw [EReal.bot_sub, wt_bot, mul_zero]; rfl
  | top => exact absurd rfl hs
  | coe x =>
    rw [← EReal.coe_sub, wt_coe, ← Real.exp_add]
    show ((Real.exp (x - r) : ℝ) : EReal) = _
    congr 2; ring

theorem coe_sum {ι : Type*} (S : Finset ι) (f : ι → ℝ) : ((∑ i ∈ S, f i : ℝ) : EReal) = ∑ i ∈ S, ((f i : ℝ) : EReal) := by
  classical
  induction S using Finset.induction_on with
  | empty => rfl
  | insert a S ha ih => rw [Finset.sum_insert ha, Finset.sum_insert ha, EReal.coe_add, ih]

/-- A maximum over scores none of which is `+∞` and one of which is a real is a real. -/
theorem fold_max_real {ι : Type*} (S : Finset ι) (b : EReal) (hb : b ≠ ⊤) (f : ι → EReal) (hf : ∀ i ∈ S, f i ≠ ⊤)
    (hr : b ≠ ⊥ ∨ ∃ i ∈ S, f i ≠ ⊥) : ∃ r : ℝ, S.fold max b f = (r : EReal) := by
  have h1 : S.fold max b f < ⊤ := (Finset.fold_max_lt _).mpr ⟨lt_top_iff_ne_top.mpr hb, fun i hi => lt_top_iff_ne_top.mpr (hf i hi)⟩
  have h2 : ⊥ < S.fold max b f := by
    refine (Finset.lt_fold_max _).mpr ?_
    rcases hr with h | ⟨i, hi, h⟩
    · exact .inl (bot_lt_iff_ne_bot.mpr h)
    · exact .inr ⟨i, hi, bot_lt_iff_ne_bot.mpr h⟩
  exact ⟨_, (EReal.coe_toReal h1.ne h2.ne').symm⟩

/-- A running softmax that has seen scores of total weight `W` and weighted values `U`: nothing at all, or, at some real
    `r`, both scaled by `exp (-r)`. -/
def Running (W : ℝ) (U : ℝ) (m l a : EReal) : Prop :=
  (m = ⊥ ∧ l = 0 ∧ a = 0 ∧ W = 0 ∧ U = 0)
    ∨ ∃ r : ℝ, m = (r : EReal) ∧ l = ((Real.exp (-r) * W : ℝ) : EReal) ∧ a = ((Real.exp (-r) * U : ℝ) : EReal)

/-- What has been summed, rescaled to a new maximum. -/
theorem rescale (r r' X : ℝ) :
    Ideal.exp ((r : EReal) - (r' : EReal)) * ((Real.exp (-r) * X : ℝ) : EReal) = ((Real.exp (-r') * X : ℝ) : EReal) := by
  rw [exp_sub _ (EReal.coe_ne_top r), wt_coe, ← EReal.coe_mul]
  congr 1
  have h : Real.exp (-r') * Real.exp r * (Real.exp (-r) * X) = Real.exp (-r') * X * (Real.exp r * Real.exp (-r)) := by ring
  rw [h, ← Real.exp_add, add_neg_cancel, Real.exp_zero, mul_one]

/-- One block of scores: none `+∞`, one of them real; their values real. -/
theorem Running.next {n : ℕ} {W U : ℝ} {m l a : EReal} (h : Running W U m l a) (s : Fin n → EReal) (v : Fin n → ℝ)
    (hs : ∀ y, s y ≠ ⊤) (y₀ : Fin n) (h₀ : s y₀ ≠ ⊥) :
    Running (W + ∑ y, wt (s y)) (U + ∑ y, wt (s y) * v y)
      (max m (Finset.univ.fold max ⊥ s))
      (Ideal.exp (m - max m (Finset.univ.fold max ⊥ s)) * l + ∑ y, Ideal.exp (s y - max m (Finset.univ.fold max ⊥ s)))
      (Ideal.exp (m - max m (Finset.univ.fold max ⊥ s)) * a
        + ∑ y, ((v y : ℝ) : EReal) * Ideal.exp (s y - max m (Finset.univ.fold max ⊥ s))) := by
  obtain ⟨f, hf⟩ := fold_max_real Finset.univ ⊥ (by decide) s (fun y _ => hs y) (.inr ⟨y₀, Finset.mem_univ _, h₀⟩)
  rw [hf]
  obtain ⟨r', hr'⟩ : ∃ r' : ℝ, max m (f : EReal) = (r' : EReal) := by
    rcases h with ⟨h, -⟩ | ⟨r, h, -⟩
    · exact ⟨f, by rw [h]; exact max_eq_right bot_le⟩
    · exact ⟨max r f, by rw [h]; exact (EReal.coe_strictMono.monotone.map_max).symm⟩
  rw [hr']
  have e1 : ∑ y, Ideal.exp (s y - (r' : EReal)) = ((Real.exp (-r') * ∑ y, wt (s y) : ℝ) : EReal) := by
    rw [Finset.mul_sum, coe_sum]
    exact Finset.sum_congr rfl fun y _ => exp_sub _ (hs y) _
  have e2 : ∑ y, ((v y : ℝ) : EReal) * Ideal.exp (s y - (r' : EReal)) = ((Real.exp (-r') * ∑ y, wt (s y) * v y : ℝ) : EReal) := by
    rw [Finset.mul_sum, coe_sum]
    refine Finset.sum_congr rfl fun y _ => ?_
    rw [exp_sub _ (hs y), ← EReal.coe_mul]
    congr 1; ring
  rw [e1, e2]
  refine .inr ⟨r', rfl, ?_, ?_⟩ <;> rcases h with ⟨h, hl, ha, hW, hU⟩ | ⟨r, h, hl, ha⟩
  · rw [hl, mul_zero, zero_add, hW, zero_add]
  · rw [h, hl, rescale, ← EReal.coe_add, mul_add]
  · rw [ha, mul_zero, zero_add, hU, zero_add]
  · rw [h, ha, rescale, ← EReal.coe_add, mul_add]

/-- The quotient of what a running softmax has summed. -/
theorem Running.quotient {W U : ℝ} {m l a : EReal} (h : Running W U m l a) (hW : 0 < W) :
    a * Ideal.div 1 l = ((U / W : ℝ) : EReal) := by
  rcases h with ⟨-, -, -, h, -⟩ | ⟨r, -, hl, ha⟩
  · exact absurd h hW.ne'
  · have hp : Real.exp (-r) * W ≠ 0 := (mul_pos (Real.exp_pos _) hW).ne'
    rw [hl, ha, Ideal.div, if_neg (by exact_mod_cast hp), one_mul, ← EReal.coe_inv, ← EReal.coe_mul]
    congr 1
    have := Real.exp_pos (-r)
    field_simp

/-- A row's exponential over the row's sum is its weight over the sum of weights, whatever real was subtracted. -/
theorem div_eq {ι : Type*} [Fintype ι] (s : ι → EReal) (hs : ∀ i, s i ≠ ⊤) (hW : 0 < ∑ i, wt (s i)) (r : ℝ) (i : ι) :
    Ideal.div (Ideal.exp (s i - (r : EReal))) (∑ j, Ideal.exp (s j - (r : EReal)))
      = ((wt (s i) / ∑ j, wt (s j) : ℝ) : EReal) := by
  have e : ∑ j, Ideal.exp (s j - (r : EReal)) = ((Real.exp (-r) * ∑ j, wt (s j) : ℝ) : EReal) := by
    rw [Finset.mul_sum, coe_sum]
    exact Finset.sum_congr rfl fun y _ => exp_sub _ (hs y) _
  have hp : Real.exp (-r) * ∑ j, wt (s j) ≠ 0 := (mul_pos (Real.exp_pos _) hW).ne'
  rw [e, exp_sub _ (hs i), Ideal.div, if_neg (by exact_mod_cast hp), ← EReal.coe_inv, ← EReal.coe_mul]
  congr 1
  have := Real.exp_pos (-r)
  field_simp

/-- The difference of two attentions applied to the values is the difference of the two applied separately. -/
theorem combine {ι : Type*} [Fintype ι] (w₀ w₁ v : ι → ℝ) (W₀ W₁ lam : ℝ) :
    ∑ i, ((v i : ℝ) : EReal) * (((w₀ i / W₀ : ℝ) : EReal) - (lam : EReal) * ((w₁ i / W₁ : ℝ) : EReal))
      = (((∑ i, w₀ i * v i) / W₀ : ℝ) : EReal) - (lam : EReal) * (((∑ i, w₁ i * v i) / W₁ : ℝ) : EReal) := by
  have e : ∀ i, ((v i : ℝ) : EReal) * (((w₀ i / W₀ : ℝ) : EReal) - (lam : EReal) * ((w₁ i / W₁ : ℝ) : EReal))
      = ((v i * (w₀ i / W₀ - lam * (w₁ i / W₁)) : ℝ) : EReal) := fun i => by
    rw [← EReal.coe_mul, ← EReal.coe_sub, ← EReal.coe_mul]
  rw [Finset.sum_congr rfl fun i _ => e i, ← coe_sum, ← EReal.coe_mul, ← EReal.coe_sub]
  congr 1
  rw [Finset.sum_div, Finset.sum_div, Finset.mul_sum, ← Finset.sum_sub_distrib]
  exact Finset.sum_congr rfl fun i _ => by ring

end Cert.Proof.Softmax

end
-- ==== Proof.Spec.lean ====
/-
  The differential attention of real queries, keys and values, as sums over the positions of a sequence.
-/
module

public import proofs.«01_k».proof.Proof.Softmax

@[expose] public section

noncomputable section

namespace Cert.Proof.Spec

open Idealize.ShloMosaic Cert.Proof.Softmax

/-- An array of 32768 rows of 512 extended reals. -/
abbrev Rows := (⟨2, ![32768, 512]⟩ : Shape).Idx → EReal

/-- Every entry of an array is a real. -/
def Finite {s : Shape} (X : s.Idx → EReal) : Prop := ∀ i, X i ≠ ⊤ ∧ X i ≠ ⊥

/-- The entry at a row and a column, as a real. -/
def at2 (X : Rows) (r c : ℕ) : ℝ := if h : r < 32768 ∧ c < 512 then (X (ix2 ⟨r, h.1⟩ ⟨c, h.2⟩)).toReal else 0

theorem coe_at2 {X : Rows} (h : Finite X) (r c : ℕ) (hr : r < 32768) (hc : c < 512) : X (ix2 ⟨r, hr⟩ ⟨c, hc⟩) = ((at2 X r c : ℝ) : EReal) := by
  unfold at2
  rw [dif_pos ⟨hr, hc⟩, EReal.coe_toReal (h _).1 (h _).2]

/-- The score of query position `x` and key position `y`, in sequence `b`, head `h`, component `c`. -/
def score (Q K : Rows) (b h c x y : ℕ) : ℝ :=
  ∑ e : Fin 64, at2 Q (b * 16384 + x) (h * 128 + c * 64 + e) * at2 K (b * 16384 + y) (h * 128 + c * 64 + e)

/-- The score where the key is of no later chunk, else `-∞`. -/
def seen (Q K : Rows) (b h c x y : ℕ) : EReal := if y / 64 ≤ x / 64 then ((score Q K b h c x y : ℝ) : EReal) else ⊥

theorem seen_ne_top (Q K : Rows) (b h c x y : ℕ) : seen Q K b h c x y ≠ ⊤ := by
  unfold seen; split
  · exact EReal.coe_ne_top _
  · decide

theorem seen_ne_bot {Q K : Rows} {b h c x y : ℕ} (hy : y / 64 ≤ x / 64) : seen Q K b h c x y ≠ ⊥ := by
  unfold seen; rw [if_pos hy]; exact EReal.coe_ne_bot _

/-- The total weight of the first `n` keys, -/
def total (Q K : Rows) (b h c x n : ℕ) : ℝ := ∑ y ∈ Finset.range n, wt (seen Q K b h c x y)

/-- and their weighted values in column `d`. -/
def weighted (Q K V : Rows) (b h c x d n : ℕ) : ℝ :=
  ∑ y ∈ Finset.range n, wt (seen Q K b h c x y) * at2 V (b * 16384 + y) (h * 128 + d)

theorem total_pos (Q K : Rows) (b h c x n : ℕ) (hn : 0 < n) : 0 < total Q K b h c x n := by
  refine Finset.sum_pos' (fun y _ => wt_nonneg _) ⟨0, Finset.mem_range.mpr hn, ?_⟩
  unfold seen
  rw [if_pos (by simp), wt_coe]
  exact Real.exp_pos _

/-- The keys past the query's block weigh nothing. -/
theorem total_cut (Q K : Rows) (b h c x i : ℕ) (hx : x < 1024 * (i + 1)) (hi : i < 16) :
    total Q K b h c x (1024 * (i + 1)) = total Q K b h c x 16384 := by
  refine Finset.sum_subset (fun y hy => Finset.mem_range.mpr (by have := Finset.mem_range.mp hy; omega)) fun y _ hy => ?_
  have : 1024 * (i + 1) ≤ y := by simpa using hy
  unfold seen; rw [if_neg (by omega), wt_bot]

theorem weighted_cut (Q K V : Rows) (b h c x d i : ℕ) (hx : x < 1024 * (i + 1)) (hi : i < 16) :
    weighted Q K V b h c x d (1024 * (i + 1)) = weighted Q K V b h c x d 16384 := by
  refine Finset.sum_subset (fun y hy => Finset.mem_range.mpr (by have := Finset.mem_range.mp hy; omega)) fun y _ hy => ?_
  have : 1024 * (i + 1) ≤ y := by simpa using hy
  unfold seen; rw [if_neg (by omega), wt_bot, zero_mul]

/-- One more block of 1024 keys. -/
theorem total_step (Q K : Rows) (b h c x j : ℕ) :
    total Q K b h c x (1024 * (j + 1)) = total Q K b h c x (1024 * j) + ∑ y : Fin 1024, wt (seen Q K b h c x (1024 * j + y)) := by
  unfold total
  rw [Nat.mul_succ, Finset.sum_range_add, Fin.sum_univ_eq_sum_range (fun y => wt (seen Q K b h c x (1024 * j + y)))]

theorem weighted_step (Q K V : Rows) (b h c x d j : ℕ) :
    weighted Q K V b h c x d (1024 * (j + 1)) = weighted Q K V b h c x d (1024 * j)
      + ∑ y : Fin 1024, wt (seen Q K b h c x (1024 * j + y)) * at2 V (b * 16384 + (1024 * j + y)) (h * 128 + d) := by
  unfold weighted
  rw [Nat.mul_succ, Finset.sum_range_add, Fin.sum_univ_eq_sum_range (fun y => wt (seen Q K b h c x (1024 * j + y)) * at2 V (b * 16384 + (1024 * j + y)) (h * 128 + d))]

/-- One row and column of one component's attention. -/
def attn (Q K V : Rows) (b h c x d : ℕ) : ℝ := weighted Q K V b h c x d 16384 / total Q K b h c x 16384

/-- The difference of the two components' attentions. -/
def diff (Q K V : Rows) (lam : EReal) (b h x d : ℕ) : EReal :=
  ((attn Q K V b h 0 x d : ℝ) : EReal) - lam * ((attn Q K V b h 1 x d : ℝ) : EReal)

/-- The weight of the second component. -/
def lam (A B C D : (⟨2, ![1, 64]⟩ : Shape).Idx → EReal) : EReal :=
  Ideal.exp (∑ e : Fin 64, A (ix2 0 e) * B (ix2 0 e)) - Ideal.exp (∑ e : Fin 64, C (ix2 0 e) * D (ix2 0 e))
    + Ideal.ofBits .f32 0x3E4CCCCD#32

/-- The result: the difference divided by its root mean square over a head's columns, scaled. -/
def result (Q K V : Rows) (l : EReal) (g : (⟨2, ![1, 128]⟩ : Shape).Idx → EReal) (b x : ℕ) (h : ℕ) (d : Fin 128) : EReal :=
  diff Q K V l b h x d
    * Ideal.rsqrt (Ideal.div (∑ d' : Fin 128, diff Q K V l b h x d' * diff Q K V l b h x d') (Ideal.ofBits .f32 0x43000000#32)
        + Ideal.ofBits .f32 0x358637BD#32)
    * g (ix2 0 d) * Ideal.ofBits .f32 0x3F4CCCCD#32

theorem sum_finite {A B : (⟨2, ![1, 64]⟩ : Shape).Idx → EReal} (hA : Finite A) (hB : Finite B) :
    ∃ r : ℝ, ∑ e : Fin 64, A (ix2 0 e) * B (ix2 0 e) = (r : EReal) := by
  refine ⟨∑ e : Fin 64, (A (ix2 0 e)).toReal * (B (ix2 0 e)).toReal, ?_⟩
  rw [coe_sum]
  refine Finset.sum_congr rfl fun e _ => ?_
  rw [EReal.coe_mul, EReal.coe_toReal (hA _).1 (hA _).2, EReal.coe_toReal (hB _).1 (hB _).2]

end Cert.Proof.Spec

end
-- ==== Proof.Steps.lean ====
/-
  The kernel's block operations over the extended reals, entry by entry.
-/
module

public import proofs.«01_k».proof.Proof.IdealRun
public import proofs.«01_k».proof.Proof.Spec

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem
open Cert.Proof.Softmax Cert.Proof.Spec

/-- The words at which both programs' masks are `-∞` and their second attention's weight starts. -/
theorem ofBits_bot : Ideal.ofBits .f32 0xFF800000#32 = ⊥ := by simp [Ideal.ofBits, Ideal.ieee]

/-- The running maximum after a block of scores, -/
theorem next_m (s : FVec Ideal S1024x1024 .f32) (st : Stream Ideal) (v : FVec Ideal S128x1024 .bf16) (x : Fin 1024) :
    (st.next s v).m (ix2 0 x) = max (st.m (ix2 0 x)) (Finset.univ.fold max ⊥ fun y => s (ix2 y x)) := by
  pointwise [Stream.next, k0_pay13, k0_pay6]
  rw [ofBits_bot]

/-- the sum of exponentials, -/
theorem next_l (s : FVec Ideal S1024x1024 .f32) (st : Stream Ideal) (v : FVec Ideal S128x1024 .bf16) (x : Fin 1024) :
    (st.next s v).l (ix2 0 x)
      = Ideal.exp (st.m (ix2 0 x) - max (st.m (ix2 0 x)) (Finset.univ.fold max ⊥ fun y => s (ix2 y x))) * st.l (ix2 0 x)
        + ∑ y, Ideal.exp (s (ix2 y x) - max (st.m (ix2 0 x)) (Finset.univ.fold max ⊥ fun y => s (ix2 y x))) := by
  pointwise [Stream.next, k0_pay9, k0_pay8, k0_pay7, k0_pay6]
  rw [ofBits_bot]

/-- and the weighted values. -/
theorem next_a (s : FVec Ideal S1024x1024 .f32) (st : Stream Ideal) (v : FVec Ideal S128x1024 .bf16) (d : Fin 128) (x : Fin 1024) :
    (st.next s v).a (ix2 d x)
      = Ideal.exp (st.m (ix2 0 x) - max (st.m (ix2 0 x)) (Finset.univ.fold max ⊥ fun y => s (ix2 y x))) * st.a (ix2 d x)
        + ∑ y, v (ix2 d y) * Ideal.exp (s (ix2 y x) - max (st.m (ix2 0 x)) (Finset.univ.fold max ⊥ fun y => s (ix2 y x))) := by
  pointwise [Stream.next, k0_pay12, k0_pay11, k0_pay10, k0_pay9, k0_pay8, k0_pay7, k0_pay6]
  rw [ofBits_bot]

theorem lane_lt : ∀ e : Fin 128, IntOp.cmpi .slt (BitVec.ofNat 32 e) 64#32 = if e.val < 64 then 1#1 else 0#1 := by decide +kernel

theorem lane_ge : ∀ e : Fin 128, IntOp.cmpi .sge (BitVec.ofNat 32 e) 64#32 = if 64 ≤ e.val then 1#1 else 0#1 := by decide +kernel

/-- A sum over 128 lanes, the upper half masked, is over the lower half, -/
theorem sum_low (f : Fin 128 → EReal) :
    ∑ e, Scalar.select (IntOp.cmpi .slt (BitVec.ofNat 32 e.val) 64#32) (f e) 0 = ∑ e : Fin 64, f ⟨e.val, by omega⟩ := by
  rw [Fin.sum_univ_add (a := 64) (b := 64) (fun e : Fin 128 => Scalar.select (IntOp.cmpi .slt (BitVec.ofNat 32 e.val) 64#32) (f e) 0)]
  have h1 : ∑ e : Fin 64, Scalar.select (IntOp.cmpi .slt (BitVec.ofNat 32 (Fin.castAdd 64 e).val) 64#32) (f (Fin.castAdd 64 e)) 0
      = ∑ e : Fin 64, f ⟨e.val, by omega⟩ := Finset.sum_congr rfl fun e _ => by
    rw [lane_lt (Fin.castAdd 64 e), if_pos (by simp)]; rfl
  have h2 : ∑ e : Fin 64, Scalar.select (IntOp.cmpi .slt (BitVec.ofNat 32 (Fin.natAdd 64 e).val) 64#32) (f (Fin.natAdd 64 e)) 0 = 0 :=
    Finset.sum_eq_zero fun e _ => by
      rw [lane_lt (Fin.natAdd 64 e), if_neg (by simp)]; rfl
  rw [h1, h2, add_zero]

/-- and with the lower half masked over the upper. -/
theorem sum_high (f : Fin 128 → EReal) :
    ∑ e, Scalar.select (IntOp.cmpi .sge (BitVec.ofNat 32 e.val) 64#32) (f e) 0 = ∑ e : Fin 64, f ⟨64 + e.val, by omega⟩ := by
  rw [Fin.sum_univ_add (a := 64) (b := 64) (fun e : Fin 128 => Scalar.select (IntOp.cmpi .sge (BitVec.ofNat 32 e.val) 64#32) (f e) 0)]
  have h1 : ∑ e : Fin 64, Scalar.select (IntOp.cmpi .sge (BitVec.ofNat 32 (Fin.castAdd 64 e).val) 64#32) (f (Fin.castAdd 64 e)) 0 = 0 :=
    Finset.sum_eq_zero fun e _ => by
      rw [lane_ge (Fin.castAdd 64 e), if_neg (by simp)]; rfl
  have h2 : ∑ e : Fin 64, Scalar.select (IntOp.cmpi .sge (BitVec.ofNat 32 (Fin.natAdd 64 e).val) 64#32) (f (Fin.natAdd 64 e)) 0
      = ∑ e : Fin 64, f ⟨64 + e.val, by omega⟩ := Finset.sum_congr rfl fun e _ => by
    rw [lane_ge (Fin.natAdd 64 e), if_pos (by simp)]; rfl
  rw [h1, h2, zero_add]

/-- The scores of the first component: over the lower 64 lanes, before the loop -/
theorem first1 (q k : FVec Ideal S1x1024x128 .bf16) (y x : Fin 1024) :
    (k0_pay47 (F := Ideal) (k0_pay38 q) k) (ix2 y x) = ∑ e : Fin 64, k (ix3 0 y ⟨e.val, by omega⟩) * q (ix3 0 x ⟨e.val, by omega⟩) := by
  pointwise [k0_pay47, k0_pay46, k0_pay38, k0_pay36, k0_pay37]
  exact sum_low fun e => k (ix3 0 y e) * q (ix3 0 x e)

/-- and in it; -/
theorem later1 (q k : FVec Ideal S1x1024x128 .bf16) (y x : Fin 1024) :
    (k0_pay50 (k0_pay3 (F := Ideal) (k0_pay38 q) k)) (ix2 y x) = ∑ e : Fin 64, k (ix3 0 y ⟨e.val, by omega⟩) * q (ix3 0 x ⟨e.val, by omega⟩) := by
  pointwise [k0_pay50, k0_pay3, k0_pay2, k0_pay38, k0_pay36, k0_pay37]
  exact sum_low fun e => k (ix3 0 y e) * q (ix3 0 x e)

/-- of the second, over the upper 64, before the loop -/
theorem first2 (q k : FVec Ideal S1x1024x128 .bf16) (y x : Fin 1024) :
    (k0_pay48 (F := Ideal) (k0_pay39 q) k) (ix2 y x) = ∑ e : Fin 64, k (ix3 0 y ⟨64 + e.val, by omega⟩) * q (ix3 0 x ⟨64 + e.val, by omega⟩) := by
  pointwise [k0_pay48, k0_pay46, k0_pay39, k0_pay36, k0_pay37]
  exact sum_high fun e => k (ix3 0 y e) * q (ix3 0 x e)

/-- and in it. -/
theorem later2 (q k : FVec Ideal S1x1024x128 .bf16) (y x : Fin 1024) :
    (k0_pay51 (k0_pay4 (F := Ideal) (k0_pay39 q) k)) (ix2 y x) = ∑ e : Fin 64, k (ix3 0 y ⟨64 + e.val, by omega⟩) * q (ix3 0 x ⟨64 + e.val, by omega⟩) := by
  pointwise [k0_pay51, k0_pay4, k0_pay2, k0_pay39, k0_pay36, k0_pay37]
  exact sum_high fun e => k (ix3 0 y e) * q (ix3 0 x e)

/-- The chunk of a position in a block, as the mask computes it for a key, -/
theorem key_chunk : ∀ y : Fin 1024, Scalar.select
          (IntOp.andi
            (IntOp.cmpi CmpIPredicate.ne
              (IntOp.subi (BitVec.setWidth 32 (IntOp.cmpi CmpIPredicate.sgt (BitVec.ofNat 32 y.val) 0#32))
                (BitVec.setWidth 32 (IntOp.cmpi CmpIPredicate.slt (BitVec.ofNat 32 y.val) 0#32)))
              (Scalar.subi (1#32) (Scalar.extui 0#1)))
            (IntOp.cmpi CmpIPredicate.ne (IntOp.remsi ArithUnit.vector (BitVec.ofNat 32 y.val) 64#32) 0#32))
          (IntOp.subi (IntOp.divsi ArithUnit.vector (BitVec.ofNat 32 y.val) 64#32) 1#32)
          (IntOp.divsi ArithUnit.vector (BitVec.ofNat 32 y.val) 64#32) = BitVec.ofNat 32 (y.val / 64) := by decide +kernel

/-- and for a query. -/
theorem query_chunk : ∀ x : Fin 1024, Scalar.select
          (IntOp.andi
            (IntOp.cmpi CmpIPredicate.ne
              (IntOp.subi (BitVec.setWidth 32 (IntOp.cmpi CmpIPredicate.sgt (BitVec.ofNat 32 x.val) 0#32))
                (BitVec.setWidth 32 (IntOp.cmpi CmpIPredicate.slt (BitVec.ofNat 32 x.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 x.val) 64#32) 0#32))
          (IntOp.subi (IntOp.divsi ArithUnit.vector (BitVec.ofNat 32 x.val) 64#32) 1#32)
          (IntOp.divsi ArithUnit.vector (BitVec.ofNat 32 x.val) 64#32) = BitVec.ofNat 32 (x.val / 64) := by decide +kernel

theorem chunk_le : ∀ a b : Fin 16, IntOp.cmpi .sle (BitVec.ofNat 32 a.val) (BitVec.ofNat 32 b.val) = if a.val ≤ b.val then 1#1 else 0#1 := by decide +kernel

/-- The last block's scores: those of no later chunk, the others `-∞`. -/
theorem causal_at (s : FVec Ideal S1024x1024 .f32) (y x : Fin 1024) :
    causal s (ix2 y x) = if y.val / 64 ≤ x.val / 64 then s (ix2 y x) else ⊥ := by
  pointwise [causal, k0_pay58, k0_pay57, k0_pay55, k0_pay56]
  rw [key_chunk y, query_chunk x, chunk_le ⟨y.val / 64, by omega⟩ ⟨x.val / 64, by omega⟩, ofBits_bot]
  split <;> rfl

theorem start_m (x : Fin 1024) : (Stream.start (F := Ideal)).m (ix2 0 x) = ⊥ := by
  pointwise [Stream.start, k0_pay41]
  exact ofBits_bot

theorem start_l (x : Fin 1024) : (Stream.start (F := Ideal)).l (ix2 0 x) = 0 := by
  pointwise [Stream.start, k0_pay42]

theorem start_a (d : Fin 128) (x : Fin 1024) : (Stream.start (F := Ideal)).a (ix2 d x) = 0 := by
  pointwise [Stream.start, k0_pay40]

/-- The output from the two streams' ends: the difference of the two quotients, divided by its root mean square, scaled. -/
theorem out_at (L6 L7 L8 L9 : FVec Ideal S1x64 .f32) (a1 a2 : FVec Ideal S128x1024 .f32) (l1 l2 : FVec Ideal S1x1024 .f32)
    (g : FVec Ideal S128x1 .f32) (x : Fin 1024) (d : Fin 128) (o : Fin 128 → EReal)
    (ho : ∀ d, a1 (ix2 d x) * Ideal.div 1 (l1 (ix2 0 x)) - lam L6 L7 L8 L9 * (a2 (ix2 d x) * Ideal.div 1 (l2 (ix2 0 x))) = o d) :
    k0_pay1 (F := Ideal) (k0_pay75 (k0_pay73 L6 L7) (k0_pay74 L8) L9 a1 l1 a2 l2 g) (ix3 0 x d)
      = o d * Ideal.rsqrt (Ideal.div (∑ d' : Fin 128, o d' * o d') (Ideal.ofBits .f32 0x43000000#32) + Ideal.ofBits .f32 0x358637BD#32)
        * g (ix2 d 0) * Ideal.ofBits .f32 0x3F4CCCCD#32 := by
  pointwise [k0_pay1, k0_pay75, k0_pay73, k0_pay74]
  unfold lam at ho
  simp only [ho]

end Cert.Proof.KernelIdeal

end
-- ==== Proof.Attend.lean ====
/-
  The block of the output a point of the grid leaves, entry by entry: the differential attention of its queries.
-/
module

public import proofs.«01_k».proof.Proof.Steps

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem
open Cert.Proof.Softmax Cert.Proof.Spec

section Point

variable (i : grid0.Coords) (b h : ℕ) (Q K V : Rows)

/-- The blocks a point is given, of sequence `b` and head `h`: its own 1024 queries, every key, every value (transposed, block by
    block), each entry a real. -/
structure Given (Qb : FVec Ideal S1x1024x128 .bf16) (Kb : FVec Ideal S1x16384x128 .bf16) (Vb : FVec Ideal S1x1x16x128x1024 .bf16) : Prop where
  q : ∀ (x : Fin 1024) (e : Fin 128), Qb (ix3 0 x e) = ((at2 Q (b * 16384 + (1024 * (i 2).val + x)) (h * 128 + e) : ℝ) : EReal)
  k : ∀ (y : Fin 16384) (e : Fin 128), Kb (ix3 0 y e) = ((at2 K (b * 16384 + y) (h * 128 + e) : ℝ) : EReal)
  v : ∀ (j : Fin 16) (d : Fin 128) (y : Fin 1024), Vb (ix5 0 0 j d y) = ((at2 V (b * 16384 + (1024 * j + y)) (h * 128 + d) : ℝ) : EReal)

/-- A stream of component `c` that has taken the first `j` blocks: for every query of the point and every column. -/
def Holds (c j : ℕ) (st : Stream Ideal) : Prop :=
  ∀ (x : Fin 1024) (d : Fin 128), Running (total Q K b h c (1024 * (i 2).val + x) (1024 * j))
    (weighted Q K V b h c (1024 * (i 2).val + x) d (1024 * j)) (st.m (ix2 0 x)) (st.l (ix2 0 x)) (st.a (ix2 d x))

theorem holds_start (c : ℕ) : Holds i b h Q K V c 0 Stream.start := fun x d =>
  .inl ⟨start_m x, start_l x, start_a d x, Finset.sum_range_zero _, Finset.sum_range_zero _⟩

/-- One more block, no further than the queries' own. -/
theorem Holds.next {c j : ℕ} {st : Stream Ideal} (hst : Holds i b h Q K V c j st) (hj : j ≤ (i 2).val)
    {s : FVec Ideal S1024x1024 .f32} (hs : ∀ y x, s (ix2 y x) = seen Q K b h c (1024 * (i 2).val + x) (1024 * j + y))
    {v : FVec Ideal S128x1024 .bf16} (hv : ∀ d y, v (ix2 d y) = ((at2 V (b * 16384 + (1024 * j + y)) (h * 128 + d) : ℝ) : EReal)) :
    Holds i b h Q K V c (j + 1) (st.next s v) := fun x d => by
  rw [next_m, next_l, next_a, total_step, weighted_step]
  simp only [hs, hv]
  refine (hst x d).next (fun y : Fin 1024 => seen Q K b h c (1024 * (i 2).val + x) (1024 * j + y))
    (fun y : Fin 1024 => at2 V (b * 16384 + (1024 * j + y)) (h * 128 + d)) (fun y => seen_ne_top _ _ _ _ _ _ _) 0 (seen_ne_bot ?_)
  have h0 : ((0 : Fin 1024) : ℕ) = 0 := rfl
  rw [h0]
  omega

variable {i b h Q K V}
variable {Qb : FVec Ideal S1x1024x128 .bf16} {Kb : FVec Ideal S1x16384x128 .bf16} {Vb : FVec Ideal S1x1x16x128x1024 .bf16}

/-- A block's scores in one component, from a sum over its 64 lanes. -/
theorem Given.score (G : Given i b h Q K V Qb Kb Vb) (c j : ℕ) (hc : c < 2) (hj : j < 16) (y x : Fin 1024) :
    ∑ e : Fin 64, keyBlock (F := Ideal) Kb j (ix3 0 y ⟨c * 64 + e.val, by omega⟩) * Qb (ix3 0 x ⟨c * 64 + e.val, by omega⟩)
      = ((score Q K b h c (1024 * (i 2).val + x) (1024 * j + y) : ℝ) : EReal) := by
  unfold Spec.score
  rw [coe_sum]
  refine Finset.sum_congr rfl fun e _ => ?_
  have hk : keyBlock (F := Ideal) Kb j (ix3 0 y ⟨c * 64 + e.val, by omega⟩)
      = ((at2 K (b * 16384 + (1024 * j + y)) (h * 128 + c * 64 + e) : ℝ) : EReal) := by
    refine (G.k ⟨(1024 * j + y) % 16384, Nat.mod_lt _ (by decide)⟩ ⟨c * 64 + e.val, by omega⟩).trans ?_
    show ((at2 K (b * 16384 + (1024 * j + y.val) % 16384) (h * 128 + (c * 64 + e.val)) : ℝ) : EReal) = _
    rw [show (1024 * j + y.val) % 16384 = 1024 * j + y.val by omega, show h * 128 + (c * 64 + e.val) = h * 128 + c * 64 + e.val by omega]
  rw [hk, G.q, show h * 128 + (c * 64 + e.val) = h * 128 + c * 64 + e.val by omega, ← EReal.coe_mul, mul_comm]

theorem Given.first1 (G : Given i b h Q K V Qb Kb Vb) (y x : Fin 1024) :
    k0_pay47 (F := Ideal) (k0_pay38 Qb) (keyBlock Kb 0) (ix2 y x) = ((Spec.score Q K b h 0 (1024 * (i 2).val + x) (1024 * 0 + y) : ℝ) : EReal) := by
  rw [KernelIdeal.first1, ← G.score 0 0 (by decide) (by decide)]
  simp only [Nat.zero_mul, Nat.zero_add]

theorem Given.first2 (G : Given i b h Q K V Qb Kb Vb) (y x : Fin 1024) :
    k0_pay48 (F := Ideal) (k0_pay39 Qb) (keyBlock Kb 0) (ix2 y x) = ((Spec.score Q K b h 1 (1024 * (i 2).val + x) (1024 * 0 + y) : ℝ) : EReal) := by
  rw [KernelIdeal.first2, ← G.score 1 0 (by decide) (by decide)]

theorem Given.later1 (G : Given i b h Q K V Qb Kb Vb) (j : ℕ) (hj : j < 16) (y x : Fin 1024) :
    k0_pay50 (k0_pay3 (F := Ideal) (k0_pay38 Qb) (keyBlock Kb j)) (ix2 y x) = ((Spec.score Q K b h 0 (1024 * (i 2).val + x) (1024 * j + y) : ℝ) : EReal) := by
  rw [KernelIdeal.later1, ← G.score 0 j (by decide) hj]
  simp only [Nat.zero_mul, Nat.zero_add]

theorem Given.later2 (G : Given i b h Q K V Qb Kb Vb) (j : ℕ) (hj : j < 16) (y x : Fin 1024) :
    k0_pay51 (k0_pay4 (F := Ideal) (k0_pay39 Qb) (keyBlock Kb j)) (ix2 y x) = ((Spec.score Q K b h 1 (1024 * (i 2).val + x) (1024 * j + y) : ℝ) : EReal) := by
  rw [KernelIdeal.later2, ← G.score 1 j (by decide) hj]

/-- A value block without its unit axes. -/
theorem Given.values (G : Given i b h Q K V Qb Kb Vb) (j : ℕ) (hj : j < 16) (d : Fin 128) (y : Fin 1024) :
    k0_pay5 (F := Ideal) (valBlock Vb j) (ix2 d y) = ((at2 V (b * 16384 + (1024 * j + y)) (h * 128 + d) : ℝ) : EReal) := by
  have e : k0_pay5 (F := Ideal) (valBlock Vb j) (ix2 d y) = valBlock (F := Ideal) Vb j (ix5 0 0 0 d y) := by
    pointwise [k0_pay5]
  rw [e]
  refine (G.v ⟨j % 16, Nat.mod_lt _ (by decide)⟩ d y).trans ?_
  show ((at2 V (b * 16384 + (1024 * (j % 16) + y.val)) (h * 128 + d.val) : ℝ) : EReal) = _
  rw [show j % 16 = j by omega]

variable (i b h Q K V) in
/-- Before trip `j`: both streams have taken the first `j` blocks, and block `j`'s scores are at hand. -/
structure Before (j : ℕ) (st : St Ideal) : Prop where
  x1 : Holds i b h Q K V 0 j st.x1
  x2 : Holds i b h Q K V 1 j st.x2
  s1 : ∀ y x, st.s1 (ix2 y x) = ((Spec.score Q K b h 0 (1024 * (i 2).val + x) (1024 * j + y) : ℝ) : EReal)
  s2 : ∀ y x, st.s2 (ix2 y x) = ((Spec.score Q K b h 1 (1024 * (i 2).val + x) (1024 * j + y) : ℝ) : EReal)

/-- A key of an earlier block is seen. -/
theorem seen_earlier (c j : ℕ) (hj : j < (i 2).val) (y x : Fin 1024) :
    seen Q K b h c (1024 * (i 2).val + x) (1024 * j + y) = ((Spec.score Q K b h c (1024 * (i 2).val + x) (1024 * j + y) : ℝ) : EReal) := by
  unfold seen; rw [if_pos (by omega)]

theorem Given.before (G : Given i b h Q K V Qb Kb Vb) (j : ℕ) (hj : j ≤ (i 2).val) :
    Before i b h Q K V j (St.iter (F := Ideal) (k0_pay38 Qb) (k0_pay39 Qb) Kb Vb (startAt (k0_pay38 Qb) (k0_pay39 Qb) Kb) j) := by
  have hi : (i 2).val < 16 := (i 2).isLt
  induction j with
  | zero => exact ⟨holds_start i b h Q K V 0, holds_start i b h Q K V 1, G.first1, G.first2⟩
  | succ j ih =>
    have B := ih (by omega)
    exact ⟨B.x1.next i b h Q K V (by omega) (fun y x => (B.s1 y x).trans (seen_earlier 0 j (by omega) y x).symm) (G.values j (by omega)),
      B.x2.next i b h Q K V (by omega) (fun y x => (B.s2 y x).trans (seen_earlier 1 j (by omega) y x).symm) (G.values j (by omega)),
      G.later1 (j + 1) (by omega), G.later2 (j + 1) (by omega)⟩

/-- The loop runs once for each earlier block. -/
theorem trips_eq (i : grid0.Coords) : Scf.trips (k0_t1_loop i).lb (k0_t1_loop i).ub (k0_t1_loop i).st = (i 2).val := by
  have key : ∀ n : Fin 16, Scf.trips 0#32 (Scalar.addi 0#32 (Scalar.muli (Scalar.divsi (Scalar.subi (BitVec.ofNat 32 n.val) 0#32) 1#32) 1#32)) 1#32 = n.val := by
    decide +kernel
  exact key (i 2)

/-- In the queries' own block the mask leaves the keys of no later chunk. -/
theorem seen_own (c : ℕ) {s : FVec Ideal S1024x1024 .f32}
    (hs : ∀ y x, s (ix2 y x) = ((Spec.score Q K b h c (1024 * (i 2).val + x) (1024 * (i 2).val + y) : ℝ) : EReal)) (y x : Fin 1024) :
    causal s (ix2 y x) = seen Q K b h c (1024 * (i 2).val + x) (1024 * (i 2).val + y) := by
  rw [causal_at, hs]
  unfold seen
  by_cases hyx : y.val / 64 ≤ x.val / 64
  · rw [if_pos hyx, if_pos (by omega)]
  · rw [if_neg hyx, if_neg (by omega)]

theorem Given.last1 (G : Given i b h Q K V Qb Kb Vb) : Holds i b h Q K V 0 ((i 2).val + 1) (last1 (F := Ideal) i Qb Kb Vb) := by
  have hi : (i 2).val < 16 := (i 2).isLt
  have B := G.before (i 2).val (le_refl _)
  unfold KernelIdeal.last1 stAt
  rw [trips_eq]
  exact B.x1.next i b h Q K V (le_refl _) (seen_own 0 B.s1) (G.values _ hi)

theorem Given.last2 (G : Given i b h Q K V Qb Kb Vb) : Holds i b h Q K V 1 ((i 2).val + 1) (last2 (F := Ideal) i Qb Kb Vb) := by
  have hi : (i 2).val < 16 := (i 2).isLt
  have B := G.before (i 2).val (le_refl _)
  unfold KernelIdeal.last2 stAt
  rw [trips_eq]
  exact B.x2.next i b h Q K V (le_refl _) (seen_own 1 B.s2) (G.values _ hi)

/-- A stream that has taken every block up to the queries' own gives their attention. -/
theorem Holds.attn {c : ℕ} {st : Stream Ideal} (hst : Holds i b h Q K V c ((i 2).val + 1) st) (x : Fin 1024) (d : Fin 128) :
    st.a (ix2 d x) * Ideal.div 1 (st.l (ix2 0 x)) = ((attn Q K V b h c (1024 * (i 2).val + x) d : ℝ) : EReal) := by
  have hi : (i 2).val < 16 := (i 2).isLt
  have H := hst x d
  rw [total_cut Q K b h c _ (i 2).val (by omega) hi, weighted_cut Q K V b h c _ d (i 2).val (by omega) hi] at H
  exact H.quotient (total_pos Q K b h c _ 16384 (by decide))

/-- The block the body leaves: the result at each of its queries and columns. -/
theorem Given.out (G : Given i b h Q K V Qb Kb Vb) (L6 L7 L8 L9 : FVec Ideal S1x64 .f32) (gc : FVec Ideal S128x1 .f32)
    (g : (⟨2, ![1, 128]⟩ : Shape).Idx → EReal) (hg : ∀ d, gc (ix2 d 0) = g (ix2 0 d)) (x : Fin 1024) (d : Fin 128) :
    outBlock (F := Ideal) i Qb Kb Vb L6 L7 L8 L9 gc (ix3 0 x d)
      = result Q K V (lam L6 L7 L8 L9) g b (1024 * (i 2).val + x) h d := by
  unfold outBlock
  rw [out_at L6 L7 L8 L9 _ _ _ _ gc x d (fun d => diff Q K V (lam L6 L7 L8 L9) b h (1024 * (i 2).val + x) d)
    (fun d => by rw [G.last1.attn, G.last2.attn]; rfl), hg]
  rfl

end Point

end Cert.Proof.KernelIdeal

end
-- ==== Proof.IdealFrame.lean ====
/-
  The ideal program's frame, with the block of the output each point of the grid leaves.
-/
module

public import proofs.«01_k».proof.Proof.IdealRun
public import proofs.«01_k».proof.Proof.Gen.KernelIdeal.Frame
public import proofs.«01_k».proof.Proof.Gen.KernelIdeal.Points
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the output at a point, from the blocks of the arrays the region finds. -/
def outBlk (c : Dev nD) (t : Fin cfg0.N) : Vec F S1x1024x128 .f32 :=
  outBlock (grid0.coords t) (iblk m c 0 t) (iblk m c 1 t) (iblk m c 2 t) (iblk m c 3 t) (iblk m c 4 t) (iblk m c 5 t) (iblk m c 6 t) (iblk m c 7 t)

/-- The pipeline's data on core `c`: every window's array as the region finds it, every input's buffer at its block
    after the body, the output's at the block the body computes. -/
def dats (_ : Fin 1) (c : Dev nD) : Dat τ (Elt F) Unit ℕ (UR sig nD τ) ℕ cfg0 c where
  A w := V m c (Pipeline.arrRef spec0 w)
  after w t := match w with
    | ⟨8, h⟩ => outBlk m c t
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- The scratch buffers at some contents, and the generator register: the invariant between two points. -/
theorem inv_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 1600000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, inv_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0 H1 H2 H3 H4 H5 H6 H7 H8 HS0 HS1 HS2 HS3 HS4 HS5 HS6 HS7]
  · unfold BodyRes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  unfold BodyOut
  iintro ⟨H0, H1, H2, H3, H4, H5, H6, H7, H8, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row_eq (t : Fin cfg0.N) : defs₀ (F := F) .tc cfg0.body (cfg0.bodyArgs t (cfg0.slots t)) = bodyAt0 t := by
  unfold defs₀; rw [Defs.onTc_tc]

/-- The body's obligation to the pipeline, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run: every array of the pipeline ends at what its data say, every other buffer as the region finds it, and every
    counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every argument array ends as launched, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Proof.KernelIdeal

end
-- ==== Proof.Arrays.lean ====
/-
  The arrays the region finds, and the output array it leaves: the result at every index.
-/
module

public import proofs.«01_k».proof.Proof.Attend
public import proofs.«01_k».proof.Proof.IdealFrame
public import Idealize.ShloMosaic.Lib.Pipeline.Value
public import Idealize.ShloMosaic.Lib.Pipeline.ValueKit
public import Idealize.ShloMosaic.Lib.StableHlo.ReadAt

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem
open Idealize.ShloMosaic.Pipeline (Dat)
open Cert.Proof.Softmax Cert.Proof.Spec

variable (m : (ℓ : Loc nD τ sig) → Buf (Elt Ideal) ℓ) (c : Dev nD)

/-- The arguments, as the arrays of extended reals they are. -/
abbrev argQ : Rows := m ((c.tc : Thread nD τ).loc main_arg0)
abbrev argK : Rows := m ((c.tc : Thread nD τ).loc main_arg1)
abbrev argV : Rows := m ((c.tc : Thread nD τ).loc main_arg2)
abbrev argL : EReal := lam (m ((c.tc : Thread nD τ).loc main_arg3)) (m ((c.tc : Thread nD τ).loc main_arg4)) (m ((c.tc : Thread nD τ).loc main_arg5)) (m ((c.tc : Thread nD τ).loc main_arg6))
abbrev argG : (⟨2, ![1, 128]⟩ : Shape).Idx → EReal := m ((c.tc : Thread nD τ).loc main_arg7)

/-- The region finds the queries and the keys by sequence and position, -/
theorem queries_at (b : Fin 2) (r : Fin 16384) (n : Fin 512) :
    V m c main_v10 (ix3 b r n) = argQ m c (ix2 ⟨b.val * 16384 + r.val, by omega⟩ n) := by
  unfold V
  after_reads_at

theorem keys_at (b : Fin 2) (r : Fin 16384) (n : Fin 512) :
    V m c main_v11 (ix3 b r n) = argK m c (ix2 ⟨b.val * 16384 + r.val, by omega⟩ n) := by
  unfold V
  after_reads_at

/-- the values by sequence, head, block, column and position in the block, -/
theorem values_at (b : Fin 2) (h : Fin 4) (j : Fin 16) (d : Fin 128) (y : Fin 1024) :
    V m c main_v9 (ix5 b h j d y) = argV m c (ix2 ⟨b.val * 16384 + (1024 * j.val + y.val), by omega⟩ ⟨h.val * 128 + d.val, by omega⟩) := by
  unfold V
  after_reads_at
  have e : b.val * 16384 + j.val * 1024 + y.val = b.val * 16384 + (1024 * j.val + y.val) := by omega
  simp only [e]

/-- the gains as a column, -/
theorem gain_at (d : Fin 128) : V m c main_v13 (ix2 d 0) = argG m c (ix2 0 d) := by
  unfold V
  after_reads_at

/-- and the four vectors as they are. -/
theorem lam1_at (e : Fin 64) : V m c main_v1 (ix2 0 e) = m ((c.tc : Thread nD τ).loc main_arg3) (ix2 0 e) := by
  unfold V
  after_reads_at

theorem lam2_at (e : Fin 64) : V m c main_v3 (ix2 0 e) = m ((c.tc : Thread nD τ).loc main_arg4) (ix2 0 e) := by
  unfold V
  after_reads_at

theorem lam3_at (e : Fin 64) : V m c main_v5 (ix2 0 e) = m ((c.tc : Thread nD τ).loc main_arg5) (ix2 0 e) := by
  unfold V
  after_reads_at

theorem lam4_at (e : Fin 64) : V m c main_v7 (ix2 0 e) = m ((c.tc : Thread nD τ).loc main_arg6) (ix2 0 e) := by
  unfold V
  after_reads_at

/-- Where each window's block lies at a point. -/
theorem places : ∀ t : Fin grid0.N,
    (win0_0.index t 0 = t.val / 64 ∧ win0_0.index t 1 = t.val % 16 ∧ win0_0.index t 2 = t.val / 16 % 4)
    ∧ (win0_1.index t 0 = t.val / 64 ∧ win0_1.index t 1 = 0 ∧ win0_1.index t 2 = t.val / 16 % 4)
    ∧ (win0_2.index t 0 = t.val / 64 ∧ win0_2.index t 1 = t.val / 16 % 4 ∧ win0_2.index t 2 = 0 ∧ win0_2.index t 3 = 0 ∧ win0_2.index t 4 = 0)
    ∧ (win0_8.index t 0 = t.val / 64 ∧ win0_8.index t 1 = t.val % 16 ∧ win0_8.index t 2 = t.val / 16 % 4) := by decide +kernel

theorem places_const : ∀ t : Fin grid0.N,
    (win0_3.index t 0 = 0 ∧ win0_3.index t 1 = 0) ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by decide +kernel

theorem coord2 : ∀ t : Fin grid0.N, (grid0.coords t 2).val = t.val % 16 := by decide +kernel

theorem point_lt (t : Fin cfg0.N) : t.val < 128 := t.isLt

/-- A point's blocks: its queries, -/
theorem block_q (t : Fin cfg0.N) (x : Fin 1024) (e : Fin 128) : iblk m c 0 t (ix3 0 x e)
    = V m c main_v10 (ix3 ⟨t.val / 64, by have := point_lt t; omega⟩ ⟨1024 * (t.val % 16) + x.val, by omega⟩ ⟨t.val / 16 % 4 * 128 + e.val, by omega⟩) := by
  blk_ext [iblk, places t]

/-- the keys, -/
theorem block_k (t : Fin cfg0.N) (y : Fin 16384) (e : Fin 128) : iblk m c 1 t (ix3 0 y e)
    = V m c main_v11 (ix3 ⟨t.val / 64, by have := point_lt t; omega⟩ y ⟨t.val / 16 % 4 * 128 + e.val, by omega⟩) := by
  blk_ext [iblk, places t]

/-- the values, -/
theorem block_v (t : Fin cfg0.N) (j : Fin 16) (d : Fin 128) (y : Fin 1024) : iblk m c 2 t (ix5 0 0 j d y)
    = V m c main_v9 (ix5 ⟨t.val / 64, by have := point_lt t; omega⟩ ⟨t.val / 16 % 4, by omega⟩ j d y) := by
  blk_ext [iblk, places t]

/-- the gains, -/
theorem block_g (t : Fin cfg0.N) (d : Fin 128) : iblk m c 7 t (ix2 d 0) = V m c main_v13 (ix2 d 0) := by
  blk_ext [iblk, places_const t]

/-- and the four vectors. -/
theorem block_l1 (t : Fin cfg0.N) (e : Fin 64) : iblk m c 3 t (ix2 0 e) = V m c main_v1 (ix2 0 e) := by
  blk_ext [iblk, places_const t]

theorem block_l2 (t : Fin cfg0.N) (e : Fin 64) : iblk m c 4 t (ix2 0 e) = V m c main_v3 (ix2 0 e) := by
  blk_ext [iblk, places_const t]

theorem block_l3 (t : Fin cfg0.N) (e : Fin 64) : iblk m c 5 t (ix2 0 e) = V m c main_v5 (ix2 0 e) := by
  blk_ext [iblk, places_const t]

theorem block_l4 (t : Fin cfg0.N) (e : Fin 64) : iblk m c 6 t (ix2 0 e) = V m c main_v7 (ix2 0 e) := by
  blk_ext [iblk, places_const t]

/-- The second attention's weight, from the blocks. -/
theorem block_lam (t : Fin cfg0.N) : lam (iblk m c 3 t) (iblk m c 4 t) (iblk m c 5 t) (iblk m c 6 t) = argL m c := by
  have e1 : ∀ e : Fin 64, iblk m c 3 t (ix2 0 e) = _ := fun e => (block_l1 m c t e).trans (lam1_at m c e)
  have e2 : ∀ e : Fin 64, iblk m c 4 t (ix2 0 e) = _ := fun e => (block_l2 m c t e).trans (lam2_at m c e)
  have e3 : ∀ e : Fin 64, iblk m c 5 t (ix2 0 e) = _ := fun e => (block_l3 m c t e).trans (lam3_at m c e)
  have e4 : ∀ e : Fin 64, iblk m c 6 t (ix2 0 e) = _ := fun e => (block_l4 m c t e).trans (lam4_at m c e)
  exact congrArg₂ (fun u v : EReal => Ideal.exp u - Ideal.exp v + Ideal.ofBits .f32 0x3E4CCCCD#32)
    (Finset.sum_congr rfl fun e _ => congrArg₂ (fun u v : EReal => u * v) (e1 e) (e2 e))
    (Finset.sum_congr rfl fun e _ => congrArg₂ (fun u v : EReal => u * v) (e3 e) (e4 e))

variable {m c}

/-- The blocks of a point of real arguments are those of its sequence and head. -/
theorem given (hq : Finite (argQ m c)) (hk : Finite (argK m c)) (hv : Finite (argV m c)) (t : Fin cfg0.N) :
    Given (grid0.coords t) (t.val / 64) (t.val / 16 % 4) (argQ m c) (argK m c) (argV m c) (iblk m c 0 t) (iblk m c 1 t) (iblk m c 2 t) where
  q x e := by
    rw [coord2 t]
    exact (block_q m c t x e).trans ((queries_at m c _ _ _).trans (coe_at2 hq _ _ _ _))
  k y e := (block_k m c t y e).trans ((keys_at m c _ _ _).trans (coe_at2 hk _ _ _ _))
  v j d y := (block_v m c t j d y).trans ((values_at m c _ _ _ _ _).trans (coe_at2 hv _ _ _ _))

variable (m c)

/-- The result at every index of the output. -/
def G : FVec Ideal S2x16384x512 .f32 := fun i =>
  result (argQ m c) (argK m c) (argV m c) (argL m c) (argG m c) (i 0).val (i 1).val ((i 2).val / 128) ⟨(i 2).val % 128, Nat.mod_lt _ (by decide)⟩

variable {m c}

/-- The block a point leaves is the result's, at the point's place. -/
theorem outBlk_at (hq : Finite (argQ m c)) (hk : Finite (argK m c)) (hv : Finite (argV m c)) (t : Fin cfg0.N) (x : Fin 1024) (d : Fin 128) :
    outBlk m c t (ix3 0 x d)
      = G m c (ix3 ⟨t.val / 64, by have := point_lt t; omega⟩ ⟨1024 * (t.val % 16) + x.val, by omega⟩ ⟨t.val / 16 % 4 * 128 + d.val, by omega⟩) := by
  unfold outBlk
  refine ((given hq hk hv t).out (iblk m c 3 t) (iblk m c 4 t) (iblk m c 5 t) (iblk m c 6 t) (iblk m c 7 t) (argG m c)
    (fun d => (block_g m c t d).trans (gain_at m c d)) x d).trans ?_
  rw [block_lam, coord2 t]
  show _ = result (argQ m c) (argK m c) (argV m c) (argL m c) (argG m c) (t.val / 64) (1024 * (t.val % 16) + x.val)
    ((t.val / 16 % 4 * 128 + d.val) / 128) ⟨(t.val / 16 % 4 * 128 + d.val) % 128, _⟩
  have e1 : (t.val / 16 % 4 * 128 + d.val) / 128 = t.val / 16 % 4 := by omega
  have e2 : (t.val / 16 % 4 * 128 + d.val) % 128 = d.val := by omega
  simp only [e1, e2]

theorem flushed_eq (hq : Finite (argQ m c)) (hk : Finite (argK m c)) (hv : Finite (argV m c)) (t : Fin cfg0.N) :
    (dats m 0 c).flushed 8 t = (win0_8.blk t).view.read (Elt Ideal) (G m c) := by
  show (cfg0.win 8).cut (grid0.coords t) ((dats m 0 c).after 8 t) = _
  rw [after8]
  funext j
  obtain ⟨x, d, rfl⟩ : ∃ (x : Fin 1024) (d : Fin 128), j = ix3 0 x d := ⟨j 1, j 2, by
    funext a; fin_cases a
    · exact Subsingleton.elim (α := Fin 1) _ _
    · rfl
    · rfl⟩
  refine (outBlk_at hq hk hv t x d).trans ?_
  blk_ext [places t]

/-- Where the output's block begins at a point, and its extent. -/
theorem extent : ∀ t : Fin grid0.N,
    win0_8.index t 0 * win0_8.size 0 = t.val / 64 ∧ win0_8.index t 1 * win0_8.size 1 = 1024 * (t.val % 16)
    ∧ win0_8.index t 2 * win0_8.size 2 = 128 * (t.val / 16 % 4) ∧ win0_8.xsize (grid0.coords t) 0 = 1
    ∧ win0_8.xsize (grid0.coords t) 1 = 1024 ∧ win0_8.xsize (grid0.coords t) 2 = 128 := by decide +kernel

/-- An index of the output is in a point's block when its sequence, block of positions and head are the point's. -/
theorem mem_blk (t : Fin cfg0.N) (i : S2x16384x512.Idx) : i ∈ ((cfg0.win 8).blk t).view.set
    ↔ (i 0).val = t.val / 64 ∧ (i 1).val / 1024 = t.val % 16 ∧ (i 2).val / 128 = t.val / 16 % 4 := by
  show i ∈ ((View.whole main_v14).slice (win0_8.rect t)).set ↔ _
  rw [View.set_slice_whole, Rect.mem_set_unit]
  obtain ⟨p0, p1, p2, s0, s1, s2⟩ := extent t
  have h0 : (i 0).val < 2 := (i 0).isLt
  have h1 : (i 1).val < 16384 := (i 1).isLt
  have h2 : (i 2).val < 512 := (i 2).isLt
  constructor
  · intro h
    have a0 := h 0
    have a1 := h 1
    have a2 := h 2
    change win0_8.index t 0 * win0_8.size 0 ≤ (i 0).val ∧ (i 0).val < win0_8.index t 0 * win0_8.size 0 + win0_8.xsize (grid0.coords t) 0 at a0
    change win0_8.index t 1 * win0_8.size 1 ≤ (i 1).val ∧ (i 1).val < win0_8.index t 1 * win0_8.size 1 + win0_8.xsize (grid0.coords t) 1 at a1
    change win0_8.index t 2 * win0_8.size 2 ≤ (i 2).val ∧ (i 2).val < win0_8.index t 2 * win0_8.size 2 + win0_8.xsize (grid0.coords t) 2 at a2
    rw [p0, s0] at a0
    rw [p1, s1] at a1
    rw [p2, s2] at a2
    omega
  · rintro ⟨a0, a1, a2⟩ a
    fin_cases a
    · show win0_8.index t 0 * win0_8.size 0 ≤ (i 0).val ∧ (i 0).val < win0_8.index t 0 * win0_8.size 0 + win0_8.xsize (grid0.coords t) 0
      rw [p0, s0]; omega
    · show win0_8.index t 1 * win0_8.size 1 ≤ (i 1).val ∧ (i 1).val < win0_8.index t 1 * win0_8.size 1 + win0_8.xsize (grid0.coords t) 1
      rw [p1, s1]; omega
    · show win0_8.index t 2 * win0_8.size 2 ≤ (i 2).val ∧ (i 2).val < win0_8.index t 2 * win0_8.size 2 + win0_8.xsize (grid0.coords t) 2
      rw [p2, s2]; omega

theorem cover (i : S2x16384x512.Idx) : ∃ t : Fin cfg0.N, (cfg0.win 8).flush t = true ∧ i ∈ ((cfg0.win 8).blk t).view.set := by
  have h0 : (i 0).val < 2 := (i 0).isLt
  have h1 : (i 1).val < 16384 := (i 1).isLt
  have h2 : (i 2).val < 512 := (i 2).isLt
  refine ⟨⟨(i 0).val * 64 + (i 2).val / 128 * 16 + (i 1).val / 1024, ?_⟩, flush0_8 _, ?_⟩
  · show _ < 128; omega
  · rw [mem_blk]
    refine ⟨?_, ?_, ?_⟩ <;> dsimp only <;> omega

theorem final (hq : Finite (argQ m c)) (hk : Finite (argK m c)) (hv : Finite (argV m c)) : (dats m 0 c).arrAt 8 cfg0.N = G m c :=
  (dats m 0 c).arrAt_eq_of_cover 8 (G m c) (fun t _ => flushed_eq hq hk hv t) cover

/-- The run of real arguments: the output array ends at the result, every argument as launched. -/
theorem run_value (ρ : Dev nD → PrngReg) (hq : ∀ c, Finite (argQ m c)) (hk : ∀ c, Finite (argK m c)) (hv : ∀ c, Finite (argV m c)) :
    θ_run defs (onTc (τ := τ) (main (F := Ideal))) ⟨m, fun _ => 0, ρ⟩ (fun r => ∀ c : Dev nD,
      r.2.mem ((c.tc : Thread nD τ).loc main_v14) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 8).trans (final (hq c) (hk c) (hv c)), h.2.1 c⟩)
    (θ_run_and (run m ρ) (quiescent m ρ))

end Cert.Proof.KernelIdeal

end
-- ==== Proof.RefValue.lean ====
/-
  The reference's result over the extended reals, entry by entry.
-/
module

public import proofs.«01_k».proof.Proof.Gen.ReferenceIdeal.Run
public import proofs.«01_k».proof.Proof.Spec

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL.Sem
open Cert.Proof.Softmax Cert.Proof.Spec

/-- The chunk of each position: its number divided by 64. -/
def chunkOf : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32))))
        (broadcastInDim S16384 ![] bcast_S_S16384 (constantI S_ 32 0#32))))
    (subi (Host.divsi (iotaInDim S16384 32 0) (broadcastInDim S16384 ![] bcast_S_S16384 (id (constantI S_ 32 64#32))))
      (broadcastInDim S16384 ![] bcast_S_S16384 (constantI S_ 32 1#32)))
    (Host.divsi (iotaInDim S16384 32 0) (broadcastInDim S16384 ![] bcast_S_S16384 (id (constantI S_ 32 64#32))))

/-- Which keys a query sees: those of no later chunk. -/
def visible : IVec S16384x16384 1 :=
  cmpi .sle (broadcastInDim S16384x16384 ![0, 1] bcast_S1x16384_S16384x16384_0_1 (broadcastInDim S1x16384 ![1] bcast_S16384_S1x16384_1 chunkOf))
    (broadcastInDim S16384x16384 ![0, 1] bcast_S16384x1_S16384x16384_0_1 (broadcastInDim S16384x1 ![0] bcast_S16384_S16384x1_0 chunkOf))

/-- The masked scores. -/
def scores (q k : FVec Ideal S32768x512 .bf16) : FVec Ideal S2x4x2x16384x16384 .f32 :=
  select (broadcastInDim S2x4x2x16384x16384 ![3, 4] bcast_S16384x16384_S2x4x2x16384x16384_3_4 visible)
    (Host.dotGeneral dot_S2x16384x4x2x64_S2x16384x4x2x64_S2x4x2x16384x16384_4_4_1_1_023_023 none
      (shapeCast _ (extf .f32 q bitsLt_bf16_f32) shapeCasts_S32768x512_S2x16384x4x2x64)
      (shapeCast _ (extf .f32 k bitsLt_bf16_f32) shapeCasts_S32768x512_S2x16384x4x2x64))
    (broadcastInDim S2x4x2x16384x16384 ![] bcast_S_S2x4x2x16384x16384 (id (constant S_ .f32 0xFF800000#32)))

/-- Each row's maximum. -/
def rowMax (s : FVec Ideal S2x4x2x16384x16384 .f32) : FVec Ideal S2x4x2x16384 .f32 :=
  Host.reduce FloatOps.maximumf s (constant S_ .f32 0xFF800000#32) reducesTo_S2x4x2x16384x16384_S2x4x2x16384_d4 h_S_

/-- Scores' exponentials, less a number for each row. -/
def expLess (s : FVec Ideal S2x4x2x16384x16384 .f32) (r : FVec Ideal S2x4x2x16384 .f32) : FVec Ideal S2x4x2x16384x16384 .f32 :=
  Host.exp (subf s (broadcastInDim S2x4x2x16384x16384 ![0, 1, 2, 3, 4] bcast_S2x4x2x16384x1_S2x4x2x16384x16384_0_1_2_3_4
    (broadcastInDim S2x4x2x16384x1 ![0, 1, 2, 3] bcast_S2x4x2x16384_S2x4x2x16384x1_0_1_2_3
      (maximumf (broadcastInDim S2x4x2x16384 ![] bcast_S_S2x4x2x16384 (constant S_ .f32 0xFF800000#32)) r))))

/-- The exponentials of scores less their row's maximum. -/
def weights (s : FVec Ideal S2x4x2x16384x16384 .f32) : FVec Ideal S2x4x2x16384x16384 .f32 := expLess s (rowMax s)

/-- Each row of weights divided by its sum. -/
def normed (w : FVec Ideal S2x4x2x16384x16384 .f32) : FVec Ideal S2x4x2x16384x16384 .f32 :=
  Host.divf w (broadcastInDim S2x4x2x16384x16384 ![0, 1, 2, 3, 4] bcast_S2x4x2x16384x1_S2x4x2x16384x16384_0_1_2_3_4
    (broadcastInDim S2x4x2x16384x1 ![0, 1, 2, 3] bcast_S2x4x2x16384_S2x4x2x16384x1_0_1_2_3
      (Host.reduceAdd w (constant S_ .f32 0x00000000#32) reducesTo_S2x4x2x16384x16384_S2x4x2x16384_d4 h_S_)))

/-- The weight of the second attention. -/
def lam (L3 L4 L5 L6 : FVec Ideal S1x64 .f32) : FVec Ideal S_ .f32 :=
  addf (subf
      (Host.exp (Host.reduceAdd (mulf (shapeCast _ L3 shapeCasts_S1x64_S64) (shapeCast _ L4 shapeCasts_S1x64_S64)) (constant S_ .f32 0x00000000#32) reducesTo_S64_S_d0 h_S_))
      (Host.exp (Host.reduceAdd (mulf (shapeCast _ L5 shapeCasts_S1x64_S64) (shapeCast _ L6 shapeCasts_S1x64_S64)) (constant S_ .f32 0x00000000#32) reducesTo_S64_S_d0 h_S_)))
    (constant S_ .f32 0x3E4CCCCD#32)

/-- The difference of the two attentions applied to the values. -/
def attended (v : FVec Ideal S32768x512 .bf16) (p : FVec Ideal S2x4x2x16384x16384 .f32) (l : FVec Ideal S_ .f32) : FVec Ideal S2x16384x4x128 .f32 :=
  transpose S2x16384x4x128 [0, 3, 1, 2] (Host.dotGeneral dot_S2x16384x4x128_S2x4x16384x16384_S2x4x128x16384_1_3_3_2_02_01 none
    (shapeCast _ (extf .f32 v bitsLt_bf16_f32) shapeCasts_S32768x512_S2x16384x4x128)
    (subf (shapeCast _ (extractStridedSlice S2x4x1x16384x16384 ![0, 0, 0, 0, 0] p slices_S2x4x2x16384x16384_S2x4x1x16384x16384_0_0_0_0_0) shapeCasts_S2x4x1x16384x16384_S2x4x16384x16384)
      (mulf (broadcastInDim S2x4x16384x16384 ![] bcast_S_S2x4x16384x16384 l)
        (shapeCast _ (extractStridedSlice S2x4x1x16384x16384 ![0, 0, 1, 0, 0] p slices_S2x4x2x16384x16384_S2x4x1x16384x16384_0_0_1_0_0) shapeCasts_S2x4x1x16384x16384_S2x4x16384x16384))))
    transposes_S2x4x128x16384_S2x16384x4x128_0_3_1_2

/-- The heads' outputs divided by their root mean square, scaled, laid out as the result. -/
def scaled (o : FVec Ideal S2x16384x4x128 .f32) (g : FVec Ideal S1x128 .f32) : FVec Ideal S2x16384x512 .f32 :=
  shapeCast _ (mulf (mulf (mulf o (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf o o) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 (shapeCast _ g shapeCasts_S1x128_S128)))) (broadcastInDim S2x16384x4x128 ![] bcast_S_S2x16384x4x128 (constant S_ .f32 0x3F4CCCCD#32))) shapeCasts_S2x16384x4x128_S2x16384x512

/-- The reference's result is the stages above, one after another. -/
theorem result_eq (m : (ℓ : Loc nD τ sig) → Buf (Elt Ideal) ℓ) (c : Dev nD) :
    Value.res_main_v63 (F := Ideal) m c
      = scaled (attended (m ((c.tc : Thread nD τ).loc main_arg2))
          (normed (weights (scores (m ((c.tc : Thread nD τ).loc main_arg0)) (m ((c.tc : Thread nD τ).loc main_arg1)))))
          (lam (m ((c.tc : Thread nD τ).loc main_arg3)) (m ((c.tc : Thread nD τ).loc main_arg4)) (m ((c.tc : Thread nD τ).loc main_arg5)) (m ((c.tc : Thread nD τ).loc main_arg6))))
        (m ((c.tc : Thread nD τ).loc main_arg7)) := rfl

theorem ofBits_bot : Ideal.ofBits .f32 0xFF800000#32 = ⊥ := by simp [Ideal.ofBits, Ideal.ieee]

/-- The word of a position's chunk, as the host computes it. -/
theorem chunk_word : ∀ u v : Fin 128, Scalar.select
      (IntOp.andi
        (IntOp.cmpi CmpIPredicate.ne
          (if BitVec.ofNat 32 (u.val * 128 + v.val) = 0 then (0 : BitVec 32) else if (BitVec.ofNat 32 (u.val * 128 + v.val)).msb = true then -1 else 1)
          (if 64#32 = 0 then (0 : BitVec 32) else if (64#32).msb = true then -1 else 1))
        (IntOp.cmpi CmpIPredicate.ne (IntOp.remsi ArithUnit.host (BitVec.ofNat 32 (u.val * 128 + v.val)) 64#32) 0#32))
      (IntOp.subi (IntOp.divsi ArithUnit.host (BitVec.ofNat 32 (u.val * 128 + v.val)) 64#32) 1#32)
      (IntOp.divsi ArithUnit.host (BitVec.ofNat 32 (u.val * 128 + v.val)) 64#32) = BitVec.ofNat 32 ((u.val * 128 + v.val) / 64) := by
  decide +kernel

theorem chunkOf_at (n : Fin 16384) : chunkOf (ix1 n) = BitVec.ofNat 32 (n.val / 64) := by
  have e := chunk_word ⟨n.val / 128, by omega⟩ ⟨n.val % 128, by omega⟩
  have hn : n.val / 128 * 128 + n.val % 128 = n.val := by omega
  simp only [hn] at e
  pointwise [chunkOf]
  exact e

theorem chunk_le : ∀ a b : Fin 256, IntOp.cmpi .sle (BitVec.ofNat 32 a.val) (BitVec.ofNat 32 b.val) = if a.val ≤ b.val then 1#1 else 0#1 := by
  decide +kernel

/-- A query sees the keys of no later chunk. -/
theorem visible_at (x y : Fin 16384) : visible (ix2 x y) = if y.val / 64 ≤ x.val / 64 then 1#1 else 0#1 := by
  have e : visible (ix2 x y) = IntOp.cmpi .sle (chunkOf (ix1 y)) (chunkOf (ix1 x)) := by pointwise [visible]
  rw [e, chunkOf_at, chunkOf_at]
  exact chunk_le ⟨y.val / 64, by omega⟩ ⟨x.val / 64, by omega⟩

/-- The masked scores of real queries and keys. -/
theorem scores_at {q k : FVec Ideal S32768x512 .bf16} (hq : Finite q) (hk : Finite k) (b : Fin 2) (h : Fin 4) (c : Fin 2) (x y : Fin 16384) :
    scores q k (ix5 b h c x y) = seen q k b h c x y := by
  have e : scores q k (ix5 b h c x y) = Scalar.select (visible (ix2 x y))
      (∑ e : Fin 64, q (ix2 ⟨b.val * 16384 + x.val, by omega⟩ ⟨h.val * 128 + c.val * 64 + e.val, by omega⟩)
        * k (ix2 ⟨b.val * 16384 + y.val, by omega⟩ ⟨h.val * 128 + c.val * 64 + e.val, by omega⟩)) (Ideal.ofBits .f32 0xFF800000#32) := by
    pointwise [scores]
    rfl
  rw [e, visible_at, ofBits_bot]
  unfold seen
  split
  · unfold score
    rw [coe_sum]
    refine Eq.trans (b := ∑ e : Fin 64, q (ix2 ⟨b.val * 16384 + x.val, by omega⟩ ⟨h.val * 128 + c.val * 64 + e.val, by omega⟩)
        * k (ix2 ⟨b.val * 16384 + y.val, by omega⟩ ⟨h.val * 128 + c.val * 64 + e.val, by omega⟩)) rfl ?_
    refine Finset.sum_congr rfl fun (e : Fin 64) _ => ?_
    rw [coe_at2 hq, coe_at2 hk, EReal.coe_mul]
  · rfl

/-- Every index of the scores is its five coordinates. -/
theorem coords (i : S2x4x2x16384x16384.Idx) :
    ∃ (b : Fin 2) (h : Fin 4) (c : Fin 2) (x y : Fin 16384), (y.val = (i 4).val) ∧ i = ix5 b h c x y := by
  refine ⟨i 0, i 1, i 2, i 3, i 4, rfl, ?_⟩
  funext a
  fin_cases a <;> rfl

theorem reduces : S2x4x2x16384x16384.Reduces [4] S2x4x2x16384 := by decide

/-- A row's maximum is a real: no score is `+∞`, and the row's first key is always seen. -/
theorem rowMax_real {q k : FVec Ideal S32768x512 .bf16} (hq : Finite q) (hk : Finite k) (j : S2x4x2x16384.Idx) :
    ∃ r : ℝ, rowMax (scores q k) j = (r : EReal) := by
  have top : ∀ i, scores q k i ≠ ⊤ := fun i => by
    obtain ⟨b, h, c, x, y, -, e⟩ := coords i
    rw [e, scores_at hq hk]
    exact seen_ne_top _ _ _ _ _ _ _
  have bot : ∀ i, (i 4).val = 0 → scores q k i ≠ ⊥ := fun i hi => by
    obtain ⟨b, h, c, x, y, hy, e⟩ := coords i
    rw [e, scores_at hq hk]
    exact seen_ne_bot (by rw [hy, hi]; omega)
  have e : rowMax (scores q k) j = (Finset.univ : Finset (Fin 16384)).fold max ⊥ (scores q k ∘ reduces.lift j) :=
    (Host.reduce_eq_fold_single (FloatOps.maximumf (F := Ideal) (φ := .f32)) (scores q k) _ _ reduces _ j).trans (by
      rw [show (constant (F := Ideal) S_ .f32 0xFF800000#32) (Shape.Idx.first h_S_) = ⊥ from ofBits_bot]; rfl)
  rw [e]
  refine fold_max_real _ ⊥ (by decide) _ (fun y _ => top _) (.inr ⟨(⟨0, by decide⟩ : Fin 16384), Finset.mem_univ _, bot _ ?_⟩)
  exact reduces.lift_val j (⟨0, by decide⟩ : Fin 16384) 4

/-- Each weight over its row's sum: the key's share of the total weight. -/
theorem normed_at {q k : FVec Ideal S32768x512 .bf16} (hq : Finite q) (hk : Finite k) (b : Fin 2) (h : Fin 4) (c : Fin 2) (x y : Fin 16384) :
    normed (weights (scores q k)) (ix5 b h c x y) = ((wt (seen q k b h c x y) / total q k b h c x 16384 : ℝ) : EReal) := by
  obtain ⟨r, hr⟩ := rowMax_real hq hk (ix4 b h c x)
  have e : ∀ (w : FVec Ideal S2x4x2x16384x16384 .f32), normed w (ix5 b h c x y) = Ideal.div (w (ix5 b h c x y)) (∑ y' : Fin 16384, w (ix5 b h c x y')) := fun w => by
    pointwise [normed]
  have e' : ∀ (s : FVec Ideal S2x4x2x16384x16384 .f32) (m : FVec Ideal S2x4x2x16384 .f32) (y : Fin 16384), expLess s m (ix5 b h c x y)
      = Ideal.exp (s (ix5 b h c x y) - max (Ideal.ofBits .f32 0xFF800000#32) (m (ix4 b h c x))) := fun s m y => by
    pointwise [expLess]
  have w : ∀ y : Fin 16384, weights (scores q k) (ix5 b h c x y) = Ideal.exp (seen q k b h c x y - (r : EReal)) := fun y => by
    unfold weights
    rw [e', hr, scores_at hq hk, ofBits_bot, max_eq_right bot_le]
  have t : ∑ y : Fin 16384, wt (seen q k b h c x y) = total q k b h c x 16384 :=
    Fin.sum_univ_eq_sum_range (fun y => wt (seen q k b h c x y)) 16384
  have p := total_pos q k b h c x 16384 (by decide)
  rw [e, w y, Finset.sum_congr rfl fun y _ => w y, ← t]
  exact div_eq (fun y : Fin 16384 => seen q k b h c x y) (fun y => seen_ne_top _ _ _ _ _ _ _) (by rw [t]; exact p) r y

theorem lam_at (L3 L4 L5 L6 : FVec Ideal S1x64 .f32) (j : S_.Idx) : lam L3 L4 L5 L6 j = Spec.lam L3 L4 L5 L6 := by
  pointwise [lam]
  rfl

/-- The weight of the second attention, of real vectors, is real. -/
theorem lam_real {L3 L4 L5 L6 : FVec Ideal S1x64 .f32} (h3 : Finite L3) (h4 : Finite L4) (h5 : Finite L5) (h6 : Finite L6) :
    ∃ l : ℝ, Spec.lam L3 L4 L5 L6 = (l : EReal) := by
  obtain ⟨u, hu⟩ := sum_finite h3 h4
  obtain ⟨v, hv⟩ := sum_finite h5 h6
  have hc : ∃ z : ℝ, Ideal.ofBits .f32 0x3E4CCCCD#32 = (z : EReal) := ⟨_, by
    simp [Ideal.ofBits, Ideal.ieee, -EReal.coe_mul]; rfl⟩
  obtain ⟨z, hz⟩ := hc
  refine ⟨Real.exp u - Real.exp v + z, ?_⟩
  unfold Spec.lam
  rw [hu, hv, hz, EReal.coe_add, EReal.coe_sub]
  rfl

/-- The difference of the two attentions. -/
theorem attended_at {q k v : FVec Ideal S32768x512 .bf16} (hq : Finite q) (hk : Finite k) (hv : Finite v)
    {l : FVec Ideal S_ .f32} {r : ℝ} (hl : l ix0 = (r : EReal)) (b : Fin 2) (x : Fin 16384) (h : Fin 4) (d : Fin 128) :
    attended v (normed (weights (scores q k))) l (ix4 b x h d) = diff q k v (r : EReal) b h x d := by
  have e : ∀ p, attended v p l (ix4 b x h d) = ∑ y : Fin 16384, v (ix2 ⟨b.val * 16384 + y.val, by omega⟩ ⟨h.val * 128 + d.val, by omega⟩)
      * (p (ix5 b h 0 x y) - l ix0 * p (ix5 b h 1 x y)) := fun p => by
    pointwise [attended]
  have w : ∀ c : ℕ, ∑ y : Fin 16384, wt (seen q k b h c x y) * at2 v (b.val * 16384 + y.val) (h.val * 128 + d.val) = weighted q k v b h c x d 16384 := fun c =>
    Fin.sum_univ_eq_sum_range (fun y => wt (seen q k b h c x y) * at2 v (b.val * 16384 + y) (h.val * 128 + d.val)) 16384
  rw [e]
  unfold diff attn
  rw [← w 0, ← w 1, ← combine]
  refine Finset.sum_congr rfl fun y _ => ?_
  rw [coe_at2 hv, normed_at hq hk, normed_at hq hk, hl]
  rfl

/-- A column of the result is a head and a column of the head. -/
theorem scaled_at (o : FVec Ideal S2x16384x4x128 .f32) (g : FVec Ideal S1x128 .f32) (b : Fin 2) (x : Fin 16384) (n : Fin 512)
    (w : Fin 128 → EReal) (hw : ∀ d, o (ix4 b x ⟨n.val / 128, by omega⟩ d) = w d) :
    scaled o g (ix3 b x n)
      = w ⟨n.val % 128, by omega⟩ * Ideal.rsqrt (Ideal.div (∑ d', w d' * w d') (Ideal.ofBits .f32 0x43000000#32) + Ideal.ofBits .f32 0x358637BD#32)
        * g (ix2 0 ⟨n.val % 128, by omega⟩) * Ideal.ofBits .f32 0x3F4CCCCD#32 := by
  pointwise [scaled]
  simp only [hw]

/-- The reference's result, of real queries, keys, values and weight vectors. -/
theorem res_at (m : (ℓ : Loc nD τ sig) → Buf (Elt Ideal) ℓ) (c : Dev nD)
    {q k v : FVec Ideal S32768x512 .bf16} {L3 L4 L5 L6 : FVec Ideal S1x64 .f32} {g : FVec Ideal S1x128 .f32}
    (e0 : m ((c.tc : Thread nD τ).loc main_arg0) = q) (e1 : m ((c.tc : Thread nD τ).loc main_arg1) = k) (e2 : m ((c.tc : Thread nD τ).loc main_arg2) = v)
    (e3 : m ((c.tc : Thread nD τ).loc main_arg3) = L3) (e4 : m ((c.tc : Thread nD τ).loc main_arg4) = L4)
    (e5 : m ((c.tc : Thread nD τ).loc main_arg5) = L5) (e6 : m ((c.tc : Thread nD τ).loc main_arg6) = L6) (e7 : m ((c.tc : Thread nD τ).loc main_arg7) = g)
    (hq : Finite q) (hk : Finite k) (hv : Finite v) (h3 : Finite L3) (h4 : Finite L4) (h5 : Finite L5) (h6 : Finite L6)
    (b : Fin 2) (x : Fin 16384) (n : Fin 512) :
    Value.res_main_v63 (F := Ideal) m c (ix3 b x n)
      = result q k v (Spec.lam L3 L4 L5 L6) g b x (n.val / 128) ⟨n.val % 128, by omega⟩ := by
  obtain ⟨l, hl⟩ := lam_real h3 h4 h5 h6
  rw [result_eq, e0, e1, e2, e3, e4, e5, e6, e7, hl]
  rw [scaled_at _ g b x n (fun d => diff q k v (l : EReal) b (n.val / 128) x d)
    (fun d => attended_at hq hk hv ((lam_at L3 L4 L5 L6 ix0).trans hl) b x ⟨n.val / 128, by omega⟩ d)]
  rfl

end Cert.Proof.Ref

end
-- ==== Proof.Precond.lean ====
/-
  What the precondition says: the queries, the keys, the values and the four vectors of the second attention's weight
  hold reals only.
-/
module

public import proofs.«01_k».proof.Proof.Gen.Pre_finite
public import proofs.«01_k».proof.Proof.Spec

@[expose] public section

noncomputable section

namespace Cert.Proof.Precond

open Idealize.ShloMosaic Idealize.ShloMosaic.TcCoe Idealize.ShloMosaic.Tactic
open Cert.Pre_finite Cert.Proof.Spec

/-- The two formats' words for infinity. -/
theorem top_f32 : Ideal.ofBits .f32 0x7F800000#32 = ⊤ := by simp [Ideal.ofBits, Ideal.ieee]

theorem top_bf16 : Ideal.ofBits .bf16 0x7F80#16 = ⊤ := by simp [Ideal.ofBits, Ideal.ieee]

/-- Whether a number's absolute value is below infinity, as a bit. -/
def below (x : EReal) : BitVec 1 := BitVec.ofBool (decide (max x (-x) < ⊤))

theorem real_of_below {x : EReal} (h : below x = 1#1) : x ≠ ⊤ ∧ x ≠ ⊥ := by
  have h' : max x (-x) < ⊤ := by
    by_contra hn
    rw [below, decide_eq_false hn] at h
    exact absurd h (by decide)
  constructor
  · rintro rfl
    exact absurd (lt_of_le_of_lt (le_max_left _ _) h') (lt_irrefl _)
  · rintro rfl
    exact absurd (lt_of_le_of_lt (le_max_right _ _) h') (by rw [EReal.neg_bot]; exact lt_irrefl _)

/-- The mask at a row, one of its eight groups of 64 columns, and a column of the group. -/
theorem fn_at (q k v : FVec Ideal S32768x512 .bf16) (L3 L4 L5 L6 : FVec Ideal S1x64 .f32) (g : FVec Ideal S1x128 .f32)
    (r : Fin 32768) (u : Fin 8) (e : Fin 64) : fn (F := Ideal) q k v L3 L4 L5 L6 g (ix3 r u e)
      = IntOp.andi
          (IntOp.andi (IntOp.andi (below (q (ix2 r ⟨u.val * 64 + e.val, by omega⟩))) (below (k (ix2 r ⟨u.val * 64 + e.val, by omega⟩))))
            (below (v (ix2 r ⟨u.val * 64 + e.val, by omega⟩))))
          (IntOp.andi (IntOp.andi (IntOp.andi (below (L3 (ix2 0 e))) (below (L4 (ix2 0 e)))) (below (L5 (ix2 0 e)))) (below (L6 (ix2 0 e)))) := by
  pointwise [fn, fn_part1]
  rw [top_f32, top_bf16]
  rfl

section

variable {q k v : FVec Ideal S32768x512 .bf16} {L3 L4 L5 L6 : FVec Ideal S1x64 .f32} {g : FVec Ideal S1x128 .f32}

/-- An array of rows is real when each entry, named by its row, group and column, is. -/
theorem finite_rows {X : FVec Ideal S32768x512 .bf16}
    (h : ∀ (r : Fin 32768) (u : Fin 8) (e : Fin 64), below (X (ix2 r ⟨u.val * 64 + e.val, by omega⟩)) = 1#1) : Finite X := fun i => by
  obtain ⟨r, c, rfl⟩ : ∃ (r : Fin 32768) (c : Fin 512), i = ix2 r c := ⟨i 0, i 1, by funext a; fin_cases a <;> rfl⟩
  have hc := h r ⟨c.val / 64, by omega⟩ ⟨c.val % 64, by omega⟩
  have e : c.val / 64 * 64 + c.val % 64 = c.val := by omega
  simp only [e] at hc
  exact real_of_below hc

theorem finite_lane {X : FVec Ideal S1x64 .f32} (h : ∀ e : Fin 64, below (X (ix2 0 e)) = 1#1) : Finite X := fun i => by
  obtain ⟨r, c, rfl⟩ : ∃ (r : Fin 1) (c : Fin 64), i = ix2 r c := ⟨i 0, i 1, by funext a; fin_cases a <;> rfl⟩
  rw [Subsingleton.elim r 0]
  exact real_of_below (h c)

/-- The precondition, read. -/
theorem finite (h : fn (F := Ideal) q k v L3 L4 L5 L6 g = fun _ => 1#1) :
    Finite q ∧ Finite k ∧ Finite v ∧ Finite L3 ∧ Finite L4 ∧ Finite L5 ∧ Finite L6 := by
  have rows : ∀ r u e, _ := fun r u e => IntOp.andi_eq_one.mp ((fn_at q k v L3 L4 L5 L6 g r u e).symm.trans (congrFun h (ix3 r u e)))
  have lane := fun e => IntOp.andi_eq_one.mp (rows 0 0 e).2
  have l2 := fun e => IntOp.andi_eq_one.mp (lane e).1
  have l3 := fun e => IntOp.andi_eq_one.mp (l2 e).1
  have r2 := fun r u e => IntOp.andi_eq_one.mp (rows r u e).1
  have r3 := fun r u e => IntOp.andi_eq_one.mp (r2 r u e).1
  exact ⟨finite_rows fun r u e => (r3 r u e).1, finite_rows fun r u e => (r3 r u e).2, finite_rows fun r u e => (r2 r u e).2,
    finite_lane fun e => (l3 e).1, finite_lane fun e => (l3 e).2, finite_lane fun e => (l2 e).2, finite_lane fun e => (lane e).2⟩

end

end Cert.Proof.Precond

end
-- ==== Proof.Norm.lean ====
/-
  A row divided by its root mean square and scaled, and its products with the columns of a matrix.
-/
module

public import Idealize.ShloMosaic.Lib.Pointwise

@[expose] public section

noncomputable section

namespace Cert.Proof.Norm

open Idealize.ShloMosaic

/-- One entry of a row of 1024, divided by the row's root mean square, times a gain. -/
def norm (x g : Fin 1024 → EReal) (e : Fin 1024) : EReal :=
  x e * Ideal.rsqrt (Ideal.div (∑ e', x e' * x e') (Ideal.ofBits .f32 0x44800000#32) + Ideal.ofBits .f32 0x358637BD#32) * g e

/-- The product of a row so normed with a column of a matrix. -/
def proj (x g w : Fin 1024 → EReal) : EReal := ∑ e, norm x g e * w e

theorem norm_congr {x x' g g' : Fin 1024 → EReal} (hx : ∀ e, x e = x' e) (hg : ∀ e, g e = g' e) (e : Fin 1024) : norm x g e = norm x' g' e := by
  rw [funext hx, funext hg]

theorem proj_congr {x x' g g' w w' : Fin 1024 → EReal} (hx : ∀ e, x e = x' e) (hg : ∀ e, g e = g' e) (hw : ∀ e, w e = w' e) :
    proj x g w = proj x' g' w' := by
  rw [funext hx, funext hg, funext hw]

end Cert.Proof.Norm

end
-- ==== Proof.Turn.lean ====
/-
  The rotation by position. A row of 512 lanes is eight heads of 64; in each head the lanes 0 to 7 and 8 to 15 turn by the
  position's angles and the other lanes stay. One program turns by three tables and two lane rotations within groups of 128,
  the other by halves of a head; both are `turn`.
-/
module

public import Idealize.ShloMosaic.Lib.Pipeline.ValueKit
public import proofs.«01_k».proof.Proof.Norm

@[expose] public section

noncomputable section

namespace Cert.Proof.Turn

open Idealize.ShloMosaic

/-- The angle of frequency `f` at position `p`. -/
def angle (p f : ℕ) : EReal :=
  FloatOps.sitofp (F := Ideal) FTy.f32 (BitVec.ofNat 32 p)
    * Ideal.div 1 (Ideal.pow (Ideal.ofBits .f32 0x48F42400#32)
        (Ideal.div (FloatOps.sitofp (F := Ideal) FTy.f32 (BitVec.ofNat 32 f)) (Ideal.ofBits .f32 0x41000000#32)))

/-- A row of 512 lanes, turned by the angles of position `p`. -/
def turn (u : Fin 512 → EReal) (p : ℕ) (n : Fin 512) : EReal :=
  if h : n.val % 64 < 8 then
    u n * Ideal.cos (angle p (n.val % 64)) - u ⟨n.val + 8, by omega⟩ * Ideal.sin (angle p (n.val % 64))
  else if h' : n.val % 64 - 8 < 8 then
    u n * Ideal.cos (angle p (n.val % 64 - 8)) + u ⟨n.val - 8, by omega⟩ * Ideal.sin (angle p (n.val % 64 - 8))
  else u n

/-- The table of cosines by lane, -/
def cosines (p : ℕ) (l : Fin 128) : EReal :=
  if l.val % 64 < 8 then Ideal.cos (angle p (l.val % 64))
  else if l.val % 64 - 8 < 8 then Ideal.cos (angle p (l.val % 64 - 8)) else 1

/-- of the sines that go up by eight lanes, -/
def rising (p : ℕ) (l : Fin 128) : EReal :=
  if l.val % 64 < 8 then 0
  else if l.val % 64 - 8 < 8 then Ideal.sin (angle p (l.val % 64 - 8)) else 0

/-- and of the negated sines that go down by eight. -/
def falling (p : ℕ) (l : Fin 128) : EReal :=
  if l.val % 64 < 8 then -Ideal.sin (angle p (l.val % 64)) else 0

/-- The lane `k` places before lane `n` in the cycle of `n`'s group of 128. -/
def back (k : ℕ) (n : Fin 512) : Fin 512 := ⟨128 * (n.val / 128) + (n.val % 128 + 128 - k) % 128, by omega⟩

/-- The lane within its group of 128. -/
def lane (n : Fin 512) : Fin 128 := ⟨n.val % 128, by omega⟩

/-- A row by the three tables. -/
def spun (u : Fin 512 → EReal) (c s t : Fin 128 → EReal) (n : Fin 512) : EReal :=
  u n * c (lane n) + u (back 8 n) * s (lane n) + u (back 120 n) * t (lane n)

theorem spun_congr {u u' : Fin 512 → EReal} {c c' s s' t t' : Fin 128 → EReal} (hu : ∀ n, u n = u' n) (hc : ∀ l, c l = c' l)
    (hs : ∀ l, s l = s' l) (ht : ∀ l, t l = t' l) (n : Fin 512) : spun u c s t n = spun u' c' s' t' n := by
  rw [funext hu, funext hc, funext hs, funext ht]

/-- The three tables turn a row. -/
theorem spun_eq (u : Fin 512 → EReal) (p : ℕ) (n : Fin 512) : spun u (cosines p) (rising p) (falling p) n = turn u p n := by
  have hl : n.val % 128 % 64 = n.val % 64 := by omega
  unfold spun turn cosines rising falling lane
  dsimp only
  rw [hl]
  by_cases h : n.val % 64 < 8
  · have e : back 120 n = ⟨n.val + 8, by omega⟩ := Fin.ext (by unfold back; dsimp only; omega)
    rw [if_pos h, if_pos h, if_pos h, dif_pos h, e, mul_zero, add_zero, mul_neg, sub_eq_add_neg]
  · rw [if_neg h, if_neg h, if_neg h, dif_neg h, mul_zero, add_zero]
    by_cases h' : n.val % 64 - 8 < 8
    · have e : back 8 n = ⟨n.val - 8, by omega⟩ := Fin.ext (by unfold back; dsimp only; omega)
      rw [if_pos h', if_pos h', dif_pos h', e]
    · rw [if_neg h', if_neg h', dif_neg h', mul_zero, add_zero, mul_one]

/-- A row by the three tables, with the lanes named by their places. -/
theorem spun_of {u : Fin 512 → EReal} {c s t : Fin 128 → EReal} {n a b d : Fin 512} {l : Fin 128} (hl : l.val = n.val % 128)
    (ha : a.val = n.val) (hb : b.val = 128 * (n.val / 128) + (n.val % 128 + 128 - 8) % 128)
    (hd : d.val = 128 * (n.val / 128) + (n.val % 128 + 128 - 120) % 128) :
    u a * c l + u b * s l + u d * t l = spun u c s t n := by
  obtain rfl : l = lane n := Fin.ext hl
  obtain rfl : a = n := Fin.ext ha
  obtain rfl : b = back 8 a := Fin.ext hb
  obtain rfl : d = back 120 a := Fin.ext hd
  rfl

/-- Group by group of 128 lanes. -/
theorem groups (u : Fin 512 → EReal) (c s t : Fin 128 → EReal) (n : Fin 512) :
    (if h : n.val < 128 then
        u n * c ⟨n.val, h⟩ + u ⟨(n.val + 128 - 8) % 128, by omega⟩ * s ⟨n.val, h⟩ + u ⟨(n.val + 128 - 120) % 128, by omega⟩ * t ⟨n.val, h⟩
      else if h' : n.val - 128 < 128 then
        u ⟨128 + (n.val - 128), by omega⟩ * c ⟨n.val - 128, h'⟩ + u ⟨128 + (n.val - 128 + 128 - 8) % 128, by omega⟩ * s ⟨n.val - 128, h'⟩
          + u ⟨128 + (n.val - 128 + 128 - 120) % 128, by omega⟩ * t ⟨n.val - 128, h'⟩
      else if h'' : n.val - 128 - 128 < 128 then
        u ⟨256 + (n.val - 128 - 128), by omega⟩ * c ⟨n.val - 128 - 128, h''⟩
          + u ⟨256 + (n.val - 128 - 128 + 128 - 8) % 128, by omega⟩ * s ⟨n.val - 128 - 128, h''⟩
          + u ⟨256 + (n.val - 128 - 128 + 128 - 120) % 128, by omega⟩ * t ⟨n.val - 128 - 128, h''⟩
      else
        u ⟨384 + (n.val - 128 - 128 - 128), by omega⟩ * c ⟨n.val - 128 - 128 - 128, by omega⟩
          + u ⟨384 + (n.val - 128 - 128 - 128 + 128 - 8) % 128, by omega⟩ * s ⟨n.val - 128 - 128 - 128, by omega⟩
          + u ⟨384 + (n.val - 128 - 128 - 128 + 128 - 120) % 128, by omega⟩ * t ⟨n.val - 128 - 128 - 128, by omega⟩)
      = spun u c s t n := by
  have hn := n.isLt
  by_cases h : n.val < 128
  · rw [dif_pos h]
    exact spun_of (by dsimp only; omega) rfl (by dsimp only; omega) (by dsimp only; omega)
  · rw [dif_neg h]
    by_cases h' : n.val - 128 < 128
    · rw [dif_pos h']
      exact spun_of (by dsimp only; omega) (by dsimp only; omega) (by dsimp only; omega) (by dsimp only; omega)
    · rw [dif_neg h']
      by_cases h'' : n.val - 128 - 128 < 128
      · rw [dif_pos h'']
        exact spun_of (by dsimp only; omega) (by dsimp only; omega) (by dsimp only; omega) (by dsimp only; omega)
      · rw [dif_neg h'']
        exact spun_of (by dsimp only; omega) (by dsimp only; omega) (by dsimp only; omega) (by dsimp only; omega)

end Cert.Proof.Turn

end
-- ==== Proof.Project.lean ====
/-
  The projections of the prompt: rows of tokens, normed, times the matrix, cut into the gate, the scan's input, the step
  sizes, the queries, the keys and the values, the queries and keys turned by position. Kernel and reference, entry by entry.
-/
module

public import proofs.«01_k».proof.Proof.Gen.Kernel2Ideal.Value
public import proofs.«01_k».proof.Proof.Gen.Reference2Ideal.Run
public import proofs.«01_k».proof.Proof.Norm
public import proofs.«01_k».proof.Proof.Turn
public import Idealize.ShloMosaic.Lib.Pipeline.ValueKit
public import Idealize.ShloMosaic.Lib.StableHlo.ReadAt

@[expose] public section

set_option maxRecDepth 16384

noncomputable section

namespace Cert.Proof.Project

open Idealize.ShloMosaic Idealize.ShloMosaic.TcCoe Idealize.ShloMosaic.Tactic
open Idealize.SL.Sem
open Idealize.ShloMosaic.Pipeline (Dat)
open Cert.Proof.Norm Cert.Proof.Turn

abbrev Toks := (⟨3, ![2, 16384, 1024]⟩ : Shape).Idx → EReal
abbrev Gain := (⟨2, ![1, 1024]⟩ : Shape).Idx → EReal
abbrev Wide := (⟨3, ![1, 1024, 3080]⟩ : Shape).Idx → EReal
abbrev Out (C : ℕ) := (⟨2, ![32768, C]⟩ : Shape).Idx → EReal

/-- Column `n` of row `r`: the row of tokens, normed, times the matrix. -/
def entry (X : Toks) (g : Gain) (W : Wide) (r : Fin 32768) (n : Fin 3080) : EReal :=
  proj (fun e => X (ix3 ⟨r.val / 16384, by omega⟩ ⟨r.val % 16384, Nat.mod_lt _ (by decide)⟩ e)) (fun e => g (ix2 0 e)) (fun e => W (ix3 0 e n))

/-- The columns from `base` on, -/
def part (base C : ℕ) (hb : base + C ≤ 3080) (X : Toks) (g : Gain) (W : Wide) (r : Fin 32768) (n : Fin C) : EReal :=
  entry X g W r ⟨base + n.val, by omega⟩

/-- turned by position. -/
def turned (base : ℕ) (hb : base + 512 ≤ 3080) (X : Toks) (g : Gain) (W : Wide) (r : Fin 32768) (n : Fin 512) : EReal :=
  turn (part base 512 hb X g W r) (r.val % 16384) n

/-- An array from its entries. -/
def arr {C : ℕ} (f : Fin 32768 → Fin C → EReal) : Out C := fun i => f (i 0) (i 1)

/-- The eight results: the gate, -/
def zs (X : Toks) (g : Gain) (W : Wide) : Out 512 := arr (part 0 512 (by decide) X g W)
/-- the scan's input, -/
def xbcs (X : Toks) (g : Gain) (W : Wide) : Out 1024 := arr (part 512 1024 (by decide) X g W)
/-- the eight step sizes, filled up with zeros, -/
def dts (X : Toks) (g : Gain) (W : Wide) : Out 128 :=
  arr fun r n => if h : n.val < 8 then part 1536 8 (by decide) X g W r ⟨n.val, h⟩ else 0
theorem dts_at (X : Toks) (g : Gain) (W : Wide) (r : Fin 32768) (n : Fin 128) :
    dts X g W (ix2 r n) = if h : n.val < 8 then part 1536 8 (by decide) X g W r ⟨n.val, h⟩ else 0 := rfl

/-- the queries, turned and scaled, -/
def qs (X : Toks) (g : Gain) (W : Wide) : Out 512 :=
  arr fun r n => turned 1544 (by decide) X g W r n * Ideal.ofBits .f32 0x3E000000#32
/-- the keys, turned, -/
def ks (X : Toks) (g : Gain) (W : Wide) : Out 512 := arr (turned 2056 (by decide) X g W)
/-- and the values. -/
def vs (X : Toks) (g : Gain) (W : Wide) : Out 512 := arr (part 2568 512 (by decide) X g W)

section payload

open Cert.Kernel2Ideal Cert.Kernel2Ideal.Gen

variable (x : FVec Ideal S512x1024 .f32) (g : FVec Ideal S1x1024 .f32) (h : FVec Ideal S512x1024 .bf16) (c s t : FVec Ideal S512x128 .f32)
  (w : FVec Ideal S1024x512 .bf16)

/-- What a grid point computes, entry by entry: the normed rows, -/
theorem pay_rows (r : Fin 512) (e : Fin 1024) :
    k0_pay3 (F := Ideal) x g (ix2 r e) = norm (fun e => x (ix2 r e)) (fun e => g (ix2 0 e)) e := by
  pointwise [k0_pay3]
  rfl

/-- their products, -/
theorem pay_z (r n : Fin 512) :
    k0_pay4 (F := Ideal) x g w (ix2 r n) = proj (fun e => x (ix2 r e)) (fun e => g (ix2 0 e)) (fun e => w (ix2 e n)) := by
  pointwise [k0_pay4, k0_pay3]
  rfl

theorem pay_xbc (w : FVec Ideal S1024x1024 .bf16) (r : Fin 512) (n : Fin 1024) :
    k0_pay5 (F := Ideal) x g w (ix2 r n) = proj (fun e => x (ix2 r e)) (fun e => g (ix2 0 e)) (fun e => w (ix2 e n)) := by
  pointwise [k0_pay5, k0_pay3]
  rfl

theorem pay_dt (w : FVec Ideal S1024x128 .bf16) (r : Fin 512) (n : Fin 128) :
    k0_pay6 (F := Ideal) x g w (ix2 r n) = proj (fun e => x (ix2 r e)) (fun e => g (ix2 0 e)) (fun e => w (ix2 e n)) := by
  pointwise [k0_pay6, k0_pay3]
  rfl

theorem pay_v (r n : Fin 512) : k0_pay1 (F := Ideal) h w (ix2 r n) = ∑ e, h (ix2 r e) * w (ix2 e n) := by
  pointwise [k0_pay1]

/-- and the turned products. -/
theorem pay_k (r n : Fin 512) :
    k0_pay11 (F := Ideal) h c s t w (ix2 r n)
      = spun (fun n => ∑ e, h (ix2 r e) * w (ix2 e n)) (fun l => c (ix2 r l)) (fun l => s (ix2 r l)) (fun l => t (ix2 r l)) n := by
  pointwise [k0_pay11]
  exact groups (fun n => ∑ e, h (ix2 r e) * w (ix2 e n)) (fun l => c (ix2 r l)) (fun l => s (ix2 r l)) (fun l => t (ix2 r l)) n

theorem pay_table : k0_pay7 (F := Ideal) c = c := by unfold k0_pay7; exact shapeCast_id c _
theorem pay_table' : k0_pay8 (F := Ideal) c = c := by unfold k0_pay8; exact shapeCast_id c _
theorem pay_table'' : k0_pay9 (F := Ideal) c = c := by unfold k0_pay9; exact shapeCast_id c _

theorem pay_q (r n : Fin 512) :
    k0_pay10 (F := Ideal) h c s t w (ix2 r n) = k0_pay11 (F := Ideal) h c s t w (ix2 r n) * Ideal.ofBits .f32 0x3E000000#32 := by
  have e : k0_pay10 (F := Ideal) h c s t w (ix2 r n)
      = k0_pay11 (F := Ideal) h c (k0_pay8 s) (k0_pay9 t) w (ix2 r n) * Ideal.ofBits .f32 0x3E000000#32 := rfl
  rw [e, pay_table', pay_table'']

end payload

section kernel

open Cert.Kernel2Ideal Cert.Kernel2Ideal.Gen Cert.Kernel2Ideal.Value

variable (m : (ℓ : Loc nD τ sig) → Buf (Elt Ideal) ℓ) (c : Dev nD)

abbrev argX : Toks := m ((c.tc : Thread nD τ).loc main_arg0)
abbrev argG : Gain := m ((c.tc : Thread nD τ).loc main_arg1)
abbrev argW : Wide := m ((c.tc : Thread nD τ).loc main_arg2)

/-- The arrays as the grid finds them: the rows, the gain, -/
theorem rows_at (r : Fin 32768) (e : Fin 1024) :
    V m c main_v42 (ix2 r e) = argX m c (ix3 ⟨r.val / 16384, by omega⟩ ⟨r.val % 16384, Nat.mod_lt _ (by decide)⟩ e) := by
  unfold V
  after_reads_at

theorem gain_at (e : Fin 1024) : V m c main_v44 (ix2 0 e) = argG m c (ix2 0 e) := by
  unfold V
  after_reads_at

/-- the matrix's columns, -/
theorem wz_at (e : Fin 1024) (n : Fin 512) : V m c main_v2 (ix2 e n) = argW m c (ix3 0 e ⟨0 + n.val, by omega⟩) := by
  unfold V
  after_reads_at

theorem wx_at (e : Fin 1024) (n : Fin 1024) : V m c main_v3 (ix2 e n) = argW m c (ix3 0 e ⟨512 + n.val, by omega⟩) := by
  unfold V
  after_reads_at

theorem wd_at (e : Fin 1024) (n : Fin 128) :
    V m c main_v8 (ix2 e n) = if h : n.val < 8 then argW m c (ix3 0 e ⟨1536 + n.val, by omega⟩) else (0 : EReal) := by
  have z : (FloatOps.sitofp (F := Ideal) FTy.bf16 0#32 : EReal) = 0 := by simp [FloatOps.sitofp]
  unfold V
  after_reads_at
  rw [z]

theorem wq_at (e : Fin 1024) (n : Fin 512) : V m c main_v5 (ix2 e n) = argW m c (ix3 0 e ⟨1544 + n.val, by omega⟩) := by
  unfold V
  after_reads_at

theorem wk_at (e : Fin 1024) (n : Fin 512) : V m c main_v6 (ix2 e n) = argW m c (ix3 0 e ⟨2056 + n.val, by omega⟩) := by
  unfold V
  after_reads_at

theorem wv_at (e : Fin 1024) (n : Fin 512) : V m c main_v7 (ix2 e n) = argW m c (ix3 0 e ⟨2568 + n.val, by omega⟩) := by
  unfold V
  after_reads_at

/-- and the three tables. -/
theorem cosines_at (p : Fin 16384) (l : Fin 128) : V m c main_v32 (ix2 p l) = cosines p.val l := by
  unfold V cosines
  after_reads_at
  by_cases h : l.val % 64 < 8
  · simp only [dif_pos h, if_pos h]
    after_reads_at
    rfl
  · simp only [dif_neg h, if_neg h]
    by_cases h' : l.val % 64 - 8 < 8
    · simp only [dif_pos h', if_pos h']
      after_reads_at
      rfl
    · simp only [dif_neg h', if_neg h']
      after_reads_at

theorem rising_at (p : Fin 16384) (l : Fin 128) : V m c main_v36 (ix2 p l) = rising p.val l := by
  unfold V rising
  after_reads_at
  by_cases h : l.val % 64 < 8
  · simp only [dif_pos h, if_pos h]
    after_reads_at
  · simp only [dif_neg h, if_neg h]
    by_cases h' : l.val % 64 - 8 < 8
    · simp only [dif_pos h', if_pos h']
      after_reads_at
      rfl
    · simp only [dif_neg h', if_neg h']
      after_reads_at

theorem falling_at (p : Fin 16384) (l : Fin 128) : V m c main_v41 (ix2 p l) = falling p.val l := by
  unfold V falling
  after_reads_at
  by_cases h : l.val % 64 < 8
  · simp only [dif_pos h, if_pos h]
    after_reads_at
    rfl
  · simp only [dif_neg h, if_neg h]
    by_cases h' : l.val % 64 - 8 < 8
    · simp only [dif_pos h']
      after_reads_at
    · simp only [dif_neg h']
      after_reads_at

/-- Where each window's block lies at a point. -/
theorem places : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val % 32 ∧ win0_8.index t 1 = 0) ∧ (win0_9.index t 0 = t.val % 32 ∧ win0_9.index t 1 = 0)
    ∧ (win0_10.index t 0 = t.val % 32 ∧ win0_10.index t 1 = 0) := by decide +kernel

/-- Where the outputs' blocks lie at a point. -/
theorem spots : ∀ t : Fin grid0.N,
    (win0_11.index t 0 = t.val ∧ win0_11.index t 1 = 0) ∧ (win0_12.index t 0 = t.val ∧ win0_12.index t 1 = 0)
    ∧ (win0_13.index t 0 = t.val ∧ win0_13.index t 1 = 0) ∧ (win0_14.index t 0 = t.val ∧ win0_14.index t 1 = 0)
    ∧ (win0_15.index t 0 = t.val ∧ win0_15.index t 1 = 0) ∧ (win0_16.index t 0 = t.val ∧ win0_16.index t 1 = 0)
    ∧ (win0_17.index t 0 = t.val ∧ win0_17.index t 1 = 0) ∧ (win0_18.index t 0 = t.val ∧ win0_18.index t 1 = 0) := by decide +kernel

theorem point_lt (t : Fin cfg0.N) : t.val < 64 := t.isLt

/-- The row of the array that is row `r` of point `t`'s block. -/
def row (t : Fin cfg0.N) (r : Fin 512) : Fin 32768 := ⟨512 * t.val + r.val, by have := point_lt t; omega⟩

/-- The position that is row `r` of point `t`'s block of the tables. -/
def position (t : Fin cfg0.N) (r : Fin 512) : Fin 16384 := ⟨512 * (t.val % 32) + r.val, by omega⟩

theorem position_eq (t : Fin cfg0.N) (r : Fin 512) : (row t r).val % 16384 = (position t r).val := by
  unfold row position; dsimp only; omega

/-- The blocks a point reads. -/
theorem block_x (t : Fin cfg0.N) (r : Fin 512) (e : Fin 1024) : iblk m c 0 t (ix2 r e) = V m c main_v42 (ix2 (row t r) e) := by
  unfold row
  blk_ext [iblk, places t]

theorem block_g (t : Fin cfg0.N) (e : Fin 1024) : iblk m c 1 t (ix2 0 e) = V m c main_v44 (ix2 0 e) := by
  blk_ext [iblk, places t]

theorem block_2 (t : Fin cfg0.N) (e : Fin 1024) (n : Fin 512) : iblk m c 2 t (ix2 e n) = V m c main_v2 (ix2 e n) := by
  blk_ext [iblk, places t]

theorem block_3 (t : Fin cfg0.N) (e : Fin 1024) (n : Fin 1024) : iblk m c 3 t (ix2 e n) = V m c main_v3 (ix2 e n) := by
  blk_ext [iblk, places t]

theorem block_4 (t : Fin cfg0.N) (e : Fin 1024) (n : Fin 128) : iblk m c 4 t (ix2 e n) = V m c main_v8 (ix2 e n) := by
  blk_ext [iblk, places t]

theorem block_5 (t : Fin cfg0.N) (e : Fin 1024) (n : Fin 512) : iblk m c 5 t (ix2 e n) = V m c main_v5 (ix2 e n) := by
  blk_ext [iblk, places t]

theorem block_6 (t : Fin cfg0.N) (e : Fin 1024) (n : Fin 512) : iblk m c 6 t (ix2 e n) = V m c main_v6 (ix2 e n) := by
  blk_ext [iblk, places t]

theorem block_7 (t : Fin cfg0.N) (e : Fin 1024) (n : Fin 512) : iblk m c 7 t (ix2 e n) = V m c main_v7 (ix2 e n) := by
  blk_ext [iblk, places t]

theorem block_8 (t : Fin cfg0.N) (r : Fin 512) (l : Fin 128) : iblk m c 8 t (ix2 r l) = V m c main_v32 (ix2 (position t r) l) := by
  unfold position
  blk_ext [iblk, places t]

theorem block_9 (t : Fin cfg0.N) (r : Fin 512) (l : Fin 128) : iblk m c 9 t (ix2 r l) = V m c main_v36 (ix2 (position t r) l) := by
  unfold position
  blk_ext [iblk, places t]

theorem block_10 (t : Fin cfg0.N) (r : Fin 512) (l : Fin 128) : iblk m c 10 t (ix2 r l) = V m c main_v41 (ix2 (position t r) l) := by
  unfold position
  blk_ext [iblk, places t]

/-- A product of a point's rows with columns that are the matrix's from `base` on. -/
theorem proj_block (t : Fin cfg0.N) (r : Fin 512) {base C : ℕ} (hb : base + C ≤ 3080) (n : Fin C) {w : Fin 1024 → EReal}
    (hw : ∀ e, w e = argW m c (ix3 0 e ⟨base + n.val, by omega⟩)) :
    proj (fun e => iblk m c 0 t (ix2 r e)) (fun e => iblk m c 1 t (ix2 0 e)) w
      = part base C hb (argX m c) (argG m c) (argW m c) (row t r) n :=
  proj_congr (fun e => (block_x m c t r e).trans (rows_at m c _ e)) (fun e => (block_g m c t e).trans (gain_at m c e)) hw

/-- The same, from the normed rows. -/
theorem sum_block (t : Fin cfg0.N) (r : Fin 512) {base C : ℕ} (hb : base + C ≤ 3080) (n : Fin C) {w : Fin 1024 → EReal}
    (hw : ∀ e, w e = argW m c (ix3 0 e ⟨base + n.val, by omega⟩)) :
    (∑ e, k0_pay3 (F := Ideal) (iblk m c 0 t) (iblk m c 1 t) (ix2 r e) * w e)
      = part base C hb (argX m c) (argG m c) (argW m c) (row t r) n := by
  refine Eq.trans ?_ (proj_block m c t r hb n hw)
  exact Finset.sum_congr rfl fun e _ => congrArg (· * w e) (pay_rows (iblk m c 0 t) (iblk m c 1 t) r e)

/-- The turned product of a point's rows. -/
theorem turned_block (t : Fin cfg0.N) (r n : Fin 512) {base : ℕ} (hb : base + 512 ≤ 3080) (w : FVec Ideal S1024x512 .bf16)
    (hw : ∀ (e : Fin 1024) (n : Fin 512), w (ix2 e n) = argW m c (ix3 0 e ⟨base + n.val, by omega⟩)) :
    k0_pay11 (F := Ideal) (k0_pay3 (F := Ideal) (iblk m c 0 t) (iblk m c 1 t)) (iblk m c 8 t) (iblk m c 9 t) (iblk m c 10 t) w (ix2 r n)
      = turned base hb (argX m c) (argG m c) (argW m c) (row t r) n := by
  refine (pay_k _ _ _ _ w r n).trans ?_
  unfold turned
  rw [position_eq]
  refine Eq.trans ?_ (spun_eq _ _ n)
  exact spun_congr (fun n => sum_block m c t r hb n fun e => hw e n) (fun l => (block_8 m c t r l).trans (cosines_at m c _ l))
    (fun l => (block_9 m c t r l).trans (rising_at m c _ l)) (fun l => (block_10 m c t r l).trans (falling_at m c _ l)) n

/-- The step sizes: the columns past the eighth are zero. -/
theorem dt_block (t : Fin cfg0.N) (r : Fin 512) (n : Fin 128) :
    k0_pay6 (F := Ideal) (iblk m c 0 t) (iblk m c 1 t) (iblk m c 4 t) (ix2 r n)
      = dts (argX m c) (argG m c) (argW m c) (ix2 (row t r) n) := by
  refine (pay_dt (iblk m c 0 t) (iblk m c 1 t) (iblk m c 4 t) r n).trans ?_
  rw [dts_at]
  by_cases h : n.val < 8
  · rw [dif_pos h]
    exact proj_block m c t r (by decide) ⟨n.val, h⟩ fun e => ((block_4 m c t e n).trans (wd_at m c e n)).trans (dif_pos h)
  · rw [dif_neg h]
    exact Finset.sum_eq_zero fun e _ => (congrArg (_ * ·) (((block_4 m c t e n).trans (wd_at m c e n)).trans (dif_neg h))).trans (mul_zero _)

section outputs

variable (x0 : FVec Ideal S512x1024 .f32) (x1 : FVec Ideal S1x1024 .f32) (x2 : FVec Ideal S1024x512 .bf16) (x3 : FVec Ideal S1024x1024 .bf16) (x4 : FVec Ideal S1024x128 .bf16)
  (x5 x6 x7 : FVec Ideal S1024x512 .bf16) (x8 x9 x10 : FVec Ideal S512x128 .f32)

/-- What the body leaves in each output's block. -/
theorem out_z : out0_11 (F := Ideal) x0 x1 x2 x3 x4 x5 x6 x7 x8 x9 x10 = k0_pay4 (F := Ideal) x0 x1 x2 := by
  unfold out0_11
  rw [View.canon_unit_zero (by decide), View.ld_unit_zero (by decide), View.ld_unit_zero (by decide), View.ld_unit_zero (by decide)]

theorem out_xbc : out0_12 (F := Ideal) x0 x1 x2 x3 x4 x5 x6 x7 x8 x9 x10 = k0_pay5 (F := Ideal) x0 x1 x3 := by
  unfold out0_12
  rw [View.canon_unit_zero (by decide), View.ld_unit_zero (by decide), View.ld_unit_zero (by decide), View.ld_unit_zero (by decide)]

theorem out_dt : out0_13 (F := Ideal) x0 x1 x2 x3 x4 x5 x6 x7 x8 x9 x10 = k0_pay6 (F := Ideal) x0 x1 x4 := by
  unfold out0_13
  rw [View.canon_unit_zero (by decide), View.ld_unit_zero (by decide), View.ld_unit_zero (by decide), View.ld_unit_zero (by decide)]

theorem out_q : out0_14 (F := Ideal) x0 x1 x2 x3 x4 x5 x6 x7 x8 x9 x10 = k0_pay10 (F := Ideal) (k0_pay3 x0 x1) x8 x9 x10 x5 := by
  unfold out0_14 k0_pay13 k0_pay14
  rw [View.canon_unit_zero (by decide), View.ld_unit_zero (by decide), View.ld_unit_zero (by decide), View.ld_unit_zero (by decide), View.ld_unit_zero (by decide), View.ld_unit_zero (by decide), View.ld_unit_zero (by decide), pay_table]

theorem out_k : out0_15 (F := Ideal) x0 x1 x2 x3 x4 x5 x6 x7 x8 x9 x10 = k0_pay11 (F := Ideal) (k0_pay3 x0 x1) x8 x9 x10 x6 := by
  unfold out0_15 k0_pay13 k0_pay14 k0_pay15 k0_pay16
  rw [View.canon_unit_zero (by decide), View.ld_unit_zero (by decide), View.ld_unit_zero (by decide), View.ld_unit_zero (by decide), View.ld_unit_zero (by decide), View.ld_unit_zero (by decide), View.ld_unit_zero (by decide), pay_table, pay_table', pay_table'']

theorem out_v : out0_16 (F := Ideal) x0 x1 x2 x3 x4 x5 x6 x7 x8 x9 x10 = k0_pay1 (F := Ideal) (k0_pay3 x0 x1) x7 := by
  unfold out0_16 k0_pay13
  rw [View.canon_unit_zero (by decide), View.ld_unit_zero (by decide), View.ld_unit_zero (by decide), View.ld_unit_zero (by decide)]

theorem out_kb : out0_17 (F := Ideal) x0 x1 x2 x3 x4 x5 x6 x7 x8 x9 x10 = k0_pay12 (F := Ideal) (k0_pay3 x0 x1) x8 x9 x10 x6 := by
  unfold out0_17 k0_pay13 k0_pay14 k0_pay15 k0_pay16
  rw [View.canon_unit_zero (by decide), View.ld_unit_zero (by decide), View.ld_unit_zero (by decide), View.ld_unit_zero (by decide), View.ld_unit_zero (by decide), View.ld_unit_zero (by decide), View.ld_unit_zero (by decide), pay_table, pay_table', pay_table'']

theorem out_vb : out0_18 (F := Ideal) x0 x1 x2 x3 x4 x5 x6 x7 x8 x9 x10 = k0_pay2 (F := Ideal) (k0_pay3 x0 x1) x7 := by
  unfold out0_18 k0_pay13
  rw [View.canon_unit_zero (by decide), View.ld_unit_zero (by decide), View.ld_unit_zero (by decide), View.ld_unit_zero (by decide)]

end outputs

theorem entry_z (t : Fin cfg0.N) (r : Fin 512) (n : Fin 512) :
    k0_pay4 (F := Ideal) (iblk m c 0 t) (iblk m c 1 t) (iblk m c 2 t) (ix2 r n)
      = zs (argX m c) (argG m c) (argW m c) (ix2 (row t r) n) :=
  (pay_z (iblk m c 0 t) (iblk m c 1 t) (iblk m c 2 t) r n).trans (proj_block m c t r (by decide) n fun e => (block_2 m c t e n).trans (wz_at m c e n))

theorem flushed_z (t : Fin cfg0.N) :
    (dats m 0 c).flushed 11 t = (win0_11.blk t).view.read (Elt Ideal) (zs (argX m c) (argG m c) (argW m c)) := by
  refine (flushed11 m c t).trans ?_
  rw [out_z]
  funext j
  obtain ⟨r, n, rfl⟩ : ∃ (r : Fin 512) (n : Fin 512), j = ix2 r n := ⟨j 0, j 1, by funext a; fin_cases a <;> rfl⟩
  refine (entry_z m c t r n).trans ?_
  unfold row
  blk_ext [spots t]

theorem entry_xbc (t : Fin cfg0.N) (r : Fin 512) (n : Fin 1024) :
    k0_pay5 (F := Ideal) (iblk m c 0 t) (iblk m c 1 t) (iblk m c 3 t) (ix2 r n)
      = xbcs (argX m c) (argG m c) (argW m c) (ix2 (row t r) n) :=
  (pay_xbc (iblk m c 0 t) (iblk m c 1 t) (iblk m c 3 t) r n).trans (proj_block m c t r (by decide) n fun e => (block_3 m c t e n).trans (wx_at m c e n))

theorem flushed_xbc (t : Fin cfg0.N) :
    (dats m 0 c).flushed 12 t = (win0_12.blk t).view.read (Elt Ideal) (xbcs (argX m c) (argG m c) (argW m c)) := by
  refine (flushed12 m c t).trans ?_
  rw [out_xbc]
  funext j
  obtain ⟨r, n, rfl⟩ : ∃ (r : Fin 512) (n : Fin 1024), j = ix2 r n := ⟨j 0, j 1, by funext a; fin_cases a <;> rfl⟩
  refine (entry_xbc m c t r n).trans ?_
  unfold row
  blk_ext [spots t]

theorem entry_dt (t : Fin cfg0.N) (r : Fin 512) (n : Fin 128) :
    k0_pay6 (F := Ideal) (iblk m c 0 t) (iblk m c 1 t) (iblk m c 4 t) (ix2 r n)
      = dts (argX m c) (argG m c) (argW m c) (ix2 (row t r) n) :=
  dt_block m c t r n

theorem flushed_dt (t : Fin cfg0.N) :
    (dats m 0 c).flushed 13 t = (win0_13.blk t).view.read (Elt Ideal) (dts (argX m c) (argG m c) (argW m c)) := by
  refine (flushed13 m c t).trans ?_
  rw [out_dt]
  funext j
  obtain ⟨r, n, rfl⟩ : ∃ (r : Fin 512) (n : Fin 128), j = ix2 r n := ⟨j 0, j 1, by funext a; fin_cases a <;> rfl⟩
  refine (entry_dt m c t r n).trans ?_
  unfold row
  blk_ext [spots t]

theorem entry_q (t : Fin cfg0.N) (r : Fin 512) (n : Fin 512) :
    k0_pay10 (F := Ideal) (k0_pay3 (iblk m c 0 t) (iblk m c 1 t)) (iblk m c 8 t) (iblk m c 9 t) (iblk m c 10 t) (iblk m c 5 t) (ix2 r n)
      = qs (argX m c) (argG m c) (argW m c) (ix2 (row t r) n) :=
  (pay_q _ _ _ _ (iblk m c 5 t) r n).trans (congrArg (· * Ideal.ofBits .f32 0x3E000000#32) (turned_block m c t r n (by decide) (iblk m c 5 t) fun e n => (block_5 m c t e n).trans (wq_at m c e n)))

theorem flushed_q (t : Fin cfg0.N) :
    (dats m 0 c).flushed 14 t = (win0_14.blk t).view.read (Elt Ideal) (qs (argX m c) (argG m c) (argW m c)) := by
  refine (flushed14 m c t).trans ?_
  rw [out_q]
  funext j
  obtain ⟨r, n, rfl⟩ : ∃ (r : Fin 512) (n : Fin 512), j = ix2 r n := ⟨j 0, j 1, by funext a; fin_cases a <;> rfl⟩
  refine (entry_q m c t r n).trans ?_
  unfold row
  blk_ext [spots t]

theorem entry_k (t : Fin cfg0.N) (r : Fin 512) (n : Fin 512) :
    k0_pay11 (F := Ideal) (k0_pay3 (iblk m c 0 t) (iblk m c 1 t)) (iblk m c 8 t) (iblk m c 9 t) (iblk m c 10 t) (iblk m c 6 t) (ix2 r n)
      = ks (argX m c) (argG m c) (argW m c) (ix2 (row t r) n) :=
  turned_block m c t r n (by decide) (iblk m c 6 t) fun e n => (block_6 m c t e n).trans (wk_at m c e n)

theorem flushed_k (t : Fin cfg0.N) :
    (dats m 0 c).flushed 15 t = (win0_15.blk t).view.read (Elt Ideal) (ks (argX m c) (argG m c) (argW m c)) := by
  refine (flushed15 m c t).trans ?_
  rw [out_k]
  funext j
  obtain ⟨r, n, rfl⟩ : ∃ (r : Fin 512) (n : Fin 512), j = ix2 r n := ⟨j 0, j 1, by funext a; fin_cases a <;> rfl⟩
  refine (entry_k m c t r n).trans ?_
  unfold row
  blk_ext [spots t]

theorem entry_v (t : Fin cfg0.N) (r : Fin 512) (n : Fin 512) :
    k0_pay1 (F := Ideal) (k0_pay3 (iblk m c 0 t) (iblk m c 1 t)) (iblk m c 7 t) (ix2 r n)
      = vs (argX m c) (argG m c) (argW m c) (ix2 (row t r) n) :=
  (pay_v _ (iblk m c 7 t) r n).trans (sum_block m c t r (by decide) n fun e => (block_7 m c t e n).trans (wv_at m c e n))

theorem flushed_v (t : Fin cfg0.N) :
    (dats m 0 c).flushed 16 t = (win0_16.blk t).view.read (Elt Ideal) (vs (argX m c) (argG m c) (argW m c)) := by
  refine (flushed16 m c t).trans ?_
  rw [out_v]
  funext j
  obtain ⟨r, n, rfl⟩ : ∃ (r : Fin 512) (n : Fin 512), j = ix2 r n := ⟨j 0, j 1, by funext a; fin_cases a <;> rfl⟩
  refine (entry_v m c t r n).trans ?_
  unfold row
  blk_ext [spots t]

theorem entry_kb (t : Fin cfg0.N) (r : Fin 512) (n : Fin 512) :
    k0_pay12 (F := Ideal) (k0_pay3 (iblk m c 0 t) (iblk m c 1 t)) (iblk m c 8 t) (iblk m c 9 t) (iblk m c 10 t) (iblk m c 6 t) (ix2 r n)
      = ks (argX m c) (argG m c) (argW m c) (ix2 (row t r) n) :=
  entry_k m c t r n

theorem flushed_kb (t : Fin cfg0.N) :
    (dats m 0 c).flushed 17 t = (win0_17.blk t).view.read (Elt Ideal) (ks (argX m c) (argG m c) (argW m c)) := by
  refine (flushed17 m c t).trans ?_
  rw [out_kb]
  funext j
  obtain ⟨r, n, rfl⟩ : ∃ (r : Fin 512) (n : Fin 512), j = ix2 r n := ⟨j 0, j 1, by funext a; fin_cases a <;> rfl⟩
  refine (entry_kb m c t r n).trans ?_
  unfold row
  blk_ext [spots t]

theorem entry_vb (t : Fin cfg0.N) (r : Fin 512) (n : Fin 512) :
    k0_pay2 (F := Ideal) (k0_pay3 (iblk m c 0 t) (iblk m c 1 t)) (iblk m c 7 t) (ix2 r n)
      = vs (argX m c) (argG m c) (argW m c) (ix2 (row t r) n) :=
  entry_v m c t r n

theorem flushed_vb (t : Fin cfg0.N) :
    (dats m 0 c).flushed 18 t = (win0_18.blk t).view.read (Elt Ideal) (vs (argX m c) (argG m c) (argW m c)) := by
  refine (flushed18 m c t).trans ?_
  rw [out_vb]
  funext j
  obtain ⟨r, n, rfl⟩ : ∃ (r : Fin 512) (n : Fin 512), j = ix2 r n := ⟨j 0, j 1, by funext a; fin_cases a <;> rfl⟩
  refine (entry_vb m c t r n).trans ?_
  unfold row
  blk_ext [spots t]

/-- Where the outputs' blocks begin at a point, and their extents. -/
theorem extent : ∀ t : Fin grid0.N,
    (win0_11.index t 0 * win0_11.size 0 = 512 * t.val ∧ win0_11.index t 1 * win0_11.size 1 = 0
      ∧ win0_11.xsize (grid0.coords t) 0 = 512 ∧ win0_11.xsize (grid0.coords t) 1 = 512)
    ∧ (win0_12.index t 0 * win0_12.size 0 = 512 * t.val ∧ win0_12.index t 1 * win0_12.size 1 = 0
      ∧ win0_12.xsize (grid0.coords t) 0 = 512 ∧ win0_12.xsize (grid0.coords t) 1 = 1024)
    ∧ (win0_13.index t 0 * win0_13.size 0 = 512 * t.val ∧ win0_13.index t 1 * win0_13.size 1 = 0
      ∧ win0_13.xsize (grid0.coords t) 0 = 512 ∧ win0_13.xsize (grid0.coords t) 1 = 128)
    ∧ (win0_14.index t 0 * win0_14.size 0 = 512 * t.val ∧ win0_14.index t 1 * win0_14.size 1 = 0
      ∧ win0_14.xsize (grid0.coords t) 0 = 512 ∧ win0_14.xsize (grid0.coords t) 1 = 512)
    ∧ (win0_15.index t 0 * win0_15.size 0 = 512 * t.val ∧ win0_15.index t 1 * win0_15.size 1 = 0
      ∧ win0_15.xsize (grid0.coords t) 0 = 512 ∧ win0_15.xsize (grid0.coords t) 1 = 512)
    ∧ (win0_16.index t 0 * win0_16.size 0 = 512 * t.val ∧ win0_16.index t 1 * win0_16.size 1 = 0
      ∧ win0_16.xsize (grid0.coords t) 0 = 512 ∧ win0_16.xsize (grid0.coords t) 1 = 512)
    ∧ (win0_17.index t 0 * win0_17.size 0 = 512 * t.val ∧ win0_17.index t 1 * win0_17.size 1 = 0
      ∧ win0_17.xsize (grid0.coords t) 0 = 512 ∧ win0_17.xsize (grid0.coords t) 1 = 512)
    ∧ (win0_18.index t 0 * win0_18.size 0 = 512 * t.val ∧ win0_18.index t 1 * win0_18.size 1 = 0
      ∧ win0_18.xsize (grid0.coords t) 0 = 512 ∧ win0_18.xsize (grid0.coords t) 1 = 512) := by decide +kernel

/-- Every index of an array of rows lies in the block of the point its row belongs to. -/
theorem within {C : ℕ} {a0 a1 lo0 lo1 s0 s1 : ℕ} (h0 : a0 < 32768) (h1 : a1 < C)
    (h : lo0 = 512 * (a0 / 512) ∧ lo1 = 0 ∧ s0 = 512 ∧ s1 = C) : (lo0 ≤ a0 ∧ a0 < lo0 + s0) ∧ (lo1 ≤ a1 ∧ a1 < lo1 + s1) := by
  obtain ⟨rfl, rfl, rfl, rfl⟩ := h
  omega

theorem cover_z (i : S32768x512.Idx) : ∃ t : Fin cfg0.N, (cfg0.win 11).flush t = true ∧ i ∈ ((cfg0.win 11).blk t).view.set := by
  have h0 : (i 0).val < 32768 := (i 0).isLt
  have ht : (i 0).val / 512 < 64 := by omega
  refine ⟨⟨(i 0).val / 512, ht⟩, flush0_11 _, ?_⟩
  show i ∈ ((View.whole main_v45_0).slice (win0_11.rect ⟨(i 0).val / 512, ht⟩)).set
  rw [View.set_slice_whole, Rect.mem_set_unit]
  exact Fin.forall_fin_two.mpr (within h0 (i 1).isLt (extent ⟨(i 0).val / 512, ht⟩).1)

theorem final_z : (dats m 0 c).arrAt 11 cfg0.N = zs (argX m c) (argG m c) (argW m c) :=
  (dats m 0 c).arrAt_eq_of_cover 11 _ (fun t _ => flushed_z m c t) cover_z

theorem cover_xbc (i : S32768x1024.Idx) : ∃ t : Fin cfg0.N, (cfg0.win 12).flush t = true ∧ i ∈ ((cfg0.win 12).blk t).view.set := by
  have h0 : (i 0).val < 32768 := (i 0).isLt
  have ht : (i 0).val / 512 < 64 := by omega
  refine ⟨⟨(i 0).val / 512, ht⟩, flush0_12 _, ?_⟩
  show i ∈ ((View.whole main_v45_1).slice (win0_12.rect ⟨(i 0).val / 512, ht⟩)).set
  rw [View.set_slice_whole, Rect.mem_set_unit]
  exact Fin.forall_fin_two.mpr (within h0 (i 1).isLt (extent ⟨(i 0).val / 512, ht⟩).2.1)

theorem final_xbc : (dats m 0 c).arrAt 12 cfg0.N = xbcs (argX m c) (argG m c) (argW m c) :=
  (dats m 0 c).arrAt_eq_of_cover 12 _ (fun t _ => flushed_xbc m c t) cover_xbc

theorem cover_dt (i : S32768x128.Idx) : ∃ t : Fin cfg0.N, (cfg0.win 13).flush t = true ∧ i ∈ ((cfg0.win 13).blk t).view.set := by
  have h0 : (i 0).val < 32768 := (i 0).isLt
  have ht : (i 0).val / 512 < 64 := by omega
  refine ⟨⟨(i 0).val / 512, ht⟩, flush0_13 _, ?_⟩
  show i ∈ ((View.whole main_v45_2).slice (win0_13.rect ⟨(i 0).val / 512, ht⟩)).set
  rw [View.set_slice_whole, Rect.mem_set_unit]
  exact Fin.forall_fin_two.mpr (within h0 (i 1).isLt (extent ⟨(i 0).val / 512, ht⟩).2.2.1)

theorem final_dt : (dats m 0 c).arrAt 13 cfg0.N = dts (argX m c) (argG m c) (argW m c) :=
  (dats m 0 c).arrAt_eq_of_cover 13 _ (fun t _ => flushed_dt m c t) cover_dt

theorem cover_q (i : S32768x512.Idx) : ∃ t : Fin cfg0.N, (cfg0.win 14).flush t = true ∧ i ∈ ((cfg0.win 14).blk t).view.set := by
  have h0 : (i 0).val < 32768 := (i 0).isLt
  have ht : (i 0).val / 512 < 64 := by omega
  refine ⟨⟨(i 0).val / 512, ht⟩, flush0_14 _, ?_⟩
  show i ∈ ((View.whole main_v45_3).slice (win0_14.rect ⟨(i 0).val / 512, ht⟩)).set
  rw [View.set_slice_whole, Rect.mem_set_unit]
  exact Fin.forall_fin_two.mpr (within h0 (i 1).isLt (extent ⟨(i 0).val / 512, ht⟩).2.2.2.1)

theorem final_q : (dats m 0 c).arrAt 14 cfg0.N = qs (argX m c) (argG m c) (argW m c) :=
  (dats m 0 c).arrAt_eq_of_cover 14 _ (fun t _ => flushed_q m c t) cover_q

theorem cover_k (i : S32768x512.Idx) : ∃ t : Fin cfg0.N, (cfg0.win 15).flush t = true ∧ i ∈ ((cfg0.win 15).blk t).view.set := by
  have h0 : (i 0).val < 32768 := (i 0).isLt
  have ht : (i 0).val / 512 < 64 := by omega
  refine ⟨⟨(i 0).val / 512, ht⟩, flush0_15 _, ?_⟩
  show i ∈ ((View.whole main_v45_4).slice (win0_15.rect ⟨(i 0).val / 512, ht⟩)).set
  rw [View.set_slice_whole, Rect.mem_set_unit]
  exact Fin.forall_fin_two.mpr (within h0 (i 1).isLt (extent ⟨(i 0).val / 512, ht⟩).2.2.2.2.1)

theorem final_k : (dats m 0 c).arrAt 15 cfg0.N = ks (argX m c) (argG m c) (argW m c) :=
  (dats m 0 c).arrAt_eq_of_cover 15 _ (fun t _ => flushed_k m c t) cover_k

theorem cover_v (i : S32768x512.Idx) : ∃ t : Fin cfg0.N, (cfg0.win 16).flush t = true ∧ i ∈ ((cfg0.win 16).blk t).view.set := by
  have h0 : (i 0).val < 32768 := (i 0).isLt
  have ht : (i 0).val / 512 < 64 := by omega
  refine ⟨⟨(i 0).val / 512, ht⟩, flush0_16 _, ?_⟩
  show i ∈ ((View.whole main_v45_5).slice (win0_16.rect ⟨(i 0).val / 512, ht⟩)).set
  rw [View.set_slice_whole, Rect.mem_set_unit]
  exact Fin.forall_fin_two.mpr (within h0 (i 1).isLt (extent ⟨(i 0).val / 512, ht⟩).2.2.2.2.2.1)

theorem final_v : (dats m 0 c).arrAt 16 cfg0.N = vs (argX m c) (argG m c) (argW m c) :=
  (dats m 0 c).arrAt_eq_of_cover 16 _ (fun t _ => flushed_v m c t) cover_v

theorem cover_kb (i : S32768x512.Idx) : ∃ t : Fin cfg0.N, (cfg0.win 17).flush t = true ∧ i ∈ ((cfg0.win 17).blk t).view.set := by
  have h0 : (i 0).val < 32768 := (i 0).isLt
  have ht : (i 0).val / 512 < 64 := by omega
  refine ⟨⟨(i 0).val / 512, ht⟩, flush0_17 _, ?_⟩
  show i ∈ ((View.whole main_v45_6).slice (win0_17.rect ⟨(i 0).val / 512, ht⟩)).set
  rw [View.set_slice_whole, Rect.mem_set_unit]
  exact Fin.forall_fin_two.mpr (within h0 (i 1).isLt (extent ⟨(i 0).val / 512, ht⟩).2.2.2.2.2.2.1)

theorem final_kb : (dats m 0 c).arrAt 17 cfg0.N = ks (argX m c) (argG m c) (argW m c) :=
  (dats m 0 c).arrAt_eq_of_cover 17 _ (fun t _ => flushed_kb m c t) cover_kb

theorem cover_vb (i : S32768x512.Idx) : ∃ t : Fin cfg0.N, (cfg0.win 18).flush t = true ∧ i ∈ ((cfg0.win 18).blk t).view.set := by
  have h0 : (i 0).val < 32768 := (i 0).isLt
  have ht : (i 0).val / 512 < 64 := by omega
  refine ⟨⟨(i 0).val / 512, ht⟩, flush0_18 _, ?_⟩
  show i ∈ ((View.whole main_v45_7).slice (win0_18.rect ⟨(i 0).val / 512, ht⟩)).set
  rw [View.set_slice_whole, Rect.mem_set_unit]
  exact Fin.forall_fin_two.mpr (within h0 (i 1).isLt (extent ⟨(i 0).val / 512, ht⟩).2.2.2.2.2.2.2)

theorem final_vb : (dats m 0 c).arrAt 18 cfg0.N = vs (argX m c) (argG m c) (argW m c) :=
  (dats m 0 c).arrAt_eq_of_cover 18 _ (fun t _ => flushed_vb m c t) cover_vb

end kernel

section reference

open Cert.Reference2Ideal Cert.Reference2Ideal.Gen

/-- The reference's product of the normed tokens with the matrix, -/
def product (X : FVec Ideal S2x16384x1024 .f32) (g : FVec Ideal S1x1024 .f32) (W : FVec Ideal S1x1024x3080 .f32) : FVec Ideal S2x16384x3080 .f32 :=
  Host.dotGeneral dot_S2x16384x1024_S1024x3080_S2x16384x3080_2_0_01_1_n_n none (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ g shapeCasts_S1x1024_S1024)))) (shapeCast _ W shapeCasts_S1x1024x3080_S1024x3080)

theorem product_at (X : FVec Ideal S2x16384x1024 .f32) (g : FVec Ideal S1x1024 .f32) (W : FVec Ideal S1x1024x3080 .f32) (r : Fin 32768)
    (n : Fin 3080) :
    product X g W (ix3 ⟨r.val / 16384, by omega⟩ ⟨r.val % 16384, Nat.mod_lt _ (by decide)⟩ n) = entry X g W r n := by
  pointwise [product]
  rfl

/-- its angles, -/
def angles : FVec Ideal S16384x8 .f32 :=
  mulf (broadcastInDim S16384x8 ![0, 1] bcast_S16384x1_S16384x8_0_1 (broadcastInDim S16384x1 ![0] bcast_S16384_S16384x1_0 (addf (sitofp .f32 (iotaInDim S16384 32 0)) (broadcastInDim S16384 ![] bcast_S_S16384 (constant S_ .f32 0x00000000#32))))) (broadcastInDim S16384x8 ![0, 1] bcast_S1x8_S16384x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (sitofp .f32 (iotaInDim S8 32 0)) (broadcastInDim S8 ![] bcast_S_S8 (constant S_ .f32 0x41000000#32)))))))

theorem angles_at (p : Fin 16384) (f : Fin 8) : angles (ix2 p f) = angle p.val f.val := by
  pointwise [angles]
  rfl

/-- and its turning of a slice by halves. -/
def halves (U : FVec Ideal S2x16384x512 .f32) (A B : FVec Ideal S16384x8 .f32) : FVec Ideal S32768x512 .f32 :=
  shapeCast _ (concatenate S2x16384x4x2x64 4
    [⟨S2x16384x4x2x8, (subf (mulf (extractStridedSlice S2x16384x4x2x8 ![0, 0, 0, 0, 0] (shapeCast _ U shapeCasts_S2x16384x512_S2x16384x4x2x64) slices_S2x16384x4x2x64_S2x16384x4x2x8_0_0_0_0_0) (broadcastInDim S2x16384x4x2x8 ![0, 1, 2, 3, 4] bcast_S1x16384x1x1x8_S2x16384x4x2x8_0_1_2_3_4 (broadcastInDim S1x16384x1x1x8 ![1, 4] bcast_S16384x8_S1x16384x1x1x8_1_4 A))) (mulf (extractStridedSlice S2x16384x4x2x8 ![0, 0, 0, 0, 8] (shapeCast _ U shapeCasts_S2x16384x512_S2x16384x4x2x64) slices_S2x16384x4x2x64_S2x16384x4x2x8_0_0_0_0_8) (broadcastInDim S2x16384x4x2x8 ![0, 1, 2, 3, 4] bcast_S1x16384x1x1x8_S2x16384x4x2x8_0_1_2_3_4 (broadcastInDim S1x16384x1x1x8 ![1, 4] bcast_S16384x8_S1x16384x1x1x8_1_4 B))) : (⟨S2x16384x4x2x8, .f32⟩ : BufTy).Contents (Elt Ideal))⟩,
     ⟨S2x16384x4x2x8, (addf (mulf (extractStridedSlice S2x16384x4x2x8 ![0, 0, 0, 0, 8] (shapeCast _ U shapeCasts_S2x16384x512_S2x16384x4x2x64) slices_S2x16384x4x2x64_S2x16384x4x2x8_0_0_0_0_8) (broadcastInDim S2x16384x4x2x8 ![0, 1, 2, 3, 4] bcast_S1x16384x1x1x8_S2x16384x4x2x8_0_1_2_3_4 (broadcastInDim S1x16384x1x1x8 ![1, 4] bcast_S16384x8_S1x16384x1x1x8_1_4 A))) (mulf (extractStridedSlice S2x16384x4x2x8 ![0, 0, 0, 0, 0] (shapeCast _ U shapeCasts_S2x16384x512_S2x16384x4x2x64) slices_S2x16384x4x2x64_S2x16384x4x2x8_0_0_0_0_0) (broadcastInDim S2x16384x4x2x8 ![0, 1, 2, 3, 4] bcast_S1x16384x1x1x8_S2x16384x4x2x8_0_1_2_3_4 (broadcastInDim S1x16384x1x1x8 ![1, 4] bcast_S16384x8_S1x16384x1x1x8_1_4 B))) : (⟨S2x16384x4x2x8, .f32⟩ : BufTy).Contents (Elt Ideal))⟩,
     ⟨S2x16384x4x2x48, (extractStridedSlice S2x16384x4x2x48 ![0, 0, 0, 0, 16] (shapeCast _ U shapeCasts_S2x16384x512_S2x16384x4x2x64) slices_S2x16384x4x2x64_S2x16384x4x2x48_0_0_0_0_16 : (⟨S2x16384x4x2x48, .f32⟩ : BufTy).Contents (Elt Ideal))⟩]
    concatenates_S2x16384x4x2x8_S2x16384x4x2x8_S2x16384x4x2x48_S2x16384x4x2x64_d4) shapeCasts_S2x16384x4x2x64_S32768x512

theorem cos_at (A : FVec Ideal S16384x8 .f32) (i : S16384x8.Idx) : Host.cos A i = Ideal.cos (A i) := rfl

theorem sin_at (A : FVec Ideal S16384x8 .f32) (i : S16384x8.Idx) : Host.sin A i = Ideal.sin (A i) := rfl

theorem turns (U : FVec Ideal S2x16384x512 .f32) (A B : FVec Ideal S16384x8 .f32) (u : Fin 512 → EReal) (r : Fin 32768) (n : Fin 512)
    (hu : ∀ n, U (ix3 ⟨r.val / 16384, by omega⟩ ⟨r.val % 16384, Nat.mod_lt _ (by decide)⟩ n) = u n)
    (hc : ∀ (p : Fin 16384) (f : Fin 8), A (ix2 p f) = Ideal.cos (angle p.val f.val))
    (hs : ∀ (p : Fin 16384) (f : Fin 8), B (ix2 p f) = Ideal.sin (angle p.val f.val)) :
    halves U A B (ix2 r n) = turn u (r.val % 16384) n := by
  pointwise [halves]
  unfold turn
  by_cases h : n.val % 64 < 8
  · simp only [dif_pos h]
    exact congrArg₂ (· - ·) (congrArg₂ (· * ·) (hu _) (hc _ _))
      (congrArg₂ (· * ·) ((hu _).trans (congrArg u (Fin.ext (by dsimp only; omega)))) (hs _ _))
  · simp only [dif_neg h]
    by_cases h' : n.val % 64 - 8 < 8
    · simp only [dif_pos h']
      exact congrArg₂ (· + ·) (congrArg₂ (· * ·) ((hu _).trans (congrArg u (Fin.ext (by dsimp only; omega)))) (hc _ _))
        (congrArg₂ (· * ·) ((hu _).trans (congrArg u (Fin.ext (by dsimp only; omega)))) (hs _ _))
    · simp only [dif_neg h']
      exact (hu _).trans (congrArg u (Fin.ext (by dsimp only; omega)))

theorem halves_at (U : FVec Ideal S2x16384x512 .f32) (u : Fin 512 → EReal) (r : Fin 32768) (n : Fin 512)
    (hu : ∀ n, U (ix3 ⟨r.val / 16384, by omega⟩ ⟨r.val % 16384, Nat.mod_lt _ (by decide)⟩ n) = u n) :
    halves U (Host.cos angles) (Host.sin angles) (ix2 r n) = turn u (r.val % 16384) n :=
  turns U _ _ u r n hu (fun p f => (cos_at angles _).trans (congrArg Ideal.cos (angles_at p f)))
    fun p f => (sin_at angles _).trans (congrArg Ideal.sin (angles_at p f))

variable (X : FVec Ideal S2x16384x1024 .f32) (g : FVec Ideal S1x1024 .f32) (W : FVec Ideal S1x1024x3080 .f32)

theorem ext_rows {C : ℕ} {A B : Out C} (h : ∀ (r : Fin 32768) (n : Fin C), A (ix2 r n) = B (ix2 r n)) : A = B := by
  funext i
  obtain ⟨r, n, rfl⟩ : ∃ (r : Fin 32768) (n : Fin C), i = ix2 r n := ⟨i 0, i 1, by funext a; fin_cases a <;> rfl⟩
  exact h r n

/-- The reference's results are the eight. -/
theorem ref_z : shapeCast S32768x512 (extractStridedSlice S2x16384x512 ![0, 0, 0] (product X g W) slices_S2x16384x3080_S2x16384x512_0_0_0) shapeCasts_S2x16384x512_S32768x512
    = zs X g W := by
  refine ext_rows fun r n => ?_
  pointwise []
  refine (product_at X g W r _).trans (congrArg (entry X g W r) (Fin.ext ?_))
  show n.val = 0 + n.val
  omega

theorem ref_xbc : shapeCast S32768x1024 (extractStridedSlice S2x16384x1024 ![0, 0, 512] (product X g W) slices_S2x16384x3080_S2x16384x1024_0_0_512) shapeCasts_S2x16384x1024_S32768x1024
    = xbcs X g W := by
  refine ext_rows fun r n => ?_
  pointwise []
  exact product_at X g W r _

theorem ref_v : shapeCast S32768x512 (extractStridedSlice S2x16384x512 ![0, 0, 2568] (product X g W) slices_S2x16384x3080_S2x16384x512_0_0_2568) shapeCasts_S2x16384x512_S32768x512
    = vs X g W := by
  refine ext_rows fun r n => ?_
  pointwise []
  exact product_at X g W r _

theorem ref_dt : shapeCast S32768x128 (pad S2x16384x128 ![0, 0, 0] ![0, 0, 120] ![0, 0, 0] (extractStridedSlice S2x16384x8 ![0, 0, 1536] (product X g W) slices_S2x16384x3080_S2x16384x8_0_0_1536) (sitofp .f32 (constantI S_ 32 0#32)) pads_S2x16384x8_S2x16384x128_000_000_01200 h_S_) shapeCasts_S2x16384x128_S32768x128
    = dts X g W := by
  have z : (FloatOps.sitofp (F := Ideal) FTy.f32 0#32 : EReal) = 0 := by simp [FloatOps.sitofp]
  refine ext_rows fun r n => ?_
  rw [dts_at]
  pointwise []
  by_cases h : n.val < 8
  · have k : r.val / 16384 < 2 ∧ r.val % 16384 < 16384 ∧ n.val < 8 := ⟨by omega, by omega, h⟩
    simp only [dif_pos k, dif_pos h]
    exact product_at X g W r _
  · have k : ¬(r.val / 16384 < 2 ∧ r.val % 16384 < 16384 ∧ n.val < 8) := fun k => h k.2.2
    simp only [dif_neg k, dif_neg h]
    exact z

theorem ref_k : halves (extractStridedSlice S2x16384x512 ![0, 0, 2056] (product X g W) slices_S2x16384x3080_S2x16384x512_0_0_2056) (Host.cos angles) (Host.sin angles)
    = ks X g W := by
  refine ext_rows fun r n => ?_
  refine halves_at _ _ r n fun n => ?_
  pointwise []
  exact product_at X g W r _

/-- Cut to the short format the numbers stay. -/
theorem cut {C : ℕ} {A : FVec Ideal ⟨2, ![32768, C]⟩ .f32} {B : Out C} (h : A = B) : truncf .bf16 A bitsLt_bf16_f32 = B := by
  subst h
  rfl

theorem ref_kb : truncf .bf16 (halves (extractStridedSlice S2x16384x512 ![0, 0, 2056] (product X g W) slices_S2x16384x3080_S2x16384x512_0_0_2056) (Host.cos angles) (Host.sin angles)) bitsLt_bf16_f32
    = ks X g W := cut (ref_k X g W)

theorem ref_vb : truncf .bf16 (shapeCast S32768x512 (extractStridedSlice S2x16384x512 ![0, 0, 2568] (product X g W) slices_S2x16384x3080_S2x16384x512_0_0_2568) shapeCasts_S2x16384x512_S32768x512) bitsLt_bf16_f32
    = vs X g W := cut (ref_v X g W)

theorem ref_q : truncf .bf16 (mulf (halves (extractStridedSlice S2x16384x512 ![0, 0, 1544] (product X g W) slices_S2x16384x3080_S2x16384x512_0_0_1544) (Host.cos angles) (Host.sin angles)) (broadcastInDim S32768x512 ![] bcast_S_S32768x512 (constant S_ .f32 0x3E000000#32))) bitsLt_bf16_f32
    = qs X g W := by
  refine ext_rows fun r n => ?_
  refine congrArg (· * Ideal.ofBits .f32 0x3E000000#32) (halves_at _ _ r n fun n => ?_)
  pointwise []
  exact product_at X g W r _

end reference

end Cert.Proof.Project

end
-- ==== Proof.ProjectSample.lean ====
/-
  The projections of the sample: as those of the prompt, on 32 sequences of 32 positions that begin at position 2048. A grid
  point computes what a point of the prompt's projections computes (proof/Proof/Project.lean); the tables hold each position
  sixteen times.
-/
module

public import proofs.«01_k».proof.Proof.Gen.Kernel5Ideal.Value
public import proofs.«01_k».proof.Proof.Gen.Reference5Ideal.Run
public import proofs.«01_k».proof.Proof.Project
public import Idealize.ShloMosaic.Lib.Pipeline.ValueKit
public import Idealize.ShloMosaic.Lib.StableHlo.ReadAt

@[expose] public section

set_option maxRecDepth 16384

noncomputable section

namespace Cert.Proof.ProjectSample

open Idealize.ShloMosaic Idealize.ShloMosaic.TcCoe Idealize.ShloMosaic.Tactic
open Idealize.SL.Sem
open Idealize.ShloMosaic.Pipeline (Dat)
open Cert.Proof.Norm Cert.Proof.Turn

abbrev Toks := (⟨3, ![32, 32, 1024]⟩ : Shape).Idx → EReal
abbrev Gain := (⟨2, ![1, 1024]⟩ : Shape).Idx → EReal
abbrev Wide := (⟨3, ![1, 1024, 3080]⟩ : Shape).Idx → EReal
abbrev Out (C : ℕ) := (⟨2, ![1024, C]⟩ : Shape).Idx → EReal

/-- Column `n` of row `r`: the row of tokens, normed, times the matrix. -/
def entry (X : Toks) (g : Gain) (W : Wide) (r : Fin 1024) (n : Fin 3080) : EReal :=
  proj (fun e => X (ix3 ⟨r.val / 32, by omega⟩ ⟨r.val % 32, Nat.mod_lt _ (by decide)⟩ e)) (fun e => g (ix2 0 e)) (fun e => W (ix3 0 e n))

/-- The columns from `base` on, -/
def part (base C : ℕ) (hb : base + C ≤ 3080) (X : Toks) (g : Gain) (W : Wide) (r : Fin 1024) (n : Fin C) : EReal :=
  entry X g W r ⟨base + n.val, by omega⟩

/-- turned by position. -/
def turned (base : ℕ) (hb : base + 512 ≤ 3080) (X : Toks) (g : Gain) (W : Wide) (r : Fin 1024) (n : Fin 512) : EReal :=
  turn (part base 512 hb X g W r) (2048 + r.val % 32) n

/-- An array from its entries. -/
def arr {C : ℕ} (f : Fin 1024 → Fin C → EReal) : Out C := fun i => f (i 0) (i 1)

/-- The eight results: the gate, -/
def zs (X : Toks) (g : Gain) (W : Wide) : Out 512 := arr (part 0 512 (by decide) X g W)
/-- the scan's input, -/
def xbcs (X : Toks) (g : Gain) (W : Wide) : Out 1024 := arr (part 512 1024 (by decide) X g W)
/-- the eight step sizes, filled up with zeros, -/
def dts (X : Toks) (g : Gain) (W : Wide) : Out 128 :=
  arr fun r n => if h : n.val < 8 then part 1536 8 (by decide) X g W r ⟨n.val, h⟩ else 0
theorem dts_at (X : Toks) (g : Gain) (W : Wide) (r : Fin 1024) (n : Fin 128) :
    dts X g W (ix2 r n) = if h : n.val < 8 then part 1536 8 (by decide) X g W r ⟨n.val, h⟩ else 0 := rfl

/-- the queries, turned and scaled, -/
def qs (X : Toks) (g : Gain) (W : Wide) : Out 512 :=
  arr fun r n => turned 1544 (by decide) X g W r n * Ideal.ofBits .f32 0x3E000000#32
/-- the keys, turned, -/
def ks (X : Toks) (g : Gain) (W : Wide) : Out 512 := arr (turned 2056 (by decide) X g W)
/-- and the values. -/
def vs (X : Toks) (g : Gain) (W : Wide) : Out 512 := arr (part 2568 512 (by decide) X g W)

/-- Position `p` of the sample is position 2048 + `p` of its sequence. -/
theorem later (p : ℕ) (hp : p < 32) : FloatOps.sitofp (F := Ideal) FTy.f32 (BitVec.ofNat 32 p) + Ideal.ofBits .f32 0x45000000#32
    = FloatOps.sitofp (F := Ideal) FTy.f32 (BitVec.ofNat 32 (2048 + p)) := by
  have w : (Ideal.ofBits .f32 0x45000000#32 : EReal) = ((2048 : ℝ) : EReal) := by
    simp [Ideal.ofBits, Ideal.ieee]
    rw [← EReal.coe_mul]
    norm_num
  have e : ∀ q : ℕ, q < 4096 → (BitVec.ofNat 32 q).toInt = (q : ℤ) := fun q hq => by
    have k : (BitVec.ofNat 32 q).toNat = q := by rw [BitVec.toNat_ofNat]; omega
    rw [BitVec.toInt_eq_toNat_of_lt (by rw [k]; omega), k]
  rw [w]
  simp only [FloatOps.sitofp]
  rw [e p (by omega), e (2048 + p) (by omega), ← EReal.coe_add]
  congr 1
  push_cast
  ring

theorem angle_later (p : ℕ) (hp : p < 32) (f : ℕ) :
    (FloatOps.sitofp (F := Ideal) FTy.f32 (BitVec.ofNat 32 p) + Ideal.ofBits .f32 0x45000000#32)
      * Ideal.div 1 (Ideal.pow (Ideal.ofBits .f32 0x48F42400#32)
        (Ideal.div (FloatOps.sitofp (F := Ideal) FTy.f32 (BitVec.ofNat 32 f)) (Ideal.ofBits .f32 0x41000000#32)))
      = angle (2048 + p) f :=
  congrArg (· * _) (later p hp)

section kernel

open Cert.Kernel5Ideal Cert.Kernel5Ideal.Gen Cert.Kernel5Ideal.Value

variable (m : (ℓ : Loc nD τ sig) → Buf (Elt Ideal) ℓ) (c : Dev nD)

abbrev argX : Toks := m ((c.tc : Thread nD τ).loc main_arg0)
abbrev argG : Gain := m ((c.tc : Thread nD τ).loc main_arg1)
abbrev argW : Wide := m ((c.tc : Thread nD τ).loc main_arg2)

/-- The arrays as the grid finds them: the rows, the gain, -/
theorem rows_at (r : Fin 1024) (e : Fin 1024) :
    V m c main_v51 (ix2 r e) = argX m c (ix3 ⟨r.val / 32, by omega⟩ ⟨r.val % 32, Nat.mod_lt _ (by decide)⟩ e) := by
  unfold V
  after_reads_at

theorem gain_at (e : Fin 1024) : V m c main_v53 (ix2 0 e) = argG m c (ix2 0 e) := by
  unfold V
  after_reads_at

/-- the matrix's columns, -/
theorem wz_at (e : Fin 1024) (n : Fin 512) : V m c main_v2 (ix2 e n) = argW m c (ix3 0 e ⟨0 + n.val, by omega⟩) := by
  unfold V
  after_reads_at

theorem wx_at (e : Fin 1024) (n : Fin 1024) : V m c main_v3 (ix2 e n) = argW m c (ix3 0 e ⟨512 + n.val, by omega⟩) := by
  unfold V
  after_reads_at

theorem wd_at (e : Fin 1024) (n : Fin 128) :
    V m c main_v8 (ix2 e n) = if h : n.val < 8 then argW m c (ix3 0 e ⟨1536 + n.val, by omega⟩) else (0 : EReal) := by
  have z : (FloatOps.sitofp (F := Ideal) FTy.bf16 0#32 : EReal) = 0 := by simp [FloatOps.sitofp]
  unfold V
  after_reads_at
  rw [z]

theorem wq_at (e : Fin 1024) (n : Fin 512) : V m c main_v5 (ix2 e n) = argW m c (ix3 0 e ⟨1544 + n.val, by omega⟩) := by
  unfold V
  after_reads_at

theorem wk_at (e : Fin 1024) (n : Fin 512) : V m c main_v6 (ix2 e n) = argW m c (ix3 0 e ⟨2056 + n.val, by omega⟩) := by
  unfold V
  after_reads_at

theorem wv_at (e : Fin 1024) (n : Fin 512) : V m c main_v7 (ix2 e n) = argW m c (ix3 0 e ⟨2568 + n.val, by omega⟩) := by
  unfold V
  after_reads_at

/-- and the three tables. -/
theorem cosines_at (r : Fin 512) (l : Fin 128) : V m c main_v44 (ix2 r l) = cosines (2048 + r.val % 32) l := by
  unfold V cosines
  after_reads_at
  by_cases h : l.val % 64 < 8
  · simp only [dif_pos h, if_pos h]
    after_reads_at
    exact congrArg Ideal.cos (angle_later _ (Nat.mod_lt _ (by decide)) _)
  · simp only [dif_neg h, if_neg h]
    by_cases h' : l.val % 64 - 8 < 8
    · simp only [dif_pos h', if_pos h']
      after_reads_at
      exact congrArg Ideal.cos (angle_later _ (Nat.mod_lt _ (by decide)) _)
    · simp only [dif_neg h', if_neg h']
      after_reads_at

theorem rising_at (r : Fin 512) (l : Fin 128) : V m c main_v47 (ix2 r l) = rising (2048 + r.val % 32) l := by
  unfold V rising
  after_reads_at
  by_cases h : l.val % 64 < 8
  · simp only [dif_pos h, if_pos h]
    after_reads_at
  · simp only [dif_neg h, if_neg h]
    by_cases h' : l.val % 64 - 8 < 8
    · simp only [dif_pos h', if_pos h']
      after_reads_at
      exact congrArg Ideal.sin (angle_later _ (Nat.mod_lt _ (by decide)) _)
    · simp only [dif_neg h', if_neg h']
      after_reads_at

theorem falling_at (r : Fin 512) (l : Fin 128) : V m c main_v50 (ix2 r l) = falling (2048 + r.val % 32) l := by
  unfold V falling
  after_reads_at
  by_cases h : l.val % 64 < 8
  · simp only [dif_pos h, if_pos h]
    after_reads_at
    exact congrArg (fun x => -Ideal.sin x) (angle_later _ (Nat.mod_lt _ (by decide)) _)
  · simp only [dif_neg h, if_neg h]
    by_cases h' : l.val % 64 - 8 < 8
    · simp only [dif_pos h']
      after_reads_at
    · simp only [dif_neg h']
      after_reads_at

/-- Where each window's block lies at a point. -/
theorem places : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) := by decide +kernel

/-- Where the outputs' blocks lie at a point. -/
theorem spots : ∀ t : Fin grid0.N,
    (win0_11.index t 0 = t.val ∧ win0_11.index t 1 = 0) ∧ (win0_12.index t 0 = t.val ∧ win0_12.index t 1 = 0)
    ∧ (win0_13.index t 0 = t.val ∧ win0_13.index t 1 = 0) ∧ (win0_14.index t 0 = t.val ∧ win0_14.index t 1 = 0)
    ∧ (win0_15.index t 0 = t.val ∧ win0_15.index t 1 = 0) ∧ (win0_16.index t 0 = t.val ∧ win0_16.index t 1 = 0)
    ∧ (win0_17.index t 0 = t.val ∧ win0_17.index t 1 = 0) ∧ (win0_18.index t 0 = t.val ∧ win0_18.index t 1 = 0) := by decide +kernel

theorem point_lt (t : Fin cfg0.N) : t.val < 2 := t.isLt

/-- The row of the array that is row `r` of point `t`'s block. -/
def row (t : Fin cfg0.N) (r : Fin 512) : Fin 1024 := ⟨512 * t.val + r.val, by have := point_lt t; omega⟩

theorem position_eq (t : Fin cfg0.N) (r : Fin 512) : (row t r).val % 32 = r.val % 32 := by
  unfold row; dsimp only; omega

/-- The blocks a point reads. -/
theorem block_x (t : Fin cfg0.N) (r : Fin 512) (e : Fin 1024) : iblk m c 0 t (ix2 r e) = V m c main_v51 (ix2 (row t r) e) := by
  unfold row
  blk_ext [iblk, places t]

theorem block_g (t : Fin cfg0.N) (e : Fin 1024) : iblk m c 1 t (ix2 0 e) = V m c main_v53 (ix2 0 e) := by
  blk_ext [iblk, places t]

theorem block_2 (t : Fin cfg0.N) (e : Fin 1024) (n : Fin 512) : iblk m c 2 t (ix2 e n) = V m c main_v2 (ix2 e n) := by
  blk_ext [iblk, places t]

theorem block_3 (t : Fin cfg0.N) (e : Fin 1024) (n : Fin 1024) : iblk m c 3 t (ix2 e n) = V m c main_v3 (ix2 e n) := by
  blk_ext [iblk, places t]

theorem block_4 (t : Fin cfg0.N) (e : Fin 1024) (n : Fin 128) : iblk m c 4 t (ix2 e n) = V m c main_v8 (ix2 e n) := by
  blk_ext [iblk, places t]

theorem block_5 (t : Fin cfg0.N) (e : Fin 1024) (n : Fin 512) : iblk m c 5 t (ix2 e n) = V m c main_v5 (ix2 e n) := by
  blk_ext [iblk, places t]

theorem block_6 (t : Fin cfg0.N) (e : Fin 1024) (n : Fin 512) : iblk m c 6 t (ix2 e n) = V m c main_v6 (ix2 e n) := by
  blk_ext [iblk, places t]

theorem block_7 (t : Fin cfg0.N) (e : Fin 1024) (n : Fin 512) : iblk m c 7 t (ix2 e n) = V m c main_v7 (ix2 e n) := by
  blk_ext [iblk, places t]

theorem block_8 (t : Fin cfg0.N) (r : Fin 512) (l : Fin 128) : iblk m c 8 t (ix2 r l) = V m c main_v44 (ix2 r l) := by
  blk_ext [iblk, places t]

theorem block_9 (t : Fin cfg0.N) (r : Fin 512) (l : Fin 128) : iblk m c 9 t (ix2 r l) = V m c main_v47 (ix2 r l) := by
  blk_ext [iblk, places t]

theorem block_10 (t : Fin cfg0.N) (r : Fin 512) (l : Fin 128) : iblk m c 10 t (ix2 r l) = V m c main_v50 (ix2 r l) := by
  blk_ext [iblk, places t]

/-- A product of a point's rows with columns that are the matrix's from `base` on. -/
theorem proj_block (t : Fin cfg0.N) (r : Fin 512) {base C : ℕ} (hb : base + C ≤ 3080) (n : Fin C) {w : Fin 1024 → EReal}
    (hw : ∀ e, w e = argW m c (ix3 0 e ⟨base + n.val, by omega⟩)) :
    proj (fun e => iblk m c 0 t (ix2 r e)) (fun e => iblk m c 1 t (ix2 0 e)) w
      = part base C hb (argX m c) (argG m c) (argW m c) (row t r) n :=
  proj_congr (fun e => (block_x m c t r e).trans (rows_at m c _ e)) (fun e => (block_g m c t e).trans (gain_at m c e)) hw

/-- The same, from the normed rows. -/
theorem sum_block (t : Fin cfg0.N) (r : Fin 512) {base C : ℕ} (hb : base + C ≤ 3080) (n : Fin C) {w : Fin 1024 → EReal}
    (hw : ∀ e, w e = argW m c (ix3 0 e ⟨base + n.val, by omega⟩)) :
    (∑ e, k0_pay3 (F := Ideal) (iblk m c 0 t) (iblk m c 1 t) (ix2 r e) * w e)
      = part base C hb (argX m c) (argG m c) (argW m c) (row t r) n := by
  refine Eq.trans ?_ (proj_block m c t r hb n hw)
  exact Finset.sum_congr rfl fun e _ => congrArg (· * w e) (Project.pay_rows (iblk m c 0 t) (iblk m c 1 t) r e)

/-- The turned product of a point's rows. -/
theorem turned_block (t : Fin cfg0.N) (r n : Fin 512) {base : ℕ} (hb : base + 512 ≤ 3080) (w : FVec Ideal S1024x512 .bf16)
    (hw : ∀ (e : Fin 1024) (n : Fin 512), w (ix2 e n) = argW m c (ix3 0 e ⟨base + n.val, by omega⟩)) :
    k0_pay11 (F := Ideal) (k0_pay3 (F := Ideal) (iblk m c 0 t) (iblk m c 1 t)) (iblk m c 8 t) (iblk m c 9 t) (iblk m c 10 t) w (ix2 r n)
      = turned base hb (argX m c) (argG m c) (argW m c) (row t r) n := by
  refine (Project.pay_k _ _ _ _ w r n).trans ?_
  unfold turned
  rw [position_eq]
  refine Eq.trans ?_ (spun_eq _ _ n)
  exact spun_congr (fun n => sum_block m c t r hb n fun e => hw e n) (fun l => (block_8 m c t r l).trans (cosines_at m c r l))
    (fun l => (block_9 m c t r l).trans (rising_at m c r l)) (fun l => (block_10 m c t r l).trans (falling_at m c r l)) n

/-- The step sizes: the columns past the eighth are zero. -/
theorem dt_block (t : Fin cfg0.N) (r : Fin 512) (n : Fin 128) :
    k0_pay6 (F := Ideal) (iblk m c 0 t) (iblk m c 1 t) (iblk m c 4 t) (ix2 r n)
      = dts (argX m c) (argG m c) (argW m c) (ix2 (row t r) n) := by
  refine (Project.pay_dt (iblk m c 0 t) (iblk m c 1 t) (iblk m c 4 t) r n).trans ?_
  rw [dts_at]
  by_cases h : n.val < 8
  · rw [dif_pos h]
    exact proj_block m c t r (by decide) ⟨n.val, h⟩ fun e => ((block_4 m c t e n).trans (wd_at m c e n)).trans (dif_pos h)
  · rw [dif_neg h]
    exact Finset.sum_eq_zero fun e _ => (congrArg (_ * ·) (((block_4 m c t e n).trans (wd_at m c e n)).trans (dif_neg h))).trans (mul_zero _)

section outputs

variable (x0 : FVec Ideal S512x1024 .f32) (x1 : FVec Ideal S1x1024 .f32) (x2 : FVec Ideal S1024x512 .bf16) (x3 : FVec Ideal S1024x1024 .bf16) (x4 : FVec Ideal S1024x128 .bf16)
  (x5 x6 x7 : FVec Ideal S1024x512 .bf16) (x8 x9 x10 : FVec Ideal S512x128 .f32)

/-- What the body leaves in each output's block. -/
theorem out_z : out0_11 (F := Ideal) x0 x1 x2 x3 x4 x5 x6 x7 x8 x9 x10 = k0_pay4 (F := Ideal) x0 x1 x2 :=
  Project.out_z x0 x1 x2 x3 x4 x5 x6 x7 x8 x9 x10

theorem out_xbc : out0_12 (F := Ideal) x0 x1 x2 x3 x4 x5 x6 x7 x8 x9 x10 = k0_pay5 (F := Ideal) x0 x1 x3 :=
  Project.out_xbc x0 x1 x2 x3 x4 x5 x6 x7 x8 x9 x10

theorem out_dt : out0_13 (F := Ideal) x0 x1 x2 x3 x4 x5 x6 x7 x8 x9 x10 = k0_pay6 (F := Ideal) x0 x1 x4 :=
  Project.out_dt x0 x1 x2 x3 x4 x5 x6 x7 x8 x9 x10

theorem out_q : out0_14 (F := Ideal) x0 x1 x2 x3 x4 x5 x6 x7 x8 x9 x10 = k0_pay10 (F := Ideal) (k0_pay3 x0 x1) x8 x9 x10 x5 :=
  Project.out_q x0 x1 x2 x3 x4 x5 x6 x7 x8 x9 x10

theorem out_k : out0_15 (F := Ideal) x0 x1 x2 x3 x4 x5 x6 x7 x8 x9 x10 = k0_pay11 (F := Ideal) (k0_pay3 x0 x1) x8 x9 x10 x6 :=
  Project.out_k x0 x1 x2 x3 x4 x5 x6 x7 x8 x9 x10

theorem out_v : out0_16 (F := Ideal) x0 x1 x2 x3 x4 x5 x6 x7 x8 x9 x10 = k0_pay1 (F := Ideal) (k0_pay3 x0 x1) x7 :=
  Project.out_v x0 x1 x2 x3 x4 x5 x6 x7 x8 x9 x10

theorem out_kb : out0_17 (F := Ideal) x0 x1 x2 x3 x4 x5 x6 x7 x8 x9 x10 = k0_pay12 (F := Ideal) (k0_pay3 x0 x1) x8 x9 x10 x6 :=
  Project.out_kb x0 x1 x2 x3 x4 x5 x6 x7 x8 x9 x10

theorem out_vb : out0_18 (F := Ideal) x0 x1 x2 x3 x4 x5 x6 x7 x8 x9 x10 = k0_pay2 (F := Ideal) (k0_pay3 x0 x1) x7 :=
  Project.out_vb x0 x1 x2 x3 x4 x5 x6 x7 x8 x9 x10

end outputs

theorem entry_z (t : Fin cfg0.N) (r : Fin 512) (n : Fin 512) :
    k0_pay4 (F := Ideal) (iblk m c 0 t) (iblk m c 1 t) (iblk m c 2 t) (ix2 r n)
      = zs (argX m c) (argG m c) (argW m c) (ix2 (row t r) n) :=
  (Project.pay_z (iblk m c 0 t) (iblk m c 1 t) (iblk m c 2 t) r n).trans (proj_block m c t r (by decide) n fun e => (block_2 m c t e n).trans (wz_at m c e n))

theorem flushed_z (t : Fin cfg0.N) :
    (dats m 0 c).flushed 11 t = (win0_11.blk t).view.read (Elt Ideal) (zs (argX m c) (argG m c) (argW m c)) := by
  refine (flushed11 m c t).trans ?_
  rw [out_z]
  funext j
  obtain ⟨r, n, rfl⟩ : ∃ (r : Fin 512) (n : Fin 512), j = ix2 r n := ⟨j 0, j 1, by funext a; fin_cases a <;> rfl⟩
  refine (entry_z m c t r n).trans ?_
  unfold row
  blk_ext [spots t]

theorem entry_xbc (t : Fin cfg0.N) (r : Fin 512) (n : Fin 1024) :
    k0_pay5 (F := Ideal) (iblk m c 0 t) (iblk m c 1 t) (iblk m c 3 t) (ix2 r n)
      = xbcs (argX m c) (argG m c) (argW m c) (ix2 (row t r) n) :=
  (Project.pay_xbc (iblk m c 0 t) (iblk m c 1 t) (iblk m c 3 t) r n).trans (proj_block m c t r (by decide) n fun e => (block_3 m c t e n).trans (wx_at m c e n))

theorem flushed_xbc (t : Fin cfg0.N) :
    (dats m 0 c).flushed 12 t = (win0_12.blk t).view.read (Elt Ideal) (xbcs (argX m c) (argG m c) (argW m c)) := by
  refine (flushed12 m c t).trans ?_
  rw [out_xbc]
  funext j
  obtain ⟨r, n, rfl⟩ : ∃ (r : Fin 512) (n : Fin 1024), j = ix2 r n := ⟨j 0, j 1, by funext a; fin_cases a <;> rfl⟩
  refine (entry_xbc m c t r n).trans ?_
  unfold row
  blk_ext [spots t]

theorem entry_dt (t : Fin cfg0.N) (r : Fin 512) (n : Fin 128) :
    k0_pay6 (F := Ideal) (iblk m c 0 t) (iblk m c 1 t) (iblk m c 4 t) (ix2 r n)
      = dts (argX m c) (argG m c) (argW m c) (ix2 (row t r) n) :=
  dt_block m c t r n

theorem flushed_dt (t : Fin cfg0.N) :
    (dats m 0 c).flushed 13 t = (win0_13.blk t).view.read (Elt Ideal) (dts (argX m c) (argG m c) (argW m c)) := by
  refine (flushed13 m c t).trans ?_
  rw [out_dt]
  funext j
  obtain ⟨r, n, rfl⟩ : ∃ (r : Fin 512) (n : Fin 128), j = ix2 r n := ⟨j 0, j 1, by funext a; fin_cases a <;> rfl⟩
  refine (entry_dt m c t r n).trans ?_
  unfold row
  blk_ext [spots t]

theorem entry_q (t : Fin cfg0.N) (r : Fin 512) (n : Fin 512) :
    k0_pay10 (F := Ideal) (k0_pay3 (iblk m c 0 t) (iblk m c 1 t)) (iblk m c 8 t) (iblk m c 9 t) (iblk m c 10 t) (iblk m c 5 t) (ix2 r n)
      = qs (argX m c) (argG m c) (argW m c) (ix2 (row t r) n) :=
  (Project.pay_q _ _ _ _ (iblk m c 5 t) r n).trans (congrArg (· * Ideal.ofBits .f32 0x3E000000#32) (turned_block m c t r n (by decide) (iblk m c 5 t) fun e n => (block_5 m c t e n).trans (wq_at m c e n)))

theorem flushed_q (t : Fin cfg0.N) :
    (dats m 0 c).flushed 14 t = (win0_14.blk t).view.read (Elt Ideal) (qs (argX m c) (argG m c) (argW m c)) := by
  refine (flushed14 m c t).trans ?_
  rw [out_q]
  funext j
  obtain ⟨r, n, rfl⟩ : ∃ (r : Fin 512) (n : Fin 512), j = ix2 r n := ⟨j 0, j 1, by funext a; fin_cases a <;> rfl⟩
  refine (entry_q m c t r n).trans ?_
  unfold row
  blk_ext [spots t]

theorem entry_k (t : Fin cfg0.N) (r : Fin 512) (n : Fin 512) :
    k0_pay11 (F := Ideal) (k0_pay3 (iblk m c 0 t) (iblk m c 1 t)) (iblk m c 8 t) (iblk m c 9 t) (iblk m c 10 t) (iblk m c 6 t) (ix2 r n)
      = ks (argX m c) (argG m c) (argW m c) (ix2 (row t r) n) :=
  turned_block m c t r n (by decide) (iblk m c 6 t) fun e n => (block_6 m c t e n).trans (wk_at m c e n)

theorem flushed_k (t : Fin cfg0.N) :
    (dats m 0 c).flushed 15 t = (win0_15.blk t).view.read (Elt Ideal) (ks (argX m c) (argG m c) (argW m c)) := by
  refine (flushed15 m c t).trans ?_
  rw [out_k]
  funext j
  obtain ⟨r, n, rfl⟩ : ∃ (r : Fin 512) (n : Fin 512), j = ix2 r n := ⟨j 0, j 1, by funext a; fin_cases a <;> rfl⟩
  refine (entry_k m c t r n).trans ?_
  unfold row
  blk_ext [spots t]

theorem entry_v (t : Fin cfg0.N) (r : Fin 512) (n : Fin 512) :
    k0_pay1 (F := Ideal) (k0_pay3 (iblk m c 0 t) (iblk m c 1 t)) (iblk m c 7 t) (ix2 r n)
      = vs (argX m c) (argG m c) (argW m c) (ix2 (row t r) n) :=
  (Project.pay_v _ (iblk m c 7 t) r n).trans (sum_block m c t r (by decide) n fun e => (block_7 m c t e n).trans (wv_at m c e n))

theorem flushed_v (t : Fin cfg0.N) :
    (dats m 0 c).flushed 16 t = (win0_16.blk t).view.read (Elt Ideal) (vs (argX m c) (argG m c) (argW m c)) := by
  refine (flushed16 m c t).trans ?_
  rw [out_v]
  funext j
  obtain ⟨r, n, rfl⟩ : ∃ (r : Fin 512) (n : Fin 512), j = ix2 r n := ⟨j 0, j 1, by funext a; fin_cases a <;> rfl⟩
  refine (entry_v m c t r n).trans ?_
  unfold row
  blk_ext [spots t]

theorem entry_kb (t : Fin cfg0.N) (r : Fin 512) (n : Fin 512) :
    k0_pay12 (F := Ideal) (k0_pay3 (iblk m c 0 t) (iblk m c 1 t)) (iblk m c 8 t) (iblk m c 9 t) (iblk m c 10 t) (iblk m c 6 t) (ix2 r n)
      = ks (argX m c) (argG m c) (argW m c) (ix2 (row t r) n) :=
  entry_k m c t r n

theorem flushed_kb (t : Fin cfg0.N) :
    (dats m 0 c).flushed 17 t = (win0_17.blk t).view.read (Elt Ideal) (ks (argX m c) (argG m c) (argW m c)) := by
  refine (flushed17 m c t).trans ?_
  rw [out_kb]
  funext j
  obtain ⟨r, n, rfl⟩ : ∃ (r : Fin 512) (n : Fin 512), j = ix2 r n := ⟨j 0, j 1, by funext a; fin_cases a <;> rfl⟩
  refine (entry_kb m c t r n).trans ?_
  unfold row
  blk_ext [spots t]

theorem entry_vb (t : Fin cfg0.N) (r : Fin 512) (n : Fin 512) :
    k0_pay2 (F := Ideal) (k0_pay3 (iblk m c 0 t) (iblk m c 1 t)) (iblk m c 7 t) (ix2 r n)
      = vs (argX m c) (argG m c) (argW m c) (ix2 (row t r) n) :=
  entry_v m c t r n

theorem flushed_vb (t : Fin cfg0.N) :
    (dats m 0 c).flushed 18 t = (win0_18.blk t).view.read (Elt Ideal) (vs (argX m c) (argG m c) (argW m c)) := by
  refine (flushed18 m c t).trans ?_
  rw [out_vb]
  funext j
  obtain ⟨r, n, rfl⟩ : ∃ (r : Fin 512) (n : Fin 512), j = ix2 r n := ⟨j 0, j 1, by funext a; fin_cases a <;> rfl⟩
  refine (entry_vb m c t r n).trans ?_
  unfold row
  blk_ext [spots t]

/-- Where the outputs' blocks begin at a point, and their extents. -/
theorem extent : ∀ t : Fin grid0.N,
    (win0_11.index t 0 * win0_11.size 0 = 512 * t.val ∧ win0_11.index t 1 * win0_11.size 1 = 0
      ∧ win0_11.xsize (grid0.coords t) 0 = 512 ∧ win0_11.xsize (grid0.coords t) 1 = 512)
    ∧ (win0_12.index t 0 * win0_12.size 0 = 512 * t.val ∧ win0_12.index t 1 * win0_12.size 1 = 0
      ∧ win0_12.xsize (grid0.coords t) 0 = 512 ∧ win0_12.xsize (grid0.coords t) 1 = 1024)
    ∧ (win0_13.index t 0 * win0_13.size 0 = 512 * t.val ∧ win0_13.index t 1 * win0_13.size 1 = 0
      ∧ win0_13.xsize (grid0.coords t) 0 = 512 ∧ win0_13.xsize (grid0.coords t) 1 = 128)
    ∧ (win0_14.index t 0 * win0_14.size 0 = 512 * t.val ∧ win0_14.index t 1 * win0_14.size 1 = 0
      ∧ win0_14.xsize (grid0.coords t) 0 = 512 ∧ win0_14.xsize (grid0.coords t) 1 = 512)
    ∧ (win0_15.index t 0 * win0_15.size 0 = 512 * t.val ∧ win0_15.index t 1 * win0_15.size 1 = 0
      ∧ win0_15.xsize (grid0.coords t) 0 = 512 ∧ win0_15.xsize (grid0.coords t) 1 = 512)
    ∧ (win0_16.index t 0 * win0_16.size 0 = 512 * t.val ∧ win0_16.index t 1 * win0_16.size 1 = 0
      ∧ win0_16.xsize (grid0.coords t) 0 = 512 ∧ win0_16.xsize (grid0.coords t) 1 = 512)
    ∧ (win0_17.index t 0 * win0_17.size 0 = 512 * t.val ∧ win0_17.index t 1 * win0_17.size 1 = 0
      ∧ win0_17.xsize (grid0.coords t) 0 = 512 ∧ win0_17.xsize (grid0.coords t) 1 = 512)
    ∧ (win0_18.index t 0 * win0_18.size 0 = 512 * t.val ∧ win0_18.index t 1 * win0_18.size 1 = 0
      ∧ win0_18.xsize (grid0.coords t) 0 = 512 ∧ win0_18.xsize (grid0.coords t) 1 = 512) := by decide +kernel

/-- Every index of an array of rows lies in the block of the point its row belongs to. -/
theorem within {C : ℕ} {a0 a1 lo0 lo1 s0 s1 : ℕ} (h0 : a0 < 1024) (h1 : a1 < C)
    (h : lo0 = 512 * (a0 / 512) ∧ lo1 = 0 ∧ s0 = 512 ∧ s1 = C) : (lo0 ≤ a0 ∧ a0 < lo0 + s0) ∧ (lo1 ≤ a1 ∧ a1 < lo1 + s1) := by
  obtain ⟨rfl, rfl, rfl, rfl⟩ := h
  omega

theorem cover_z (i : S1024x512.Idx) : ∃ t : Fin cfg0.N, (cfg0.win 11).flush t = true ∧ i ∈ ((cfg0.win 11).blk t).view.set := by
  have h0 : (i 0).val < 1024 := (i 0).isLt
  have ht : (i 0).val / 512 < 2 := by omega
  refine ⟨⟨(i 0).val / 512, ht⟩, flush0_11 _, ?_⟩
  show i ∈ ((View.whole main_v54_0).slice (win0_11.rect ⟨(i 0).val / 512, ht⟩)).set
  rw [View.set_slice_whole, Rect.mem_set_unit]
  exact Fin.forall_fin_two.mpr (within h0 (i 1).isLt (extent ⟨(i 0).val / 512, ht⟩).1)

theorem final_z : (dats m 0 c).arrAt 11 cfg0.N = zs (argX m c) (argG m c) (argW m c) :=
  (dats m 0 c).arrAt_eq_of_cover 11 _ (fun t _ => flushed_z m c t) cover_z

theorem cover_xbc (i : S1024x1024.Idx) : ∃ t : Fin cfg0.N, (cfg0.win 12).flush t = true ∧ i ∈ ((cfg0.win 12).blk t).view.set := by
  have h0 : (i 0).val < 1024 := (i 0).isLt
  have ht : (i 0).val / 512 < 2 := by omega
  refine ⟨⟨(i 0).val / 512, ht⟩, flush0_12 _, ?_⟩
  show i ∈ ((View.whole main_v54_1).slice (win0_12.rect ⟨(i 0).val / 512, ht⟩)).set
  rw [View.set_slice_whole, Rect.mem_set_unit]
  exact Fin.forall_fin_two.mpr (within h0 (i 1).isLt (extent ⟨(i 0).val / 512, ht⟩).2.1)

theorem final_xbc : (dats m 0 c).arrAt 12 cfg0.N = xbcs (argX m c) (argG m c) (argW m c) :=
  (dats m 0 c).arrAt_eq_of_cover 12 _ (fun t _ => flushed_xbc m c t) cover_xbc

theorem cover_dt (i : S1024x128.Idx) : ∃ t : Fin cfg0.N, (cfg0.win 13).flush t = true ∧ i ∈ ((cfg0.win 13).blk t).view.set := by
  have h0 : (i 0).val < 1024 := (i 0).isLt
  have ht : (i 0).val / 512 < 2 := by omega
  refine ⟨⟨(i 0).val / 512, ht⟩, flush0_13 _, ?_⟩
  show i ∈ ((View.whole main_v54_2).slice (win0_13.rect ⟨(i 0).val / 512, ht⟩)).set
  rw [View.set_slice_whole, Rect.mem_set_unit]
  exact Fin.forall_fin_two.mpr (within h0 (i 1).isLt (extent ⟨(i 0).val / 512, ht⟩).2.2.1)

theorem final_dt : (dats m 0 c).arrAt 13 cfg0.N = dts (argX m c) (argG m c) (argW m c) :=
  (dats m 0 c).arrAt_eq_of_cover 13 _ (fun t _ => flushed_dt m c t) cover_dt

theorem cover_q (i : S1024x512.Idx) : ∃ t : Fin cfg0.N, (cfg0.win 14).flush t = true ∧ i ∈ ((cfg0.win 14).blk t).view.set := by
  have h0 : (i 0).val < 1024 := (i 0).isLt
  have ht : (i 0).val / 512 < 2 := by omega
  refine ⟨⟨(i 0).val / 512, ht⟩, flush0_14 _, ?_⟩
  show i ∈ ((View.whole main_v54_3).slice (win0_14.rect ⟨(i 0).val / 512, ht⟩)).set
  rw [View.set_slice_whole, Rect.mem_set_unit]
  exact Fin.forall_fin_two.mpr (within h0 (i 1).isLt (extent ⟨(i 0).val / 512, ht⟩).2.2.2.1)

theorem final_q : (dats m 0 c).arrAt 14 cfg0.N = qs (argX m c) (argG m c) (argW m c) :=
  (dats m 0 c).arrAt_eq_of_cover 14 _ (fun t _ => flushed_q m c t) cover_q

theorem cover_k (i : S1024x512.Idx) : ∃ t : Fin cfg0.N, (cfg0.win 15).flush t = true ∧ i ∈ ((cfg0.win 15).blk t).view.set := by
  have h0 : (i 0).val < 1024 := (i 0).isLt
  have ht : (i 0).val / 512 < 2 := by omega
  refine ⟨⟨(i 0).val / 512, ht⟩, flush0_15 _, ?_⟩
  show i ∈ ((View.whole main_v54_4).slice (win0_15.rect ⟨(i 0).val / 512, ht⟩)).set
  rw [View.set_slice_whole, Rect.mem_set_unit]
  exact Fin.forall_fin_two.mpr (within h0 (i 1).isLt (extent ⟨(i 0).val / 512, ht⟩).2.2.2.2.1)

theorem final_k : (dats m 0 c).arrAt 15 cfg0.N = ks (argX m c) (argG m c) (argW m c) :=
  (dats m 0 c).arrAt_eq_of_cover 15 _ (fun t _ => flushed_k m c t) cover_k

theorem cover_v (i : S1024x512.Idx) : ∃ t : Fin cfg0.N, (cfg0.win 16).flush t = true ∧ i ∈ ((cfg0.win 16).blk t).view.set := by
  have h0 : (i 0).val < 1024 := (i 0).isLt
  have ht : (i 0).val / 512 < 2 := by omega
  refine ⟨⟨(i 0).val / 512, ht⟩, flush0_16 _, ?_⟩
  show i ∈ ((View.whole main_v54_5).slice (win0_16.rect ⟨(i 0).val / 512, ht⟩)).set
  rw [View.set_slice_whole, Rect.mem_set_unit]
  exact Fin.forall_fin_two.mpr (within h0 (i 1).isLt (extent ⟨(i 0).val / 512, ht⟩).2.2.2.2.2.1)

theorem final_v : (dats m 0 c).arrAt 16 cfg0.N = vs (argX m c) (argG m c) (argW m c) :=
  (dats m 0 c).arrAt_eq_of_cover 16 _ (fun t _ => flushed_v m c t) cover_v

theorem cover_kb (i : S1024x512.Idx) : ∃ t : Fin cfg0.N, (cfg0.win 17).flush t = true ∧ i ∈ ((cfg0.win 17).blk t).view.set := by
  have h0 : (i 0).val < 1024 := (i 0).isLt
  have ht : (i 0).val / 512 < 2 := by omega
  refine ⟨⟨(i 0).val / 512, ht⟩, flush0_17 _, ?_⟩
  show i ∈ ((View.whole main_v54_6).slice (win0_17.rect ⟨(i 0).val / 512, ht⟩)).set
  rw [View.set_slice_whole, Rect.mem_set_unit]
  exact Fin.forall_fin_two.mpr (within h0 (i 1).isLt (extent ⟨(i 0).val / 512, ht⟩).2.2.2.2.2.2.1)

theorem final_kb : (dats m 0 c).arrAt 17 cfg0.N = ks (argX m c) (argG m c) (argW m c) :=
  (dats m 0 c).arrAt_eq_of_cover 17 _ (fun t _ => flushed_kb m c t) cover_kb

theorem cover_vb (i : S1024x512.Idx) : ∃ t : Fin cfg0.N, (cfg0.win 18).flush t = true ∧ i ∈ ((cfg0.win 18).blk t).view.set := by
  have h0 : (i 0).val < 1024 := (i 0).isLt
  have ht : (i 0).val / 512 < 2 := by omega
  refine ⟨⟨(i 0).val / 512, ht⟩, flush0_18 _, ?_⟩
  show i ∈ ((View.whole main_v54_7).slice (win0_18.rect ⟨(i 0).val / 512, ht⟩)).set
  rw [View.set_slice_whole, Rect.mem_set_unit]
  exact Fin.forall_fin_two.mpr (within h0 (i 1).isLt (extent ⟨(i 0).val / 512, ht⟩).2.2.2.2.2.2.2)

theorem final_vb : (dats m 0 c).arrAt 18 cfg0.N = vs (argX m c) (argG m c) (argW m c) :=
  (dats m 0 c).arrAt_eq_of_cover 18 _ (fun t _ => flushed_vb m c t) cover_vb

end kernel

section reference

open Cert.Reference5Ideal Cert.Reference5Ideal.Gen

/-- The reference's product of the normed tokens with the matrix, -/
def product (X : FVec Ideal S32x32x1024 .f32) (g : FVec Ideal S1x1024 .f32) (W : FVec Ideal S1x1024x3080 .f32) : FVec Ideal S32x32x3080 .f32 :=
  Host.dotGeneral dot_S32x32x1024_S1024x3080_S32x32x3080_2_0_01_1_n_n none (mulf (mulf X (broadcastInDim S32x32x1024 ![0, 1, 2] bcast_S32x32x1_S32x32x1024_0_1_2 (Host.rsqrt (addf (Host.divf (broadcastInDim S32x32x1 ![0, 1] bcast_S32x32_S32x32x1_0_1 (Host.reduceAdd (mulf X X) (constant S_ .f32 0x00000000#32) reducesTo_S32x32x1024_S32x32_d2 h_S_)) (broadcastInDim S32x32x1 ![] bcast_S_S32x32x1 (constant S_ .f32 0x44800000#32))) (broadcastInDim S32x32x1 ![] bcast_S_S32x32x1 (constant S_ .f32 0x358637BD#32)))))) (broadcastInDim S32x32x1024 ![0, 1, 2] bcast_S1x1x1024_S32x32x1024_0_1_2 (broadcastInDim S1x1x1024 ![2] bcast_S1024_S1x1x1024_2 (shapeCast _ g shapeCasts_S1x1024_S1024)))) (shapeCast _ W shapeCasts_S1x1024x3080_S1024x3080)

theorem product_at (X : FVec Ideal S32x32x1024 .f32) (g : FVec Ideal S1x1024 .f32) (W : FVec Ideal S1x1024x3080 .f32) (r : Fin 1024)
    (n : Fin 3080) :
    product X g W (ix3 ⟨r.val / 32, by omega⟩ ⟨r.val % 32, Nat.mod_lt _ (by decide)⟩ n) = entry X g W r n := by
  pointwise [product]
  rfl

/-- its angles, -/
def angles : FVec Ideal S32x8 .f32 :=
  mulf (broadcastInDim S32x8 ![0, 1] bcast_S32x1_S32x8_0_1 (broadcastInDim S32x1 ![0] bcast_S32_S32x1_0 (addf (sitofp .f32 (iotaInDim S32 32 0)) (broadcastInDim S32 ![] bcast_S_S32 (constant S_ .f32 0x45000000#32))))) (broadcastInDim S32x8 ![0, 1] bcast_S1x8_S32x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (sitofp .f32 (iotaInDim S8 32 0)) (broadcastInDim S8 ![] bcast_S_S8 (constant S_ .f32 0x41000000#32)))))))

theorem angles_at (p : Fin 32) (f : Fin 8) : angles (ix2 p f) = angle (2048 + p.val) f.val := by
  pointwise [angles]
  exact angle_later p.val p.isLt f.val

/-- and its turning of a slice by halves. -/
def halves (U : FVec Ideal S32x32x512 .f32) (A B : FVec Ideal S32x8 .f32) : FVec Ideal S1024x512 .f32 :=
  shapeCast _ (concatenate S32x32x4x2x64 4
    [⟨S32x32x4x2x8, (subf (mulf (extractStridedSlice S32x32x4x2x8 ![0, 0, 0, 0, 0] (shapeCast _ U shapeCasts_S32x32x512_S32x32x4x2x64) slices_S32x32x4x2x64_S32x32x4x2x8_0_0_0_0_0) (broadcastInDim S32x32x4x2x8 ![0, 1, 2, 3, 4] bcast_S1x32x1x1x8_S32x32x4x2x8_0_1_2_3_4 (broadcastInDim S1x32x1x1x8 ![1, 4] bcast_S32x8_S1x32x1x1x8_1_4 A))) (mulf (extractStridedSlice S32x32x4x2x8 ![0, 0, 0, 0, 8] (shapeCast _ U shapeCasts_S32x32x512_S32x32x4x2x64) slices_S32x32x4x2x64_S32x32x4x2x8_0_0_0_0_8) (broadcastInDim S32x32x4x2x8 ![0, 1, 2, 3, 4] bcast_S1x32x1x1x8_S32x32x4x2x8_0_1_2_3_4 (broadcastInDim S1x32x1x1x8 ![1, 4] bcast_S32x8_S1x32x1x1x8_1_4 B))) : (⟨S32x32x4x2x8, .f32⟩ : BufTy).Contents (Elt Ideal))⟩,
     ⟨S32x32x4x2x8, (addf (mulf (extractStridedSlice S32x32x4x2x8 ![0, 0, 0, 0, 8] (shapeCast _ U shapeCasts_S32x32x512_S32x32x4x2x64) slices_S32x32x4x2x64_S32x32x4x2x8_0_0_0_0_8) (broadcastInDim S32x32x4x2x8 ![0, 1, 2, 3, 4] bcast_S1x32x1x1x8_S32x32x4x2x8_0_1_2_3_4 (broadcastInDim S1x32x1x1x8 ![1, 4] bcast_S32x8_S1x32x1x1x8_1_4 A))) (mulf (extractStridedSlice S32x32x4x2x8 ![0, 0, 0, 0, 0] (shapeCast _ U shapeCasts_S32x32x512_S32x32x4x2x64) slices_S32x32x4x2x64_S32x32x4x2x8_0_0_0_0_0) (broadcastInDim S32x32x4x2x8 ![0, 1, 2, 3, 4] bcast_S1x32x1x1x8_S32x32x4x2x8_0_1_2_3_4 (broadcastInDim S1x32x1x1x8 ![1, 4] bcast_S32x8_S1x32x1x1x8_1_4 B))) : (⟨S32x32x4x2x8, .f32⟩ : BufTy).Contents (Elt Ideal))⟩,
     ⟨S32x32x4x2x48, (extractStridedSlice S32x32x4x2x48 ![0, 0, 0, 0, 16] (shapeCast _ U shapeCasts_S32x32x512_S32x32x4x2x64) slices_S32x32x4x2x64_S32x32x4x2x48_0_0_0_0_16 : (⟨S32x32x4x2x48, .f32⟩ : BufTy).Contents (Elt Ideal))⟩]
    concatenates_S32x32x4x2x8_S32x32x4x2x8_S32x32x4x2x48_S32x32x4x2x64_d4) shapeCasts_S32x32x4x2x64_S1024x512

theorem cos_at (A : FVec Ideal S32x8 .f32) (i : S32x8.Idx) : Host.cos A i = Ideal.cos (A i) := rfl

theorem sin_at (A : FVec Ideal S32x8 .f32) (i : S32x8.Idx) : Host.sin A i = Ideal.sin (A i) := rfl

theorem turns (U : FVec Ideal S32x32x512 .f32) (A B : FVec Ideal S32x8 .f32) (u : Fin 512 → EReal) (r : Fin 1024) (n : Fin 512)
    (hu : ∀ n, U (ix3 ⟨r.val / 32, by omega⟩ ⟨r.val % 32, Nat.mod_lt _ (by decide)⟩ n) = u n)
    (hc : ∀ (p : Fin 32) (f : Fin 8), A (ix2 p f) = Ideal.cos (angle (2048 + p.val) f.val))
    (hs : ∀ (p : Fin 32) (f : Fin 8), B (ix2 p f) = Ideal.sin (angle (2048 + p.val) f.val)) :
    halves U A B (ix2 r n) = turn u (2048 + r.val % 32) n := by
  pointwise [halves]
  unfold turn
  by_cases h : n.val % 64 < 8
  · simp only [dif_pos h]
    exact congrArg₂ (· - ·) (congrArg₂ (· * ·) (hu _) (hc _ _))
      (congrArg₂ (· * ·) ((hu _).trans (congrArg u (Fin.ext (by dsimp only; omega)))) (hs _ _))
  · simp only [dif_neg h]
    by_cases h' : n.val % 64 - 8 < 8
    · simp only [dif_pos h']
      exact congrArg₂ (· + ·) (congrArg₂ (· * ·) ((hu _).trans (congrArg u (Fin.ext (by dsimp only; omega)))) (hc _ _))
        (congrArg₂ (· * ·) ((hu _).trans (congrArg u (Fin.ext (by dsimp only; omega)))) (hs _ _))
    · simp only [dif_neg h']
      exact (hu _).trans (congrArg u (Fin.ext (by dsimp only; omega)))

theorem halves_at (U : FVec Ideal S32x32x512 .f32) (u : Fin 512 → EReal) (r : Fin 1024) (n : Fin 512)
    (hu : ∀ n, U (ix3 ⟨r.val / 32, by omega⟩ ⟨r.val % 32, Nat.mod_lt _ (by decide)⟩ n) = u n) :
    halves U (Host.cos angles) (Host.sin angles) (ix2 r n) = turn u (2048 + r.val % 32) n :=
  turns U _ _ u r n hu (fun p f => (cos_at angles _).trans (congrArg Ideal.cos (angles_at p f)))
    fun p f => (sin_at angles _).trans (congrArg Ideal.sin (angles_at p f))

variable (X : FVec Ideal S32x32x1024 .f32) (g : FVec Ideal S1x1024 .f32) (W : FVec Ideal S1x1024x3080 .f32)

theorem ext_rows {C : ℕ} {A B : Out C} (h : ∀ (r : Fin 1024) (n : Fin C), A (ix2 r n) = B (ix2 r n)) : A = B := by
  funext i
  obtain ⟨r, n, rfl⟩ : ∃ (r : Fin 1024) (n : Fin C), i = ix2 r n := ⟨i 0, i 1, by funext a; fin_cases a <;> rfl⟩
  exact h r n

/-- The reference's results are the eight. -/
theorem ref_z : shapeCast S1024x512 (extractStridedSlice S32x32x512 ![0, 0, 0] (product X g W) slices_S32x32x3080_S32x32x512_0_0_0) shapeCasts_S32x32x512_S1024x512
    = zs X g W := by
  refine ext_rows fun r n => ?_
  pointwise []
  refine (product_at X g W r _).trans (congrArg (entry X g W r) (Fin.ext ?_))
  show n.val = 0 + n.val
  omega

theorem ref_xbc : shapeCast S1024x1024 (extractStridedSlice S32x32x1024 ![0, 0, 512] (product X g W) slices_S32x32x3080_S32x32x1024_0_0_512) shapeCasts_S32x32x1024_S1024x1024
    = xbcs X g W := by
  refine ext_rows fun r n => ?_
  pointwise []
  exact product_at X g W r _

theorem ref_v : shapeCast S1024x512 (extractStridedSlice S32x32x512 ![0, 0, 2568] (product X g W) slices_S32x32x3080_S32x32x512_0_0_2568) shapeCasts_S32x32x512_S1024x512
    = vs X g W := by
  refine ext_rows fun r n => ?_
  pointwise []
  exact product_at X g W r _

theorem ref_dt : shapeCast S1024x128 (pad S32x32x128 ![0, 0, 0] ![0, 0, 120] ![0, 0, 0] (extractStridedSlice S32x32x8 ![0, 0, 1536] (product X g W) slices_S32x32x3080_S32x32x8_0_0_1536) (sitofp .f32 (constantI S_ 32 0#32)) pads_S32x32x8_S32x32x128_000_000_01200 h_S_) shapeCasts_S32x32x128_S1024x128
    = dts X g W := by
  have z : (FloatOps.sitofp (F := Ideal) FTy.f32 0#32 : EReal) = 0 := by simp [FloatOps.sitofp]
  refine ext_rows fun r n => ?_
  rw [dts_at]
  pointwise []
  by_cases h : n.val < 8
  · have k : r.val / 32 < 32 ∧ r.val % 32 < 32 ∧ n.val < 8 := ⟨by omega, by omega, h⟩
    simp only [dif_pos k, dif_pos h]
    exact product_at X g W r _
  · have k : ¬(r.val / 32 < 32 ∧ r.val % 32 < 32 ∧ n.val < 8) := fun k => h k.2.2
    simp only [dif_neg k, dif_neg h]
    exact z

theorem ref_k : halves (extractStridedSlice S32x32x512 ![0, 0, 2056] (product X g W) slices_S32x32x3080_S32x32x512_0_0_2056) (Host.cos angles) (Host.sin angles)
    = ks X g W := by
  refine ext_rows fun r n => ?_
  refine halves_at _ _ r n fun n => ?_
  pointwise []
  exact product_at X g W r _

/-- Cut to the short format the numbers stay. -/
theorem cut {C : ℕ} {A : FVec Ideal ⟨2, ![1024, C]⟩ .f32} {B : Out C} (h : A = B) : truncf .bf16 A bitsLt_bf16_f32 = B := by
  subst h
  rfl

theorem ref_kb : truncf .bf16 (halves (extractStridedSlice S32x32x512 ![0, 0, 2056] (product X g W) slices_S32x32x3080_S32x32x512_0_0_2056) (Host.cos angles) (Host.sin angles)) bitsLt_bf16_f32
    = ks X g W := cut (ref_k X g W)

theorem ref_vb : truncf .bf16 (shapeCast S1024x512 (extractStridedSlice S32x32x512 ![0, 0, 2568] (product X g W) slices_S32x32x3080_S32x32x512_0_0_2568) shapeCasts_S32x32x512_S1024x512) bitsLt_bf16_f32
    = vs X g W := cut (ref_v X g W)

theorem ref_q : truncf .bf16 (mulf (halves (extractStridedSlice S32x32x512 ![0, 0, 1544] (product X g W) slices_S32x32x3080_S32x32x512_0_0_1544) (Host.cos angles) (Host.sin angles)) (broadcastInDim S1024x512 ![] bcast_S_S1024x512 (constant S_ .f32 0x3E000000#32))) bitsLt_bf16_f32
    = qs X g W := by
  refine ext_rows fun r n => ?_
  refine congrArg (· * Ideal.ofBits .f32 0x3E000000#32) (halves_at _ _ r n fun n => ?_)
  pointwise []
  exact product_at X g W r _

end reference

end Cert.Proof.ProjectSample

end
-- ==== Proof.Memory.lean ====
/-
  The memory's keys and values: rows of the memory, normed, times two matrices. Kernel and reference, entry by entry.
-/
module

public import proofs.«01_k».proof.Proof.Gen.Kernel3Ideal.Value
public import proofs.«01_k».proof.Proof.Gen.Reference3Ideal.Run
public import proofs.«01_k».proof.Proof.Norm
public import Idealize.ShloMosaic.Lib.Pipeline.ValueKit
public import Idealize.ShloMosaic.Lib.StableHlo.ReadAt

@[expose] public section

set_option maxRecDepth 16384

noncomputable section

namespace Cert.Proof.Memory

open Idealize.ShloMosaic Idealize.ShloMosaic.TcCoe Idealize.ShloMosaic.Tactic
open Idealize.SL.Sem
open Idealize.ShloMosaic.Pipeline (Dat)
open Cert.Proof.Norm

abbrev Mem := (⟨3, ![2, 256, 1024]⟩ : Shape).Idx → EReal
abbrev Gain := (⟨2, ![1, 1024]⟩ : Shape).Idx → EReal
abbrev Mat := (⟨3, ![1, 1024, 1024]⟩ : Shape).Idx → EReal

/-- The rows of the memory, normed, times a matrix. -/
def projected (X : Mem) (g : Gain) (W : Mat) (r : Fin 512) (n : Fin 1024) : EReal :=
  proj (fun e => X (ix3 ⟨r.val / 256, by omega⟩ ⟨r.val % 256, Nat.mod_lt _ (by decide)⟩ e)) (fun e => g (ix2 0 e)) (fun e => W (ix3 0 e n))

section kernel

open Cert.Kernel3Ideal Cert.Kernel3Ideal.Gen Cert.Kernel3Ideal.Value

variable (m : (ℓ : Loc nD τ sig) → Buf (Elt Ideal) ℓ) (c : Dev nD)

abbrev argX : Mem := m ((c.tc : Thread nD τ).loc main_arg0)
abbrev argG : Gain := m ((c.tc : Thread nD τ).loc main_arg1)
abbrev argA : Mat := m ((c.tc : Thread nD τ).loc main_arg2)
abbrev argB : Mat := m ((c.tc : Thread nD τ).loc main_arg3)

theorem rows_at (r : Fin 512) (e : Fin 1024) :
    V m c main_v0 (ix2 r e) = argX m c (ix3 ⟨r.val / 256, by omega⟩ ⟨r.val % 256, Nat.mod_lt _ (by decide)⟩ e) := by
  unfold V
  after_reads_at

theorem gain_at (e : Fin 1024) : V m c main_v2 (ix2 0 e) = argG m c (ix2 0 e) := by
  unfold V
  after_reads_at

theorem left_at (e n : Fin 1024) : V m c main_v4 (ix2 e n) = argA m c (ix3 0 e n) := by
  unfold V
  after_reads_at

theorem right_at (e n : Fin 1024) : V m c main_v6 (ix2 e n) = argB m c (ix3 0 e n) := by
  unfold V
  after_reads_at

theorem pay_left (x : FVec Ideal S256x1024 .f32) (g : FVec Ideal S1x1024 .f32) (w : FVec Ideal S1024x1024 .bf16) (r : Fin 256) (n : Fin 1024) :
    k0_pay2 (F := Ideal) x g w (ix2 r n) = proj (fun e => x (ix2 r e)) (fun e => g (ix2 0 e)) (fun e => w (ix2 e n)) := by
  pointwise [k0_pay2, k0_pay1]
  rfl

theorem pay_right (x : FVec Ideal S256x1024 .f32) (g : FVec Ideal S1x1024 .f32) (w : FVec Ideal S1024x1024 .bf16) (r : Fin 256) (n : Fin 1024) :
    k0_pay3 (F := Ideal) x g w (ix2 r n) = proj (fun e => x (ix2 r e)) (fun e => g (ix2 0 e)) (fun e => w (ix2 e n)) := pay_left x g w r n

theorem out_left (x : FVec Ideal S256x1024 .f32) (g : FVec Ideal S1x1024 .f32) (w v : FVec Ideal S1024x1024 .bf16) :
    out0_4 (F := Ideal) x g w v = k0_pay2 (F := Ideal) x g w := by
  unfold out0_4
  rw [View.canon_unit_zero (by decide), View.ld_unit_zero (by decide), View.ld_unit_zero (by decide), View.ld_unit_zero (by decide)]

theorem out_right (x : FVec Ideal S256x1024 .f32) (g : FVec Ideal S1x1024 .f32) (w v : FVec Ideal S1024x1024 .bf16) :
    out0_5 (F := Ideal) x g w v = k0_pay3 (F := Ideal) x g v := by
  unfold out0_5
  rw [View.canon_unit_zero (by decide), View.ld_unit_zero (by decide), View.ld_unit_zero (by decide), View.ld_unit_zero (by decide)]

/-- Where each window's block lies at a point. -/
theorem places : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) := by decide +kernel

theorem point_lt (t : Fin cfg0.N) : t.val < 2 := t.isLt

theorem block_x (t : Fin cfg0.N) (r : Fin 256) (e : Fin 1024) :
    iblk m c 0 t (ix2 r e) = V m c main_v0 (ix2 ⟨256 * t.val + r.val, by have := point_lt t; omega⟩ e) := by
  blk_ext [iblk, places t]

theorem block_g (t : Fin cfg0.N) (e : Fin 1024) : iblk m c 1 t (ix2 0 e) = V m c main_v2 (ix2 0 e) := by
  blk_ext [iblk, places t]

theorem block_a (t : Fin cfg0.N) (e n : Fin 1024) : iblk m c 2 t (ix2 e n) = V m c main_v4 (ix2 e n) := by
  blk_ext [iblk, places t]

theorem block_b (t : Fin cfg0.N) (e n : Fin 1024) : iblk m c 3 t (ix2 e n) = V m c main_v6 (ix2 e n) := by
  blk_ext [iblk, places t]

/-- The projected memory as an array. -/
def G (X : Mem) (g : Gain) (W : Mat) : FVec Ideal S512x1024 .f32 := fun i => projected X g W (i 0) (i 1)

theorem flushed_left (t : Fin cfg0.N) :
    (dats m 0 c).flushed 4 t = (win0_4.blk t).view.read (Elt Ideal) (G (argX m c) (argG m c) (argA m c)) := by
  refine (flushed4 m c t).trans ?_
  rw [out_left]
  funext j
  obtain ⟨r, n, rfl⟩ : ∃ (r : Fin 256) (n : Fin 1024), j = ix2 r n := ⟨j 0, j 1, by funext a; fin_cases a <;> rfl⟩
  refine (pay_left (iblk m c 0 t) (iblk m c 1 t) (iblk m c 2 t) r n).trans ?_
  refine (proj_congr (fun e => (block_x m c t r e).trans (rows_at m c _ e)) (fun e => (block_g m c t e).trans (gain_at m c e))
    (fun e => (block_a m c t e n).trans (left_at m c e n))).trans ?_
  refine Eq.trans (b := G (argX m c) (argG m c) (argA m c) (ix2 ⟨256 * t.val + r.val, by have := point_lt t; omega⟩ n)) rfl ?_
  blk_ext [places t]

theorem flushed_right (t : Fin cfg0.N) :
    (dats m 0 c).flushed 5 t = (win0_5.blk t).view.read (Elt Ideal) (G (argX m c) (argG m c) (argB m c)) := by
  refine (flushed5 m c t).trans ?_
  rw [out_right]
  funext j
  obtain ⟨r, n, rfl⟩ : ∃ (r : Fin 256) (n : Fin 1024), j = ix2 r n := ⟨j 0, j 1, by funext a; fin_cases a <;> rfl⟩
  refine (pay_right (iblk m c 0 t) (iblk m c 1 t) (iblk m c 3 t) r n).trans ?_
  refine (proj_congr (fun e => (block_x m c t r e).trans (rows_at m c _ e)) (fun e => (block_g m c t e).trans (gain_at m c e))
    (fun e => (block_b m c t e n).trans (right_at m c e n))).trans ?_
  refine Eq.trans (b := G (argX m c) (argG m c) (argB m c) (ix2 ⟨256 * t.val + r.val, by have := point_lt t; omega⟩ n)) rfl ?_
  blk_ext [places t]

/-- Where the outputs' blocks begin at a point, and their extents. -/
theorem extent : ∀ t : Fin grid0.N,
    (win0_4.index t 0 * win0_4.size 0 = 256 * t.val ∧ win0_4.index t 1 * win0_4.size 1 = 0 ∧ win0_4.xsize (grid0.coords t) 0 = 256
    ∧ win0_4.xsize (grid0.coords t) 1 = 1024)
    ∧ (win0_5.index t 0 * win0_5.size 0 = 256 * t.val ∧ win0_5.index t 1 * win0_5.size 1 = 0 ∧ win0_5.xsize (grid0.coords t) 0 = 256
    ∧ win0_5.xsize (grid0.coords t) 1 = 1024) := by decide +kernel

theorem cover_left (i : S512x1024.Idx) : ∃ t : Fin cfg0.N, (cfg0.win 4).flush t = true ∧ i ∈ ((cfg0.win 4).blk t).view.set := by
  have h0 : (i 0).val < 512 := (i 0).isLt
  have h1 : (i 1).val < 1024 := (i 1).isLt
  have ht : (i 0).val / 256 < 2 := by omega
  refine ⟨⟨(i 0).val / 256, ht⟩, flush0_4 _, ?_⟩
  show i ∈ ((View.whole main_v7_0).slice (win0_4.rect ⟨(i 0).val / 256, ht⟩)).set
  rw [View.set_slice_whole, Rect.mem_set_unit]
  obtain ⟨p0, p1, s0, s1⟩ := (extent ⟨(i 0).val / 256, ht⟩).1
  intro a
  fin_cases a
  · show win0_4.index _ 0 * win0_4.size 0 ≤ (i 0).val ∧ (i 0).val < win0_4.index _ 0 * win0_4.size 0 + win0_4.xsize _ 0
    rw [p0, s0]; dsimp only; omega
  · show win0_4.index _ 1 * win0_4.size 1 ≤ (i 1).val ∧ (i 1).val < win0_4.index _ 1 * win0_4.size 1 + win0_4.xsize _ 1
    rw [p1, s1]; omega

theorem cover_right (i : S512x1024.Idx) : ∃ t : Fin cfg0.N, (cfg0.win 5).flush t = true ∧ i ∈ ((cfg0.win 5).blk t).view.set := by
  have h0 : (i 0).val < 512 := (i 0).isLt
  have h1 : (i 1).val < 1024 := (i 1).isLt
  have ht : (i 0).val / 256 < 2 := by omega
  refine ⟨⟨(i 0).val / 256, ht⟩, flush0_5 _, ?_⟩
  show i ∈ ((View.whole main_v7_1).slice (win0_5.rect ⟨(i 0).val / 256, ht⟩)).set
  rw [View.set_slice_whole, Rect.mem_set_unit]
  obtain ⟨p0, p1, s0, s1⟩ := (extent ⟨(i 0).val / 256, ht⟩).2
  intro a
  fin_cases a
  · show win0_5.index _ 0 * win0_5.size 0 ≤ (i 0).val ∧ (i 0).val < win0_5.index _ 0 * win0_5.size 0 + win0_5.xsize _ 0
    rw [p0, s0]; dsimp only; omega
  · show win0_5.index _ 1 * win0_5.size 1 ≤ (i 1).val ∧ (i 1).val < win0_5.index _ 1 * win0_5.size 1 + win0_5.xsize _ 1
    rw [p1, s1]; omega

theorem final_left : (dats m 0 c).arrAt 4 cfg0.N = G (argX m c) (argG m c) (argA m c) :=
  (dats m 0 c).arrAt_eq_of_cover 4 _ (fun t _ => flushed_left m c t) cover_left

theorem final_right : (dats m 0 c).arrAt 5 cfg0.N = G (argX m c) (argG m c) (argB m c) :=
  (dats m 0 c).arrAt_eq_of_cover 5 _ (fun t _ => flushed_right m c t) cover_right

end kernel

section reference

open Cert.Reference3Ideal Cert.Reference3Ideal.Gen

/-- The reference's product of the normed memory with a matrix, laid out in rows, -/
def product (X : FVec Ideal S2x256x1024 .f32) (g : FVec Ideal S1x1024 .f32) (W : FVec Ideal S1x1024x1024 .f32) : FVec Ideal S512x1024 .f32 :=
  shapeCast _ (Host.dotGeneral dot_S2x256x1024_S1024x1024_S2x256x1024_2_0_01_1_n_n none (mulf (mulf X (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf X X) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ g shapeCasts_S1x1024_S1024)))) (shapeCast _ W shapeCasts_S1x1024x1024_S1024x1024)) shapeCasts_S2x256x1024_S512x1024

/-- is the projected memory. -/
theorem product_at (X : FVec Ideal S2x256x1024 .f32) (g : FVec Ideal S1x1024 .f32) (W : FVec Ideal S1x1024x1024 .f32) (r : Fin 512) (n : Fin 1024) :
    product X g W (ix2 r n) = projected X g W r n := by
  pointwise [product]
  rfl

theorem product_eq (X : FVec Ideal S2x256x1024 .f32) (g : FVec Ideal S1x1024 .f32) (W : FVec Ideal S1x1024x1024 .f32) : product X g W = G X g W := by
  funext i
  obtain ⟨r, n, rfl⟩ : ∃ (r : Fin 512) (n : Fin 1024), i = ix2 r n := ⟨i 0, i 1, by funext a; fin_cases a <;> rfl⟩
  exact product_at X g W r n

end reference

end Cert.Proof.Memory

end
-- ==== Proof.Recall.lean ====
/-
  Reading a memory: a row of a residual stream takes two halves of a mixed row through a matrix, asks the memory's keys with
  its normed self in four heads, and adds the memory's values so weighted. Over the extended reals, entry by entry.
-/
module

public import proofs.«01_k».proof.Proof.Norm
public import proofs.«01_k».proof.Proof.Softmax

@[expose] public section

noncomputable section

namespace Cert.Proof.Recall

open Idealize.ShloMosaic
open Cert.Proof.Norm Cert.Proof.Softmax

/-- A number of the stream with the two halves' products with the rows of a matrix added. -/
def mix (x : EReal) (y o : Fin 512 → EReal) (w : Fin 1024 → EReal) : EReal :=
  x + ∑ e, y e * w ⟨e.val, by omega⟩ + ∑ e, o e * w ⟨512 + e.val, by omega⟩

/-- A column of the same head as a given one. -/
def lane (e : Fin 1024) (i : Fin 256) : Fin 1024 := ⟨e.val / 256 * 256 + i.val, by omega⟩

/-- The score of a key against a query. -/
def score (q k : Fin 256 → EReal) : EReal := (∑ i, q i * k i) * Ideal.ofBits .f32 0x3D800000#32

/-- A row's maximum. -/
def top (s : Fin 256 → EReal) : EReal := Finset.univ.fold max ⊥ s

/-- The values weighted by the exponentials of the scores, each times the reciprocal of their sum. -/
def weighted (s v : Fin 256 → EReal) : EReal :=
  ∑ j, Ideal.exp (s j - top s) * Ideal.div 1 (∑ j', Ideal.exp (s j' - top s)) * v j

/-- What the memory answers in one column. -/
def answer (q : Fin 1024 → EReal) (K V : Fin 256 → Fin 1024 → EReal) (e : Fin 1024) : EReal :=
  weighted (fun j => score (fun i => q (lane e i)) (fun i => K j (lane e i))) (fun j => V j e)

/-- An answer in the head that begins at column `b` is that head's values weighted by its scores. -/
theorem answer_eq (q : Fin 1024 → EReal) (K V : Fin 256 → Fin 1024 → EReal) (b : ℕ) (hb : b % 256 = 0) (e : Fin 1024)
    (h : b ≤ e.val ∧ e.val < b + 256) :
    weighted (fun j => score (fun i => q ⟨b + i.val, by omega⟩) (fun i => K j ⟨b + i.val, by omega⟩)) (fun j => V j ⟨b + (e.val - b), by omega⟩)
      = answer q K V e := by
  have hl : ∀ i : Fin 256, lane e i = ⟨b + i.val, by omega⟩ := fun i => Fin.ext (by simp only [lane]; omega)
  have he : (⟨b + (e.val - b), by omega⟩ : Fin 1024) = e := Fin.ext (by simp only []; omega)
  rw [answer, funext hl, he]

/-- A number of the stream with the memory's answer, through a matrix, added. -/
def result (x : EReal) (q : Fin 1024 → EReal) (K V : Fin 256 → Fin 1024 → EReal) (w : Fin 1024 → EReal) : EReal :=
  x + ∑ e, answer q K V e * w e

/-- The words for 16 and for its inverse. -/
theorem word_16 : Ideal.ofBits .f32 0x41800000#32 = ((16 : ℝ) : EReal) := by
  simp [Ideal.ofBits, Ideal.ieee]
  rw [← EReal.coe_mul]; norm_num

theorem word_16th : Ideal.ofBits .f32 0x3D800000#32 = ((1 / 16 : ℝ) : EReal) := by
  simp [Ideal.ofBits, Ideal.ieee]
  rw [← EReal.coe_mul]; norm_num

/-- Dividing by 16 is multiplying by a sixteenth. -/
theorem score_div (q k : Fin 256 → EReal) : Ideal.div (∑ i, q i * k i) (Ideal.ofBits .f32 0x41800000#32) = score q k := by
  rw [score, word_16, word_16th, Ideal.div, if_neg (by norm_num), ← EReal.coe_inv]
  congr 2
  norm_num

/-- A real, as an extended real. -/
def Real (x : EReal) : Prop := ∃ r : ℝ, x = (r : EReal)

theorem real_of {x : EReal} (h : x ≠ ⊤ ∧ x ≠ ⊥) : Real x := ⟨_, (EReal.coe_toReal h.1 h.2).symm⟩

theorem Real.add {x y : EReal} : Real x → Real y → Real (x + y) := by
  rintro ⟨a, rfl⟩ ⟨b, rfl⟩; exact ⟨a + b, (EReal.coe_add a b).symm⟩

theorem Real.mul {x y : EReal} : Real x → Real y → Real (x * y) := by
  rintro ⟨a, rfl⟩ ⟨b, rfl⟩; exact ⟨a * b, (EReal.coe_mul a b).symm⟩

theorem Real.sum {ι : Type*} [Fintype ι] {f : ι → EReal} (h : ∀ i, Real (f i)) : Real (∑ i, f i) := by
  choose g hg using h
  exact ⟨∑ i, g i, by rw [coe_sum]; exact Finset.sum_congr rfl fun i _ => hg i⟩

/-- A real row has a real root mean square's inverse: what is added to the mean keeps it from zero. -/
theorem real_norm {x g : Fin 1024 → EReal} (hx : ∀ e, Real (x e)) (hg : ∀ e, Real (g e)) (e : Fin 1024) : Real (norm x g e) := by
  choose f hf using hx
  have hs : ∑ e', x e' * x e' = ((∑ e', f e' * f e' : ℝ) : EReal) := by
    rw [coe_sum]
    exact Finset.sum_congr rfl fun i _ => by rw [hf, EReal.coe_mul]
  have hn : (0 : ℝ) ≤ ∑ e', f e' * f e' := Finset.sum_nonneg fun i _ => mul_self_nonneg _
  have hk : Ideal.ofBits .f32 0x44800000#32 = ((1024 : ℝ) : EReal) := by
    simp [Ideal.ofBits, Ideal.ieee]
    rw [← EReal.coe_mul]; norm_num
  obtain ⟨ε, hε, h0⟩ : ∃ ε : ℝ, Ideal.ofBits .f32 0x358637BD#32 = (ε : EReal) ∧ 0 < ε := by
    refine ⟨_, by simp [Ideal.ofBits, Ideal.ieee]; rfl, ?_⟩
    positivity
  have hd : Ideal.rsqrt (Ideal.div (∑ e', x e' * x e') (Ideal.ofBits .f32 0x44800000#32) + Ideal.ofBits .f32 0x358637BD#32)
      = (((Real.sqrt ((∑ e', f e' * f e') * 1024⁻¹ + ε))⁻¹ : ℝ) : EReal) := by
    have hp : 0 < (∑ e', f e' * f e') * 1024⁻¹ + ε := by positivity
    rw [hs, hk, hε, Ideal.div, if_neg (by norm_num), ← EReal.coe_inv, ← EReal.coe_mul, ← EReal.coe_add, Ideal.rsqrt_coe,
      if_neg (not_lt.mpr hp.le), if_neg hp.ne']
  exact ((hf e ▸ ⟨f e, rfl⟩ : Real (x e)).mul ⟨_, hd⟩).mul (hg e)

theorem real_score {q k : Fin 256 → EReal} (hq : ∀ i, Real (q i)) (hk : ∀ i, Real (k i)) : Real (score q k) :=
  (Real.sum fun i => (hq i).mul (hk i)).mul ⟨_, word_16th⟩

theorem real_proj {x g w : Fin 1024 → EReal} (hx : ∀ e, Real (x e)) (hg : ∀ e, Real (g e)) (hw : ∀ e, Real (w e)) : Real (proj x g w) :=
  Real.sum fun e => (real_norm hx hg e).mul (hw e)

theorem real_mix {x : EReal} {y o : Fin 512 → EReal} {w : Fin 1024 → EReal} (hx : Real x) (hy : ∀ e, Real (y e)) (ho : ∀ e, Real (o e))
    (hw : ∀ e, Real (w e)) : Real (mix x y o w) :=
  (hx.add (Real.sum fun e => (hy e).mul (hw _))).add (Real.sum fun e => (ho e).mul (hw _))

/-- On real scores the weights are the quotients by the sum, and the order of the factors is free. -/
theorem weighted_div {s : Fin 256 → EReal} (hs : ∀ j, Real (s j)) (v : Fin 256 → EReal) :
    ∑ j, v j * Ideal.div (Ideal.exp (s j - max ⊥ (top s))) (∑ j', Ideal.exp (s j' - max ⊥ (top s))) = weighted s v := by
  have ht : ∀ j, s j ≠ ⊤ := fun j => by obtain ⟨r, h⟩ := hs j; rw [h]; exact EReal.coe_ne_top r
  have hb : s 0 ≠ ⊥ := by obtain ⟨r, h⟩ := hs 0; rw [h]; exact EReal.coe_ne_bot r
  obtain ⟨r, hr⟩ : ∃ r : ℝ, top s = (r : EReal) := fold_max_real Finset.univ ⊥ (by decide) s (fun j _ => ht j) (.inr ⟨0, Finset.mem_univ _, hb⟩)
  have hW : 0 < ∑ j, wt (s j) := Finset.sum_pos (fun j _ => by
    obtain ⟨a, h⟩ := hs j; rw [h, wt_coe]; exact Real.exp_pos a) ⟨0, Finset.mem_univ _⟩
  have hsum : ∑ j', Ideal.exp (s j' - (r : EReal)) = ((Real.exp (-r) * ∑ j, wt (s j) : ℝ) : EReal) := by
    rw [Finset.mul_sum, coe_sum]
    exact Finset.sum_congr rfl fun j _ => exp_sub _ (ht j) _
  have hp : Real.exp (-r) * ∑ j, wt (s j) ≠ 0 := (mul_pos (Real.exp_pos _) hW).ne'
  rw [weighted, hr, max_eq_right bot_le, hsum]
  refine Finset.sum_congr rfl fun j _ => ?_
  rw [Ideal.div, if_neg (by exact_mod_cast hp), Ideal.div, if_neg (by exact_mod_cast hp), one_mul, mul_comm]

theorem mix_congr {x x' : EReal} {y y' o o' : Fin 512 → EReal} {w w' : Fin 1024 → EReal} (hx : x = x') (hy : ∀ e, y e = y' e)
    (ho : ∀ e, o e = o' e) (hw : ∀ e, w e = w' e) : mix x y o w = mix x' y' o' w' := by
  rw [hx, funext hy, funext ho, funext hw]

theorem result_congr {x x' : EReal} {q q' : Fin 1024 → EReal} {K K' V V' : Fin 256 → Fin 1024 → EReal} {w w' : Fin 1024 → EReal}
    (hx : x = x') (hq : ∀ e, q e = q' e) (hK : ∀ j e, K j e = K' j e) (hV : ∀ j e, V j e = V' j e) (hw : ∀ e, w e = w' e) :
    result x q K V w = result x' q' K' V' w' := by
  rw [hx, funext hq, funext fun j => funext (hK j), funext fun j => funext (hV j), funext hw]

abbrev Stream := (⟨3, ![2, 16384, 1024]⟩ : Shape).Idx → EReal
abbrev Half := (⟨2, ![32768, 512]⟩ : Shape).Idx → EReal
abbrev Gain := (⟨2, ![1, 1024]⟩ : Shape).Idx → EReal
abbrev Mat := (⟨3, ![1, 1024, 1024]⟩ : Shape).Idx → EReal
abbrev Heads := (⟨4, ![2, 256, 4, 256]⟩ : Shape).Idx → EReal

/-- A row of the stream with its two halves mixed in. -/
def mixed (X : Stream) (Y O : Half) (W : Mat) (r : Fin 32768) (n : Fin 1024) : EReal :=
  mix (X (ix3 ⟨r.val / 16384, by omega⟩ ⟨r.val % 16384, Nat.mod_lt _ (by decide)⟩ n)) (fun e => Y (ix2 r e)) (fun e => O (ix2 r e))
    (fun e => W (ix3 0 e n))

/-- Its question. -/
def query (X : Stream) (Y O : Half) (W : Mat) (g : Gain) (Q : Mat) (r : Fin 32768) (n : Fin 1024) : EReal :=
  proj (mixed X Y O W r) (fun e => g (ix2 0 e)) (fun e => Q (ix3 0 e n))

/-- A sequence's memory, its heads side by side. -/
def memory (M : Heads) (b : Fin 2) (j : Fin 256) (e : Fin 1024) : EReal :=
  M (ix4 b j ⟨e.val / 256, by omega⟩ ⟨e.val % 256, Nat.mod_lt _ (by decide)⟩)

/-- The stream after the memory has answered. -/
def out (X : Stream) (Y O : Half) (W : Mat) (g : Gain) (Q : Mat) (K V : Heads) (M : Mat) (r : Fin 32768) (n : Fin 1024) : EReal :=
  result (mixed X Y O W r n) (query X Y O W g Q r) (memory K ⟨r.val / 16384, by omega⟩) (memory V ⟨r.val / 16384, by omega⟩)
    (fun e => M (ix3 0 e n))

end Cert.Proof.Recall

end
-- ==== Proof.RecallKernel.lean ====
/-
  The kernel that reads the memory, over the extended reals: its result, entry by entry.
-/
module

public import proofs.«01_k».proof.Proof.Gen.Kernel4Ideal.Value
public import proofs.«01_k».proof.Proof.Recall
public import Idealize.ShloMosaic.Lib.Pipeline.ValueKit
public import Idealize.ShloMosaic.Lib.StableHlo.ReadAt

@[expose] public section

set_option maxRecDepth 16384

noncomputable section

namespace Cert.Proof.RecallKernel

open Idealize.ShloMosaic Idealize.ShloMosaic.TcCoe Idealize.ShloMosaic.Tactic
open Idealize.SL.Sem
open Idealize.ShloMosaic.Pipeline (Dat)
open Cert.Proof.Norm Cert.Proof.Recall
open Cert.Kernel4Ideal Cert.Kernel4Ideal.Gen Cert.Kernel4Ideal.Value

theorem word_bot : Ideal.ofBits .f32 0xFF800000#32 = ⊥ := by simp [Ideal.ofBits, Ideal.ieee]

/-- The stream with the two halves mixed in. -/
theorem pay_mix (x : FVec Ideal S512x1024 .f32) (y o : FVec Ideal S512x512 .f32) (a b : FVec Ideal S512x1024 .bf16) (r : Fin 512) (n : Fin 1024) :
    k0_pay2 (F := Ideal) x y a o b (ix2 r n)
      = x (ix2 r n) + ∑ e, y (ix2 r e) * a (ix2 e n) + ∑ e, o (ix2 r e) * b (ix2 e n) := by
  pointwise [k0_pay2]

/-- The question. -/
theorem pay_query (x : FVec Ideal S512x1024 .f32) (y o : FVec Ideal S512x512 .f32) (a b : FVec Ideal S512x1024 .bf16) (g : FVec Ideal S1x1024 .f32)
    (q : FVec Ideal S1024x1024 .bf16) (r : Fin 512) (n : Fin 1024) :
    k0_pay3 (F := Ideal) x y a o b g q (ix2 r n)
      = proj (fun e => k0_pay2 (F := Ideal) x y a o b (ix2 r e)) (fun e => g (ix2 0 e)) (fun e => q (ix2 e n)) := by
  pointwise [k0_pay3]
  rfl

/-- One head's answer: to a block of questions, from a block of keys and one of values. -/
theorem head0 (q : FVec Ideal S512x256 .bf16) (k v : FVec Ideal S1x256x256 .f32) (r : Fin 512) (n : Fin 256) :
    k0_pay6 (F := Ideal) q (k0_pay5 (F := Ideal) k) v (ix2 r n)
      = weighted (fun j => score (fun i => q (ix2 r i)) (fun i => k (ix3 0 j i))) (fun j => v (ix3 0 j n)) := by
  pointwise [k0_pay6, k0_pay5]
  rw [word_bot]
  rfl

theorem head1 (Q : FVec Ideal S512x1024 .f32) (k v : FVec Ideal S1x256x256 .f32) (r : Fin 512) (n : Fin 256) :
    k0_pay8 (F := Ideal) (k0_pay7 (F := Ideal) Q k) v (ix2 r n)
      = weighted (fun j => score (fun i => Q (ix2 r ⟨256 + i.val, by omega⟩)) (fun i => k (ix3 0 j i))) (fun j => v (ix3 0 j n)) := by
  pointwise [k0_pay8, k0_pay7]
  rw [word_bot]
  rfl

theorem head2 (Q : FVec Ideal S512x1024 .f32) (k v : FVec Ideal S1x256x256 .f32) (r : Fin 512) (n : Fin 256) :
    k0_pay9 (F := Ideal) Q k v (ix2 r n)
      = weighted (fun j => score (fun i => Q (ix2 r ⟨512 + i.val, by omega⟩)) (fun i => k (ix3 0 j i))) (fun j => v (ix3 0 j n)) := by
  pointwise [k0_pay9]
  rw [word_bot]
  rfl

/-- The last head's answer is taken with the last product. -/
theorem head3 (x : FVec Ideal S512x1024 .f32) (o0 o1 o2 : FVec Ideal S512x256 .f32) (Q : FVec Ideal S512x1024 .f32)
    (k v : FVec Ideal S1x256x256 .f32) (w : FVec Ideal S1024x1024 .bf16) (r : Fin 512) (n : Fin 1024) :
    k0_pay1 (F := Ideal) x o0 o1 o2 (k0_pay10 (F := Ideal) Q k) v w (ix2 r n)
      = x (ix2 r n) + ∑ e : Fin 1024, (if h : e.val < 256 then o0 (ix2 r ⟨e.val, h⟩)
          else if h' : e.val - 256 < 256 then o1 (ix2 r ⟨e.val - 256, h'⟩)
          else if h'' : e.val - 256 - 256 < 256 then o2 (ix2 r ⟨e.val - 256 - 256, h''⟩)
          else weighted (fun j => score (fun i => Q (ix2 r ⟨768 + i.val, by omega⟩)) (fun i => k (ix3 0 j i)))
            (fun j => v (ix3 0 j ⟨e.val - 256 - 256 - 256, by omega⟩))) * w (ix2 e n) := by
  pointwise [k0_pay1, k0_pay10]
  rw [word_bot]
  rfl

/-- A head's columns of a block of the memory. -/
theorem part_at (x : Vec Ideal S1x256x1024 .f32) (b : ℕ) (hb : b + 256 ≤ 1024) (h : _) (j i : Fin 256) :
    View.ld (Val := Elt Ideal) x (Rect.unit (s := S1x256x1024) ![0, 0, b] S1x256x256.size h) (ix3 0 j i) = x (ix3 0 j ⟨b + i.val, by omega⟩) := by
  refine congrArg x (funext fun a => Fin.ext ?_)
  fin_cases a <;> simp

section

variable (x : FVec Ideal S512x1024 .f32) (y o : FVec Ideal S512x512 .f32) (a b : FVec Ideal S512x1024 .bf16) (g : FVec Ideal S1x1024 .f32)
  (q : FVec Ideal S1024x1024 .bf16) (k v : FVec Ideal S1x256x1024 .f32) (w : FVec Ideal S1024x1024 .bf16)

/-- A block's questions. -/
abbrev questions : FVec Ideal S512x1024 .f32 := k0_pay3 (F := Ideal) x y a o b g q

/-- The body's result, from the stream, the questions and the parts of the memory. -/
theorem out_pay : out0_10 (F := Ideal) x y o a b g q k v w
    = k0_pay1 (F := Ideal) (k0_pay2 (F := Ideal) x y a o b)
        (k0_pay6 (F := Ideal) (k0_pay4 (F := Ideal) x y a o b g q) (k0_pay5 (F := Ideal) (View.ld (Val := Elt Ideal) k r0_4)) (View.ld (Val := Elt Ideal) v r0_4))
        (k0_pay8 (F := Ideal) (k0_pay7 (F := Ideal) (questions x y o a b g q) (View.ld (Val := Elt Ideal) k r0_5)) (View.ld (Val := Elt Ideal) v r0_5))
        (k0_pay9 (F := Ideal) (questions x y o a b g q) (View.ld (Val := Elt Ideal) k r0_6) (View.ld (Val := Elt Ideal) v r0_6))
        (k0_pay10 (F := Ideal) (questions x y o a b g q) (View.ld (Val := Elt Ideal) k r0_7)) (View.ld (Val := Elt Ideal) v r0_7) w := by
  unfold out0_10 k0_pay11
  rw [View.canon_unit_zero (by decide), View.ld_unit_zero (by decide), View.ld_unit_zero (by decide), View.ld_unit_zero (by decide),
    View.ld_unit_zero (by decide), View.ld_unit_zero (by decide), View.ld_unit_zero (by decide), View.ld_unit_zero (by decide),
    View.ld_unit_zero (by decide)]

theorem first_part (r : Fin 512) (i : Fin 256) :
    k0_pay4 (F := Ideal) x y a o b g q (ix2 r i) = questions x y o a b g q (ix2 r ⟨i.val, by omega⟩) := by
  pointwise [k0_pay4]

/-- A head's answer, from its columns `p` of the keys and `p'` of the values. -/
theorem head_eq (Q : FVec Ideal S512x1024 .f32) (c : ℕ) (hc : c % 256 = 0) (hb : c + 256 ≤ 1024) (p p' : FVec Ideal S1x256x256 .f32)
    (hp : ∀ j i : Fin 256, p (ix3 0 j i) = k (ix3 0 j ⟨c + i.val, by omega⟩)) (hp' : ∀ j i : Fin 256, p' (ix3 0 j i) = v (ix3 0 j ⟨c + i.val, by omega⟩))
    (r : Fin 512) (e : Fin 1024) (he : c ≤ e.val ∧ e.val < c + 256) :
    weighted (fun j => score (fun i => Q (ix2 r ⟨c + i.val, by omega⟩)) (fun i => p (ix3 0 j i))) (fun j => p' (ix3 0 j ⟨e.val - c, by omega⟩))
      = answer (fun e => Q (ix2 r e)) (fun j e => k (ix3 0 j e)) (fun j e => v (ix3 0 j e)) e := by
  refine Eq.trans ?_ (answer_eq (fun e => Q (ix2 r e)) (fun j e => k (ix3 0 j e)) (fun j e => v (ix3 0 j e)) c hc e he)
  exact congrArg₂ weighted (funext fun j => congrArg (score _) (funext fun i => hp j i)) (funext fun j => hp' j _)

/-- The body's result, entry by entry. -/
theorem out_at (r : Fin 512) (n : Fin 1024) : out0_10 (F := Ideal) x y o a b g q k v w (ix2 r n)
    = result (k0_pay2 (F := Ideal) x y a o b (ix2 r n)) (fun e => questions x y o a b g q (ix2 r e))
        (fun j e => k (ix3 0 j e)) (fun j e => v (ix3 0 j e)) (fun e => w (ix2 e n)) := by
  rw [out_pay, head3, result]
  refine congrArg (_ + ·) (Finset.sum_congr rfl fun e _ => congrArg (· * _) ?_)
  by_cases h0 : e.val < 256
  · rw [dif_pos h0, head0]
    refine Eq.trans ?_ (head_eq k v (questions x y o a b g q) 0 (by decide) (by decide) _ _ (part_at k 0 (by decide) inb_S1x256x1024_S1x256x256_0_0_0)
      (part_at v 0 (by decide) inb_S1x256x1024_S1x256x256_0_0_0) r e ⟨Nat.zero_le _, by omega⟩)
    refine congrArg₂ weighted (funext fun j => congrArg (score · _) (funext fun i => (first_part x y o a b g q r i).trans ?_)) rfl
    congr 2
    exact Fin.ext (Nat.zero_add _).symm
  rw [dif_neg h0]
  by_cases h1 : e.val - 256 < 256
  · rw [dif_pos h1, head1]
    exact head_eq k v (questions x y o a b g q) 256 (by decide) (by decide) _ _ (part_at k 256 (by decide) _) (part_at v 256 (by decide) _) r e ⟨by omega, by omega⟩
  rw [dif_neg h1]
  by_cases h2 : e.val - 256 - 256 < 256
  · rw [dif_pos h2, head2]
    exact head_eq k v (questions x y o a b g q) 512 (by decide) (by decide) _ _ (part_at k 512 (by decide) _) (part_at v 512 (by decide) _) r e ⟨by omega, by omega⟩
  rw [dif_neg h2]
  exact head_eq k v (questions x y o a b g q) 768 (by decide) (by decide) _ _ (part_at k 768 (by decide) _) (part_at v 768 (by decide) _) r e ⟨by omega, by omega⟩

end

section

variable (m : (ℓ : Loc nD τ sig) → Buf (Elt Ideal) ℓ) (c : Dev nD)

abbrev argX : Stream := m ((c.tc : Thread nD τ).loc main_arg0)
abbrev argY : Half := m ((c.tc : Thread nD τ).loc main_arg1)
abbrev argO : Half := m ((c.tc : Thread nD τ).loc main_arg2)
abbrev argW : Mat := m ((c.tc : Thread nD τ).loc main_arg3)
abbrev argG : Gain := m ((c.tc : Thread nD τ).loc main_arg4)
abbrev argQ : Mat := m ((c.tc : Thread nD τ).loc main_arg5)
abbrev argK : Heads := m ((c.tc : Thread nD τ).loc main_arg6)
abbrev argV : Heads := m ((c.tc : Thread nD τ).loc main_arg7)
abbrev argM : Mat := m ((c.tc : Thread nD τ).loc main_arg8)

theorem stream_at (r : Fin 32768) (e : Fin 1024) :
    V m c main_v6 (ix2 r e) = argX m c (ix3 ⟨r.val / 16384, by omega⟩ ⟨r.val % 16384, Nat.mod_lt _ (by decide)⟩ e) := by
  unfold V
  after_reads_at

theorem upper_at (e : Fin 512) (n : Fin 1024) : V m c main_v2 (ix2 e n) = argW m c (ix3 0 ⟨e.val, by omega⟩ n) := by
  unfold V
  after_reads_at

theorem lower_at (e : Fin 512) (n : Fin 1024) : V m c main_v5 (ix2 e n) = argW m c (ix3 0 ⟨512 + e.val, by omega⟩ n) := by
  unfold V
  after_reads_at

theorem gain_at (e : Fin 1024) : V m c main_v8 (ix2 0 e) = argG m c (ix2 0 e) := by
  unfold V
  after_reads_at

theorem ask_at (e n : Fin 1024) : V m c main_v10 (ix2 e n) = argQ m c (ix3 0 e n) := by
  unfold V
  after_reads_at

theorem keys_at (b : Fin 2) (j : Fin 256) (e : Fin 1024) : V m c main_v11 (ix3 b j e) = memory (argK m c) b j e := by
  unfold V
  after_reads_at
  rfl

theorem values_at (b : Fin 2) (j : Fin 256) (e : Fin 1024) : V m c main_v12 (ix3 b j e) = memory (argV m c) b j e := by
  unfold V
  after_reads_at
  rfl

theorem last_at (e n : Fin 1024) : V m c main_v14 (ix2 e n) = argM m c (ix3 0 e n) := by
  unfold V
  after_reads_at

/-- Where each window's block lies at a point. -/
theorem places : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0)
    ∧ (win0_7.index t 0 = t.val / 32 ∧ win0_7.index t 1 = 0 ∧ win0_7.index t 2 = 0)
    ∧ (win0_8.index t 0 = t.val / 32 ∧ win0_8.index t 1 = 0 ∧ win0_8.index t 2 = 0)
    ∧ (win0_9.index t 0 = 0 ∧ win0_9.index t 1 = 0) ∧ (win0_10.index t 0 = t.val ∧ win0_10.index t 1 = 0) := by decide +kernel

theorem point_lt (t : Fin cfg0.N) : t.val < 64 := t.isLt

/-- The row of the stream that a row of a point's block is. -/
abbrev rowOf (t : Fin cfg0.N) (r : Fin 512) : Fin 32768 := ⟨512 * t.val + r.val, by have := point_lt t; omega⟩

/-- The sequence that a point reads. -/
abbrev seqOf (t : Fin cfg0.N) : Fin 2 := ⟨t.val / 32, by have := point_lt t; omega⟩

theorem block_x (t : Fin cfg0.N) (r : Fin 512) (e : Fin 1024) : iblk m c 0 t (ix2 r e) = V m c main_v6 (ix2 (rowOf t r) e) := by
  blk_ext [iblk, places t]

theorem block_y (t : Fin cfg0.N) (r e : Fin 512) : iblk m c 1 t (ix2 r e) = V m c main_arg1 (ix2 (rowOf t r) e) := by
  blk_ext [iblk, places t]

theorem block_o (t : Fin cfg0.N) (r e : Fin 512) : iblk m c 2 t (ix2 r e) = V m c main_arg2 (ix2 (rowOf t r) e) := by
  blk_ext [iblk, places t]

theorem block_a (t : Fin cfg0.N) (e : Fin 512) (n : Fin 1024) : iblk m c 3 t (ix2 e n) = V m c main_v2 (ix2 e n) := by
  blk_ext [iblk, places t]

theorem block_b (t : Fin cfg0.N) (e : Fin 512) (n : Fin 1024) : iblk m c 4 t (ix2 e n) = V m c main_v5 (ix2 e n) := by
  blk_ext [iblk, places t]

theorem block_g (t : Fin cfg0.N) (e : Fin 1024) : iblk m c 5 t (ix2 0 e) = V m c main_v8 (ix2 0 e) := by
  blk_ext [iblk, places t]

theorem block_q (t : Fin cfg0.N) (e n : Fin 1024) : iblk m c 6 t (ix2 e n) = V m c main_v10 (ix2 e n) := by
  blk_ext [iblk, places t]

theorem block_k (t : Fin cfg0.N) (j : Fin 256) (e : Fin 1024) : iblk m c 7 t (ix3 0 j e) = V m c main_v11 (ix3 (seqOf t) j e) := by
  blk_ext [iblk, places t]

theorem block_v (t : Fin cfg0.N) (j : Fin 256) (e : Fin 1024) : iblk m c 8 t (ix3 0 j e) = V m c main_v12 (ix3 (seqOf t) j e) := by
  blk_ext [iblk, places t]

theorem block_w (t : Fin cfg0.N) (e n : Fin 1024) : iblk m c 9 t (ix2 e n) = V m c main_v14 (ix2 e n) := by
  blk_ext [iblk, places t]

/-- The result as an array. -/
def G (X : Stream) (Y O : Half) (W : Mat) (g : Gain) (Q : Mat) (K V : Heads) (M : Mat) : FVec Ideal S32768x1024 .f32 :=
  fun i => out X Y O W g Q K V M (i 0) (i 1)

theorem mix_row (t : Fin cfg0.N) (r : Fin 512) (n : Fin 1024) :
    k0_pay2 (F := Ideal) (iblk m c 0 t) (iblk m c 1 t) (iblk m c 3 t) (iblk m c 2 t) (iblk m c 4 t) (ix2 r n)
      = mixed (argX m c) (argY m c) (argO m c) (argW m c) (rowOf t r) n := by
  refine (pay_mix (iblk m c 0 t) (iblk m c 1 t) (iblk m c 2 t) (iblk m c 3 t) (iblk m c 4 t) r n).trans ?_
  refine congrArg₂ (· + ·) (congrArg₂ (· + ·) ((block_x m c t r n).trans (stream_at m c _ n)) ?_) ?_
  · exact Finset.sum_congr rfl fun e _ => congrArg₂ (· * ·) ((block_y m c t r e).trans (congrFun (V_main_arg1 m c) _))
      ((block_a m c t e n).trans (upper_at m c e n))
  · exact Finset.sum_congr rfl fun e _ => congrArg₂ (· * ·) ((block_o m c t r e).trans (congrFun (V_main_arg2 m c) _))
      ((block_b m c t e n).trans (lower_at m c e n))

theorem query_row (t : Fin cfg0.N) (r : Fin 512) (n : Fin 1024) :
    questions (iblk m c 0 t) (iblk m c 1 t) (iblk m c 2 t) (iblk m c 3 t) (iblk m c 4 t) (iblk m c 5 t) (iblk m c 6 t) (ix2 r n)
      = query (argX m c) (argY m c) (argO m c) (argW m c) (argG m c) (argQ m c) (rowOf t r) n :=
  (pay_query (iblk m c 0 t) (iblk m c 1 t) (iblk m c 2 t) (iblk m c 3 t) (iblk m c 4 t) (iblk m c 5 t) (iblk m c 6 t) r n).trans
    (proj_congr (fun e => mix_row m c t r e) (fun e => (block_g m c t e).trans (gain_at m c e)) (fun e => (block_q m c t e n).trans (ask_at m c e n)))

theorem seq_eq (t : Fin cfg0.N) (r : Fin 512) : seqOf t = ⟨(rowOf t r).val / 16384, by omega⟩ :=
  Fin.ext (by simp only []; omega)

theorem flushed (t : Fin cfg0.N) : (dats m 0 c).flushed 10 t = (win0_10.blk t).view.read (Elt Ideal)
    (G (argX m c) (argY m c) (argO m c) (argW m c) (argG m c) (argQ m c) (argK m c) (argV m c) (argM m c)) := by
  refine (flushed10 m c t).trans ?_
  funext j
  obtain ⟨r, n, rfl⟩ : ∃ (r : Fin 512) (n : Fin 1024), j = ix2 r n := ⟨j 0, j 1, by funext a; fin_cases a <;> rfl⟩
  refine (out_at (iblk m c 0 t) (iblk m c 1 t) (iblk m c 2 t) (iblk m c 3 t) (iblk m c 4 t) (iblk m c 5 t) (iblk m c 6 t) (iblk m c 7 t)
    (iblk m c 8 t) (iblk m c 9 t) r n).trans ?_
  refine (result_congr (mix_row m c t r n) (fun e => query_row m c t r e)
    (fun j e => (block_k m c t j e).trans ((keys_at m c _ j e).trans (congrArg (memory (argK m c) · j e) (seq_eq t r))))
    (fun j e => (block_v m c t j e).trans ((values_at m c _ j e).trans (congrArg (memory (argV m c) · j e) (seq_eq t r))))
    (fun e => (block_w m c t e n).trans (last_at m c e n))).trans ?_
  refine Eq.trans (b := G (argX m c) (argY m c) (argO m c) (argW m c) (argG m c) (argQ m c) (argK m c) (argV m c) (argM m c)
    (ix2 (rowOf t r) n)) rfl ?_
  blk_ext [places t]

/-- Where the result's block begins at a point, and its extents. -/
theorem extent : ∀ t : Fin grid0.N,
    win0_10.index t 0 * win0_10.size 0 = 512 * t.val ∧ win0_10.index t 1 * win0_10.size 1 = 0 ∧ win0_10.xsize (grid0.coords t) 0 = 512
    ∧ win0_10.xsize (grid0.coords t) 1 = 1024 := by decide +kernel

theorem cover (i : S32768x1024.Idx) : ∃ t : Fin cfg0.N, (cfg0.win 10).flush t = true ∧ i ∈ ((cfg0.win 10).blk t).view.set := by
  have h0 : (i 0).val < 32768 := (i 0).isLt
  have h1 : (i 1).val < 1024 := (i 1).isLt
  have ht : (i 0).val / 512 < 64 := by omega
  refine ⟨⟨(i 0).val / 512, ht⟩, flush0_10 _, ?_⟩
  show i ∈ ((View.whole main_v15).slice (win0_10.rect ⟨(i 0).val / 512, ht⟩)).set
  rw [View.set_slice_whole, Rect.mem_set_unit]
  obtain ⟨p0, p1, s0, s1⟩ := extent ⟨(i 0).val / 512, ht⟩
  intro a
  fin_cases a
  · show win0_10.index _ 0 * win0_10.size 0 ≤ (i 0).val ∧ (i 0).val < win0_10.index _ 0 * win0_10.size 0 + win0_10.xsize _ 0
    rw [p0, s0]; dsimp only; omega
  · show win0_10.index _ 1 * win0_10.size 1 ≤ (i 1).val ∧ (i 1).val < win0_10.index _ 1 * win0_10.size 1 + win0_10.xsize _ 1
    rw [p1, s1]; omega

/-- What the kernel leaves. -/
theorem final : (dats m 0 c).arrAt 10 cfg0.N
    = G (argX m c) (argY m c) (argO m c) (argW m c) (argG m c) (argQ m c) (argK m c) (argV m c) (argM m c) :=
  (dats m 0 c).arrAt_eq_of_cover 10 _ (fun t _ => flushed m c t) cover

end

end Cert.Proof.RecallKernel

end
-- ==== Proof.RecallRef.lean ====
/-
  The reference that reads the memory, over the extended reals: its result, entry by entry.
-/
module

public import proofs.«01_k».proof.Proof.Gen.Reference4Ideal.Run
public import proofs.«01_k».proof.Proof.Recall

@[expose] public section

set_option maxRecDepth 16384

noncomputable section

namespace Cert.Proof.RecallRef

open Idealize.ShloMosaic Idealize.ShloMosaic.TcCoe Idealize.ShloMosaic.Tactic
open Idealize.SL.Sem
open Cert.Proof.Norm Cert.Proof.Recall
open Cert.Reference4Ideal Cert.Reference4Ideal.Gen

theorem word_bot : Ideal.ofBits .f32 0xFF800000#32 = ⊥ := by simp [Ideal.ofBits, Ideal.ieee]

/-- The stream with the joined halves' product added. -/
def stream (X : FVec Ideal S2x16384x1024 .f32) (Y O : FVec Ideal S32768x512 .f32) (W : FVec Ideal S1x1024x1024 .f32) : FVec Ideal S2x16384x1024 .f32 :=
  addf X (Host.dotGeneral dot_S2x16384x1024_S1024x1024_S2x16384x1024_2_0_01_1_n_n none
    (shapeCast _ (concatenate S32768x1024 1 [⟨S32768x512, Y⟩, ⟨S32768x512, O⟩] concatenates_S32768x512_S32768x512_S32768x1024_d1) shapeCasts_S32768x1024_S2x16384x1024)
    (shapeCast _ W shapeCasts_S1x1024x1024_S1024x1024))

/-- The normed stream times a matrix. -/
def asked (x : FVec Ideal S2x16384x1024 .f32) (g : FVec Ideal S1x1024 .f32) (Q : FVec Ideal S1x1024x1024 .f32) : FVec Ideal S2x16384x1024 .f32 :=
  Host.dotGeneral dot_S2x16384x1024_S1024x1024_S2x16384x1024_2_0_01_1_n_n none
    (mulf (mulf x (broadcastInDim S2x16384x1024 ![0, 1, 2] bcast_S2x16384x1_S2x16384x1024_0_1_2 (Host.rsqrt (addf
      (Host.divf (broadcastInDim S2x16384x1 ![0, 1] bcast_S2x16384_S2x16384x1_0_1
          (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
      (broadcastInDim S2x16384x1024 ![0, 1, 2] bcast_S1x1x1024_S2x16384x1024_0_1_2 (broadcastInDim S1x1x1024 ![2] bcast_S1024_S1x1x1024_2 (shapeCast _ g shapeCasts_S1x1024_S1024))))
    (shapeCast _ Q shapeCasts_S1x1024x1024_S1024x1024)

/-- The scores of each head. -/
def scores (q : FVec Ideal S2x16384x1024 .f32) (K : FVec Ideal S2x256x4x256 .f32) : FVec Ideal S2x4x16384x256 .f32 :=
  Host.divf (Host.dotGeneral dot_S2x16384x4x256_S2x256x4x256_S2x4x16384x256_3_3_1_1_02_02 none
      (shapeCast _ q shapeCasts_S2x16384x1024_S2x16384x4x256) K)
    (broadcastInDim S2x4x16384x256 ![] bcast_S_S2x4x16384x256 (constant S_ .f32 0x41800000#32))

/-- Each row's maximum. -/
def rowMax (s : FVec Ideal S2x4x16384x256 .f32) : FVec Ideal S2x4x16384 .f32 :=
  Host.reduce FloatOps.maximumf s (constant S_ .f32 0xFF800000#32) reducesTo_S2x4x16384x256_S2x4x16384_d3 h_S_

/-- Scores' exponentials, less a number for each row. -/
def expLess (s : FVec Ideal S2x4x16384x256 .f32) (t : FVec Ideal S2x4x16384 .f32) : FVec Ideal S2x4x16384x256 .f32 :=
  Host.exp (subf s (broadcastInDim S2x4x16384x256 ![0, 1, 2, 3] bcast_S2x4x16384x1_S2x4x16384x256_0_1_2_3
    (broadcastInDim S2x4x16384x1 ![0, 1, 2] bcast_S2x4x16384_S2x4x16384x1_0_1_2
      (maximumf (broadcastInDim S2x4x16384 ![] bcast_S_S2x4x16384 (constant S_ .f32 0xFF800000#32)) t))))

/-- Each row divided by its sum. -/
def normed (w : FVec Ideal S2x4x16384x256 .f32) : FVec Ideal S2x4x16384x256 .f32 :=
  Host.divf w (broadcastInDim S2x4x16384x256 ![0, 1, 2, 3] bcast_S2x4x16384x1_S2x4x16384x256_0_1_2_3
    (broadcastInDim S2x4x16384x1 ![0, 1, 2] bcast_S2x4x16384_S2x4x16384x1_0_1_2
      (Host.reduceAdd w (constant S_ .f32 0x00000000#32) reducesTo_S2x4x16384x256_S2x4x16384_d3 h_S_)))

/-- The values so weighted, heads side by side. -/
def answers (V : FVec Ideal S2x256x4x256 .f32) (p : FVec Ideal S2x4x16384x256 .f32) : FVec Ideal S2x16384x1024 .f32 :=
  shapeCast _ (transpose S2x16384x4x256 [0, 3, 1, 2]
    (Host.dotGeneral dot_S2x256x4x256_S2x4x16384x256_S2x4x256x16384_1_3_3_2_02_01 none V p)
    transposes_S2x4x256x16384_S2x16384x4x256_0_3_1_2) shapeCasts_S2x16384x4x256_S2x16384x1024

/-- The answers times a matrix, added to the stream, in rows. -/
def closing (x a : FVec Ideal S2x16384x1024 .f32) (M : FVec Ideal S1x1024x1024 .f32) : FVec Ideal S32768x1024 .f32 :=
  shapeCast _ (addf x (Host.dotGeneral dot_S2x16384x1024_S1024x1024_S2x16384x1024_2_0_01_1_n_n none a
    (shapeCast _ M shapeCasts_S1x1024x1024_S1024x1024))) shapeCasts_S2x16384x1024_S32768x1024

theorem stream_at (X : FVec Ideal S2x16384x1024 .f32) (Y O : FVec Ideal S32768x512 .f32) (W : FVec Ideal S1x1024x1024 .f32)
    (b : Fin 2) (s : Fin 16384) (n : Fin 1024) : stream X Y O W (ix3 b s n)
      = mix (X (ix3 b s n)) (fun e => Y (ix2 ⟨b.val * 16384 + s.val, by omega⟩ e)) (fun e => O (ix2 ⟨b.val * 16384 + s.val, by omega⟩ e))
          (fun e => W (ix3 0 e n)) := by
  pointwise [stream]
  rw [mix, add_assoc]

theorem asked_at (x : FVec Ideal S2x16384x1024 .f32) (g : FVec Ideal S1x1024 .f32) (Q : FVec Ideal S1x1024x1024 .f32)
    (b : Fin 2) (s : Fin 16384) (n : Fin 1024) :
    asked x g Q (ix3 b s n) = proj (fun e => x (ix3 b s e)) (fun e => g (ix2 0 e)) (fun e => Q (ix3 0 e n)) := by
  pointwise [asked]
  rfl

theorem scores_at (q : FVec Ideal S2x16384x1024 .f32) (K : FVec Ideal S2x256x4x256 .f32) (b : Fin 2) (h : Fin 4) (s : Fin 16384) (j : Fin 256) :
    scores q K (ix4 b h s j) = score (fun i => q (ix3 b s ⟨h.val * 256 + i.val, by omega⟩)) (fun i => K (ix4 b j h i)) := by
  pointwise [scores]
  exact score_div (fun i => q (ix3 b s ⟨h.val * 256 + i.val, by omega⟩)) (fun i => K (ix4 b j h i))

theorem rowMax_at (s : FVec Ideal S2x4x16384x256 .f32) (b : Fin 2) (h : Fin 4) (x : Fin 16384) :
    rowMax s (ix3 b h x) = top fun j => s (ix4 b h x j) := by
  pointwise [rowMax]
  rw [word_bot]
  rfl

theorem expLess_at (s : FVec Ideal S2x4x16384x256 .f32) (t : FVec Ideal S2x4x16384 .f32) (b : Fin 2) (h : Fin 4) (x : Fin 16384) (j : Fin 256) :
    expLess s t (ix4 b h x j) = Ideal.exp (s (ix4 b h x j) - max ⊥ (t (ix3 b h x))) := by
  pointwise [expLess]
  rw [word_bot]

theorem normed_at (w : FVec Ideal S2x4x16384x256 .f32) (b : Fin 2) (h : Fin 4) (x : Fin 16384) (j : Fin 256) :
    normed w (ix4 b h x j) = Ideal.div (w (ix4 b h x j)) (∑ j', w (ix4 b h x j')) := by
  pointwise [normed]

theorem answers_at (V : FVec Ideal S2x256x4x256 .f32) (p : FVec Ideal S2x4x16384x256 .f32) (b : Fin 2) (s : Fin 16384) (e : Fin 1024) :
    answers V p (ix3 b s e) = ∑ j, V (ix4 b j ⟨e.val / 256, by omega⟩ ⟨e.val % 256, Nat.mod_lt _ (by decide)⟩)
      * p (ix4 b ⟨e.val / 256, by omega⟩ s j) := by
  pointwise [answers]

theorem closing_at (x a : FVec Ideal S2x16384x1024 .f32) (M : FVec Ideal S1x1024x1024 .f32) (r : Fin 32768) (n : Fin 1024) :
    closing x a M (ix2 r n) = x (ix3 ⟨r.val / 16384, by omega⟩ ⟨r.val % 16384, Nat.mod_lt _ (by decide)⟩ n)
      + ∑ e, a (ix3 ⟨r.val / 16384, by omega⟩ ⟨r.val % 16384, Nat.mod_lt _ (by decide)⟩ e) * M (ix3 0 e n) := by
  pointwise [closing]

/-- An answer's entry, on real scores, is the memory's answer to them. -/
theorem answers_eq (q : FVec Ideal S2x16384x1024 .f32) (K V : FVec Ideal S2x256x4x256 .f32) (b : Fin 2) (s : Fin 16384)
    (hq : ∀ e, Real (q (ix3 b s e))) (hK : ∀ j h i, Real (K (ix4 b j h i))) (e : Fin 1024) :
    answers V (normed (expLess (scores q K) (rowMax (scores q K)))) (ix3 b s e)
      = answer (fun e => q (ix3 b s e)) (memory K b) (memory V b) e := by
  have hs : ∀ h j, Real (scores q K (ix4 b h s j)) := fun h j => by
    rw [scores_at]
    exact real_score (fun i => hq _) (fun i => hK _ _ _)
  rw [answers_at]
  refine Eq.trans (Finset.sum_congr rfl fun j _ => congrArg (_ * ·) ?_) ((weighted_div (hs ⟨e.val / 256, by omega⟩)
    (fun j => memory V b j e)).trans (congrArg (weighted · _) (funext fun j => ?_)))
  · rw [normed_at]
    refine congrArg₂ Ideal.div ?_ (Finset.sum_congr rfl fun j' _ => ?_) <;> rw [expLess_at, rowMax_at]
  · rw [scores_at]
    refine congrArg₂ score rfl (funext fun i => ?_)
    rw [memory]
    congr 2
    · exact Fin.ext (by simp only [lane]; omega)
    · exact Fin.ext (by simp only [lane]; omega)

/-- The reference's result. -/
def value (X : FVec Ideal S2x16384x1024 .f32) (Y O : FVec Ideal S32768x512 .f32) (W : FVec Ideal S1x1024x1024 .f32) (g : FVec Ideal S1x1024 .f32)
    (Q : FVec Ideal S1x1024x1024 .f32) (K V : FVec Ideal S2x256x4x256 .f32) (M : FVec Ideal S1x1024x1024 .f32) : FVec Ideal S32768x1024 .f32 :=
  closing (stream X Y O W) (answers V (normed (expLess (scores (asked (stream X Y O W) g Q) K) (rowMax (scores (asked (stream X Y O W) g Q) K))))) M

section

variable {X : FVec Ideal S2x16384x1024 .f32} {Y O : FVec Ideal S32768x512 .f32} {W : FVec Ideal S1x1024x1024 .f32} {g : FVec Ideal S1x1024 .f32}
  {Q : FVec Ideal S1x1024x1024 .f32} {K : FVec Ideal S2x256x4x256 .f32} (V : FVec Ideal S2x256x4x256 .f32) (M : FVec Ideal S1x1024x1024 .f32)

/-- On real arguments, the values and the last matrix aside, it is the stream after the memory has answered. -/
theorem value_at (hX : ∀ i, Real (X i)) (hY : ∀ i, Real (Y i)) (hO : ∀ i, Real (O i)) (hW : ∀ i, Real (W i)) (hg : ∀ i, Real (g i))
    (hQ : ∀ i, Real (Q i)) (hK : ∀ i, Real (K i)) (r : Fin 32768) (n : Fin 1024) :
    value X Y O W g Q K V M (ix2 r n) = out X Y O W g Q K V M r n := by
  have hr : (⟨r.val / 16384 * 16384 + r.val % 16384, by omega⟩ : Fin 32768) = r := Fin.ext (by simp only []; omega)
  have hm : ∀ e, stream X Y O W (ix3 ⟨r.val / 16384, by omega⟩ ⟨r.val % 16384, Nat.mod_lt _ (by decide)⟩ e) = mixed X Y O W r e := fun e => by
    rw [stream_at, mixed]
    simp only [hr]
  have hrm : ∀ e, Real (mixed X Y O W r e) := fun e => real_mix (hX _) (fun _ => hY _) (fun _ => hO _) (fun _ => hW _)
  have ha : ∀ e, asked (stream X Y O W) g Q (ix3 ⟨r.val / 16384, by omega⟩ ⟨r.val % 16384, Nat.mod_lt _ (by decide)⟩ e)
      = query X Y O W g Q r e := fun e =>
    (asked_at _ _ _ _ _ _).trans (proj_congr hm (fun _ => rfl) (fun _ => rfl))
  have hra : ∀ e, Real (asked (stream X Y O W) g Q (ix3 ⟨r.val / 16384, by omega⟩ ⟨r.val % 16384, Nat.mod_lt _ (by decide)⟩ e)) := fun e => by
    rw [ha e]
    exact real_proj hrm (fun _ => hg _) (fun _ => hQ _)
  rw [value, closing_at, out, result]
  refine congrArg₂ (· + ·) (hm n) (Finset.sum_congr rfl fun e _ => congrArg (· * _) ?_)
  refine (answers_eq _ K V _ _ hra (fun _ _ _ => hK _) e).trans ?_
  rw [funext ha]

end

/-- The composed operations are those. -/
theorem res_eq (m : (ℓ : Loc nD τ sig) → Buf (Elt Ideal) ℓ) (c : Dev nD) : Value.res_main_v42 (F := Ideal) m c
    = value (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold Value.res_main_v42
  rfl

end Cert.Proof.RecallRef

end
-- ==== Proof.RecallPre.lean ====
/-
  What the memory's precondition says: the stream, its two halves, the matrices that shape the questions, the gain and the
  memory's keys hold reals only.
-/
module

public import proofs.«01_k».proof.Proof.Gen.Pre_finite4
public import proofs.«01_k».proof.Proof.Precond
public import proofs.«01_k».proof.Proof.Recall

@[expose] public section

noncomputable section

namespace Cert.Proof.RecallPre

open Idealize.ShloMosaic Idealize.ShloMosaic.TcCoe Idealize.ShloMosaic.Tactic
open Cert.Pre_finite4 Cert.Proof.Recall
open Cert.Proof.Precond (below real_of_below top_f32)

section

variable {X : FVec Ideal S2x16384x1024 .f32} {Y O : FVec Ideal S32768x512 .f32} {W : FVec Ideal S1x1024x1024 .f32} {g : FVec Ideal S1x1024 .f32}
  {Q : FVec Ideal S1x1024x1024 .f32} {K V : FVec Ideal S2x256x4x256 .f32} {M : FVec Ideal S1x1024x1024 .f32}

/-- The mask, its rows in 32 groups of two times 512, its columns in two halves. -/
theorem fn_at (a : Fin 32) (b : Fin 2) (c : Fin 512) (d : Fin 2) (e : Fin 512) : fn (F := Ideal) X Y O W g Q K V M (ix5 a b c d e)
    = IntOp.andi (IntOp.andi (IntOp.andi
        (IntOp.andi (IntOp.andi
          (below (X (ix3 ⟨a.val / 16, by omega⟩ ⟨a.val % 16 * 1024 + b.val * 512 + c.val, by omega⟩ ⟨d.val * 512 + e.val, by omega⟩)))
          (below (Y (ix2 ⟨a.val * 1024 + b.val * 512 + c.val, by omega⟩ e))))
          (below (O (ix2 ⟨a.val * 1024 + b.val * 512 + c.val, by omega⟩ e))))
        (IntOp.andi (below (W (ix3 0 ⟨b.val * 512 + c.val, by omega⟩ ⟨d.val * 512 + e.val, by omega⟩)))
          (below (Q (ix3 0 ⟨b.val * 512 + c.val, by omega⟩ ⟨d.val * 512 + e.val, by omega⟩)))))
        (below (K (ix4 ⟨c.val / 256, by omega⟩ ⟨c.val % 256, by omega⟩ ⟨d.val * 2 + e.val / 256, by omega⟩ ⟨e.val % 256, by omega⟩))))
        (below (g (ix2 0 ⟨d.val * 512 + e.val, by omega⟩))) := by
  pointwise [fn, fn_part1]
  rw [top_f32]
  rfl

/-- The facts the mask holds at an index. -/
theorem split (h : fn (F := Ideal) X Y O W g Q K V M = fun _ => 1#1) (a : Fin 32) (b : Fin 2) (c : Fin 512) (d : Fin 2) (e : Fin 512) :
    Real (X (ix3 ⟨a.val / 16, by omega⟩ ⟨a.val % 16 * 1024 + b.val * 512 + c.val, by omega⟩ ⟨d.val * 512 + e.val, by omega⟩))
      ∧ Real (Y (ix2 ⟨a.val * 1024 + b.val * 512 + c.val, by omega⟩ e)) ∧ Real (O (ix2 ⟨a.val * 1024 + b.val * 512 + c.val, by omega⟩ e))
      ∧ Real (W (ix3 0 ⟨b.val * 512 + c.val, by omega⟩ ⟨d.val * 512 + e.val, by omega⟩))
      ∧ Real (Q (ix3 0 ⟨b.val * 512 + c.val, by omega⟩ ⟨d.val * 512 + e.val, by omega⟩))
      ∧ Real (K (ix4 ⟨c.val / 256, by omega⟩ ⟨c.val % 256, by omega⟩ ⟨d.val * 2 + e.val / 256, by omega⟩ ⟨e.val % 256, by omega⟩))
      ∧ Real (g (ix2 0 ⟨d.val * 512 + e.val, by omega⟩)) := by
  have h0 := IntOp.andi_eq_one.mp ((fn_at a b c d e).symm.trans (congrFun h (ix5 a b c d e)))
  have h1 := IntOp.andi_eq_one.mp h0.1
  have h2 := IntOp.andi_eq_one.mp h1.1
  have h3 := IntOp.andi_eq_one.mp h2.1
  have h4 := IntOp.andi_eq_one.mp h3.1
  have h5 := IntOp.andi_eq_one.mp h2.2
  exact ⟨real_of (real_of_below h4.1), real_of (real_of_below h4.2), real_of (real_of_below h3.2), real_of (real_of_below h5.1),
    real_of (real_of_below h5.2), real_of (real_of_below h1.2), real_of (real_of_below h0.2)⟩

/-- The precondition, read. -/
theorem reals (h : fn (F := Ideal) X Y O W g Q K V M = fun _ => 1#1) :
    (∀ i, Real (X i)) ∧ (∀ i, Real (Y i)) ∧ (∀ i, Real (O i)) ∧ (∀ i, Real (W i)) ∧ (∀ i, Real (Q i)) ∧ (∀ i, Real (K i)) ∧ (∀ i, Real (g i)) := by
  have half : ∀ i : (⟨2, ![32768, 512]⟩ : Shape).Idx, ∃ (a : Fin 32) (b : Fin 2) (c e : Fin 512),
      i = ix2 ⟨a.val * 1024 + b.val * 512 + c.val, by omega⟩ e := fun i => by
    obtain ⟨r, e, rfl⟩ : ∃ (r : Fin 32768) (e : Fin 512), i = ix2 r e := ⟨i 0, i 1, by funext a; fin_cases a <;> rfl⟩
    refine ⟨⟨r.val / 1024, by omega⟩, ⟨r.val % 1024 / 512, by omega⟩, ⟨r.val % 512, by omega⟩, e, ?_⟩
    exact congrArg (ix2 · e) (Fin.ext (by simp only []; omega))
  have mat : ∀ i : (⟨3, ![1, 1024, 1024]⟩ : Shape).Idx, ∃ (b : Fin 2) (c : Fin 512) (d : Fin 2) (e : Fin 512),
      i = ix3 0 ⟨b.val * 512 + c.val, by omega⟩ ⟨d.val * 512 + e.val, by omega⟩ := fun i => by
    obtain ⟨z, r, n, rfl⟩ : ∃ (z : Fin 1) (r n : Fin 1024), i = ix3 z r n := ⟨i 0, i 1, i 2, by funext a; fin_cases a <;> rfl⟩
    refine ⟨⟨r.val / 512, by omega⟩, ⟨r.val % 512, by omega⟩, ⟨n.val / 512, by omega⟩, ⟨n.val % 512, by omega⟩, ?_⟩
    rw [Subsingleton.elim z 0]
    exact congrArg₂ (ix3 0) (Fin.ext (by simp only []; omega)) (Fin.ext (by simp only []; omega))
  refine ⟨fun i => ?_, fun i => ?_, fun i => ?_, fun i => ?_, fun i => ?_, fun i => ?_, fun i => ?_⟩
  · obtain ⟨p, s, n, rfl⟩ : ∃ (p : Fin 2) (s : Fin 16384) (n : Fin 1024), i = ix3 p s n := ⟨i 0, i 1, i 2, by funext a; fin_cases a <;> rfl⟩
    have hx := (split h ⟨p.val * 16 + s.val / 1024, by omega⟩ ⟨s.val % 1024 / 512, by omega⟩ ⟨s.val % 512, by omega⟩ ⟨n.val / 512, by omega⟩
      ⟨n.val % 512, by omega⟩).1
    have e0 : (p.val * 16 + s.val / 1024) / 16 = p.val := by omega
    have e1 : (p.val * 16 + s.val / 1024) % 16 * 1024 + s.val % 1024 / 512 * 512 + s.val % 512 = s.val := by omega
    have e2 : n.val / 512 * 512 + n.val % 512 = n.val := by omega
    simpa only [e0, e1, e2] using hx
  · obtain ⟨a, b, c, e, rfl⟩ := half i
    exact (split h a b c 0 e).2.1
  · obtain ⟨a, b, c, e, rfl⟩ := half i
    exact (split h a b c 0 e).2.2.1
  · obtain ⟨b, c, d, e, rfl⟩ := mat i
    exact (split h 0 b c d e).2.2.2.1
  · obtain ⟨b, c, d, e, rfl⟩ := mat i
    exact (split h 0 b c d e).2.2.2.2.1
  · obtain ⟨p, j, u, n, rfl⟩ : ∃ (p : Fin 2) (j : Fin 256) (u : Fin 4) (n : Fin 256), i = ix4 p j u n := ⟨i 0, i 1, i 2, i 3, by
      funext a; fin_cases a <;> rfl⟩
    have hk := (split h 0 0 ⟨p.val * 256 + j.val, by omega⟩ ⟨u.val / 2, by omega⟩ ⟨u.val % 2 * 256 + n.val, by omega⟩).2.2.2.2.2.1
    have e0 : (p.val * 256 + j.val) / 256 = p.val := by omega
    have e1 : (p.val * 256 + j.val) % 256 = j.val := by omega
    have e2 : u.val / 2 * 2 + (u.val % 2 * 256 + n.val) / 256 = u.val := by omega
    have e3 : (u.val % 2 * 256 + n.val) % 256 = n.val := by omega
    simpa only [e0, e1, e2, e3] using hk
  · obtain ⟨z, n, rfl⟩ : ∃ (z : Fin 1) (n : Fin 1024), i = ix2 z n := ⟨i 0, i 1, by funext a; fin_cases a <;> rfl⟩
    have hg := (split h 0 0 0 ⟨n.val / 512, by omega⟩ ⟨n.val % 512, by omega⟩).2.2.2.2.2.2
    have e2 : n.val / 512 * 512 + n.val % 512 = n.val := by omega
    rw [Subsingleton.elim z 0]
    simpa only [e2] using hg

end

end Cert.Proof.RecallPre

end
-- ==== Proof.Joined.lean ====
/-
  Attention over the positions of a cache followed by a few new ones: the softmax of a row given in two parts, and the
  difference of two such attentions with its norm. Over the extended reals, entry by entry.
-/
module

public import proofs.«01_k».proof.Proof.Recall
public import proofs.«01_k».proof.Proof.Spec

@[expose] public section

noncomputable section

namespace Cert.Proof.Joined

open Idealize.ShloMosaic
open Cert.Proof.Softmax Cert.Proof.Recall

/-- A row over all positions: the cache's 2048, then the 32 new ones. -/
def join {α : Type} (a : Fin 2048 → α) (b : Fin 32 → α) (y : Fin 2080) : α :=
  if h : y.val < 2048 then a ⟨y.val, h⟩ else b ⟨y.val - 2048, by omega⟩

theorem join_old {α : Type} (a : Fin 2048 → α) (b : Fin 32 → α) (y : Fin 2048) : join a b (Fin.castAdd 32 y) = a y := by
  unfold join; rw [dif_pos (show (Fin.castAdd 32 y).val < 2048 from y.isLt)]; rfl

theorem join_new {α : Type} (a : Fin 2048 → α) (b : Fin 32 → α) (y : Fin 32) : join a b (Fin.natAdd 2048 y) = b y := by
  unfold join
  rw [dif_neg (show ¬(Fin.natAdd 2048 y).val < 2048 by simp)]
  exact congrArg b (Fin.ext (by simp))

/-- What holds of both parts holds of the whole. -/
theorem join_all {α : Type} {p : α → Prop} {a : Fin 2048 → α} {b : Fin 32 → α} (ha : ∀ y, p (a y)) (hb : ∀ y, p (b y)) (y : Fin 2080) :
    p (join a b y) := by
  unfold join; split
  · exact ha _
  · exact hb _

theorem apply_join {α β : Type} (f : α → β) (a : Fin 2048 → α) (b : Fin 32 → α) (y : Fin 2080) :
    f (join a b y) = join (fun y => f (a y)) (fun y => f (b y)) y := by
  unfold join; split <;> rfl

/-- The values weighted by a row's softmax. -/
def share (s v : Fin 2080 → EReal) : EReal := (((∑ y, wt (s y) * (v y).toReal) / ∑ y, wt (s y) : ℝ) : EReal)

/-- The larger of two parts' maxima. -/
def top (a : Fin 2048 → EReal) (b : Fin 32 → EReal) : EReal := max (Finset.univ.fold max ⊥ a) (Finset.univ.fold max ⊥ b)

/-- The values weighted by the exponentials of two parts' scores, times the reciprocal of the exponentials' sum. -/
def parts (a : Fin 2048 → EReal) (b : Fin 32 → EReal) (u : Fin 2048 → EReal) (w : Fin 32 → EReal) : EReal :=
  (∑ y, Ideal.exp (a y - top a b) * u y + ∑ y, Ideal.exp (b y - top a b) * w y)
    * Ideal.div 1 (∑ y, Ideal.exp (a y - top a b) + ∑ y, Ideal.exp (b y - top a b))

theorem ne_top {x : EReal} (h : Real x) : x ≠ ⊤ := by obtain ⟨r, rfl⟩ := h; exact EReal.coe_ne_top r

theorem ne_bot {x : EReal} (h : Real x) : x ≠ ⊥ := by obtain ⟨r, rfl⟩ := h; exact EReal.coe_ne_bot r

theorem coe_real {x : EReal} (h : Real x) : x = ((x.toReal : ℝ) : EReal) := (EReal.coe_toReal (ne_top h) (ne_bot h)).symm

theorem max_real {n : ℕ} [NeZero n] {s : Fin n → EReal} (hs : ∀ y, Real (s y)) : ∃ r : ℝ, Finset.univ.fold max ⊥ s = (r : EReal) :=
  fold_max_real Finset.univ ⊥ (by decide) s (fun y _ => ne_top (hs y)) (.inr ⟨0, Finset.mem_univ _, ne_bot (hs 0)⟩)

theorem total_pos {s : Fin 2080 → EReal} (hs : ∀ y, Real (s y)) : 0 < ∑ y, wt (s y) :=
  Finset.sum_pos (fun y _ => by obtain ⟨r, h⟩ := hs y; rw [h, wt_coe]; exact Real.exp_pos r) ⟨0, Finset.mem_univ _⟩

/-- On real scores and values, the two parts together are the softmax of the whole row. -/
theorem parts_eq {a : Fin 2048 → EReal} {b : Fin 32 → EReal} {u : Fin 2048 → EReal} {w : Fin 32 → EReal}
    (ha : ∀ y, Real (a y)) (hb : ∀ y, Real (b y)) (hu : ∀ y, Real (u y)) (hw : ∀ y, Real (w y)) :
    parts a b u w = share (join a b) (join u w) := by
  obtain ⟨ra, hra⟩ := max_real ha
  obtain ⟨rb, hrb⟩ := max_real hb
  have ht : top a b = ((max ra rb : ℝ) : EReal) := by rw [top, hra, hrb]; exact (EReal.coe_strictMono.monotone.map_max).symm
  generalize max ra rb = r at ht
  have sums : ∀ f : Fin 2080 → ℝ, ∑ y, f y = ∑ y : Fin 2048, f (Fin.castAdd 32 y) + ∑ y : Fin 32, f (Fin.natAdd 2048 y) := fun f =>
    Fin.sum_univ_add (a := 2048) (b := 32) f
  have el : ∀ {n : ℕ} (s : Fin n → EReal), (∀ y, Real (s y)) →
      ∑ y, Ideal.exp (s y - (r : EReal)) = ((Real.exp (-r) * ∑ y, wt (s y) : ℝ) : EReal) := fun s hs => by
    rw [Finset.mul_sum, coe_sum]
    exact Finset.sum_congr rfl fun y _ => exp_sub _ (ne_top (hs y)) _
  have ea : ∀ {n : ℕ} (s v : Fin n → EReal), (∀ y, Real (s y)) → (∀ y, Real (v y)) →
      ∑ y, Ideal.exp (s y - (r : EReal)) * v y = ((Real.exp (-r) * ∑ y, wt (s y) * (v y).toReal : ℝ) : EReal) := fun s v hs hv => by
    rw [Finset.mul_sum, coe_sum]
    refine Finset.sum_congr rfl fun y _ => ?_
    conv_lhs => rw [coe_real (hv y)]
    rw [exp_sub _ (ne_top (hs y)), ← EReal.coe_mul, mul_assoc]
  rw [parts, ht, el a ha, el b hb, ea a u ha hu, ea b w hb hw, ← EReal.coe_add, ← EReal.coe_add, ← mul_add, ← mul_add]
  have h : Running (∑ y, wt (join a b y)) (∑ y, wt (join a b y) * (join u w y).toReal) (r : EReal)
      ((Real.exp (-r) * (∑ y, wt (a y) + ∑ y, wt (b y)) : ℝ) : EReal)
      ((Real.exp (-r) * (∑ y, wt (a y) * (u y).toReal + ∑ y, wt (b y) * (w y).toReal) : ℝ) : EReal) := by
    refine .inr ⟨r, rfl, ?_, ?_⟩ <;> rw [sums] <;> simp only [join_old, join_new]
  exact h.quotient (total_pos (join_all ha hb))

/-- The difference of two attentions to the same values. -/
def differ (s₀ s₁ v : Fin 2080 → EReal) (l : EReal) : EReal := share s₀ v - l * share s₁ v

/-- Each weight divided by its row's sum, one row less a multiple of the other, applied to the values: on reals, the
    difference of the two attentions. -/
theorem differ_eq {s₀ s₁ v : Fin 2080 → EReal} (h₀ : ∀ y, Real (s₀ y)) (h₁ : ∀ y, Real (s₁ y)) (hv : ∀ y, Real (v y)) {l : EReal} (hl : Real l) :
    ∑ y, v y * (Ideal.div (Ideal.exp (s₀ y - max ⊥ (Finset.univ.fold max ⊥ s₀))) (∑ y', Ideal.exp (s₀ y' - max ⊥ (Finset.univ.fold max ⊥ s₀)))
        - l * Ideal.div (Ideal.exp (s₁ y - max ⊥ (Finset.univ.fold max ⊥ s₁))) (∑ y', Ideal.exp (s₁ y' - max ⊥ (Finset.univ.fold max ⊥ s₁))))
      = differ s₀ s₁ v l := by
  obtain ⟨r₀, e₀⟩ := max_real h₀
  obtain ⟨r₁, e₁⟩ := max_real h₁
  obtain ⟨z, rfl⟩ := hl
  rw [differ, share, share, ← combine, e₀, e₁, max_eq_right bot_le, max_eq_right bot_le]
  refine Finset.sum_congr rfl fun y _ => ?_
  rw [div_eq s₀ (fun y => ne_top (h₀ y)) (total_pos h₀) r₀ y, div_eq s₁ (fun y => ne_top (h₁ y)) (total_pos h₁) r₁ y, ← coe_real (hv y)]

/-- The score of a key against a query, over the 64 columns of one of a head's two components. -/
def score (q k : Fin 128 → EReal) (c : Fin 2) : EReal :=
  ∑ e : Fin 64, q ⟨c.val * 64 + e.val, by omega⟩ * k ⟨c.val * 64 + e.val, by omega⟩

theorem real_score {q k : Fin 128 → EReal} (hq : ∀ i, Real (q i)) (hk : ∀ i, Real (k i)) (c : Fin 2) : Real (score q k c) :=
  Real.sum fun _ => (hq _).mul (hk _)

/-- One head's attention, in one of its columns. -/
def attend (q : Fin 128 → EReal) (k v : Fin 2080 → Fin 128 → EReal) (l : EReal) (d : Fin 128) : EReal :=
  differ (fun y => score q (k y) 0) (fun y => score q (k y) 1) (fun y => v y d) l

/-- The same from the cache's positions and the new ones apart. -/
def attendParts (q : Fin 128 → EReal) (k v : Fin 2048 → Fin 128 → EReal) (k' v' : Fin 32 → Fin 128 → EReal) (l : EReal) (d : Fin 128) : EReal :=
  parts (fun y => score q (k y) 0) (fun y => score q (k' y) 0) (fun y => v y d) (fun y => v' y d)
    - l * parts (fun y => score q (k y) 1) (fun y => score q (k' y) 1) (fun y => v y d) (fun y => v' y d)

theorem attendParts_eq {q : Fin 128 → EReal} {k v : Fin 2048 → Fin 128 → EReal} {k' v' : Fin 32 → Fin 128 → EReal}
    (hq : ∀ i, Real (q i)) (hk : ∀ y i, Real (k y i)) (hv : ∀ y i, Real (v y i)) (hk' : ∀ y i, Real (k' y i)) (hv' : ∀ y i, Real (v' y i))
    (l : EReal) (d : Fin 128) : attendParts q k v k' v' l d = attend q (join k k') (join v v') l d := by
  have e : ∀ c, parts (fun y => score q (k y) c) (fun y => score q (k' y) c) (fun y => v y d) (fun y => v' y d)
      = share (fun y => score q (join k k' y) c) (fun y => join v v' y d) := fun c => by
    rw [parts_eq (fun y => real_score hq (hk y) c) (fun y => real_score hq (hk' y) c) (fun y => hv y d) (fun y => hv' y d)]
    exact congrArg₂ share (funext fun y => (apply_join (fun k => score q k c) k k' y).symm) (funext fun y => (apply_join (fun v => v d) v v' y).symm)
  rw [attendParts, e, e, attend, differ]

/-- A head's columns divided by their root mean square, scaled. -/
def normed (w g : Fin 128 → EReal) (d : Fin 128) : EReal :=
  w d * Ideal.rsqrt (Ideal.div (∑ d', w d' * w d') (Ideal.ofBits .f32 0x43000000#32) + Ideal.ofBits .f32 0x358637BD#32)
    * g d * Ideal.ofBits .f32 0x3F4CCCCD#32

abbrev Rows := (⟨2, ![1024, 512]⟩ : Shape).Idx → EReal
abbrev Cache := (⟨4, ![32, 2048, 4, 128]⟩ : Shape).Idx → EReal

/-- A head's columns of one of a sequence's new rows. -/
def row (X : Rows) (b : Fin 32) (h : Fin 4) (x : Fin 32) (i : Fin 128) : EReal :=
  X (ix2 ⟨b.val * 32 + x.val, by omega⟩ ⟨h.val * 128 + i.val, by omega⟩)

/-- A head's columns of all of a sequence's positions. -/
def all (P : Cache) (X : Rows) (b : Fin 32) (h : Fin 4) : Fin 2080 → Fin 128 → EReal := join (fun y i => P (ix4 b y h i)) (row X b h)

/-- The attention's result: at sequence `b`, new position `x`, head `h`, column `d` of the head. -/
def out (Q K V : Rows) (P R : Cache) (l : EReal) (g : Fin 128 → EReal) (b x : Fin 32) (h : Fin 4) (d : Fin 128) : EReal :=
  normed (attend (row Q b h x) (all P K b h) (all R V b h) l) g d

end Cert.Proof.Joined

end
-- ==== Proof.JoinedKernel.lean ====
/-
  The kernel that attends over a cache and new positions, over the extended reals: its result, entry by entry.
-/
module

public import proofs.«01_k».proof.Proof.Gen.Kernel6Ideal.Value
public import proofs.«01_k».proof.Proof.Joined
public import proofs.«01_k».proof.Proof.Steps
public import Idealize.ShloMosaic.Lib.Pipeline.ValueKit
public import Idealize.ShloMosaic.Lib.StableHlo.ReadAt

@[expose] public section

set_option maxRecDepth 16384

noncomputable section

namespace Cert.Proof.JoinedKernel

open Idealize.ShloMosaic Idealize.ShloMosaic.TcCoe Idealize.ShloMosaic.Tactic
open Idealize.SL.Sem
open Idealize.ShloMosaic.Pipeline (Dat)
open Cert.Proof.Joined
open Cert.Proof.Recall (Real)
open Cert.Kernel6Ideal Cert.Kernel6Ideal.Gen Cert.Kernel6Ideal.Value

theorem word_bot : Ideal.ofBits .f32 0xFF800000#32 = ⊥ := by simp [Ideal.ofBits, Ideal.ieee]

section

variable (q k' v' : FVec Ideal S1x32x128 .bf16) (k v : FVec Ideal S1x2048x128 .f32)

/-- A query's columns with those of its second component zero, -/
theorem masked0 (x : Fin 32) (e : Fin 128) :
    k0_pay5 (F := Ideal) q (ix2 x e) = Scalar.select (IntOp.cmpi .slt (BitVec.ofNat 32 e.val) 64#32) (q (ix3 0 x e)) 0 := by
  pointwise [k0_pay5, k0_pay3, k0_pay4]

/-- and with those of its first. -/
theorem masked1 (x : Fin 32) (e : Fin 128) :
    k0_pay6 (F := Ideal) q (ix2 x e) = Scalar.select (IntOp.cmpi .sge (BitVec.ofNat 32 e.val) 64#32) (q (ix3 0 x e)) 0 := by
  pointwise [k0_pay6, k0_pay3, k0_pay4]

theorem select_mul (c : BitVec 1) (u w : EReal) : Scalar.select c u 0 * w = Scalar.select c (u * w) 0 := by
  unfold Scalar.select; split
  · rfl
  · exact zero_mul w

/-- A score over all of a head's columns, half of the query's zero, is the score of one component. -/
theorem score0 (x : Fin 32) (w : Fin 128 → EReal) : ∑ e, k0_pay5 (F := Ideal) q (ix2 x e) * w e = score (fun i => q (ix3 0 x i)) w 0 := by
  rw [Finset.sum_congr rfl fun e _ => by rw [masked0, select_mul]]
  refine (KernelIdeal.sum_low fun e => q (ix3 0 x e) * w e).trans (Finset.sum_congr rfl fun e _ => ?_)
  have he : (⟨e.val, by omega⟩ : Fin 128) = ⟨(0 : Fin 2).val * 64 + e.val, by have := (0 : Fin 2).isLt; simp; omega⟩ := Fin.ext (by simp)
  rw [he]

theorem score1 (x : Fin 32) (w : Fin 128 → EReal) : ∑ e, k0_pay6 (F := Ideal) q (ix2 x e) * w e = score (fun i => q (ix3 0 x i)) w 1 := by
  rw [Finset.sum_congr rfl fun e _ => by rw [masked1, select_mul]]
  refine (KernelIdeal.sum_high fun e => q (ix3 0 x e) * w e).trans (Finset.sum_congr rfl fun e _ => ?_)
  have he : (⟨64 + e.val, by omega⟩ : Fin 128) = ⟨(1 : Fin 2).val * 64 + e.val, by simp; omega⟩ := Fin.ext (by simp)
  rw [he]

/-- One component's attention, -/
theorem attn0 (a : FVec Ideal S32x128 .bf16) (K V : FVec Ideal S2048x128 .bf16) (x : Fin 32) (d : Fin 128) :
    k0_pay11 (F := Ideal) a K V k' v' (ix2 x d)
      = parts (fun y => ∑ e, a (ix2 x e) * K (ix2 y e)) (fun y => ∑ e, a (ix2 x e) * k' (ix3 0 y e)) (fun y => V (ix2 y d)) (fun y => v' (ix3 0 y d)) := by
  pointwise [k0_pay11, k0_pay9, k0_pay10]
  rw [word_bot]
  rfl

/-- and the difference of two, normed. -/
theorem pair (l : FVec Ideal S1x1 .f32) (K V : FVec Ideal S2048x128 .bf16) (V' a : FVec Ideal S32x128 .bf16) (o : FVec Ideal S32x128 .f32) (g : FVec Ideal S1x128 .f32)
    (x : Fin 32) (d : Fin 128) :
    k0_pay17 (F := Ideal) l V V' o (k0_pay13 a k') (k0_pay15 a K k') (k0_pay16 a K k') g (ix3 0 x d)
      = normed (fun d => o (ix2 x d) - l (ix2 0 0) *
        parts (fun y => ∑ e, a (ix2 x e) * K (ix2 y e)) (fun y => ∑ e, a (ix2 x e) * k' (ix3 0 y e)) (fun y => V (ix2 y d)) (fun y => V' (ix2 y d)))
          (fun d => g (ix2 0 d)) d := by
  pointwise [k0_pay17, k0_pay16, k0_pay15, k0_pay14, k0_pay13, k0_pay12, k0_pay9]
  rw [word_bot]
  rfl

end

/-- A head's result, from its columns of the queries, the keys and the values. -/
def head (l : FVec Ideal S1x1 .f32) (g : Vec Ideal S1x128 .f32) (q : Vec Ideal S1x32x128 .bf16) (k v : Vec Ideal S1x2048x128 .f32)
    (k' v' : Vec Ideal S1x32x128 .bf16) : FVec Ideal S1x32x128 .f32 :=
  k0_pay17 (F := Ideal) l (k0_pay8 v) (k0_pay10 v') (k0_pay11 (k0_pay5 q) (k0_pay7 k) (k0_pay8 v) k' v')
    (k0_pay13 (k0_pay6 q) k') (k0_pay15 (k0_pay6 q) (k0_pay7 k) k') (k0_pay16 (k0_pay6 q) (k0_pay7 k) k') g

/-- Rounded blocks of the cache, entry by entry. -/
theorem old_key (k : FVec Ideal S1x2048x128 .f32) (y : Fin 2048) (i : Fin 128) : k0_pay7 (F := Ideal) k (ix2 y i) = k (ix3 0 y i) := by
  pointwise [k0_pay7]

theorem old_value (v : FVec Ideal S1x2048x128 .f32) (y : Fin 2048) (i : Fin 128) : k0_pay8 (F := Ideal) v (ix2 y i) = v (ix3 0 y i) := by
  pointwise [k0_pay8]

theorem new_value (v' : FVec Ideal S1x32x128 .bf16) (y : Fin 32) (i : Fin 128) : k0_pay10 (F := Ideal) v' (ix2 y i) = v' (ix3 0 y i) := by
  pointwise [k0_pay10]

theorem head_at (l : FVec Ideal S1x1 .f32) (g : FVec Ideal S1x128 .f32) (q : FVec Ideal S1x32x128 .bf16) (k v : FVec Ideal S1x2048x128 .f32)
    (k' v' : FVec Ideal S1x32x128 .bf16) (x : Fin 32) (d : Fin 128) :
    head l g q k v k' v' (ix3 0 x d)
      = normed (attendParts (fun i => q (ix3 0 x i)) (fun y i => k (ix3 0 y i)) (fun y i => v (ix3 0 y i)) (fun y i => k' (ix3 0 y i)) (fun y i => v' (ix3 0 y i))
          (l (ix2 0 0))) (fun d => g (ix2 0 d)) d := by
  unfold head
  rw [pair]
  refine congrArg (normed · _ d) (funext fun d => ?_)
  rw [attn0, attendParts]
  simp only [score0, score1, old_key, old_value, new_value]

section

variable (x0 x1 x2 : Vec Ideal S1x32x512 .bf16) (x3 x4 : Vec Ideal S1x2048x512 .f32) (x5 x6 x7 x8 : Vec Ideal S1x64 .f32) (x9 : Vec Ideal S1x128 .f32)

/-- The body's result is four heads' results side by side. -/
theorem out_eq : out0_10 (F := Ideal) x0 x1 x2 x3 x4 x5 x6 x7 x8 x9
    = View.canon [
      ⟨r0_8, head (k0_pay73 (F := Ideal) x0 x1 x2 x3 x4 x5 x6 x7 x8 x9) (View.ld (Val := Elt Ideal) x9 r0_3) (View.ld (Val := Elt Ideal) x0 r0_8) (View.ld (Val := Elt Ideal) x3 r0_9) (View.ld (Val := Elt Ideal) x4 r0_9) (View.ld (Val := Elt Ideal) x1 r0_8) (View.ld (Val := Elt Ideal) x2 r0_8)⟩,
      ⟨r0_6, head (k0_pay73 (F := Ideal) x0 x1 x2 x3 x4 x5 x6 x7 x8 x9) (View.ld (Val := Elt Ideal) x9 r0_3) (View.ld (Val := Elt Ideal) x0 r0_6) (View.ld (Val := Elt Ideal) x3 r0_7) (View.ld (Val := Elt Ideal) x4 r0_7) (View.ld (Val := Elt Ideal) x1 r0_6) (View.ld (Val := Elt Ideal) x2 r0_6)⟩,
      ⟨r0_4, head (k0_pay73 (F := Ideal) x0 x1 x2 x3 x4 x5 x6 x7 x8 x9) (View.ld (Val := Elt Ideal) x9 r0_3) (View.ld (Val := Elt Ideal) x0 r0_4) (View.ld (Val := Elt Ideal) x3 r0_5) (View.ld (Val := Elt Ideal) x4 r0_5) (View.ld (Val := Elt Ideal) x1 r0_4) (View.ld (Val := Elt Ideal) x2 r0_4)⟩,
      ⟨r0_1, head (k0_pay73 (F := Ideal) x0 x1 x2 x3 x4 x5 x6 x7 x8 x9) (View.ld (Val := Elt Ideal) x9 r0_3) (View.ld (Val := Elt Ideal) x0 r0_1) (View.ld (Val := Elt Ideal) x3 r0_2) (View.ld (Val := Elt Ideal) x4 r0_2) (View.ld (Val := Elt Ideal) x1 r0_1) (View.ld (Val := Elt Ideal) x2 r0_1)⟩] := rfl

/-- Four blocks of 128 columns side by side, entry by entry. -/
theorem canon_at (p0 p1 p2 p3 : FVec Ideal S1x32x128 .f32) (x : Fin 32) (h : Fin 4) (d : Fin 128) :
    View.canon (Val := Elt Ideal) (e := .f32) [⟨r0_8, p3⟩, ⟨r0_6, p2⟩, ⟨r0_4, p1⟩, ⟨r0_1, p0⟩] (ix3 0 x ⟨h.val * 128 + d.val, by omega⟩)
      = (![p0, p1, p2, p3] h) (ix3 0 x d) := by
  have inside : ∀ (b : ℕ) (H : _) (n : Fin 512), n.val = b + d.val → ix3 0 x n = (Rect.unit (s := S1x32x512) ![0, 0, b] S1x32x128.size H).emb (ix3 0 x d) := fun b H n hn => by
    funext a; refine Fin.ext ?_; fin_cases a <;> simp [hn]
  have off : ∀ (b : ℕ) (H : _) (n : Fin 512), n.val < b → ix3 0 x n ∉ (Rect.unit (s := S1x32x512) ![0, 0, b] S1x32x128.size H).set := fun b H n hn hm => by
    have h2 := (Rect.mem_set_unit.mp hm 2).1
    exact absurd (show b ≤ n.val from h2) (by omega)
  have o3 : ∀ n : Fin 512, n.val < 384 → ix3 0 x n ∉ r0_8.set := fun n => off 384 _ n
  have o2 : ∀ n : Fin 512, n.val < 256 → ix3 0 x n ∉ r0_6.set := fun n => off 256 _ n
  have o1 : ∀ n : Fin 512, n.val < 128 → ix3 0 x n ∉ r0_4.set := fun n => off 128 _ n
  generalize hn : (⟨h.val * 128 + d.val, by omega⟩ : Fin 512) = n
  have hn' : n.val = h.val * 128 + d.val := by rw [← hn]
  clear hn
  fin_cases h <;> simp only [] at hn'
  · rw [View.canon_cons_of_not_mem (Val := Elt Ideal) (e := .f32) ⟨r0_8, p3⟩ _ (o3 n (by omega)), View.canon_cons_of_not_mem (Val := Elt Ideal) (e := .f32) ⟨r0_6, p2⟩ _ (o2 n (by omega)),
      View.canon_cons_of_not_mem (Val := Elt Ideal) (e := .f32) ⟨r0_4, p1⟩ _ (o1 n (by omega)), inside 0 inb_S1x32x512_S1x32x128_0_0_0 n (by omega)]
    exact View.canon_cons_emb (Val := Elt Ideal) (e := .f32) r0_1 p0 _ _
  · rw [View.canon_cons_of_not_mem (Val := Elt Ideal) (e := .f32) ⟨r0_8, p3⟩ _ (o3 n (by omega)), View.canon_cons_of_not_mem (Val := Elt Ideal) (e := .f32) ⟨r0_6, p2⟩ _ (o2 n (by omega)),
      inside 128 inb_S1x32x512_S1x32x128_0_0_128 n (by omega)]
    exact View.canon_cons_emb (Val := Elt Ideal) (e := .f32) r0_4 p1 _ _
  · rw [View.canon_cons_of_not_mem (Val := Elt Ideal) (e := .f32) ⟨r0_8, p3⟩ _ (o3 n (by omega)), inside 256 inb_S1x32x512_S1x32x128_0_0_256 n (by omega)]
    exact View.canon_cons_emb (Val := Elt Ideal) (e := .f32) r0_6 p2 _ _
  · rw [inside 384 inb_S1x32x512_S1x32x128_0_0_384 n (by omega)]
    exact View.canon_cons_emb (Val := Elt Ideal) (e := .f32) r0_8 p3 _ _

/-- A head's columns of a block. -/
theorem new_part (X : Vec Ideal S1x32x512 .bf16) (h : Fin 4) (b : ℕ) (hb : b = h.val * 128) (H : _) (y : Fin 32) (i : Fin 128) :
    View.ld (Val := Elt Ideal) X (Rect.unit (s := S1x32x512) ![0, 0, b] S1x32x128.size H) (ix3 0 y i) = X (ix3 0 y ⟨h.val * 128 + i.val, by omega⟩) := by
  refine congrArg X (funext fun a => Fin.ext ?_)
  fin_cases a <;> simp [hb]

theorem old_part (X : Vec Ideal S1x2048x512 .f32) (h : Fin 4) (b : ℕ) (hb : b = h.val * 128) (H : _) (y : Fin 2048) (i : Fin 128) :
    View.ld (Val := Elt Ideal) X (Rect.unit (s := S1x2048x512) ![0, 0, b] S1x2048x128.size H) (ix3 0 y i) = X (ix3 0 y ⟨h.val * 128 + i.val, by omega⟩) := by
  refine congrArg X (funext fun a => Fin.ext ?_)
  fin_cases a <;> simp [hb]

/-- The weight of the second attention. -/
theorem lam_at (d5 d6 d7 d8 : FVec Ideal S1x64 .f32) : k0_pay2 (F := Ideal) d5 d6 d7 d8 (ix2 0 0) = Spec.lam d5 d6 d7 d8 := by
  pointwise [k0_pay2]
  rfl

/-- A head's result from its columns of the blocks. -/
theorem head_part (l : FVec Ideal S1x1 .f32) (h : Fin 4) (b : ℕ) (hb : b = h.val * 128) (H H' : _) (x : Fin 32) (d : Fin 128) :
    head l x9 (View.ld (Val := Elt Ideal) x0 (Rect.unit (s := S1x32x512) ![0, 0, b] S1x32x128.size H))
        (View.ld (Val := Elt Ideal) x3 (Rect.unit (s := S1x2048x512) ![0, 0, b] S1x2048x128.size H'))
        (View.ld (Val := Elt Ideal) x4 (Rect.unit (s := S1x2048x512) ![0, 0, b] S1x2048x128.size H'))
        (View.ld (Val := Elt Ideal) x1 (Rect.unit (s := S1x32x512) ![0, 0, b] S1x32x128.size H))
        (View.ld (Val := Elt Ideal) x2 (Rect.unit (s := S1x32x512) ![0, 0, b] S1x32x128.size H)) (ix3 0 x d)
      = normed (attendParts (fun i => x0 (ix3 0 x ⟨h.val * 128 + i.val, by omega⟩))
        (fun y i => x3 (ix3 0 y ⟨h.val * 128 + i.val, by omega⟩)) (fun y i => x4 (ix3 0 y ⟨h.val * 128 + i.val, by omega⟩))
        (fun y i => x1 (ix3 0 y ⟨h.val * 128 + i.val, by omega⟩)) (fun y i => x2 (ix3 0 y ⟨h.val * 128 + i.val, by omega⟩))
        (l (ix2 0 0))) (fun d => x9 (ix2 0 d)) d := by
  refine (head_at _ _ _ _ _ _ _ x d).trans ?_
  simp only [new_part x0 h b hb H, new_part x1 h b hb H, new_part x2 h b hb H, old_part x3 h b hb H', old_part x4 h b hb H']

/-- The body's result, entry by entry: at a position, a head and a column of the head. -/
theorem out_at (x : Fin 32) (h : Fin 4) (d : Fin 128) : out0_10 (F := Ideal) x0 x1 x2 x3 x4 x5 x6 x7 x8 x9 (ix3 0 x ⟨h.val * 128 + d.val, by omega⟩)
    = normed (attendParts (fun i => x0 (ix3 0 x ⟨h.val * 128 + i.val, by omega⟩))
        (fun y i => x3 (ix3 0 y ⟨h.val * 128 + i.val, by omega⟩)) (fun y i => x4 (ix3 0 y ⟨h.val * 128 + i.val, by omega⟩))
        (fun y i => x1 (ix3 0 y ⟨h.val * 128 + i.val, by omega⟩)) (fun y i => x2 (ix3 0 y ⟨h.val * 128 + i.val, by omega⟩))
        (Spec.lam x5 x6 x7 x8)) (fun d => x9 (ix2 0 d)) d := by
  have hl : k0_pay73 (F := Ideal) x0 x1 x2 x3 x4 x5 x6 x7 x8 x9 (ix2 0 0) = Spec.lam x5 x6 x7 x8 := by
    unfold k0_pay73
    rw [View.ld_unit_zero (by decide), View.ld_unit_zero (by decide), View.ld_unit_zero (by decide), View.ld_unit_zero (by decide)]
    exact lam_at x5 x6 x7 x8
  have hg : View.ld (Val := Elt Ideal) x9 r0_3 = x9 := View.ld_unit_zero (by decide) _ _
  rw [out_eq, hg]
  refine (canon_at _ _ _ _ x h d).trans ?_
  rw [← hl]
  fin_cases h
  · exact head_part x0 x1 x2 x3 x4 x9 _ 0 0 rfl _ _ x d
  · exact head_part x0 x1 x2 x3 x4 x9 _ 1 128 rfl _ _ x d
  · exact head_part x0 x1 x2 x3 x4 x9 _ 2 256 rfl _ _ x d
  · exact head_part x0 x1 x2 x3 x4 x9 _ 3 384 rfl _ _ x d

end

theorem normed_congr {q q₁ : Fin 128 → EReal} {k k₁ v v₁ : Fin 2048 → Fin 128 → EReal} {k' k₁' v' v₁' : Fin 32 → Fin 128 → EReal} {l l₁ : EReal}
    {g g₁ : Fin 128 → EReal} (hq : q = q₁) (hk : k = k₁) (hv : v = v₁) (hk' : k' = k₁') (hv' : v' = v₁') (hl : l = l₁) (hg : g = g₁) (d : Fin 128) :
    normed (attendParts q k v k' v' l) g d = normed (attendParts q₁ k₁ v₁ k₁' v₁' l₁) g₁ d := by
  rw [hq, hk, hv, hk', hv', hl, hg]

section

variable (m : (ℓ : Loc nD τ sig) → Buf (Elt Ideal) ℓ) (c : Dev nD)

abbrev argQ : Rows := m ((c.tc : Thread nD τ).loc main_arg0)
abbrev argK : Rows := m ((c.tc : Thread nD τ).loc main_arg1)
abbrev argV : Rows := m ((c.tc : Thread nD τ).loc main_arg2)
abbrev argP : Cache := m ((c.tc : Thread nD τ).loc main_arg3)
abbrev argR : Cache := m ((c.tc : Thread nD τ).loc main_arg4)

/-- The weight of the second attention, and the norm's gain. -/
abbrev weight : EReal := Spec.lam (m ((c.tc : Thread nD τ).loc main_arg5)) (m ((c.tc : Thread nD τ).loc main_arg6))
  (m ((c.tc : Thread nD τ).loc main_arg7)) (m ((c.tc : Thread nD τ).loc main_arg8))

abbrev gain (d : Fin 128) : EReal := (m ((c.tc : Thread nD τ).loc main_arg9) : (⟨2, ![1, 128]⟩ : Shape).Idx → EReal) (ix2 0 d)

theorem query_at (b x : Fin 32) (n : Fin 512) : V m c main_v8 (ix3 b x n) = argQ m c (ix2 ⟨b.val * 32 + x.val, by omega⟩ n) := by
  unfold V
  after_reads_at

theorem key_at (b x : Fin 32) (n : Fin 512) : V m c main_v9 (ix3 b x n) = argK m c (ix2 ⟨b.val * 32 + x.val, by omega⟩ n) := by
  unfold V
  after_reads_at

theorem value_at (b x : Fin 32) (n : Fin 512) : V m c main_v10 (ix3 b x n) = argV m c (ix2 ⟨b.val * 32 + x.val, by omega⟩ n) := by
  unfold V
  after_reads_at

theorem past_key_at (b : Fin 32) (y : Fin 2048) (n : Fin 512) :
    V m c main_v11 (ix3 b y n) = argP m c (ix4 b y ⟨n.val / 128, by omega⟩ ⟨n.val % 128, by omega⟩) := by
  unfold V
  after_reads_at

theorem past_value_at (b : Fin 32) (y : Fin 2048) (n : Fin 512) :
    V m c main_v12 (ix3 b y n) = argR m c (ix4 b y ⟨n.val / 128, by omega⟩ ⟨n.val % 128, by omega⟩) := by
  unfold V
  after_reads_at

theorem lam5_at (e : Fin 64) : V m c main_v1 (ix2 0 e) = m ((c.tc : Thread nD τ).loc main_arg5) (ix2 0 e) := by
  unfold V
  after_reads_at

theorem lam6_at (e : Fin 64) : V m c main_v3 (ix2 0 e) = m ((c.tc : Thread nD τ).loc main_arg6) (ix2 0 e) := by
  unfold V
  after_reads_at

theorem lam7_at (e : Fin 64) : V m c main_v5 (ix2 0 e) = m ((c.tc : Thread nD τ).loc main_arg7) (ix2 0 e) := by
  unfold V
  after_reads_at

theorem lam8_at (e : Fin 64) : V m c main_v7 (ix2 0 e) = m ((c.tc : Thread nD τ).loc main_arg8) (ix2 0 e) := by
  unfold V
  after_reads_at

theorem gain_at (e : Fin 128) : V m c main_v14 (ix2 0 e) = m ((c.tc : Thread nD τ).loc main_arg9) (ix2 0 e) := by
  unfold V
  after_reads_at

/-- Where each window's block lies at a point. -/
theorem places : ∀ t : Fin grid0.N,
    (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0) ∧ (win0_3.index t 0 = t.val ∧ win0_3.index t 1 = 0 ∧ win0_3.index t 2 = 0)
    ∧ (win0_4.index t 0 = t.val ∧ win0_4.index t 1 = 0 ∧ win0_4.index t 2 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0)
    ∧ (win0_10.index t 0 = t.val ∧ win0_10.index t 1 = 0 ∧ win0_10.index t 2 = 0) := by decide +kernel

theorem point_lt (t : Fin cfg0.N) : t.val < 32 := t.isLt

/-- The sequence that a point treats. -/
abbrev seqOf (t : Fin cfg0.N) : Fin 32 := ⟨t.val, point_lt t⟩

theorem block_q (t : Fin cfg0.N) (x : Fin 32) (n : Fin 512) : iblk m c 0 t (ix3 0 x n) = V m c main_v8 (ix3 (seqOf t) x n) := by
  blk_ext [iblk, places t]

theorem block_k (t : Fin cfg0.N) (x : Fin 32) (n : Fin 512) : iblk m c 1 t (ix3 0 x n) = V m c main_v9 (ix3 (seqOf t) x n) := by
  blk_ext [iblk, places t]

theorem block_v (t : Fin cfg0.N) (x : Fin 32) (n : Fin 512) : iblk m c 2 t (ix3 0 x n) = V m c main_v10 (ix3 (seqOf t) x n) := by
  blk_ext [iblk, places t]

theorem block_p (t : Fin cfg0.N) (y : Fin 2048) (n : Fin 512) : iblk m c 3 t (ix3 0 y n) = V m c main_v11 (ix3 (seqOf t) y n) := by
  blk_ext [iblk, places t]

theorem block_r (t : Fin cfg0.N) (y : Fin 2048) (n : Fin 512) : iblk m c 4 t (ix3 0 y n) = V m c main_v12 (ix3 (seqOf t) y n) := by
  blk_ext [iblk, places t]

theorem block_5 (t : Fin cfg0.N) (e : Fin 64) : iblk m c 5 t (ix2 0 e) = V m c main_v1 (ix2 0 e) := by
  blk_ext [iblk, places t]

theorem block_6 (t : Fin cfg0.N) (e : Fin 64) : iblk m c 6 t (ix2 0 e) = V m c main_v3 (ix2 0 e) := by
  blk_ext [iblk, places t]

theorem block_7 (t : Fin cfg0.N) (e : Fin 64) : iblk m c 7 t (ix2 0 e) = V m c main_v5 (ix2 0 e) := by
  blk_ext [iblk, places t]

theorem block_8 (t : Fin cfg0.N) (e : Fin 64) : iblk m c 8 t (ix2 0 e) = V m c main_v7 (ix2 0 e) := by
  blk_ext [iblk, places t]

theorem block_g (t : Fin cfg0.N) (e : Fin 128) : iblk m c 9 t (ix2 0 e) = V m c main_v14 (ix2 0 e) := by
  blk_ext [iblk, places t]

/-- The weight of the second attention, from the blocks, -/
theorem lam_block (t : Fin cfg0.N) : Spec.lam (iblk m c 5 t) (iblk m c 6 t) (iblk m c 7 t) (iblk m c 8 t) = weight m c := by
  refine congrArg (· + _) (congrArg₂ (fun u v => Ideal.exp u - Ideal.exp v) (Finset.sum_congr rfl fun e _ => ?_) (Finset.sum_congr rfl fun e _ => ?_))
  · exact congrArg₂ (· * ·) ((block_5 m c t e).trans (lam5_at m c e)) ((block_6 m c t e).trans (lam6_at m c e))
  · exact congrArg₂ (· * ·) ((block_7 m c t e).trans (lam7_at m c e)) ((block_8 m c t e).trans (lam8_at m c e))

/-- and a head's columns of the queries, -/
theorem row_q (t : Fin cfg0.N) (h : Fin 4) (x : Fin 32) (i : Fin 128) :
    iblk m c 0 t (ix3 0 x ⟨h.val * 128 + i.val, by omega⟩) = row (argQ m c) (seqOf t) h x i :=
  (block_q m c t x _).trans (query_at m c _ x _)

/-- of the new keys and values, -/
theorem row_k (t : Fin cfg0.N) (h : Fin 4) (x : Fin 32) (i : Fin 128) :
    iblk m c 1 t (ix3 0 x ⟨h.val * 128 + i.val, by omega⟩) = row (argK m c) (seqOf t) h x i :=
  (block_k m c t x _).trans (key_at m c _ x _)

theorem row_v (t : Fin cfg0.N) (h : Fin 4) (x : Fin 32) (i : Fin 128) :
    iblk m c 2 t (ix3 0 x ⟨h.val * 128 + i.val, by omega⟩) = row (argV m c) (seqOf t) h x i :=
  (block_v m c t x _).trans (value_at m c _ x _)

/-- and of the cache's. -/
theorem row_p (t : Fin cfg0.N) (h : Fin 4) (y : Fin 2048) (i : Fin 128) :
    iblk m c 3 t (ix3 0 y ⟨h.val * 128 + i.val, by omega⟩) = argP m c (ix4 (seqOf t) y h i) :=
  (block_p m c t y _).trans ((past_key_at m c _ y _).trans
    (congrArg₂ (fun u v => argP m c (ix4 (seqOf t) y u v)) (Fin.ext (by simp only []; omega)) (Fin.ext (by simp only []; omega))))

theorem row_r (t : Fin cfg0.N) (h : Fin 4) (y : Fin 2048) (i : Fin 128) :
    iblk m c 4 t (ix3 0 y ⟨h.val * 128 + i.val, by omega⟩) = argR m c (ix4 (seqOf t) y h i) :=
  (block_r m c t y _).trans ((past_value_at m c _ y _).trans
    (congrArg₂ (fun u v => argR m c (ix4 (seqOf t) y u v)) (Fin.ext (by simp only []; omega)) (Fin.ext (by simp only []; omega))))

/-- The result as an array. -/
def G (Q K W : Rows) (P R : Cache) (l : EReal) (g : Fin 128 → EReal) : FVec Ideal S32x32x512 .f32 :=
  fun i => out Q K W P R l g (i 0) (i 1) ⟨(i 2).val / 128, by have : (i 2).val < 512 := (i 2).isLt; omega⟩ ⟨(i 2).val % 128, Nat.mod_lt _ (by decide)⟩

variable (hq : ∀ i, Real (argQ m c i)) (hk : ∀ i, Real (argK m c i)) (hv : ∀ i, Real (argV m c i))
  (hp : ∀ i, Real (argP m c i)) (hr : ∀ i, Real (argR m c i))

include hq hk hv hp hr

/-- A block of the result, entry by entry. -/
theorem block_at (t : Fin cfg0.N) (x : Fin 32) (h : Fin 4) (d : Fin 128) :
    out0_10 (F := Ideal) (iblk m c 0 t) (iblk m c 1 t) (iblk m c 2 t) (iblk m c 3 t) (iblk m c 4 t) (iblk m c 5 t) (iblk m c 6 t) (iblk m c 7 t)
        (iblk m c 8 t) (iblk m c 9 t) (ix3 0 x ⟨h.val * 128 + d.val, by omega⟩)
      = out (argQ m c) (argK m c) (argV m c) (argP m c) (argR m c) (weight m c) (gain m c) (seqOf t) x h d := by
  refine (out_at (iblk m c 0 t) (iblk m c 1 t) (iblk m c 2 t) (iblk m c 3 t) (iblk m c 4 t) (iblk m c 5 t) (iblk m c 6 t) (iblk m c 7 t)
    (iblk m c 8 t) (iblk m c 9 t) x h d).trans ?_
  refine (normed_congr (funext fun i => row_q m c t h x i) (funext₂ fun y i => row_p m c t h y i) (funext₂ fun y i => row_r m c t h y i)
    (funext₂ fun y i => row_k m c t h y i) (funext₂ fun y i => row_v m c t h y i) (lam_block m c t)
    (funext fun e => (block_g m c t e).trans (gain_at m c e)) d).trans ?_
  exact congrArg (normed · (gain m c) d) (funext fun d => attendParts_eq (fun i => hq _) (fun y i => hp _) (fun y i => hr _) (fun y i => hk _)
    (fun y i => hv _) _ d)

theorem flushed (t : Fin cfg0.N) : (dats m 0 c).flushed 10 t = (win0_10.blk t).view.read (Elt Ideal)
    (G (argQ m c) (argK m c) (argV m c) (argP m c) (argR m c) (weight m c) (gain m c)) := by
  refine (flushed10 m c t).trans ?_
  funext j
  obtain ⟨x, n, rfl⟩ : ∃ (x : Fin 32) (n : Fin 512), j = ix3 0 x n := ⟨j 1, j 2, by
    funext a
    fin_cases a
    · exact Subsingleton.elim (α := Fin 1) (j 0) 0
    · rfl
    · rfl⟩
  have hn : n = ⟨n.val / 128 * 128 + n.val % 128, by omega⟩ := Fin.ext (by simp only []; omega)
  refine Eq.trans ?_ ((block_at m c hq hk hv hp hr t x ⟨n.val / 128, by omega⟩ ⟨n.val % 128, by omega⟩).trans ?_)
  · exact congrArg (fun n => out0_10 (F := Ideal) (iblk m c 0 t) (iblk m c 1 t) (iblk m c 2 t) (iblk m c 3 t) (iblk m c 4 t) (iblk m c 5 t)
      (iblk m c 6 t) (iblk m c 7 t) (iblk m c 8 t) (iblk m c 9 t) (ix3 0 x n)) hn
  refine Eq.trans (b := G (argQ m c) (argK m c) (argV m c) (argP m c) (argR m c) (weight m c) (gain m c) (ix3 (seqOf t) x n)) rfl ?_
  blk_ext [places t]

omit hq hk hv hp hr

/-- Where the result's block begins at a point, and its extents. -/
theorem extent : ∀ t : Fin grid0.N,
    win0_10.index t 0 * win0_10.size 0 = t.val ∧ win0_10.index t 1 * win0_10.size 1 = 0 ∧ win0_10.index t 2 * win0_10.size 2 = 0
    ∧ win0_10.xsize (grid0.coords t) 0 = 1 ∧ win0_10.xsize (grid0.coords t) 1 = 32 ∧ win0_10.xsize (grid0.coords t) 2 = 512 := by decide +kernel

theorem cover (i : S32x32x512.Idx) : ∃ t : Fin cfg0.N, (cfg0.win 10).flush t = true ∧ i ∈ ((cfg0.win 10).blk t).view.set := by
  have h0 : (i 0).val < 32 := (i 0).isLt
  have h1 : (i 1).val < 32 := (i 1).isLt
  have h2 : (i 2).val < 512 := (i 2).isLt
  refine ⟨⟨(i 0).val, h0⟩, flush0_10 _, ?_⟩
  show i ∈ ((View.whole main_v15).slice (win0_10.rect ⟨(i 0).val, h0⟩)).set
  rw [View.set_slice_whole, Rect.mem_set_unit]
  obtain ⟨p0, p1, p2, s0, s1, s2⟩ := extent ⟨(i 0).val, h0⟩
  intro a
  fin_cases a
  · show win0_10.index _ 0 * win0_10.size 0 ≤ (i 0).val ∧ (i 0).val < win0_10.index _ 0 * win0_10.size 0 + win0_10.xsize _ 0
    rw [p0, s0]; dsimp only; omega
  · show win0_10.index _ 1 * win0_10.size 1 ≤ (i 1).val ∧ (i 1).val < win0_10.index _ 1 * win0_10.size 1 + win0_10.xsize _ 1
    rw [p1, s1]; omega
  · show win0_10.index _ 2 * win0_10.size 2 ≤ (i 2).val ∧ (i 2).val < win0_10.index _ 2 * win0_10.size 2 + win0_10.xsize _ 2
    rw [p2, s2]; omega

include hq hk hv hp hr in
/-- What the kernel leaves. -/
theorem final : (dats m 0 c).arrAt 10 cfg0.N = G (argQ m c) (argK m c) (argV m c) (argP m c) (argR m c) (weight m c) (gain m c) :=
  (dats m 0 c).arrAt_eq_of_cover 10 _ (fun t _ => flushed m c hq hk hv hp hr t) cover

end

end Cert.Proof.JoinedKernel

end
-- ==== Proof.JoinedRef.lean ====
/-
  The attention over a cache and new positions, as the reference computes it, entry by entry.
-/
module

public import proofs.«01_k».proof.Proof.Gen.Reference6Ideal.Run
public import proofs.«01_k».proof.Proof.Joined

@[expose] public section

set_option maxRecDepth 16384

noncomputable section

namespace Cert.Proof.JoinedRef

open Cert.Reference6Ideal Cert.Reference6Ideal.Gen
open Idealize.ShloMosaic Idealize.ShloMosaic.TcCoe Idealize.ShloMosaic.Tactic
open Idealize.SL.Sem
open Cert.Proof.Softmax Cert.Proof.Joined
open Cert.Proof.Recall (Real)

/-- All positions' keys, by head, component and column, -/
def keys (k : FVec Ideal S1024x512 .bf16) (p : FVec Ideal S32x2048x4x128 .f32) : FVec Ideal S32x2080x4x2x64 .f32 :=
  concatenate S32x2080x4x2x64 1 [⟨S32x2048x4x2x64, shapeCast S32x2048x4x2x64 p shapeCasts_S32x2048x4x128_S32x2048x4x2x64⟩,
      ⟨S32x32x4x2x64, shapeCast S32x32x4x2x64 (extf .f32 k bitsLt_bf16_f32) shapeCasts_S1024x512_S32x32x4x2x64⟩]
    concatenates_S32x2048x4x2x64_S32x32x4x2x64_S32x2080x4x2x64_d1

/-- and values, by head and column. -/
def values (v : FVec Ideal S1024x512 .bf16) (p : FVec Ideal S32x2048x4x128 .f32) : FVec Ideal S32x2080x4x128 .f32 :=
  concatenate S32x2080x4x128 1 [⟨S32x2048x4x128, p⟩,
      ⟨S32x32x4x128, shapeCast S32x32x4x128 (extf .f32 v bitsLt_bf16_f32) shapeCasts_S1024x512_S32x32x4x128⟩]
    concatenates_S32x2048x4x128_S32x32x4x128_S32x2080x4x128_d1

/-- The scores. -/
def scores (q : FVec Ideal S1024x512 .bf16) (k : FVec Ideal S32x2080x4x2x64 .f32) : FVec Ideal S32x4x2x32x2080 .f32 :=
  Host.dotGeneral dot_S32x32x4x2x64_S32x2080x4x2x64_S32x4x2x32x2080_4_4_1_1_023_023 none
    (shapeCast S32x32x4x2x64 (extf .f32 q bitsLt_bf16_f32) shapeCasts_S1024x512_S32x32x4x2x64) k

/-- Each row's maximum. -/
def rowMax (s : FVec Ideal S32x4x2x32x2080 .f32) : FVec Ideal S32x4x2x32 .f32 :=
  Host.reduce FloatOps.maximumf s (constant S_ .f32 0xFF800000#32) reducesTo_S32x4x2x32x2080_S32x4x2x32_d4 h_S_

/-- Scores' exponentials, less a number for each row. -/
def expLess (s : FVec Ideal S32x4x2x32x2080 .f32) (r : FVec Ideal S32x4x2x32 .f32) : FVec Ideal S32x4x2x32x2080 .f32 :=
  Host.exp (subf s (broadcastInDim S32x4x2x32x2080 ![0, 1, 2, 3, 4] bcast_S32x4x2x32x1_S32x4x2x32x2080_0_1_2_3_4
    (broadcastInDim S32x4x2x32x1 ![0, 1, 2, 3] bcast_S32x4x2x32_S32x4x2x32x1_0_1_2_3
      (maximumf (broadcastInDim S32x4x2x32 ![] bcast_S_S32x4x2x32 (constant S_ .f32 0xFF800000#32)) r))))

/-- Each row divided by its sum. -/
def shares (w : FVec Ideal S32x4x2x32x2080 .f32) : FVec Ideal S32x4x2x32x2080 .f32 :=
  Host.divf w (broadcastInDim S32x4x2x32x2080 ![0, 1, 2, 3, 4] bcast_S32x4x2x32x1_S32x4x2x32x2080_0_1_2_3_4
    (broadcastInDim S32x4x2x32x1 ![0, 1, 2, 3] bcast_S32x4x2x32_S32x4x2x32x1_0_1_2_3
      (Host.reduceAdd w (constant S_ .f32 0x00000000#32) reducesTo_S32x4x2x32x2080_S32x4x2x32_d4 h_S_)))

/-- The weight of the second attention. -/
def lam (L3 L4 L5 L6 : FVec Ideal S1x64 .f32) : FVec Ideal S_ .f32 :=
  addf (subf
      (Host.exp (Host.reduceAdd (mulf (shapeCast _ L3 shapeCasts_S1x64_S64) (shapeCast _ L4 shapeCasts_S1x64_S64)) (constant S_ .f32 0x00000000#32) reducesTo_S64_S_d0 h_S_))
      (Host.exp (Host.reduceAdd (mulf (shapeCast _ L5 shapeCasts_S1x64_S64) (shapeCast _ L6 shapeCasts_S1x64_S64)) (constant S_ .f32 0x00000000#32) reducesTo_S64_S_d0 h_S_)))
    (constant S_ .f32 0x3E4CCCCD#32)

/-- The difference of the two attentions applied to the values. -/
def attended (v : FVec Ideal S32x2080x4x128 .f32) (p : FVec Ideal S32x4x2x32x2080 .f32) (l : FVec Ideal S_ .f32) : FVec Ideal S32x32x4x128 .f32 :=
  transpose S32x32x4x128 [0, 3, 1, 2] (Host.dotGeneral dot_S32x2080x4x128_S32x4x32x2080_S32x4x128x32_1_3_3_2_02_01 none v
    (subf (shapeCast _ (extractStridedSlice S32x4x1x32x2080 ![0, 0, 0, 0, 0] p slices_S32x4x2x32x2080_S32x4x1x32x2080_0_0_0_0_0) shapeCasts_S32x4x1x32x2080_S32x4x32x2080)
      (mulf (broadcastInDim S32x4x32x2080 ![] bcast_S_S32x4x32x2080 l)
        (shapeCast _ (extractStridedSlice S32x4x1x32x2080 ![0, 0, 1, 0, 0] p slices_S32x4x2x32x2080_S32x4x1x32x2080_0_0_1_0_0) shapeCasts_S32x4x1x32x2080_S32x4x32x2080))))
    transposes_S32x4x128x32_S32x32x4x128_0_3_1_2

/-- The heads' outputs divided by their root mean square, scaled, laid out as the result. -/
def scaled (o : FVec Ideal S32x32x4x128 .f32) (g : FVec Ideal S1x128 .f32) : FVec Ideal S32x32x512 .f32 :=
  shapeCast _ (mulf (mulf (mulf o (broadcastInDim S32x32x4x128 ![0, 1, 2, 3] bcast_S32x32x4x1_S32x32x4x128_0_1_2_3 (Host.rsqrt (addf (Host.divf (broadcastInDim S32x32x4x1 ![0, 1, 2] bcast_S32x32x4_S32x32x4x1_0_1_2 (Host.reduceAdd (mulf o o) (constant S_ .f32 0x00000000#32) reducesTo_S32x32x4x128_S32x32x4_d3 h_S_)) (broadcastInDim S32x32x4x1 ![] bcast_S_S32x32x4x1 (constant S_ .f32 0x43000000#32))) (broadcastInDim S32x32x4x1 ![] bcast_S_S32x32x4x1 (constant S_ .f32 0x358637BD#32)))))) (broadcastInDim S32x32x4x128 ![0, 1, 2, 3] bcast_S1x1x1x128_S32x32x4x128_0_1_2_3 (broadcastInDim S1x1x1x128 ![3] bcast_S128_S1x1x1x128_3 (shapeCast _ g shapeCasts_S1x128_S128)))) (broadcastInDim S32x32x4x128 ![] bcast_S_S32x32x4x128 (constant S_ .f32 0x3F4CCCCD#32))) shapeCasts_S32x32x4x128_S32x32x512

/-- The reference's result is the stages above, one after another. -/
theorem result_eq (m : (ℓ : Loc nD τ sig) → Buf (Elt Ideal) ℓ) (c : Dev nD) :
    Value.res_main_v58 (F := Ideal) m c
      = scaled (attended (values (m ((c.tc : Thread nD τ).loc main_arg2)) (m ((c.tc : Thread nD τ).loc main_arg4)))
          (shares (expLess
            (scores (m ((c.tc : Thread nD τ).loc main_arg0)) (keys (m ((c.tc : Thread nD τ).loc main_arg1)) (m ((c.tc : Thread nD τ).loc main_arg3))))
            (rowMax (scores (m ((c.tc : Thread nD τ).loc main_arg0)) (keys (m ((c.tc : Thread nD τ).loc main_arg1)) (m ((c.tc : Thread nD τ).loc main_arg3)))))))
          (lam (m ((c.tc : Thread nD τ).loc main_arg5)) (m ((c.tc : Thread nD τ).loc main_arg6)) (m ((c.tc : Thread nD τ).loc main_arg7)) (m ((c.tc : Thread nD τ).loc main_arg8))))
        (m ((c.tc : Thread nD τ).loc main_arg9)) := rfl

theorem word_bot : Ideal.ofBits .f32 0xFF800000#32 = ⊥ := by simp [Ideal.ofBits, Ideal.ieee]

theorem keys_at (k : FVec Ideal S1024x512 .bf16) (p : FVec Ideal S32x2048x4x128 .f32) (b : Fin 32) (y : Fin 2080) (h : Fin 4) (c : Fin 2) (e : Fin 64) :
    keys k p (ix5 b y h c e) = all p k b h y ⟨c.val * 64 + e.val, by omega⟩ := by
  have t : keys k p (ix5 b y h c e) = if h' : y.val < 2048 then p (ix4 b ⟨y.val, h'⟩ h ⟨c.val * 64 + e.val, by omega⟩)
      else k (ix2 ⟨b.val * 32 + (y.val - 2048), by omega⟩ ⟨h.val * 128 + c.val * 64 + e.val, by omega⟩) := by
    pointwise [keys]
  rw [t, all, join]
  split
  · rfl
  · refine congrArg k (congrArg (ix2 _) (Fin.ext (by simp only []; omega)))

theorem values_at (v : FVec Ideal S1024x512 .bf16) (p : FVec Ideal S32x2048x4x128 .f32) (b : Fin 32) (y : Fin 2080) (h : Fin 4) (d : Fin 128) :
    values v p (ix4 b y h d) = all p v b h y d := by
  have t : values v p (ix4 b y h d) = if h' : y.val < 2048 then p (ix4 b ⟨y.val, h'⟩ h d)
      else v (ix2 ⟨b.val * 32 + (y.val - 2048), by omega⟩ ⟨h.val * 128 + d.val, by omega⟩) := by
    pointwise [values]
  rw [t, all, join]
  split <;> rfl

theorem scores_at (q k : FVec Ideal S1024x512 .bf16) (p : FVec Ideal S32x2048x4x128 .f32) (b : Fin 32) (h : Fin 4) (c : Fin 2) (x : Fin 32) (y : Fin 2080) :
    scores q (keys k p) (ix5 b h c x y) = score (row q b h x) (all p k b h y) c := by
  have t : ∀ K, scores q K (ix5 b h c x y) = ∑ e : Fin 64, q (ix2 ⟨b.val * 32 + x.val, by omega⟩ ⟨h.val * 128 + c.val * 64 + e.val, by omega⟩)
        * K (ix5 b y h c e) := fun K => by
    pointwise [scores]
  rw [t, score]
  refine Finset.sum_congr rfl fun (e : Fin 64) _ => ?_
  rw [keys_at]
  refine congrArg (· * _) ?_
  exact congrArg q (congrArg (ix2 _) (Fin.ext (by simp only []; omega)))

/-- Each entry of the normed rows, from its row's scores. -/
theorem shares_at (s : FVec Ideal S32x4x2x32x2080 .f32) (b : Fin 32) (h : Fin 4) (c : Fin 2) (x : Fin 32) (y : Fin 2080)
    (f : Fin 2080 → EReal) (hf : ∀ y, s (ix5 b h c x y) = f y) :
    shares (expLess s (rowMax s)) (ix5 b h c x y)
      = Ideal.div (Ideal.exp (f y - max ⊥ (Finset.univ.fold max ⊥ f))) (∑ y', Ideal.exp (f y' - max ⊥ (Finset.univ.fold max ⊥ f))) := by
  have e : ∀ (w : FVec Ideal S32x4x2x32x2080 .f32), shares w (ix5 b h c x y) = Ideal.div (w (ix5 b h c x y)) (∑ y' : Fin 2080, w (ix5 b h c x y')) := fun w => by
    pointwise [shares]
  have e' : ∀ (m : FVec Ideal S32x4x2x32 .f32) (y : Fin 2080), expLess s m (ix5 b h c x y)
      = Ideal.exp (s (ix5 b h c x y) - max (Ideal.ofBits .f32 0xFF800000#32) (m (ix4 b h c x))) := fun m y => by
    pointwise [expLess]
  have e'' : rowMax s (ix4 b h c x) = Finset.univ.fold max ⊥ f := by
    have t : rowMax s (ix4 b h c x) = Finset.univ.fold max (Ideal.ofBits .f32 0xFF800000#32) fun y : Fin 2080 => s (ix5 b h c x y) := by
      pointwise [rowMax]
    rw [t, word_bot, funext hf]
  rw [e]
  simp only [e', e'', word_bot, hf]

theorem lam_at (L3 L4 L5 L6 : FVec Ideal S1x64 .f32) (j : S_.Idx) : lam L3 L4 L5 L6 j = Spec.lam L3 L4 L5 L6 := by
  pointwise [lam]
  rfl

theorem scaled_at (o : FVec Ideal S32x32x4x128 .f32) (g : FVec Ideal S1x128 .f32) (b x : Fin 32) (n : Fin 512)
    (w : Fin 128 → EReal) (hw : ∀ d, o (ix4 b x ⟨n.val / 128, by omega⟩ d) = w d) :
    scaled o g (ix3 b x n) = normed w (fun d => g (ix2 0 d)) ⟨n.val % 128, by omega⟩ := by
  pointwise [scaled]
  simp only [hw]
  rfl

/-- The difference of the two attentions, of real queries, keys, values and a real weight. -/
theorem attended_at {q k v : FVec Ideal S1024x512 .bf16} {p r : FVec Ideal S32x2048x4x128 .f32}
    (hq : ∀ i, Real (q i)) (hk : ∀ i, Real (k i)) (hv : ∀ i, Real (v i)) (hp : ∀ i, Real (p i)) (hr : ∀ i, Real (r i))
    {l : FVec Ideal S_ .f32} (hl : Real (l ix0)) (b x : Fin 32) (h : Fin 4) (d : Fin 128) :
    attended (values v r) (shares (expLess (scores q (keys k p)) (rowMax (scores q (keys k p))))) l (ix4 b x h d)
      = attend (row q b h x) (all p k b h) (all r v b h) (l ix0) d := by
  have e : ∀ v w, attended v w l (ix4 b x h d) = ∑ y : Fin 2080, v (ix4 b y h d) * (w (ix5 b h 0 x y) - l ix0 * w (ix5 b h 1 x y)) := fun v w => by
    pointwise [attended]
  have hs : ∀ c y, Real (score (row q b h x) (all p k b h y) c) := fun c y =>
    real_score (fun i => hq _) (fun i => join_all (p := fun f : Fin 128 → EReal => ∀ i, Real (f i)) (fun y i => hp _) (fun y i => hk _) y i) c
  have hV : ∀ y, Real (all r v b h y d) := fun y =>
    join_all (p := fun f : Fin 128 → EReal => ∀ i, Real (f i)) (fun y i => hr _) (fun y i => hv _) y d
  rw [e, attend, ← differ_eq (hs 0) (hs 1) hV hl]
  refine Finset.sum_congr rfl fun y _ => ?_
  rw [values_at, shares_at _ b h 0 x y _ (scores_at q k p b h 0 x), shares_at _ b h 1 x y _ (scores_at q k p b h 1 x)]

/-- The reference's result, of real queries, keys, values and weight vectors. -/
theorem res_at (m : (ℓ : Loc nD τ sig) → Buf (Elt Ideal) ℓ) (c : Dev nD)
    {q k v : FVec Ideal S1024x512 .bf16} {p r : FVec Ideal S32x2048x4x128 .f32} {L3 L4 L5 L6 : FVec Ideal S1x64 .f32} {g : FVec Ideal S1x128 .f32}
    (e0 : m ((c.tc : Thread nD τ).loc main_arg0) = q) (e1 : m ((c.tc : Thread nD τ).loc main_arg1) = k) (e2 : m ((c.tc : Thread nD τ).loc main_arg2) = v)
    (e3 : m ((c.tc : Thread nD τ).loc main_arg3) = p) (e4 : m ((c.tc : Thread nD τ).loc main_arg4) = r)
    (e5 : m ((c.tc : Thread nD τ).loc main_arg5) = L3) (e6 : m ((c.tc : Thread nD τ).loc main_arg6) = L4)
    (e7 : m ((c.tc : Thread nD τ).loc main_arg7) = L5) (e8 : m ((c.tc : Thread nD τ).loc main_arg8) = L6) (e9 : m ((c.tc : Thread nD τ).loc main_arg9) = g)
    (hq : ∀ i, Real (q i)) (hk : ∀ i, Real (k i)) (hv : ∀ i, Real (v i)) (hp : ∀ i, Real (p i)) (hr : ∀ i, Real (r i))
    (hl : Real (Spec.lam L3 L4 L5 L6)) (b x : Fin 32) (n : Fin 512) :
    Value.res_main_v58 (F := Ideal) m c (ix3 b x n)
      = out q k v p r (Spec.lam L3 L4 L5 L6) (fun d => g (ix2 0 d)) b x ⟨n.val / 128, by omega⟩ ⟨n.val % 128, by omega⟩ := by
  rw [result_eq, e0, e1, e2, e3, e4, e5, e6, e7, e8, e9]
  have hl' : lam L3 L4 L5 L6 ix0 = Spec.lam L3 L4 L5 L6 := lam_at L3 L4 L5 L6 ix0
  rw [scaled_at _ g b x n (attend (row q b ⟨n.val / 128, by omega⟩ x) (all p k b ⟨n.val / 128, by omega⟩) (all r v b ⟨n.val / 128, by omega⟩) (Spec.lam L3 L4 L5 L6))
    (fun d => (attended_at hq hk hv hp hr (by rw [hl']; exact hl) b x ⟨n.val / 128, by omega⟩ d).trans (by rw [hl']))]
  rfl

end Cert.Proof.JoinedRef

end
-- ==== Proof.JoinedPre.lean ====
/-
  What the sample attention's precondition says: the queries, the new keys and values, the cache and the four vectors of
  the second attention's weight hold reals only.
-/
module

public import proofs.«01_k».proof.Proof.Gen.Pre_finite6
public import proofs.«01_k».proof.Proof.Precond
public import proofs.«01_k».proof.Proof.Recall

@[expose] public section

noncomputable section

namespace Cert.Proof.JoinedPre

open Idealize.ShloMosaic Idealize.ShloMosaic.TcCoe Idealize.ShloMosaic.Tactic
open Cert.Pre_finite6 Cert.Proof.Recall Cert.Proof.Spec
open Cert.Proof.Precond (below real_of_below top_f32 top_bf16 finite_lane)

section

variable {q k v : FVec Ideal S1024x512 .bf16} {p r : FVec Ideal S32x2048x4x128 .f32} {L3 L4 L5 L6 : FVec Ideal S1x64 .f32} {g : FVec Ideal S1x128 .f32}

/-- The mask, at a sequence, a new row, one of 64 positions, one of eight groups of 64 columns, and a column. -/
theorem fn_at (b y : Fin 32) (z : Fin 64) (u : Fin 8) (e : Fin 64) : fn (F := Ideal) q k v p r L3 L4 L5 L6 g (ix5 b y z u e)
    = IntOp.andi (IntOp.andi (IntOp.andi
        (IntOp.andi (IntOp.andi (below (q (ix2 ⟨b.val * 32 + y.val, by omega⟩ ⟨u.val * 64 + e.val, by omega⟩)))
          (below (k (ix2 ⟨b.val * 32 + y.val, by omega⟩ ⟨u.val * 64 + e.val, by omega⟩))))
          (below (v (ix2 ⟨b.val * 32 + y.val, by omega⟩ ⟨u.val * 64 + e.val, by omega⟩))))
        (below (p (ix4 b ⟨y.val * 64 + z.val, by omega⟩ ⟨u.val / 2, by omega⟩ ⟨u.val % 2 * 64 + e.val, by omega⟩))))
        (below (r (ix4 b ⟨y.val * 64 + z.val, by omega⟩ ⟨u.val / 2, by omega⟩ ⟨u.val % 2 * 64 + e.val, by omega⟩))))
        (IntOp.andi (IntOp.andi (IntOp.andi (below (L3 (ix2 0 e))) (below (L4 (ix2 0 e)))) (below (L5 (ix2 0 e)))) (below (L6 (ix2 0 e)))) := by
  pointwise [fn, fn_part1, fn_part2]
  rw [top_f32, top_bf16]
  rfl

/-- An array of rows is real when each entry, named by its sequence, row, group and column, is. -/
theorem real_rows {X : FVec Ideal S1024x512 .bf16}
    (h : ∀ (b y : Fin 32) (u : Fin 8) (e : Fin 64), below (X (ix2 ⟨b.val * 32 + y.val, by omega⟩ ⟨u.val * 64 + e.val, by omega⟩)) = 1#1)
    (i : S1024x512.Idx) : Real (X i) := by
  obtain ⟨a, c, rfl⟩ : ∃ (a : Fin 1024) (c : Fin 512), i = ix2 a c := ⟨i 0, i 1, by funext a; fin_cases a <;> rfl⟩
  have hc := h ⟨a.val / 32, by omega⟩ ⟨a.val % 32, by omega⟩ ⟨c.val / 64, by omega⟩ ⟨c.val % 64, by omega⟩
  have e0 : a.val / 32 * 32 + a.val % 32 = a.val := by omega
  have e1 : c.val / 64 * 64 + c.val % 64 = c.val := by omega
  simp only [e0, e1] at hc
  exact real_of (real_of_below hc)

/-- A cache is real when each entry, named by its sequence, position, group and column, is. -/
theorem real_cache {X : FVec Ideal S32x2048x4x128 .f32}
    (h : ∀ (b y : Fin 32) (z : Fin 64) (u : Fin 8) (e : Fin 64),
      below (X (ix4 b ⟨y.val * 64 + z.val, by omega⟩ ⟨u.val / 2, by omega⟩ ⟨u.val % 2 * 64 + e.val, by omega⟩)) = 1#1)
    (i : S32x2048x4x128.Idx) : Real (X i) := by
  obtain ⟨b, a, w, c, rfl⟩ : ∃ (b : Fin 32) (a : Fin 2048) (w : Fin 4) (c : Fin 128), i = ix4 b a w c := ⟨i 0, i 1, i 2, i 3, by
    funext a; fin_cases a <;> rfl⟩
  have hc := h b ⟨a.val / 64, by omega⟩ ⟨a.val % 64, by omega⟩ ⟨w.val * 2 + c.val / 64, by omega⟩ ⟨c.val % 64, by omega⟩
  have e0 : a.val / 64 * 64 + a.val % 64 = a.val := by omega
  have e1 : (w.val * 2 + c.val / 64) / 2 = w.val := by omega
  have e2 : (w.val * 2 + c.val / 64) % 2 * 64 + c.val % 64 = c.val := by omega
  simp only [e0, e1, e2] at hc
  exact real_of (real_of_below hc)

/-- The precondition, read. -/
theorem reals (h : fn (F := Ideal) q k v p r L3 L4 L5 L6 g = fun _ => 1#1) :
    (∀ i, Real (q i)) ∧ (∀ i, Real (k i)) ∧ (∀ i, Real (v i)) ∧ (∀ i, Real (p i)) ∧ (∀ i, Real (r i))
      ∧ Finite L3 ∧ Finite L4 ∧ Finite L5 ∧ Finite L6 := by
  have h0 := fun b y z u e => IntOp.andi_eq_one.mp ((fn_at (q := q) (k := k) (v := v) (p := p) (r := r) (L3 := L3) (L4 := L4) (L5 := L5) (L6 := L6)
    (g := g) b y z u e).symm.trans (congrFun h (ix5 b y z u e)))
  have h1 := fun b y z u e => IntOp.andi_eq_one.mp (h0 b y z u e).1
  have h2 := fun b y z u e => IntOp.andi_eq_one.mp (h1 b y z u e).1
  have h3 := fun b y u e => IntOp.andi_eq_one.mp (h2 b y 0 u e).1
  have h4 := fun b y u e => IntOp.andi_eq_one.mp (h3 b y u e).1
  have l0 := fun e => IntOp.andi_eq_one.mp (h0 0 0 0 0 e).2
  have l1 := fun e => IntOp.andi_eq_one.mp (l0 e).1
  have l2 := fun e => IntOp.andi_eq_one.mp (l1 e).1
  exact ⟨real_rows fun b y u e => (h4 b y u e).1, real_rows fun b y u e => (h4 b y u e).2, real_rows fun b y u e => (h3 b y u e).2,
    real_cache fun b y z u e => (h2 b y z u e).2, real_cache fun b y z u e => (h1 b y z u e).2,
    finite_lane fun e => (l2 e).1, finite_lane fun e => (l2 e).2, finite_lane fun e => (l1 e).2, finite_lane fun e => (l0 e).2⟩

end

end Cert.Proof.JoinedPre

end
-- ==== Proof.Scan.lean ====
/-
  The state a selective scan leaves after one chunk of 32 positions, over the extended reals, as the mathematics says it: a causal
  convolution of four taps over the last positions of the chunk before and the chunk's own, each position's step, the decay between
  positions, and the state, which every position feeds.
-/
module

public import Idealize.ShloMosaic.Lib.Pipeline.ValueKit

@[expose] public section

noncomputable section

namespace Cert.Proof.Scan

open Idealize.ShloMosaic Idealize.ShloMosaic.Tactic

/-- A number times its logistic. -/
def act (x : EReal) : EReal := x * Ideal.logistic x

/-- The logarithm of one more than the exponential. -/
def softplus (x : EReal) : EReal := max x 0 + Ideal.log1p (Ideal.exp (-FloatOps.absf (F := Ideal) (φ := .f32) x))

/-- One channel of the convolution at position `j` of the positions `f`, three of which come before the chunk. -/
def conv (w : Fin 4 → EReal) (b : EReal) (f : Fin 35 → EReal) (j : Fin 32) : EReal :=
  act (b + w 0 * f ⟨j.val, by omega⟩ + w 1 * f ⟨j.val + 1, by omega⟩ + w 2 * f ⟨j.val + 2, by omega⟩ + w 3 * f ⟨j.val + 3, by omega⟩)

/-- The logarithm of the decay up to and with position `i`, of steps `s` at the rate whose logarithm is `a`. -/
def decay (a : EReal) (s : Fin 32 → EReal) (i : Fin 32) : EReal := ∑ j : Fin 32, if j ≤ i then s j * -Ideal.exp a else 0

/-- An entry of the state after the chunk: the entry `h` before it decays, and each position adds its key `k` times its input `x`, by
    its step and the decay after it. -/
def after (h a : EReal) (s k x : Fin 32 → EReal) : EReal :=
  h * Ideal.exp (decay a s 31) + ∑ j : Fin 32, k j * (x j * (s j * Ideal.exp (decay a s 31 - decay a s j)))

theorem after_congr {h h' a a' : EReal} {s k k' x x' : Fin 32 → EReal} (eh : h = h') (ea : a = a') (ek : ∀ j, k j = k' j) (ex : ∀ j, x j = x' j) :
    after h a s k x = after h' a' s k' x' := by
  obtain rfl := eh; obtain rfl := ea; obtain rfl := funext ek; obtain rfl := funext ex; rfl

/-- The arguments: 32 sequences' rows, steps, states, last rows before, the taps, their bias, and a number for each head. -/
abbrev Rows := FVec Ideal ⟨2, ![1024, 1024]⟩ .f32
abbrev Steps := FVec Ideal ⟨2, ![1024, 128]⟩ .f32
abbrev States := FVec Ideal ⟨4, ![32, 8, 64, 128]⟩ .f32
abbrev Before := FVec Ideal ⟨3, ![32, 3, 1024]⟩ .f32
abbrev Taps := FVec Ideal ⟨3, ![1, 4, 1024]⟩ .f32
abbrev Bias := FVec Ideal ⟨2, ![1, 1024]⟩ .f32
abbrev Heads := FVec Ideal ⟨2, ![1, 8]⟩ .f32

variable (X : Rows) (D : Steps) (S : States) (C : Before) (W : Taps) (B : Bias) (T A : Heads)

/-- A channel of a sequence's positions, after the three before them. -/
def fed (b : Fin 32) (n : Fin 1024) (q : Fin 35) : EReal :=
  if h : q.val < 3 then C (ix3 b ⟨q.val, h⟩ n) else X (ix2 ⟨b.val * 32 + (q.val - 3), by omega⟩ n)

/-- A channel of the convolution, -/
def mix (b j : Fin 32) (n : Fin 1024) : EReal := conv (fun k => W (ix3 0 k n)) (B (ix2 0 n)) (fed X C b n) j

/-- a position's step, -/
def stepped (b : Fin 32) (h : Fin 8) (j : Fin 32) : EReal := softplus (D (ix2 ⟨b.val * 32 + j.val, by omega⟩ ⟨h.val, by omega⟩) + T (ix2 0 h))

/-- and a sequence's state: two groups of four heads, each of 64 columns, with 128 keys. -/
def state (b : Fin 32) (g : Fin 2) (n : Fin 128) (w : Fin 256) : EReal :=
  after (S (ix4 b ⟨g.val * 4 + w.val / 64, by omega⟩ ⟨w.val % 64, by omega⟩ n)) (A (ix2 0 ⟨g.val * 4 + w.val / 64, by omega⟩))
    (stepped D T b ⟨g.val * 4 + w.val / 64, by omega⟩)
    (fun j => mix X C W B b j ⟨512 + g.val * 128 + n.val, by omega⟩) (fun j => mix X C W B b j ⟨g.val * 256 + w.val, by omega⟩)

/-- The state as an array, -/
def states : FVec Ideal ⟨4, ![32, 2, 128, 256]⟩ .f32 := fun i => state X D S C W B T A (i 0) (i 1) (i 2) (i 3)

/-- and each sequence's last three rows. -/
def lasts : FVec Ideal ⟨3, ![32, 3, 1024]⟩ .f32 := fun i => fed X C (i 0) (i 2) ⟨32 + (i 1).val, by have : (i 1).val < 3 := (i 1).isLt; omega⟩

end Cert.Proof.Scan

end
-- ==== Proof.ScanKernel.lean ====
/-
  The scan's kernel over the extended reals: the state and the last rows it leaves, entry by entry.
-/
module

public import proofs.«01_k».proof.Proof.Gen.Kernel7Ideal.Value
public import proofs.«01_k».proof.Proof.Scan
public import proofs.«01_k».proof.Proof.Steps
public import Idealize.ShloMosaic.Lib.Pipeline.ValueKit
public import Idealize.ShloMosaic.Lib.StableHlo.ReadAt

@[expose] public section

set_option maxRecDepth 16384

noncomputable section

namespace Cert.Proof.ScanKernel

open Idealize.ShloMosaic Idealize.ShloMosaic.TcCoe Idealize.ShloMosaic.Tactic
open Idealize.SL.Sem
open Idealize.ShloMosaic.Pipeline (Dat)
open Cert.Proof.Scan
open Cert.Kernel7Ideal Cert.Kernel7Ideal.Gen Cert.Kernel7Ideal.Value

/-- A load of what a list of writes left reads what they leave. -/
theorem readCov_ld {κ : Kind} {sp : Space} {s : Shape} {e : EltTy} (v : View sig κ sp s e) (L : List (View.Piece (Elt Ideal) s e)) (r : Rect s) :
    v.readCov L r.toLoadRect = View.ld (View.canon L) r := View.readCov_eq_canon' v L _

section

variable (x0 : Vec Ideal S32x1024 .f32) (x1 : Vec Ideal S32x128 .f32) (x3 : Vec Ideal S1x2x128x256 .f32) (x4 : Vec Ideal S1x8x1024 .f32)
  (x5 : Vec Ideal S4x1024 .f32) (x6 : Vec Ideal S1x1024 .f32) (x7 x8 : Vec Ideal S1x128 .f32) (x11 : Vec Ideal S128x512 .f32)

/-- The rows of the chunk under eight rows of which the last three are the chunk's before. -/
def feed : Vec Ideal S40x1024 .f32 := View.canon (Val := Elt Ideal) (e := .f32)
  [⟨Rect.unit (s := S40x1024) ![8, 0] S32x1024.size inb_S40x1024_S32x1024_8_0, k0_pay5 (F := Ideal) x0⟩,
    ⟨Rect.unit (s := S40x1024) ![0, 0] S8x1024.size inb_S40x1024_S8x1024_0_0, k0_pay4 (F := Ideal) x4⟩]

/-- The convolution. -/
def mixed : FVec Ideal S32x1024 .f32 := k0_pay7 (F := Ideal) (k0_pay6 (F := Ideal) x5 x6
  (View.ld (Val := Elt Ideal) (feed x0 x4) (Rect.unit (s := S40x1024) ![5, 0] S32x1024.size inb_S40x1024_S32x1024_5_0))
  (View.ld (Val := Elt Ideal) (feed x0 x4) (Rect.unit (s := S40x1024) ![6, 0] S32x1024.size inb_S40x1024_S32x1024_6_0))
  (View.ld (Val := Elt Ideal) (feed x0 x4) (Rect.unit (s := S40x1024) ![7, 0] S32x1024.size inb_S40x1024_S32x1024_7_0))
  (View.ld (Val := Elt Ideal) (feed x0 x4) (Rect.unit (s := S40x1024) ![8, 0] S32x1024.size inb_S40x1024_S32x1024_8_0)))

/-- The decay over the chunk, by column, -/
def spread : FVec Ideal S1x512 .f32 :=
  k0_pay24 (F := Ideal) (k0_pay10 x8) k0_pay12 (k0_pay17 x1 x7) (k0_pay18 x1 x7) k0_pay19 x11

/-- and the inputs by their steps and the decay after them. -/
def inputs : FVec Ideal S32x512 .f32 :=
  k0_pay26 (F := Ideal) (k0_pay10 x8) k0_pay12 (k0_pay13 (mixed x0 x4 x5 x6)) (k0_pay17 x1 x7) (k0_pay18 x1 x7) k0_pay19 x11

/-- The first half of the state after the chunk, -/
def first : FVec Ideal S1x128x256 .f32 := k0_pay39 (F := Ideal) (k0_pay38 (spread x1 x7 x8 x11) (inputs x0 x1 x4 x5 x6 x7 x8 x11)
  (k0_pay30 (k0_pay14 (mixed x0 x4 x5 x6)))
  (k0_pay32 (View.ld (Val := Elt Ideal) (k0_pay3 (F := Ideal) x3) (Rect.unit (s := S2x128x256) ![0, 0, 0] S1x128x256.size inb_S2x128x256_S1x128x256_0_0_0))))

/-- the state when it is in place, -/
def half : Vec Ideal S2x128x256 .f32 := View.canon (Val := Elt Ideal) (e := .f32)
  [⟨Rect.unit (s := S2x128x256) ![0, 0, 0] S1x128x256.size inb_S2x128x256_S1x128x256_0_0_0, first x0 x1 x3 x4 x5 x6 x7 x8 x11⟩,
    ⟨Rect.unit (s := S2x128x256) ![0, 0, 0] S2x128x256.size inb_S2x128x256_S2x128x256_0_0_0, k0_pay3 (F := Ideal) x3⟩]

/-- the second half, -/
def second : FVec Ideal S1x128x256 .f32 := k0_pay52 (F := Ideal) (spread x1 x7 x8 x11) (inputs x0 x1 x4 x5 x6 x7 x8 x11)
  (k0_pay42 (k0_pay14 (mixed x0 x4 x5 x6)))
  (k0_pay44 (View.ld (Val := Elt Ideal) (half x0 x1 x3 x4 x5 x6 x7 x8 x11) (Rect.unit (s := S2x128x256) ![1, 0, 0] S1x128x256.size inb_S2x128x256_S1x128x256_1_0_0)))

/-- and the state when both are in place. -/
def whole : Vec Ideal S2x128x256 .f32 := View.canon (Val := Elt Ideal) (e := .f32)
  [⟨Rect.unit (s := S2x128x256) ![1, 0, 0] S1x128x256.size inb_S2x128x256_S1x128x256_1_0_0, second x0 x1 x3 x4 x5 x6 x7 x8 x11⟩,
    ⟨Rect.unit (s := S2x128x256) ![0, 0, 0] S1x128x256.size inb_S2x128x256_S1x128x256_0_0_0, first x0 x1 x3 x4 x5 x6 x7 x8 x11⟩,
    ⟨Rect.unit (s := S2x128x256) ![0, 0, 0] S2x128x256.size inb_S2x128x256_S2x128x256_0_0_0, k0_pay3 (F := Ideal) x3⟩]

section

variable (c : Dev nD) (i : grid0.Coords) (arg2 : Memref sig .tc .vmem S32x1024 .f32) (harg2 : arg2.IsWhole) (arg3 : Memref sig .tc .vmem S32x128 .f32) (harg3 : arg3.IsWhole) (arg4 : Memref sig .tc .vmem S32x512 .f32) (harg4 : arg4.IsWhole) (arg5 : Memref sig .tc .vmem S1x2x128x256 .f32) (harg5 : arg5.IsWhole) (arg6 : Memref sig .tc .vmem S1x8x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S128x512 .f32) (harg13 : arg13.IsWhole) (arg14 : Memref sig .tc .vmem S32x512 .f32) (harg14 : arg14.IsWhole) (arg15 : Memref sig .tc .vmem S1x2x128x256 .f32) (harg15 : arg15.IsWhole) (arg16 : Memref sig .tc .vmem S1x3x1024 .f32) (harg16 : arg16.IsWhole) (arg17 : Memref sig .tc .vmem S40x1024 .f32) (harg17 : arg17.IsWhole) (arg18 : Memref sig .tc .vmem S32x1024 .f32) (harg18 : arg18.IsWhole) (arg19 : Memref sig .tc .vmem S2x128x256 .f32) (harg19 : arg19.IsWhole) (hc0 : cond0_0 i) (hc1 : cond0_1 i)
  (x2 : Vec Ideal S32x512 .f32) (x9 x10 : Vec Ideal S1x512 .f32)

/-- What the body leaves in the rows' window. -/
theorem rows_eq : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11
    = k0_pay8 (F := Ideal) (View.ld (Val := Elt Ideal) (feed x0 x4) (Rect.unit (s := S40x1024) ![37, 0] S3x1024.size inb_S40x1024_S3x1024_37_0)) := by
  simp (disch := decide) only [out0_A_14, kernelRun0_A, kernelRun0_A.sl.HS0_2, kernelRun0_A.sl.HS1_1, kernelRun0_A.sl.HS2_1, kernelRun0_A.sl.HS2_2, kernelRun0_A.sl.HS2_3, kernelRun0_A.sl.v37, kernelRun0_A.sl.v59, kernelRun0_A.sl.v108, kernelRun0_A.sl.v229, kernelRun0_A.sl.v12, kernelRun0_A.sl.v18, kernelRun0_A.sl.v23, kernelRun0_A.sl.v28, kernelRun0_A.sl.v365, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.read_writes_junk_eq_canon, readCov_ld, View.readAt_eq_ld, View.ld_unit_lit, View.canon_cons_unit_lit, harg2.read_unread, harg3.read_unread, harg4.read_unread, harg5.read_unread, harg6.read_unread, harg7.read_unread, harg8.read_unread, harg9.read_unread, harg10.read_unread, harg11.read_unread, harg12.read_unread, harg13.read_unread]
  rfl

/-- What it leaves in the state's. -/
theorem state_eq : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11
    = k0_pay2 (F := Ideal) (whole x0 x1 x3 x4 x5 x6 x7 x8 x11) := by
  simp (disch := decide) only [out0_A_13, kernelRun0_A, kernelRun0_A.sl.HS0_2, kernelRun0_A.sl.HS1_1, kernelRun0_A.sl.HS2_1, kernelRun0_A.sl.HS2_2, kernelRun0_A.sl.HS2_3, kernelRun0_A.sl.v37, kernelRun0_A.sl.v59, kernelRun0_A.sl.v108, kernelRun0_A.sl.v229, kernelRun0_A.sl.v12, kernelRun0_A.sl.v18, kernelRun0_A.sl.v23, kernelRun0_A.sl.v28, kernelRun0_A.sl.v365, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.read_writes_junk_eq_canon, readCov_ld, View.readAt_eq_ld, View.ld_unit_lit, View.canon_cons_unit_lit, harg2.read_unread, harg3.read_unread, harg4.read_unread, harg5.read_unread, harg6.read_unread, harg7.read_unread, harg8.read_unread, harg9.read_unread, harg10.read_unread, harg11.read_unread, harg12.read_unread, harg13.read_unread]
  rfl

end

/-- A row of the rows before and of the chunk. -/
theorem feed_at (q : Fin 35) (n : Fin 1024) : feed x0 x4 (ix2 ⟨5 + q.val, by omega⟩ n)
    = if h : q.val < 3 then x4 (ix3 0 ⟨5 + q.val, by omega⟩ n) else x0 (ix2 ⟨q.val - 3, by omega⟩ n) := by
  unfold feed
  split
  · rename_i h
    rw [View.canon_cons_of_not_mem (Val := Elt Ideal) (e := .f32)]
    · have e : (ix2 ⟨5 + q.val, by omega⟩ n : S40x1024.Idx) = (Rect.unit (s := S40x1024) ![0, 0] S8x1024.size inb_S40x1024_S8x1024_0_0).emb (ix2 ⟨5 + q.val, by omega⟩ n) := by
        funext a; refine Fin.ext ?_; fin_cases a <;> simp
      rw [e]
      refine (View.canon_cons_emb (Val := Elt Ideal) (e := .f32) _ _ _ _).trans ?_
      pointwise [k0_pay4]
    · intro (hm : _ ∈ (Rect.unit (s := S40x1024) ![8, 0] S32x1024.size inb_S40x1024_S32x1024_8_0).set)
      have h0 := (Rect.mem_set_unit.mp hm 0).1
      exact absurd (show 8 ≤ 5 + q.val from h0) (by omega)
  · rename_i h
    have e : (ix2 ⟨5 + q.val, by omega⟩ n : S40x1024.Idx) = (Rect.unit (s := S40x1024) ![8, 0] S32x1024.size inb_S40x1024_S32x1024_8_0).emb (ix2 ⟨q.val - 3, by omega⟩ n) := by
      funext a; refine Fin.ext ?_; fin_cases a
      · simp; omega
      · simp
    rw [e]
    refine (View.canon_cons_emb (Val := Elt Ideal) (e := .f32) _ _ _ _).trans ?_
    pointwise [k0_pay5]

/-- A load of 32 of the rows. -/
theorem rows_at (X : Vec Ideal S40x1024 .f32) (b : ℕ) (H : _) (j : Fin 32) (n : Fin 1024) (r : Fin 40) (hr : r.val = b + j.val) :
    View.ld (Val := Elt Ideal) X (Rect.unit (s := S40x1024) ![b, 0] S32x1024.size H) (ix2 j n) = X (ix2 r n) := by
  refine congrArg X (funext fun a => Fin.ext ?_)
  fin_cases a <;> simp [hr]

theorem mixed_at (j : Fin 32) (n : Fin 1024) : mixed x0 x4 x5 x6 (ix2 j n)
    = conv (fun k => x5 (ix2 k n)) (x6 (ix2 0 n)) (fun q => feed x0 x4 (ix2 ⟨5 + q.val, by omega⟩ n)) j := by
  have e : ∀ p q r s : Vec Ideal S32x1024 .f32, k0_pay7 (F := Ideal) (k0_pay6 (F := Ideal) x5 x6 p q r s) (ix2 j n)
      = act (x6 (ix2 0 n) + x5 (ix2 0 n) * p (ix2 j n) + x5 (ix2 1 n) * q (ix2 j n) + x5 (ix2 2 n) * r (ix2 j n) + x5 (ix2 3 n) * s (ix2 j n)) :=
    fun p q r s => by
      pointwise [k0_pay7, k0_pay6, act]
  rw [mixed, e, rows_at _ 5 _ j n ⟨5 + j.val, by omega⟩ rfl, rows_at _ 6 _ j n ⟨5 + (j.val + 1), by omega⟩ (by simp only []; omega),
    rows_at _ 7 _ j n ⟨5 + (j.val + 2), by omega⟩ (by simp only []; omega), rows_at _ 8 _ j n ⟨5 + (j.val + 3), by omega⟩ (by simp only []; omega)]
  rfl

/-- A position's step. -/
def stepOf (h : Fin 128) (j : Fin 32) : EReal := softplus (x1 (ix2 j h) + x7 (ix2 0 h))

theorem step_at (j : Fin 32) (h : Fin 128) : k0_pay20 (F := Ideal) (k0_pay17 x1 x7) (k0_pay18 x1 x7) k0_pay19 (ix2 j h) = stepOf x1 x7 h j := by
  have e : k0_pay20 (F := Ideal) (k0_pay17 x1 x7) (k0_pay18 x1 x7) k0_pay19 (ix2 j h)
      = max (x1 (ix2 j h) + x7 (ix2 0 h)) 0 + Ideal.log1p (Ideal.exp (0 - FloatOps.absf (F := Ideal) (φ := .f32) (x1 (ix2 j h) + x7 (ix2 0 h)))) := by
    pointwise [k0_pay20, k0_pay17, k0_pay18, k0_pay19, k0_pay16]
  rw [e, stepOf, softplus, zero_sub]

/-- The matrix that is one on and under the diagonal and zero over it. -/
theorem tril_at (i j : Fin 32) : k0_pay12 (F := Ideal) (ix2 i j) = if j ≤ i then 1 else 0 := by
  have e : k0_pay12 (F := Ideal) (ix2 i j)
      = FloatOps.sitofp (F := Ideal) .f32 (BitVec.setWidth 32 (IntOp.cmpi .sle (BitVec.ofNat 32 j.val) (BitVec.ofNat 32 i.val))) := by
    pointwise [k0_pay12, k0_pay11]
  have b : ∀ i j : Fin 32, BitVec.setWidth 32 (IntOp.cmpi .sle (BitVec.ofNat 32 j.val) (BitVec.ofNat 32 i.val)) = if j ≤ i then 1#32 else 0#32 := by
    decide +kernel
  rw [e, b]
  split
  · exact (congrArg (fun z : ℤ => ((z : ℝ) : EReal)) (by decide : (1#32).toInt = 1)).trans (by simp)
  · exact (congrArg (fun z : ℤ => ((z : ℝ) : EReal)) (by decide : (0#32).toInt = 0)).trans (by simp)

theorem decay_at (i : Fin 32) (h : Fin 128) : k0_pay21 (F := Ideal) (k0_pay10 x8) k0_pay12 (k0_pay17 x1 x7) (k0_pay18 x1 x7) k0_pay19 (ix2 i h)
    = decay (x8 (ix2 0 h)) (stepOf x1 x7 h) i := by
  have e : ∀ (A : FVec Ideal S1x128 .f32) (T : FVec Ideal S32x32 .f32) (p q r : FVec Ideal S32x128 .f32), k0_pay21 (F := Ideal) A T p q r (ix2 i h)
      = ∑ j : Fin 32, T (ix2 i j) * (k0_pay20 p q r (ix2 j h) * A (ix2 0 h)) := fun A T p q r => by
    pointwise [k0_pay21]
  have a : k0_pay10 (F := Ideal) x8 (ix2 0 h) = 0 - Ideal.exp (x8 (ix2 0 h)) := by pointwise [k0_pay10]
  rw [e, decay]
  refine Finset.sum_congr rfl fun j _ => ?_
  rw [tril_at, step_at, a, zero_sub, ite_mul, one_mul, zero_mul]

variable (hE : ∀ (h : Fin 128) (n : Fin 512), x11 (ix2 h n) = if h.val = n.val / 64 then 1 else 0)
include hE

/-- Numbers of heads put on the heads' columns. -/
theorem put (f : Fin 128 → EReal) (n : Fin 512) : ∑ h : Fin 128, f h * x11 (ix2 h n) = f ⟨n.val / 64, by omega⟩ := by
  rw [Finset.sum_eq_single (⟨n.val / 64, by omega⟩ : Fin 128) (fun h _ hne => by
      rw [hE, if_neg (fun e => hne (Fin.ext e)), mul_zero]) (fun h => absurd (Finset.mem_univ _) h), hE, if_pos rfl, mul_one]

theorem spread_at (n : Fin 512) : spread x1 x7 x8 x11 (ix2 0 n)
    = Ideal.exp (decay (x8 (ix2 0 ⟨n.val / 64, by omega⟩)) (stepOf x1 x7 ⟨n.val / 64, by omega⟩) 31) := by
  have e : ∀ (A : FVec Ideal S1x128 .f32) (T : FVec Ideal S32x32 .f32) (p q r : FVec Ideal S32x128 .f32), k0_pay24 (F := Ideal) A T p q r x11 (ix2 0 n)
      = ∑ h : Fin 128, Ideal.exp (k0_pay21 (F := Ideal) A T p q r (ix2 31 h)) * x11 (ix2 h n) := fun A T p q r => by
    pointwise [k0_pay24, k0_pay23, k0_pay22]
  rw [spread, e]
  simp only [decay_at]
  exact put x11 hE (fun h => Ideal.exp (decay (x8 (ix2 0 h)) (stepOf x1 x7 h) 31)) n

theorem inputs_at (j : Fin 32) (n : Fin 512) : inputs x0 x1 x4 x5 x6 x7 x8 x11 (ix2 j n)
    = mixed x0 x4 x5 x6 (ix2 j ⟨n.val, by omega⟩) * (stepOf x1 x7 ⟨n.val / 64, by omega⟩ j
        * Ideal.exp (decay (x8 (ix2 0 ⟨n.val / 64, by omega⟩)) (stepOf x1 x7 ⟨n.val / 64, by omega⟩) 31
            - decay (x8 (ix2 0 ⟨n.val / 64, by omega⟩)) (stepOf x1 x7 ⟨n.val / 64, by omega⟩) j)) := by
  have e : ∀ (A : FVec Ideal S1x128 .f32) (T : FVec Ideal S32x32 .f32) (p q r : FVec Ideal S32x128 .f32) (U : FVec Ideal S32x1024 .f32),
      k0_pay26 (F := Ideal) A T (k0_pay13 U) p q r x11 (ix2 j n)
      = U (ix2 j ⟨n.val, by omega⟩) * (∑ h : Fin 128, k0_pay20 (F := Ideal) p q r (ix2 j h) * x11 (ix2 h n))
        * (∑ h : Fin 128, Ideal.exp (k0_pay21 (F := Ideal) A T p q r (ix2 31 h) - k0_pay21 (F := Ideal) A T p q r (ix2 j h)) * x11 (ix2 h n)) := fun A T p q r U => by
    pointwise [k0_pay26, k0_pay25, k0_pay22, k0_pay13]
  rw [inputs, e]
  simp only [decay_at, step_at]
  rw [put x11 hE (fun h => stepOf x1 x7 h j) n,
    put x11 hE (fun h => Ideal.exp (decay (x8 (ix2 0 h)) (stepOf x1 x7 h) 31 - decay (x8 (ix2 0 h)) (stepOf x1 x7 h) j)) n, mul_assoc]

/-- An entry of a half of the state, from the entry before. -/
def entry (g : Fin 2) (n : Fin 128) (w : Fin 256) : EReal :=
  after (x3 (ix4 0 g n w)) (x8 (ix2 0 ⟨(g.val * 256 + w.val) / 64, by omega⟩)) (stepOf x1 x7 ⟨(g.val * 256 + w.val) / 64, by omega⟩)
    (fun j => mixed x0 x4 x5 x6 (ix2 j ⟨512 + g.val * 128 + n.val, by omega⟩)) (fun j => mixed x0 x4 x5 x6 (ix2 j ⟨g.val * 256 + w.val, by omega⟩))

theorem first_at (n : Fin 128) (w : Fin 256) : first x0 x1 x3 x4 x5 x6 x7 x8 x11 (ix3 0 n w) = entry x0 x1 x3 x4 x5 x6 x7 x8 0 n w := by
  have e : ∀ (S : FVec Ideal S1x512 .f32) (I : FVec Ideal S32x512 .f32) (U : FVec Ideal S32x1024 .f32) (h : FVec Ideal S1x128x256 .f32),
      k0_pay39 (F := Ideal) (k0_pay38 S I (k0_pay30 (k0_pay14 U)) (k0_pay32 h)) (ix3 0 n w)
      = h (ix3 0 n w) * S (ix2 0 ⟨w.val, by omega⟩) + ∑ k : Fin 32, U (ix2 k ⟨512 + n.val, by omega⟩) * I (ix2 k ⟨w.val, by omega⟩) := fun S I U h => by
    pointwise [k0_pay39, k0_pay38, k0_pay30, k0_pay28, k0_pay14, k0_pay32]
  have l : View.ld (Val := Elt Ideal) (k0_pay3 (F := Ideal) x3) (Rect.unit (s := S2x128x256) ![0, 0, 0] S1x128x256.size inb_S2x128x256_S1x128x256_0_0_0) (ix3 0 n w)
      = x3 (ix4 0 0 n w) := by
    refine (congrArg (k0_pay3 (F := Ideal) x3) (?_ : _ = ix3 0 n w)).trans (by pointwise [k0_pay3])
    funext a; refine Fin.ext ?_; fin_cases a <;> simp
  rw [first, e, l]
  simp only [spread_at _ _ _ _ hE, inputs_at _ _ _ _ _ _ _ _ hE]
  rw [entry, after]
  simp

theorem second_at (n : Fin 128) (w : Fin 256) : second x0 x1 x3 x4 x5 x6 x7 x8 x11 (ix3 0 n w) = entry x0 x1 x3 x4 x5 x6 x7 x8 1 n w := by
  have e : ∀ (S : FVec Ideal S1x512 .f32) (I : FVec Ideal S32x512 .f32) (U : FVec Ideal S32x1024 .f32) (h : FVec Ideal S1x128x256 .f32),
      k0_pay52 (F := Ideal) S I (k0_pay42 (k0_pay14 U)) (k0_pay44 h) (ix3 0 n w)
      = h (ix3 0 n w) * S (ix2 0 ⟨256 + w.val, by omega⟩) + ∑ k : Fin 32, U (ix2 k ⟨512 + 128 + n.val, by omega⟩) * I (ix2 k ⟨256 + w.val, by omega⟩) := fun S I U h => by
    have i : (⟨512 + (128 + n.val), by omega⟩ : Fin 1024) = ⟨512 + 128 + n.val, by omega⟩ := Fin.ext (by simp only []; omega)
    rw [← i]
    pointwise [k0_pay52, k0_pay42, k0_pay40, k0_pay14, k0_pay44]
  have l : View.ld (Val := Elt Ideal) (half x0 x1 x3 x4 x5 x6 x7 x8 x11) (Rect.unit (s := S2x128x256) ![1, 0, 0] S1x128x256.size inb_S2x128x256_S1x128x256_1_0_0) (ix3 0 n w)
      = x3 (ix4 0 1 n w) := by
    have i : (Rect.unit (s := S2x128x256) ![1, 0, 0] S1x128x256.size inb_S2x128x256_S1x128x256_1_0_0).idx (ix3 0 n w) = ix3 1 n w := by
      funext a; refine Fin.ext ?_; fin_cases a <;> simp
    refine (congrArg (half x0 x1 x3 x4 x5 x6 x7 x8 x11) i).trans ?_
    unfold half
    rw [View.canon_cons_of_not_mem (Val := Elt Ideal) (e := .f32), View.canon_cons_unit_lit (by decide)]
    · pointwise [k0_pay3]
    · decide
    · intro (hm : _ ∈ (Rect.unit (s := S2x128x256) ![0, 0, 0] S1x128x256.size inb_S2x128x256_S1x128x256_0_0_0).set)
      have h0 := (Rect.mem_set_unit.mp hm 0).2
      exact absurd (show 1 < 0 + 1 from h0) (by omega)
  rw [second, e, l]
  simp only [spread_at _ _ _ _ hE, inputs_at _ _ _ _ _ _ _ _ hE]
  rw [entry, after]
  simp

theorem state_at (g : Fin 2) (n : Fin 128) (w : Fin 256) : whole x0 x1 x3 x4 x5 x6 x7 x8 x11 (ix3 g n w) = entry x0 x1 x3 x4 x5 x6 x7 x8 g n w := by
  have one : (ix3 1 n w : S2x128x256.Idx) = (Rect.unit (s := S2x128x256) ![1, 0, 0] S1x128x256.size inb_S2x128x256_S1x128x256_1_0_0).emb (ix3 0 n w) := by
    funext a; refine Fin.ext ?_; fin_cases a <;> simp
  have nil : (ix3 0 n w : S2x128x256.Idx) = (Rect.unit (s := S2x128x256) ![0, 0, 0] S1x128x256.size inb_S2x128x256_S1x128x256_0_0_0).emb (ix3 0 n w) := by
    funext a; refine Fin.ext ?_; fin_cases a <;> simp
  unfold whole
  fin_cases g
  · have off : (ix3 0 n w : S2x128x256.Idx) ∉ (Rect.unit (s := S2x128x256) ![1, 0, 0] S1x128x256.size inb_S2x128x256_S1x128x256_1_0_0).set := fun hm => by
      have h0 := (Rect.mem_set_unit.mp hm 0).1
      exact absurd (show 1 ≤ 0 from h0) (by omega)
    refine (View.canon_cons_of_not_mem (Val := Elt Ideal) (e := .f32) ⟨_, _⟩ _ off).trans ?_
    refine (congrArg (View.canon (Val := Elt Ideal) (e := .f32) _) nil).trans ?_
    exact (View.canon_cons_emb (Val := Elt Ideal) (e := .f32) _ _ _ _).trans (first_at x0 x1 x3 x4 x5 x6 x7 x8 x11 hE n w)
  · refine (congrArg (View.canon (Val := Elt Ideal) (e := .f32) _) one).trans ?_
    exact (View.canon_cons_emb (Val := Elt Ideal) (e := .f32) _ _ _ _).trans (second_at x0 x1 x3 x4 x5 x6 x7 x8 x11 hE n w)

end

section

variable (m : (ℓ : Loc nD τ sig) → Buf (Elt Ideal) ℓ) (c : Dev nD)

abbrev argX : Rows := m ((c.tc : Thread nD τ).loc main_arg0)
abbrev argD : Steps := m ((c.tc : Thread nD τ).loc main_arg1)
abbrev argS : States := m ((c.tc : Thread nD τ).loc main_arg3)
abbrev argC : Before := m ((c.tc : Thread nD τ).loc main_arg4)
abbrev argW : Taps := m ((c.tc : Thread nD τ).loc main_arg5)
abbrev argB : Bias := m ((c.tc : Thread nD τ).loc main_arg6)
abbrev argT : Heads := m ((c.tc : Thread nD τ).loc main_arg7)
abbrev argA : Heads := m ((c.tc : Thread nD τ).loc main_arg8)

theorem rows_in (i : S1024x1024.Idx) : V m c main_arg0 i = argX m c i := by
  unfold V
  after_reads_at

theorem steps_in (i : S1024x128.Idx) : V m c main_arg1 i = argD m c i := by
  unfold V
  after_reads_at

theorem state_in (b : Fin 32) (g : Fin 2) (n : Fin 128) (w : Fin 256) :
    V m c main_v11 (ix4 b g n w) = argS m c (ix4 b ⟨g.val * 4 + w.val / 64, by omega⟩ ⟨w.val % 64, by omega⟩ n) := by
  unfold V
  after_reads_at

theorem before_in (b : Fin 32) (q : Fin 35) (h : q.val < 3) (n : Fin 1024) :
    V m c main_v12 (ix3 b ⟨5 + q.val, by omega⟩ n) = argC m c (ix3 b ⟨q.val, h⟩ n) := by
  unfold V
  after_reads_at
  exact dif_pos h

theorem taps_in (k : Fin 4) (n : Fin 1024) : V m c main_v13 (ix2 k n) = argW m c (ix3 0 k n) := by
  unfold V
  after_reads_at

theorem bias_in (n : Fin 1024) : V m c main_v15 (ix2 0 n) = argB m c (ix2 0 n) := by
  unfold V
  after_reads_at

theorem shift_in (h : Fin 8) : V m c main_v18 (ix2 0 ⟨h.val, by omega⟩) = argT m c (ix2 0 h) := by
  unfold V
  after_reads_at

theorem rate_in (h : Fin 8) : V m c main_v21 (ix2 0 ⟨h.val, by omega⟩) = argA m c (ix2 0 h) := by
  unfold V
  after_reads_at

/-- The quotient of a column by 64, in words, -/
theorem word_div : ∀ n : Fin 512, Scalar.select
      (IntOp.andi
        (IntOp.cmpi .ne (if BitVec.ofNat 32 n.val = 0 then 0 else if (BitVec.ofNat 32 n.val).msb = true then -1 else 1)
          (if (64#32 : BitVec 32) = 0 then 0 else if BitVec.msb 64#32 = true then -1 else 1 : BitVec 32))
        (IntOp.cmpi .ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

/-- and words' equality. -/
theorem word_eq : ∀ (h : Fin 128) (k : Fin 8), IntOp.cmpi .eq (BitVec.ofNat 32 h.val) (BitVec.ofNat 32 k.val) = if h.val = k.val then 1#1 else 0#1 := by
  decide +kernel

/-- The matrix that puts a head's number on its columns. -/
theorem put_in (h : Fin 128) (n : Fin 512) : V m c main_v8 (ix2 h n) = (if h.val = n.val / 64 then 1 else 0 : EReal) := by
  unfold V
  after_reads_at
  have k : id (constantI S_ 32 64#32) ix0 = 64#32 := rfl
  rw [k]
  refine (congrArg (fun z => FloatOps.uitofp (F := Ideal) .f32 (IntOp.cmpi .eq (BitVec.ofNat 32 h.val) z)) (word_div n)).trans ?_
  refine (congrArg (FloatOps.uitofp (F := Ideal) .f32) (word_eq h ⟨n.val / 64, by omega⟩)).trans ?_
  simp only []
  split
  · exact (congrArg (fun z : ℕ => ((z : ℝ) : EReal)) (by decide : (1#1).toNat = 1)).trans (by simp)
  · exact (congrArg (fun z : ℕ => ((z : ℝ) : EReal)) (by decide : (0#1).toNat = 0)).trans (by simp)

/-- Where each window's block lies at a point. -/
theorem places : ∀ t : Fin grid0.N,
    (win0_0.index t 0 = t.val ∧ win0_0.index t 1 = 0) ∧ (win0_1.index t 0 = t.val ∧ win0_1.index t 1 = 0)
    ∧ (win0_3.index t 0 = t.val ∧ win0_3.index t 1 = 0 ∧ win0_3.index t 2 = 0 ∧ win0_3.index t 3 = 0)
    ∧ (win0_4.index t 0 = t.val ∧ win0_4.index t 1 = 0 ∧ win0_4.index t 2 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_11.index t 0 = 0 ∧ win0_11.index t 1 = 0)
    ∧ (win0_13.index t 0 = t.val ∧ win0_13.index t 1 = 0 ∧ win0_13.index t 2 = 0 ∧ win0_13.index t 3 = 0)
    ∧ (win0_14.index t 0 = t.val ∧ win0_14.index t 1 = 0 ∧ win0_14.index t 2 = 0) := by decide +kernel

theorem point_lt (t : Fin cfg0.N) : t.val < 32 := t.isLt

/-- The sequence that a point treats. -/
abbrev seqOf (t : Fin cfg0.N) : Fin 32 := ⟨t.val, point_lt t⟩

theorem block_0 (t : Fin cfg0.N) (j : Fin 32) (n : Fin 1024) : iblk m c 0 t (ix2 j n) = V m c main_arg0 (ix2 ⟨(seqOf t).val * 32 + j.val, by omega⟩ n) := by
  blk_ext [iblk, places t]

theorem block_1 (t : Fin cfg0.N) (j : Fin 32) (n : Fin 128) : iblk m c 1 t (ix2 j n) = V m c main_arg1 (ix2 ⟨(seqOf t).val * 32 + j.val, by omega⟩ n) := by
  blk_ext [iblk, places t]

theorem block_3 (t : Fin cfg0.N) (g : Fin 2) (n : Fin 128) (w : Fin 256) : iblk m c 3 t (ix4 0 g n w) = V m c main_v11 (ix4 (seqOf t) g n w) := by
  blk_ext [iblk, places t]

theorem block_4 (t : Fin cfg0.N) (q : Fin 8) (n : Fin 1024) : iblk m c 4 t (ix3 0 q n) = V m c main_v12 (ix3 (seqOf t) q n) := by
  blk_ext [iblk, places t]

theorem block_5 (t : Fin cfg0.N) (k : Fin 4) (n : Fin 1024) : iblk m c 5 t (ix2 k n) = V m c main_v13 (ix2 k n) := by
  blk_ext [iblk, places t]

theorem block_6 (t : Fin cfg0.N) (n : Fin 1024) : iblk m c 6 t (ix2 0 n) = V m c main_v15 (ix2 0 n) := by
  blk_ext [iblk, places t]

theorem block_7 (t : Fin cfg0.N) (h : Fin 128) : iblk m c 7 t (ix2 0 h) = V m c main_v18 (ix2 0 h) := by
  blk_ext [iblk, places t]

theorem block_8 (t : Fin cfg0.N) (h : Fin 128) : iblk m c 8 t (ix2 0 h) = V m c main_v21 (ix2 0 h) := by
  blk_ext [iblk, places t]

theorem block_11 (t : Fin cfg0.N) (h : Fin 128) (n : Fin 512) : iblk m c 11 t (ix2 h n) = V m c main_v8 (ix2 h n) := by
  blk_ext [iblk, places t]

/-- The rows of a sequence, after those before it. -/
theorem fed_at (t : Fin cfg0.N) (q : Fin 35) (n : Fin 1024) :
    feed (iblk m c 0 t) (iblk m c 4 t) (ix2 ⟨5 + q.val, by omega⟩ n) = fed (argX m c) (argC m c) (seqOf t) n q := by
  rw [feed_at, fed]
  split
  · rename_i h
    exact (block_4 m c t _ n).trans (before_in m c _ q h n)
  · exact (block_0 m c t _ n).trans (rows_in m c _)

theorem mix_at (t : Fin cfg0.N) (j : Fin 32) (n : Fin 1024) :
    mixed (iblk m c 0 t) (iblk m c 4 t) (iblk m c 5 t) (iblk m c 6 t) (ix2 j n) = mix (argX m c) (argC m c) (argW m c) (argB m c) (seqOf t) j n := by
  rw [mixed_at, mix]
  have w : (fun k => iblk m c 5 t (ix2 k n)) = fun k => argW m c (ix3 0 k n) := funext fun k => (block_5 m c t k n).trans (taps_in m c k n)
  have b : iblk m c 6 t (ix2 0 n) = argB m c (ix2 0 n) := (block_6 m c t n).trans (bias_in m c n)
  have f : (fun q : Fin 35 => feed (iblk m c 0 t) (iblk m c 4 t) (ix2 ⟨5 + q.val, by omega⟩ n)) = fed (argX m c) (argC m c) (seqOf t) n := funext fun q => fed_at m c t q n
  exact (congrArg (fun w => conv w _ _ j) w).trans ((congrArg (fun b => conv _ b _ j) b).trans (congrArg (fun f => conv _ _ f j) f))

theorem stepped_at (t : Fin cfg0.N) (h : Fin 8) : stepOf (iblk m c 1 t) (iblk m c 7 t) ⟨h.val, by omega⟩ = stepped (argD m c) (argT m c) (seqOf t) h := by
  funext j
  exact congrArg₂ (fun u v : EReal => softplus (u + v)) ((block_1 m c t j _).trans (steps_in m c _)) ((block_7 m c t _).trans (shift_in m c h))

theorem entry_at (t : Fin cfg0.N) (g : Fin 2) (n : Fin 128) (w : Fin 256) :
    entry (iblk m c 0 t) (iblk m c 1 t) (iblk m c 3 t) (iblk m c 4 t) (iblk m c 5 t) (iblk m c 6 t) (iblk m c 7 t) (iblk m c 8 t) g n w
      = state (argX m c) (argD m c) (argS m c) (argC m c) (argW m c) (argB m c) (argT m c) (argA m c) (seqOf t) g n w := by
  have hh : (⟨(g.val * 256 + w.val) / 64, by omega⟩ : Fin 128) = ⟨(⟨g.val * 4 + w.val / 64, by omega⟩ : Fin 8).val, by simp only []; omega⟩ :=
    Fin.ext (by simp only []; omega)
  rw [entry, state, hh, stepped_at]
  exact after_congr ((block_3 m c t g n w).trans (state_in m c _ g n w)) ((block_8 m c t _).trans (rate_in m c _)) (fun j => mix_at m c t j _) fun j => mix_at m c t j _

/-- What a point leaves of the state, -/
theorem flushed_state (t : Fin cfg0.N) : (dats m 0 c).flushed 13 t = (win0_13.blk t).view.read (Elt Ideal)
    (states (argX m c) (argD m c) (argS m c) (argC m c) (argW m c) (argB m c) (argT m c) (argA m c)) := by
  refine (flushed13_A m c t).trans ?_
  rw [state_eq]
  funext j
  obtain ⟨g, n, w, rfl⟩ : ∃ (g : Fin 2) (n : Fin 128) (w : Fin 256), j = ix4 0 g n w := ⟨j 1, j 2, j 3, by
    funext a
    fin_cases a
    · exact Subsingleton.elim (α := Fin 1) (j 0) 0
    · rfl
    · rfl
    · rfl⟩
  have p : ∀ X : Vec Ideal S2x128x256 .f32, k0_pay2 (F := Ideal) X (ix4 0 g n w) = X (ix3 g n w) := fun X => by pointwise [k0_pay2]
  refine Eq.trans (b := k0_pay2 (F := Ideal) (whole (iblk m c 0 t) (iblk m c 1 t) (iblk m c 3 t) (iblk m c 4 t) (iblk m c 5 t) (iblk m c 6 t) (iblk m c 7 t)
    (iblk m c 8 t) (iblk m c 11 t)) (ix4 0 g n w)) rfl ?_
  refine (p _).trans ((state_at _ _ _ _ _ _ _ _ _ (fun h n => (block_11 m c t h n).trans (put_in m c h n)) g n w).trans ((entry_at m c t g n w).trans ?_))
  refine Eq.trans (b := states (argX m c) (argD m c) (argS m c) (argC m c) (argW m c) (argB m c) (argT m c) (argA m c) (ix4 (seqOf t) g n w)) rfl ?_
  blk_ext [places t]

/-- and of the last rows. -/
theorem flushed_rows (t : Fin cfg0.N) : (dats m 0 c).flushed 14 t = (win0_14.blk t).view.read (Elt Ideal) (lasts (argX m c) (argC m c)) := by
  refine (flushed14_A m c t).trans ?_
  rw [rows_eq]
  funext j
  obtain ⟨q, n, rfl⟩ : ∃ (q : Fin 3) (n : Fin 1024), j = ix3 0 q n := ⟨j 1, j 2, by
    funext a
    fin_cases a
    · exact Subsingleton.elim (α := Fin 1) (j 0) 0
    · rfl
    · rfl⟩
  have p : ∀ X : Vec Ideal S3x1024 .f32, k0_pay8 (F := Ideal) X (ix3 0 q n) = X (ix2 q n) := fun X => by pointwise [k0_pay8]
  refine Eq.trans (b := k0_pay8 (F := Ideal) (View.ld (Val := Elt Ideal) (feed (iblk m c 0 t) (iblk m c 4 t))
    (Rect.unit (s := S40x1024) ![37, 0] S3x1024.size inb_S40x1024_S3x1024_37_0)) (ix3 0 q n)) rfl ?_
  refine (p _).trans ?_
  refine (congrArg (feed (iblk m c 0 t) (iblk m c 4 t)) (?_ : _ = ix2 ⟨5 + (⟨32 + q.val, by omega⟩ : Fin 35).val, by simp only []; omega⟩ n)).trans ((fed_at m c t _ n).trans ?_)
  · funext a; refine Fin.ext ?_; fin_cases a
    · simp; omega
    · simp
  refine Eq.trans (b := lasts (argX m c) (argC m c) (ix3 (seqOf t) q n)) rfl ?_
  blk_ext [places t]

/-- Where the results' blocks begin at a point, and their extents. -/
theorem extent13 : ∀ t : Fin grid0.N,
    win0_13.index t 0 * win0_13.size 0 = t.val ∧ win0_13.index t 1 * win0_13.size 1 = 0 ∧ win0_13.index t 2 * win0_13.size 2 = 0
    ∧ win0_13.index t 3 * win0_13.size 3 = 0
    ∧ win0_13.xsize (grid0.coords t) 0 = 1 ∧ win0_13.xsize (grid0.coords t) 1 = 2 ∧ win0_13.xsize (grid0.coords t) 2 = 128
    ∧ win0_13.xsize (grid0.coords t) 3 = 256 := by decide +kernel

theorem extent14 : ∀ t : Fin grid0.N,
    win0_14.index t 0 * win0_14.size 0 = t.val ∧ win0_14.index t 1 * win0_14.size 1 = 0 ∧ win0_14.index t 2 * win0_14.size 2 = 0
    ∧ win0_14.xsize (grid0.coords t) 0 = 1 ∧ win0_14.xsize (grid0.coords t) 1 = 3 ∧ win0_14.xsize (grid0.coords t) 2 = 1024 := by decide +kernel

theorem cover_state (i : S32x2x128x256.Idx) : ∃ t : Fin cfg0.N, (cfg0.win 13).flush t = true ∧ i ∈ ((cfg0.win 13).blk t).view.set := by
  have h0 : (i 0).val < 32 := (i 0).isLt
  have h1 : (i 1).val < 2 := (i 1).isLt
  have h2 : (i 2).val < 128 := (i 2).isLt
  have h3 : (i 3).val < 256 := (i 3).isLt
  refine ⟨⟨(i 0).val, h0⟩, flush0_13 _, ?_⟩
  show i ∈ ((View.whole main_v28_1).slice (win0_13.rect ⟨(i 0).val, h0⟩)).set
  rw [View.set_slice_whole, Rect.mem_set_unit]
  obtain ⟨p0, p1, p2, p3, s0, s1, s2, s3⟩ := extent13 ⟨(i 0).val, h0⟩
  intro a
  fin_cases a
  · show win0_13.index _ 0 * win0_13.size 0 ≤ (i 0).val ∧ (i 0).val < win0_13.index _ 0 * win0_13.size 0 + win0_13.xsize _ 0
    rw [p0, s0]; dsimp only; omega
  · show win0_13.index _ 1 * win0_13.size 1 ≤ (i 1).val ∧ (i 1).val < win0_13.index _ 1 * win0_13.size 1 + win0_13.xsize _ 1
    rw [p1, s1]; omega
  · show win0_13.index _ 2 * win0_13.size 2 ≤ (i 2).val ∧ (i 2).val < win0_13.index _ 2 * win0_13.size 2 + win0_13.xsize _ 2
    rw [p2, s2]; omega
  · show win0_13.index _ 3 * win0_13.size 3 ≤ (i 3).val ∧ (i 3).val < win0_13.index _ 3 * win0_13.size 3 + win0_13.xsize _ 3
    rw [p3, s3]; omega

theorem cover_rows (i : S32x3x1024.Idx) : ∃ t : Fin cfg0.N, (cfg0.win 14).flush t = true ∧ i ∈ ((cfg0.win 14).blk t).view.set := by
  have h0 : (i 0).val < 32 := (i 0).isLt
  have h1 : (i 1).val < 3 := (i 1).isLt
  have h2 : (i 2).val < 1024 := (i 2).isLt
  refine ⟨⟨(i 0).val, h0⟩, flush0_14 _, ?_⟩
  show i ∈ ((View.whole main_v28_2).slice (win0_14.rect ⟨(i 0).val, h0⟩)).set
  rw [View.set_slice_whole, Rect.mem_set_unit]
  obtain ⟨p0, p1, p2, s0, s1, s2⟩ := extent14 ⟨(i 0).val, h0⟩
  intro a
  fin_cases a
  · show win0_14.index _ 0 * win0_14.size 0 ≤ (i 0).val ∧ (i 0).val < win0_14.index _ 0 * win0_14.size 0 + win0_14.xsize _ 0
    rw [p0, s0]; dsimp only; omega
  · show win0_14.index _ 1 * win0_14.size 1 ≤ (i 1).val ∧ (i 1).val < win0_14.index _ 1 * win0_14.size 1 + win0_14.xsize _ 1
    rw [p1, s1]; omega
  · show win0_14.index _ 2 * win0_14.size 2 ≤ (i 2).val ∧ (i 2).val < win0_14.index _ 2 * win0_14.size 2 + win0_14.xsize _ 2
    rw [p2, s2]; omega

/-- What the kernel leaves: the states, -/
theorem final_state : (dats m 0 c).arrAt 13 cfg0.N = states (argX m c) (argD m c) (argS m c) (argC m c) (argW m c) (argB m c) (argT m c) (argA m c) :=
  (dats m 0 c).arrAt_eq_of_cover 13 _ (fun t _ => flushed_state m c t) cover_state

/-- and the last rows. -/
theorem final_rows : (dats m 0 c).arrAt 14 cfg0.N = lasts (argX m c) (argC m c) :=
  (dats m 0 c).arrAt_eq_of_cover 14 _ (fun t _ => flushed_rows m c t) cover_rows

end

end Cert.Proof.ScanKernel

end
-- ==== Proof.ScanRef.lean ====
/-
  The state and the last rows that the scan's reference computes, entry by entry.
-/
module

public import proofs.«01_k».proof.Proof.Gen.Reference7Ideal.Run
public import proofs.«01_k».proof.Proof.Scan

@[expose] public section

set_option maxRecDepth 16384

noncomputable section

namespace Cert.Proof.ScanRef

open Cert.Reference7Ideal Cert.Reference7Ideal.Gen
open Idealize.ShloMosaic Idealize.ShloMosaic.TcCoe Idealize.ShloMosaic.Tactic
open Idealize.SL.Sem
open Cert.Proof.Scan

/-- All positions' rows: the three before, and the chunk's. -/
def padded (X : FVec Ideal S1024x1024 .f32) (C : FVec Ideal S32x3x1024 .f32) : FVec Ideal S32x35x1024 .f32 :=
  concatenate S32x35x1024 1 [⟨S32x3x1024, C⟩, ⟨S32x32x1024, shapeCast _ X shapeCasts_S1024x1024_S32x32x1024⟩]
    concatenates_S32x3x1024_S32x32x1024_S32x35x1024_d1

/-- The four taps' sum and the bias, -/
def tapped (p : FVec Ideal S32x35x1024 .f32) (W : FVec Ideal S1x4x1024 .f32) (B : FVec Ideal S1x1024 .f32) : FVec Ideal S32x32x1024 .f32 :=
  (addf (broadcastInDim S32x32x1024 ![0, 1, 2] bcast_S1x1x1024_S32x32x1024_0_1_2 (broadcastInDim S1x1x1024 ![2] bcast_S1024_S1x1x1024_2 (shapeCast _ B shapeCasts_S1x1024_S1024))) (addf (addf (addf (addf (broadcastInDim S32x32x1024 ![] bcast_S_S32x32x1024 (constant S_ .f32 0x00000000#32)) (mulf (extractStridedSlice S32x32x1024 ![0, 0, 0] p slices_S32x35x1024_S32x32x1024_0_0_0) (broadcastInDim S32x32x1024 ![0, 1, 2] bcast_S1x1x1024_S32x32x1024_0_1_2 (broadcastInDim S1x1x1024 ![2] bcast_S1024_S1x1x1024_2 (shapeCast _ (extractStridedSlice S1x1x1024 ![0, 0, 0] W slices_S1x4x1024_S1x1x1024_0_0_0) shapeCasts_S1x1x1024_S1024))))) (mulf (extractStridedSlice S32x32x1024 ![0, 1, 0] p slices_S32x35x1024_S32x32x1024_0_1_0) (broadcastInDim S32x32x1024 ![0, 1, 2] bcast_S1x1x1024_S32x32x1024_0_1_2 (broadcastInDim S1x1x1024 ![2] bcast_S1024_S1x1x1024_2 (shapeCast _ (extractStridedSlice S1x1x1024 ![0, 1, 0] W slices_S1x4x1024_S1x1x1024_0_1_0) shapeCasts_S1x1x1024_S1024))))) (mulf (extractStridedSlice S32x32x1024 ![0, 2, 0] p slices_S32x35x1024_S32x32x1024_0_2_0) (broadcastInDim S32x32x1024 ![0, 1, 2] bcast_S1x1x1024_S32x32x1024_0_1_2 (broadcastInDim S1x1x1024 ![2] bcast_S1024_S1x1x1024_2 (shapeCast _ (extractStridedSlice S1x1x1024 ![0, 2, 0] W slices_S1x4x1024_S1x1x1024_0_2_0) shapeCasts_S1x1x1024_S1024))))) (mulf (extractStridedSlice S32x32x1024 ![0, 3, 0] p slices_S32x35x1024_S32x32x1024_0_3_0) (broadcastInDim S32x32x1024 ![0, 1, 2] bcast_S1x1x1024_S32x32x1024_0_1_2 (broadcastInDim S1x1x1024 ![2] bcast_S1024_S1x1x1024_2 (shapeCast _ (extractStridedSlice S1x1x1024 ![0, 3, 0] W slices_S1x4x1024_S1x1x1024_0_3_0) shapeCasts_S1x1x1024_S1024))))))

/-- times its logistic. -/
def acted (y : FVec Ideal S32x32x1024 .f32) : FVec Ideal S32x32x1024 .f32 :=
  mulf y (Host.divf (broadcastInDim S32x32x1024 ![] bcast_S_S32x32x1024 (constant S_ .f32 0x3F800000#32)) (addf (broadcastInDim S32x32x1024 ![] bcast_S_S32x32x1024 (constant S_ .f32 0x3F800000#32)) (Host.exp (Host.negf y))))

/-- The steps before, -/
def shifted (D : FVec Ideal S1024x128 .f32) (T : FVec Ideal S1x8 .f32) : FVec Ideal S32x32x8 .f32 :=
  addf (extractStridedSlice S32x32x8 ![0, 0, 0] (shapeCast _ D shapeCasts_S1024x128_S32x32x128) slices_S32x32x128_S32x32x8_0_0_0) (broadcastInDim S32x32x8 ![0, 1, 2] bcast_S1x1x8_S32x32x8_0_1_2 (broadcastInDim S1x1x8 ![2] bcast_S8_S1x1x8_2 (shapeCast _ T shapeCasts_S1x8_S8)))

/-- and after the softplus. -/
def soft (y : FVec Ideal S32x32x8 .f32) : FVec Ideal S32x32x8 .f32 :=
  select (cmpf .une (subf y (broadcastInDim S32x32x8 ![] bcast_S_S32x32x8 (constant S_ .f32 0x00000000#32))) (subf y (broadcastInDim S32x32x8 ![] bcast_S_S32x32x8 (constant S_ .f32 0x00000000#32)))) (addf y (broadcastInDim S32x32x8 ![] bcast_S_S32x32x8 (constant S_ .f32 0x00000000#32))) (addf (maximumf y (broadcastInDim S32x32x8 ![] bcast_S_S32x32x8 (constant S_ .f32 0x00000000#32))) (Host.log1p (Host.exp (Host.negf (Host.absf (subf y (broadcastInDim S32x32x8 ![] bcast_S_S32x32x8 (constant S_ .f32 0x00000000#32))))))))

/-- Each step times its head's rate, -/
def rated (s : FVec Ideal S32x32x8 .f32) (A : FVec Ideal S1x8 .f32) : FVec Ideal S32x32x8 .f32 :=
  mulf s (broadcastInDim S32x32x8 ![0, 1, 2] bcast_S1x1x8_S32x32x8_0_1_2 (broadcastInDim S1x1x8 ![2] bcast_S8_S1x1x8_2 (Host.negf (Host.exp (shapeCast _ A shapeCasts_S1x8_S8)))))

/-- the running sums over positions, -/
def running (x : FVec Ideal S32x32x8 .f32) : FVec Ideal S32x32x8 .f32 :=
  Host.reduceWindowAdd ![1, 32, 1] ![1, 1, 1] ![0, 31, 0] ![0, 0, 0] x (broadcastInDim S_ ![] bcast_S_S_ (constant S_ .f32 0x00000000#32)) reduceWindows_S32x32x8_S32x32x8_w1s1p0_0_w32s1p31_0_w1s1p0_0 h_S_

/-- and the last of them. -/
def total (r : FVec Ideal S32x32x8 .f32) : FVec Ideal S32x1x8 .f32 :=
  extractStridedSlice S32x1x8 ![0, 31, 0] r slices_S32x32x8_S32x1x8_0_31_0

/-- The positions' inputs by their steps and the decay after them, -/
def entering (u : FVec Ideal S32x32x1024 .f32) (s r : FVec Ideal S32x32x8 .f32) : FVec Ideal S32x32x2x4x64 .f32 :=
  mulf (shapeCast _ (extractStridedSlice S32x32x512 ![0, 0, 0] u slices_S32x32x1024_S32x32x512_0_0_0) shapeCasts_S32x32x512_S32x32x2x4x64) (broadcastInDim S32x32x2x4x64 ![0, 1, 2, 3, 4] bcast_S32x32x2x4x1_S32x32x2x4x64_0_1_2_3_4 (shapeCast _ (mulf s (Host.exp (subf (broadcastInDim S32x32x8 ![0, 1, 2] bcast_S32x1x8_S32x32x8_0_1_2 (total r)) r))) shapeCasts_S32x32x8_S32x32x2x4x1))

/-- their keys, -/
def keyed (u : FVec Ideal S32x32x1024 .f32) : FVec Ideal S32x32x2x128 .f32 :=
  shapeCast _ (extractStridedSlice S32x32x256 ![0, 0, 512] u slices_S32x32x1024_S32x32x256_0_0_512) shapeCasts_S32x32x256_S32x32x2x128

/-- and the state they leave. -/
def left (S : FVec Ideal S32x8x64x128 .f32) (r : FVec Ideal S32x32x8 .f32) (v : FVec Ideal S32x32x2x4x64 .f32) (k : FVec Ideal S32x32x2x128 .f32) :
    FVec Ideal S32x2x128x256 .f32 :=
  shapeCast _ (transpose S32x2x128x4x64 [0, 1, 4, 2, 3] (addf (mulf (shapeCast _ S shapeCasts_S32x8x64x128_S32x2x4x64x128) (broadcastInDim S32x2x4x64x128 ![0, 1, 2, 3, 4] bcast_S32x2x4x1x1_S32x2x4x64x128_0_1_2_3_4 (shapeCast _ (Host.exp (shapeCast _ (total r) shapeCasts_S32x1x8_S32x8)) shapeCasts_S32x8_S32x2x4x1x1))) (Host.dotGeneral dot_S32x32x2x4x64_S32x32x2x128_S32x2x4x64x128_1_1_34_3_02_02 none v k)) transposes_S32x2x4x64x128_S32x2x128x4x64_0_1_4_2_3) shapeCasts_S32x2x128x4x64_S32x2x128x256

/-- The reference's state is the stages above, one after another. -/
theorem result_eq (m : (ℓ : Loc nD τ sig) → Buf (Elt Ideal) ℓ) (c : Dev nD) :
    Value.res_main_v73 (F := Ideal) m c
      = (let u := acted (tapped (padded (m ((c.tc : Thread nD τ).loc main_arg0)) (m ((c.tc : Thread nD τ).loc main_arg4))) (m ((c.tc : Thread nD τ).loc main_arg5)) (m ((c.tc : Thread nD τ).loc main_arg6)))
        let s := soft (shifted (m ((c.tc : Thread nD τ).loc main_arg1)) (m ((c.tc : Thread nD τ).loc main_arg7)))
        let r := running (rated s (m ((c.tc : Thread nD τ).loc main_arg8)))
        left (m ((c.tc : Thread nD τ).loc main_arg3)) r (entering u s r) (keyed u)) := rfl

theorem padded_at (X : FVec Ideal S1024x1024 .f32) (C : FVec Ideal S32x3x1024 .f32) (b : Fin 32) (q : Fin 35) (n : Fin 1024) :
    padded X C (ix3 b q n) = fed X C b n q := by
  have t : padded X C (ix3 b q n) = if h : q.val < 3 then C (ix3 b ⟨q.val, h⟩ n) else X (ix2 ⟨b.val * 32 + (q.val - 3), by omega⟩ n) := by
    pointwise [padded]
  rw [t, fed]

theorem tapped_at (p : FVec Ideal S32x35x1024 .f32) (W : FVec Ideal S1x4x1024 .f32) (B : FVec Ideal S1x1024 .f32) (b j : Fin 32) (n : Fin 1024) :
    tapped p W B (ix3 b j n) = B (ix2 0 n) + W (ix3 0 0 n) * p (ix3 b ⟨j.val, by omega⟩ n) + W (ix3 0 1 n) * p (ix3 b ⟨j.val + 1, by omega⟩ n)
      + W (ix3 0 2 n) * p (ix3 b ⟨j.val + 2, by omega⟩ n) + W (ix3 0 3 n) * p (ix3 b ⟨j.val + 3, by omega⟩ n) := by
  have t : tapped p W B (ix3 b j n) = B (ix2 0 n) + ((((0 + p (ix3 b ⟨j.val, by omega⟩ n) * W (ix3 0 0 n)) + p (ix3 b ⟨j.val + 1, by omega⟩ n) * W (ix3 0 1 n))
      + p (ix3 b ⟨j.val + 2, by omega⟩ n) * W (ix3 0 2 n)) + p (ix3 b ⟨j.val + 3, by omega⟩ n) * W (ix3 0 3 n)) := by
    pointwise [tapped]
    simp only [Nat.add_comm 1 j.val, Nat.add_comm 2 j.val, Nat.add_comm 3 j.val]
  rw [t, zero_add, mul_comm (W (ix3 0 0 n)), mul_comm (W (ix3 0 1 n)), mul_comm (W (ix3 0 2 n)), mul_comm (W (ix3 0 3 n))]
  simp only [add_assoc]

theorem acted_at (y : FVec Ideal S32x32x1024 .f32) (b j : Fin 32) (n : Fin 1024) : acted y (ix3 b j n) = act (y (ix3 b j n)) := by
  have t : acted y (ix3 b j n) = y (ix3 b j n) * Ideal.div 1 (1 + Ideal.exp (-y (ix3 b j n))) := by
    pointwise [acted]
  rw [t, act, Ideal.logistic]

theorem mix_at (X : Rows) (C : Before) (W : Taps) (B : Bias) (b j : Fin 32) (n : Fin 1024) :
    acted (tapped (padded X C) W B) (ix3 b j n) = mix X C W B b j n := by
  rw [acted_at, tapped_at]
  simp only [padded_at]
  rfl

theorem shifted_at (D : FVec Ideal S1024x128 .f32) (T : FVec Ideal S1x8 .f32) (b j : Fin 32) (h : Fin 8) :
    shifted D T (ix3 b j h) = D (ix2 ⟨b.val * 32 + j.val, by omega⟩ ⟨h.val, by omega⟩) + T (ix2 0 h) := by
  pointwise [shifted]

theorem soft_at (y : FVec Ideal S32x32x8 .f32) (b j : Fin 32) (h : Fin 8) : soft y (ix3 b j h) = softplus (y (ix3 b j h)) := by
  have t : soft y (ix3 b j h) = max (y (ix3 b j h)) 0 + Ideal.log1p (Ideal.exp (-FloatOps.absf (F := Ideal) (φ := .f32) (y (ix3 b j h)))) := by
    pointwise [soft]
    exact if_neg fun h => h rfl
  rw [t, softplus]

theorem rated_at (s : FVec Ideal S32x32x8 .f32) (A : FVec Ideal S1x8 .f32) (b j : Fin 32) (h : Fin 8) :
    rated s A (ix3 b j h) = s (ix3 b j h) * -Ideal.exp (A (ix2 0 h)) := by
  pointwise [rated]

/-- A list's sum taken one entry after another. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window of the running sums, and its entries by number. -/
abbrev Win : Shape := ⟨3, ![1, 32, 1]⟩

def winEquiv : Win.Idx ≃ Fin 32 where
  toFun k := k 1
  invFun q := ix3 0 q 0
  left_inv k := by
    funext a
    fin_cases a
    · exact Subsingleton.elim (α := Fin 1) _ _
    · rfl
    · exact Subsingleton.elim (α := Fin 1) _ _
  right_inv q := rfl

theorem running_at (x : FVec Ideal S32x32x8 .f32) (b i : Fin 32) (h : Fin 8) :
    running x (ix3 b i h) = ∑ j : Fin 32, if j ≤ i then x (ix3 b j h) else 0 := by
  unfold running Host.reduceWindowAdd
  rw [Ideal.hostReduceWindowAdd_def]
  unfold Ideal.hostReduceWindowAdd Host.reduceWindow
  refine (foldl_add _ _ _).trans ?_
  rw [← Fin.sum_univ_def]
  have z : (broadcastInDim S_ ![] bcast_S_S_ (constant (F := Ideal) S_ .f32 0x00000000#32) : FVec Ideal S_ .f32) (Shape.Idx.first h_S_) = 0 := by
    pointwise []
  rw [z, zero_add]
  refine Fintype.sum_equiv (Win.rowMajor.symm.trans (winEquiv.trans (Equiv.addLeft (i + 1)))) _ (fun j => if j ≤ i then x (ix3 b j h) else 0) fun n => ?_
  simp only [Equiv.trans_apply]
  obtain ⟨q, eq⟩ : ∃ q, winEquiv (Win.rowMajor.symm n) = q := ⟨_, rfl⟩
  refine Eq.trans ?_ (congrArg (fun q => if Equiv.addLeft (i + 1) q ≤ i then x (ix3 b (Equiv.addLeft (i + 1) q) h) else 0) eq).symm
  have e0 : (Win.rowMajor.symm n 0).val = 0 := Nat.lt_one_iff.mp (Win.rowMajor.symm n 0).isLt
  have e1 : (Win.rowMajor.symm n 1).val = q.val := congrArg Fin.val eq
  have e2 : (Win.rowMajor.symm n 2).val = 0 := Nat.lt_one_iff.mp (Win.rowMajor.symm n 2).isLt
  have v : (Equiv.addLeft (i + 1) q).val = (i.val + 1 + q.val) % 32 := by
    show (i + 1 + q).val = _
    simp only [Fin.val_add]
    omega
  have hi := i.isLt
  have hq := q.isLt
  by_cases hin : 31 ≤ i.val + q.val
  · have e : (Equiv.addLeft (i + 1) q).val = i.val + q.val - 31 := by omega
    rw [if_pos (Fin.le_def.mpr (by omega)), dif_pos]
    · refine congrArg x (funext fun a => Fin.ext ?_)
      fin_cases a
      · show b.val * 1 + (Win.rowMajor.symm n 0).val - 0 = b.val
        omega
      · show i.val * 1 + (Win.rowMajor.symm n 1).val - 31 = (Equiv.addLeft (i + 1) q).val
        omega
      · show h.val * 1 + (Win.rowMajor.symm n 2).val - 0 = h.val
        omega
    · intro a
      fin_cases a
      · show 0 ≤ b.val * 1 + (Win.rowMajor.symm n 0).val ∧ b.val * 1 + (Win.rowMajor.symm n 0).val - 0 < 32
        have := b.isLt
        omega
      · show 31 ≤ i.val * 1 + (Win.rowMajor.symm n 1).val ∧ i.val * 1 + (Win.rowMajor.symm n 1).val - 31 < 32
        omega
      · show 0 ≤ h.val * 1 + (Win.rowMajor.symm n 2).val ∧ h.val * 1 + (Win.rowMajor.symm n 2).val - 0 < 8
        have := h.isLt
        omega
  · rw [if_neg (fun le => by have := Fin.le_def.mp le; omega), dif_neg]
    intro all
    have le : 31 ≤ i.val * 1 + (Win.rowMajor.symm n 1).val := (all 1).1
    omega

theorem total_at (r : FVec Ideal S32x32x8 .f32) (b : Fin 32) (h : Fin 8) : total r (ix3 b 0 h) = r (ix3 b 31 h) := by
  pointwise [total]

theorem entering_at (u : FVec Ideal S32x32x1024 .f32) (s r : FVec Ideal S32x32x8 .f32) (b j : Fin 32) (g : Fin 2) (p : Fin 4) (e : Fin 64) :
    entering u s r (ix5 b j g p e) = u (ix3 b j ⟨g.val * 256 + p.val * 64 + e.val, by omega⟩)
      * (s (ix3 b j ⟨g.val * 4 + p.val, by omega⟩)
        * Ideal.exp (r (ix3 b 31 ⟨g.val * 4 + p.val, by omega⟩) - r (ix3 b j ⟨g.val * 4 + p.val, by omega⟩))) := by
  pointwise [entering, total]

theorem keyed_at (u : FVec Ideal S32x32x1024 .f32) (b j : Fin 32) (g : Fin 2) (n : Fin 128) :
    keyed u (ix4 b j g n) = u (ix3 b j ⟨512 + g.val * 128 + n.val, by omega⟩) := by
  pointwise [keyed]
  simp only [add_assoc]

theorem left_at (S : FVec Ideal S32x8x64x128 .f32) (r : FVec Ideal S32x32x8 .f32) (v : FVec Ideal S32x32x2x4x64 .f32) (k : FVec Ideal S32x32x2x128 .f32)
    (b : Fin 32) (g : Fin 2) (n : Fin 128) (w : Fin 256) :
    left S r v k (ix4 b g n w) = S (ix4 b ⟨g.val * 4 + w.val / 64, by omega⟩ ⟨w.val % 64, by omega⟩ n)
        * Ideal.exp (r (ix3 b 31 ⟨g.val * 4 + w.val / 64, by omega⟩))
      + ∑ j : Fin 32, v (ix5 b j g ⟨w.val / 64, by omega⟩ ⟨w.val % 64, by omega⟩) * k (ix4 b j g n) := by
  pointwise [left, total]

/-- The reference's state, -/
theorem result (m : (ℓ : Loc nD τ sig) → Buf (Elt Ideal) ℓ) (c : Dev nD) :
    Value.res_main_v73 (F := Ideal) m c = states (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [result_eq]
  funext i
  obtain ⟨b, g, n, w, rfl⟩ : ∃ (b : Fin 32) (g : Fin 2) (n : Fin 128) (w : Fin 256), i = ix4 b g n w := ⟨i 0, i 1, i 2, i 3, by
    funext a; fin_cases a <;> rfl⟩
  have d : ∀ (D : Steps) (T A : Heads) (h : Fin 8) (i : Fin 32),
      running (rated (soft (shifted D T)) A) (ix3 b i h) = decay (A (ix2 0 h)) (stepped D T b h) i := fun D T A h i => by
    rw [running_at, decay]
    simp only [rated_at, soft_at, shifted_at]
    rfl
  refine (left_at _ _ _ _ b g n w).trans (Eq.trans ?_ (b := state _ _ _ _ _ _ _ _ b g n w) rfl)
  simp only [entering_at, keyed_at, mix_at, d, soft_at, shifted_at]
  refine congrArg (_ + ·) (Finset.sum_congr rfl fun j _ => ?_)
  refine (mul_comm _ _).trans (congrArg (_ * ·) (congrArg (· * _) ?_))
  exact congrArg (mix _ _ _ _ b j) (Fin.ext (by simp only []; omega))

/-- and its last rows. -/
theorem result_rows (X : FVec Ideal S1024x1024 .f32) (C : FVec Ideal S32x3x1024 .f32) :
    extractStridedSlice S32x3x1024 ![0, 32, 0] (padded X C) slices_S32x35x1024_S32x3x1024_0_32_0 = lasts X C := by
  funext i
  obtain ⟨b, q, n, rfl⟩ : ∃ (b : Fin 32) (q : Fin 3) (n : Fin 1024), i = ix3 b q n := ⟨i 0, i 1, i 2, by
    funext a; fin_cases a <;> rfl⟩
  have t : ∀ p : FVec Ideal S32x35x1024 .f32, extractStridedSlice S32x3x1024 ![0, 32, 0] p slices_S32x35x1024_S32x3x1024_0_32_0 (ix3 b q n)
      = p (ix3 b ⟨32 + q.val, by omega⟩ n) := fun p => by
    pointwise []
  rw [t, padded_at]
  rfl

end Cert.Proof.ScanRef

end
-- ==== Proof.lean ====
/-
  The proof of `Cert.Claim`: the programs' frames; that on real queries, keys, values and weight vectors the idealized
  attention and its idealized reference end with the same result; that so do the memory's reading and its reference on a
  real stream, halves, matrices, gain and keys, and the sample's attention and its reference on real queries, keys, values,
  cache and weight vectors; and that the projections of prompt and sample, the memory's keys and
  values and the sample's scan end with the same results as their references whatever the arguments hold.
-/
module

public import proofs.«01_k».proof.Defs
public import proofs.«01_k».proof.Proof.KernelFrame
public import proofs.«01_k».proof.Proof.Arrays
public import proofs.«01_k».proof.Proof.RefValue
public import proofs.«01_k».proof.Proof.Precond
public import proofs.«01_k».proof.Proof.Project
public import proofs.«01_k».proof.Proof.ProjectSample
public import proofs.«01_k».proof.Proof.Memory
public import proofs.«01_k».proof.Proof.RecallKernel
public import proofs.«01_k».proof.Proof.RecallRef
public import proofs.«01_k».proof.Proof.RecallPre
public import proofs.«01_k».proof.Proof.JoinedKernel
public import proofs.«01_k».proof.Proof.JoinedRef
public import proofs.«01_k».proof.Proof.JoinedPre
public import proofs.«01_k».proof.Proof.ScanKernel
public import proofs.«01_k».proof.Proof.ScanRef
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import Idealize.ShloMosaic.Lib.Quiescent

@[expose] public section

set_option maxRecDepth 16384

noncomputable section

namespace Cert.Proof

open Idealize.ShloMosaic Idealize.ShloMosaic.TcCoe Idealize.SL.Sem

/-- The reference leaves its arguments as launched, and has no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs end with `KernelIdeal.G`, the differential attention written as sums over the positions of a sequence. -/
theorem algebraic : Cert.algebraic_KernelIdeal_ReferenceIdeal_pre_finite := by
  intro m ρ m' ρ' hpre hagree
  have hf := fun c => Precond.finite (hpre c)
  refine ⟨fun c => KernelIdeal.G m c, KernelIdeal.run_value ρ (fun c => (hf c).1) (fun c => (hf c).2.1) (fun c => (hf c).2.2.1), ?_⟩
  refine (θ_run Cert.ReferenceIdeal.defs _ _).mono (fun _ h c => ⟨(h c).1.trans ?_, (h c).2⟩)
    (Cert.ReferenceIdeal.Value.run (F := Ideal) m' ρ')
  obtain ⟨hq, hk, hv, h3, h4, h5, h6⟩ := hf c
  obtain ⟨e0, e1, e2, e3, e4, e5, e6, e7⟩ := hagree c
  funext i
  obtain ⟨b, x, n, rfl⟩ : ∃ (b : Fin 2) (x : Fin 16384) (n : Fin 512), i = ix3 b x n := ⟨i 0, i 1, i 2, by
    funext a; fin_cases a <;> rfl⟩
  exact Ref.res_at m' c e0 e1 e2 e3 e4 e5 e6 e7 hq hk hv h3 h4 h5 h6 b x n

theorem reference2_frame : Cert.quiescent_Reference2Ideal := fun m ρ _ =>
  (θ_run Cert.Reference2Ideal.defs _ _).mono
    (fun r h => ⟨fun c => (h c).2.2.2.2.2.2.2.2, sem_eq_zero_of_no_sems (by decide) r.2⟩)
    (Cert.Reference2Ideal.Value.run (F := Ideal) m ρ)

theorem reference3_frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

section

open Project

/-- Both projections of the prompt end with the same eight arrays. -/
theorem algebraic2 : Cert.algebraic_Kernel2Ideal_Reference2Ideal := by
  intro m ρ m' ρ' _ hagree
  refine ⟨fun c => zs (argX m c) (argG m c) (argW m c), fun c => xbcs (argX m c) (argG m c) (argW m c),
    fun c => dts (argX m c) (argG m c) (argW m c), fun c => qs (argX m c) (argG m c) (argW m c),
    fun c => ks (argX m c) (argG m c) (argW m c), fun c => vs (argX m c) (argG m c) (argW m c),
    fun c => ks (argX m c) (argG m c) (argW m c), fun c => vs (argX m c) (argG m c) (argW m c), ?_, ?_⟩
  · refine (θ_run Cert.Kernel2Ideal.defs _ _).mono (fun _ h c => ?_) (Cert.Kernel2Ideal.Value.run_blocks (F := Ideal) m ρ)
    obtain ⟨h0, h1, h2, h3, h4, h5, h6, h7, ha⟩ := h c
    exact ⟨h0.trans (final_z m c), h1.trans (final_xbc m c), h2.trans (final_dt m c), h3.trans (final_q m c),
      h4.trans (final_k m c), h5.trans (final_v m c), h6.trans (final_kb m c), h7.trans (final_vb m c), ha⟩
  · refine (θ_run Cert.Reference2Ideal.defs _ _).mono (fun _ h c => ?_) (Cert.Reference2Ideal.Value.run (F := Ideal) m' ρ')
    obtain ⟨h0, h1, h2, h3, h4, h5, h6, h7, ha⟩ := h c
    obtain ⟨e0, e1, e2⟩ := hagree c
    dsimp only [argX, argG, argW]
    rw [← e0, ← e1, ← e2]
    exact ⟨h0.trans (ref_z _ _ _), h1.trans (ref_xbc _ _ _), h2.trans (ref_dt _ _ _), h3.trans (ref_q _ _ _), h4.trans (ref_k _ _ _),
      h5.trans (ref_v _ _ _), h6.trans (ref_kb _ _ _), h7.trans (ref_vb _ _ _), ha⟩

end

section

open Memory

/-- Both end with the memory's keys and its values. -/
theorem algebraic3 : Cert.algebraic_Kernel3Ideal_Reference3Ideal := by
  intro m ρ m' ρ' _ hagree
  refine ⟨fun c => G (argX m c) (argG m c) (argA m c), fun c => G (argX m c) (argG m c) (argB m c), ?_, ?_⟩
  · exact (θ_run Cert.Kernel3Ideal.defs _ _).mono
      (fun _ h c => ⟨(h c).1.trans (final_left m c), (h c).2.1.trans (final_right m c), (h c).2.2⟩)
      (Cert.Kernel3Ideal.Value.run_blocks (F := Ideal) m ρ)
  · refine (θ_run Cert.Reference3Ideal.defs _ _).mono (fun _ h c => ?_) (Cert.Reference3Ideal.Value.run (F := Ideal) m' ρ')
    obtain ⟨e0, e1, e2, e3⟩ := hagree c
    dsimp only [argX, argG, argA, argB]
    rw [← e0, ← e1, ← e2, ← e3]
    exact ⟨(h c).1.trans (product_eq _ _ _), (h c).2.1.trans (product_eq _ _ _), (h c).2.2⟩

end

theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

section

open RecallKernel

/-- Both end with the stream after the memory has answered. -/
theorem algebraic4 : Cert.algebraic_Kernel4Ideal_Reference4Ideal_pre_finite4 := by
  intro m ρ m' ρ' hpre hagree
  have hf := fun c => RecallPre.reals (hpre c)
  refine ⟨fun c => G (argX m c) (argY m c) (argO m c) (argW m c) (argG m c) (argQ m c) (argK m c) (argV m c) (argM m c), ?_, ?_⟩
  · exact (θ_run Cert.Kernel4Ideal.defs _ _).mono (fun _ h c => ⟨(h c).1.trans (final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨hX, hY, hO, hW, hQ, hK, hg⟩ := hf c
    obtain ⟨e0, e1, e2, e3, e4, e5, e6, e7, e8⟩ := hagree c
    refine (RecallRef.res_eq m' c).trans ?_
    rw [e0, e1, e2, e3, e4, e5, e6, e7, e8]
    funext i
    obtain ⟨r, n, rfl⟩ : ∃ (r : Fin 32768) (n : Fin 1024), i = ix2 r n := ⟨i 0, i 1, by funext a; fin_cases a <;> rfl⟩
    exact RecallRef.value_at _ _ hX hY hO hW hg hQ hK r n

end

theorem reference5_frame : Cert.quiescent_Reference5Ideal := fun m ρ _ =>
  (θ_run Cert.Reference5Ideal.defs _ _).mono
    (fun r h => ⟨fun c => (h c).2.2.2.2.2.2.2.2, sem_eq_zero_of_no_sems (by decide) r.2⟩)
    (Cert.Reference5Ideal.Value.run (F := Ideal) m ρ)

section

open ProjectSample

/-- Both projections of the sample end with the same eight arrays. -/
theorem algebraic5 : Cert.algebraic_Kernel5Ideal_Reference5Ideal := by
  intro m ρ m' ρ' _ hagree
  refine ⟨fun c => zs (argX m c) (argG m c) (argW m c), fun c => xbcs (argX m c) (argG m c) (argW m c),
    fun c => dts (argX m c) (argG m c) (argW m c), fun c => qs (argX m c) (argG m c) (argW m c),
    fun c => ks (argX m c) (argG m c) (argW m c), fun c => vs (argX m c) (argG m c) (argW m c),
    fun c => ks (argX m c) (argG m c) (argW m c), fun c => vs (argX m c) (argG m c) (argW m c), ?_, ?_⟩
  · refine (θ_run Cert.Kernel5Ideal.defs _ _).mono (fun _ h c => ?_) (Cert.Kernel5Ideal.Value.run_blocks (F := Ideal) m ρ)
    obtain ⟨h0, h1, h2, h3, h4, h5, h6, h7, ha⟩ := h c
    exact ⟨h0.trans (final_z m c), h1.trans (final_xbc m c), h2.trans (final_dt m c), h3.trans (final_q m c),
      h4.trans (final_k m c), h5.trans (final_v m c), h6.trans (final_kb m c), h7.trans (final_vb m c), ha⟩
  · refine (θ_run Cert.Reference5Ideal.defs _ _).mono (fun _ h c => ?_) (Cert.Reference5Ideal.Value.run (F := Ideal) m' ρ')
    obtain ⟨h0, h1, h2, h3, h4, h5, h6, h7, ha⟩ := h c
    obtain ⟨e0, e1, e2⟩ := hagree c
    dsimp only [argX, argG, argW]
    rw [← e0, ← e1, ← e2]
    exact ⟨h0.trans (ref_z _ _ _), h1.trans (ref_xbc _ _ _), h2.trans (ref_dt _ _ _), h3.trans (ref_q _ _ _), h4.trans (ref_k _ _ _),
      h5.trans (ref_v _ _ _), h6.trans (ref_kb _ _ _), h7.trans (ref_vb _ _ _), ha⟩

end

theorem reference6_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

section

open JoinedKernel

/-- Both end with the attention of the new positions over the cache and themselves. -/
theorem algebraic6 : Cert.algebraic_Kernel6Ideal_Reference6Ideal_pre_finite6 := by
  intro m ρ m' ρ' hpre hagree
  have hf := fun c => JoinedPre.reals (hpre c)
  refine ⟨fun c => G (argQ m c) (argK m c) (argV m c) (argP m c) (argR m c) (weight m c) (gain m c), ?_, ?_⟩
  · refine (θ_run Cert.Kernel6Ideal.defs _ _).mono (fun _ h c => ⟨(h c).1.trans ?_, (h c).2⟩)
      (Cert.Kernel6Ideal.Value.run_blocks (F := Ideal) m ρ)
    obtain ⟨hq, hk, hv, hp, hr, -⟩ := hf c
    exact final m c hq hk hv hp hr
  · refine (θ_run Cert.Reference6Ideal.defs _ _).mono (fun _ h c => ⟨(h c).1.trans ?_, (h c).2⟩)
      (Cert.Reference6Ideal.Value.run (F := Ideal) m' ρ')
    obtain ⟨hq, hk, hv, hp, hr, h5, h6, h7, h8⟩ := hf c
    obtain ⟨e0, e1, e2, e3, e4, e5, e6, e7, e8, e9⟩ := hagree c
    funext i
    obtain ⟨b, x, n, rfl⟩ : ∃ (b x : Fin 32) (n : Fin 512), i = ix3 b x n := ⟨i 0, i 1, i 2, by funext a; fin_cases a <;> rfl⟩
    exact JoinedRef.res_at m' c e0 e1 e2 e3 e4 e5 e6 e7 e8 e9 hq hk hv hp hr (Ref.lam_real h5 h6 h7 h8) b x n

end

theorem reference7_frame : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

section

open ScanKernel Scan

/-- Both end with the states after the sample's positions, and the last rows the next convolution reads. -/
theorem algebraic7 : Cert.algebraic_Kernel7Ideal_Reference7Ideal := by
  intro m ρ m' ρ' _ hagree
  refine ⟨fun c => states (argX m c) (argD m c) (argS m c) (argC m c) (argW m c) (argB m c) (argT m c) (argA m c),
    fun c => lasts (argX m c) (argC m c), ?_, ?_⟩
  · exact (θ_run Cert.Kernel7Ideal.defs _ _).mono
      (fun _ h c => ⟨(h c).2.1.trans (final_state m c), (h c).2.2.1.trans (final_rows m c), (h c).2.2.2⟩)
      (Cert.Kernel7Ideal.Value.run_blocks (F := Ideal) m ρ)
  · refine (θ_run Cert.Reference7Ideal.defs _ _).mono (fun _ h c => ?_) (Cert.Reference7Ideal.Value.run (F := Ideal) m' ρ')
    obtain ⟨e0, e1, e2, e3, e4, e5, e6, e7, e8, e9, e10⟩ := hagree c
    dsimp only [argX, argD, argS, argC, argW, argB, argT, argA]
    rw [← e0, ← e1, ← e3, ← e4, ← e5, ← e6, ← e7, ← e8]
    exact ⟨(h c).1.trans (ScanRef.result m' c), (h c).2.1.trans (ScanRef.result_rows _ _), (h c).2.2⟩

end

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite4.Gen.facts, Cert.Pre_finite6.Gen.facts,
  fun m ρ _ => Kernel.quiescent m ρ, fun m ρ _ => KernelIdeal.quiescent m ρ, fun m ρ _ => KernelIdeal.quiescent m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, fun m ρ _ => Cert.Kernel4Ideal.Gen.frame m ρ,
  reference4_frame, fun m ρ _ => reference4_frame m ρ trivial,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, fun m ρ _ => Cert.Kernel6Ideal.Gen.frame m ρ,
  reference6_frame, fun m ρ _ => reference6_frame m ρ trivial,
  fun m ρ _ => Cert.Kernel7.Gen.frame m ρ, fun m ρ _ => Cert.Kernel7Ideal.Gen.frame m ρ, reference7_frame,
  trivial, algebraic, trivial, algebraic2, trivial, algebraic3, trivial, algebraic4, trivial, algebraic5, trivial, algebraic6, trivial, algebraic7⟩

end Cert.Proof

end
